-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "c0c1" .f32 0x3D122279#32 (((6693141 / 8388608) * (12003091 / 268435456) : ℝ) : EReal)
  ∧ IdealRules.named_const.Statement Cert.KernelIdeal.κ "c0c1x3" .f32 0x3DDB33B6#32 (((3 * (6693141 / 8388608)) * (12003091 / 268435456) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v173) = v3 c
          ∧ r.2.mem ((c.tc : Thread Cert.ReferenceIdeal.nD Cert.ReferenceIdeal.τ).loc Cert.ReferenceIdeal.main_v174) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v86) = v1 c
          ∧ r.2.mem ((c.tc : Thread Cert.Reference2Ideal.nD Cert.Reference2Ideal.τ).loc Cert.Reference2Ideal.main_v87) = v2 c
          ∧ r.2.mem ((c.tc : Thread Cert.Reference2Ideal.nD Cert.Reference2Ideal.τ).loc Cert.Reference2Ideal.main_v88) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v56) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_v57) = v2 c
          ∧ r.2.mem ((c.tc : Thread Cert.Reference6Ideal.nD Cert.Reference6Ideal.τ).loc Cert.Reference6Ideal.main_v59) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v17) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x2816 : Shape := ⟨2, ![4096, 2816]⟩
abbrev S4096x1024 : Shape := ⟨2, ![4096, 1024]⟩
abbrev S1x4x64 : Shape := ⟨3, ![1, 4, 64]⟩
abbrev S1x4x128x128 : Shape := ⟨4, ![1, 4, 128, 128]⟩
abbrev S1x4x128 : Shape := ⟨3, ![1, 4, 128]⟩
abbrev S4096x512 : Shape := ⟨2, ![4096, 512]⟩
abbrev S4096x256 : Shape := ⟨2, ![4096, 256]⟩
abbrev S_ : Shape := ⟨0, ![]⟩

class Facts : Prop where
  slices_S4096x2816_S4096x512_0_0 : S4096x2816.Slices ![0, 0] S4096x512
  slices_S4096x1024_S4096x256_0_0 : S4096x1024.Slices ![0, 0] S4096x256
  bcast_S_S4096x512 : S_.BroadcastsInDim S4096x512 (![] : Fin 0 → Fin S4096x512.rank)
  bcast_S_S4096x256 : S_.BroadcastsInDim S4096x256 (![] : Fin 0 → Fin S4096x256.rank)
  bcast_S_S1x4x64 : S_.BroadcastsInDim S1x4x64 (![] : Fin 0 → Fin S1x4x64.rank)
  bcast_S_S1x4x128x128 : S_.BroadcastsInDim S1x4x128x128 (![] : Fin 0 → Fin S1x4x128x128.rank)
  bcast_S_S1x4x128 : S_.BroadcastsInDim S1x4x128 (![] : Fin 0 → Fin S1x4x128.rank)

variable [Facts]

def fn_part1 {F : FTy → Type} [FloatOps F] (main_v4 : IVec S4096x512 1) (main_v7 : IVec S4096x256 1) (main_v10 : IVec S1x4x64 1) (main_v13 : IVec S1x4x64 1) (main_v16 : IVec S1x4x128x128 1) (main_v17 : FVec F S1x4x128 .f32) (main_cst_4 : FVec F S_ .f32) : IVec S4096x512 1 × IVec S4096x256 1 × IVec S1x4x64 1 × IVec S1x4x64 1 × IVec S1x4x128x128 1 × IVec S1x4x128 1 :=
  let main_v18 : FVec F S1x4x128 .f32 := broadcastInDim S1x4x128 ![] bcast_S_S1x4x128 main_cst_4
  let main_v19 : IVec S1x4x128 1 := cmpf .olt main_v17 main_v18
  (main_v4, main_v7, main_v10, main_v13, main_v16, main_v19)

def fn {F : FTy → Type} [FloatOps F] (main_arg0 : FVec F S4096x2816 .f32) (main_arg1 : FVec F S4096x1024 .f32) (main_arg2 : FVec F S1x4x64 .f32) (main_arg3 : FVec F S1x4x64 .f32) (main_arg4 : FVec F S1x4x128x128 .f32) (main_arg5 : FVec F S1x4x128 .f32) : IVec S4096x512 1 × IVec S4096x256 1 × IVec S1x4x64 1 × IVec S1x4x64 1 × IVec S1x4x128x128 1 × IVec S1x4x128 1 :=
  let main_v0 : FVec F S4096x512 .f32 := (extractStridedSlice S4096x512 ![0, 0] · slices_S4096x2816_S4096x512_0_0) main_arg0
  let main_v1 : FVec F S4096x256 .f32 := (extractStridedSlice S4096x256 ![0, 0] · slices_S4096x1024_S4096x256_0_0) main_arg1
  let main_v2 : FVec F S4096x512 .f32 := Host.absf main_v0
  let main_cst : FVec F S_ .f32 := constant S_ .f32 0x7F800000#32
  let main_v3 : FVec F S4096x512 .f32 := broadcastInDim S4096x512 ![] bcast_S_S4096x512 main_cst
  let main_v4 : IVec S4096x512 1 := cmpf .olt main_v2 main_v3
  let main_v5 : FVec F S4096x256 .f32 := Host.absf main_v1
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S1x4x64 .f32 := Host.absf main_arg2
  let main_cst_1 : FVec F S_ .f32 := constant S_ .f32 0x7F800000#32
  let main_v9 : FVec F S1x4x64 .f32 := broadcastInDim S1x4x64 ![] bcast_S_S1x4x64 main_cst_1
  let main_v10 : IVec S1x4x64 1 := cmpf .olt main_v8 main_v9
  let main_v11 : FVec F S1x4x64 .f32 := Host.absf main_arg3
  let main_cst_2 : FVec F S_ .f32 := constant S_ .f32 0x7F800000#32
  let main_v12 : FVec F S1x4x64 .f32 := broadcastInDim S1x4x64 ![] bcast_S_S1x4x64 main_cst_2
  let main_v13 : IVec S1x4x64 1 := cmpf .olt main_v11 main_v12
  let main_v14 : FVec F S1x4x128x128 .f32 := Host.absf main_arg4
  let main_cst_3 : FVec F S_ .f32 := constant S_ .f32 0x7F800000#32
  let main_v15 : FVec F S1x4x128x128 .f32 := broadcastInDim S1x4x128x128 ![] bcast_S_S1x4x128x128 main_cst_3
  let main_v16 : IVec S1x4x128x128 1 := cmpf .olt main_v14 main_v15
  let main_v17 : FVec F S1x4x128 .f32 := Host.absf main_arg5
  let main_cst_4 : FVec F S_ .f32 := constant S_ .f32 0x7F800000#32
  fn_part1 (F := F) main_v4 main_v7 main_v10 main_v13 main_v16 main_v17 main_cst_4
-- ==== Kernel.lean ====
abbrev S4096x2816 : Shape := ⟨2, ![4096, 2816]⟩
abbrev S4096x1024 : Shape := ⟨2, ![4096, 1024]⟩
abbrev S1x4x64 : Shape := ⟨3, ![1, 4, 64]⟩
abbrev S1x4x128x128 : Shape := ⟨4, ![1, 4, 128, 128]⟩
abbrev S1x4x128 : Shape := ⟨3, ![1, 4, 128]⟩
abbrev S1x256 : Shape := ⟨2, ![1, 256]⟩
abbrev S4x128 : Shape := ⟨2, ![4, 128]⟩
abbrev S128x4 : Shape := ⟨2, ![128, 4]⟩
abbrev S4x128x128 : Shape := ⟨3, ![4, 128, 128]⟩
abbrev S4096x512 : Shape := ⟨2, ![4096, 512]⟩
abbrev S512x256 : Shape := ⟨2, ![512, 256]⟩
abbrev S512x512 : Shape := ⟨2, ![512, 512]⟩
abbrev S128x128 : Shape := ⟨2, ![128, 128]⟩
abbrev S128x256 : Shape := ⟨2, ![128, 256]⟩
abbrev S256x256 : Shape := ⟨2, ![256, 256]⟩
abbrev S256x128 : Shape := ⟨2, ![256, 128]⟩
abbrev S1x128x128 : Shape := ⟨3, ![1, 128, 128]⟩
abbrev S128x1 : Shape := ⟨2, ![128, 1]⟩
abbrev S256 : Shape := ⟨1, ![256]⟩

abbrev nBuf : Space → Nat
  | .hbm => 16
  | .vmem => 16
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S1x4x64, .f32⟩
  | .hbm, ⟨3, _⟩ => ⟨S1x4x64, .f32⟩
  | .hbm, ⟨4, _⟩ => ⟨S1x4x128x128, .f32⟩
  | .hbm, ⟨5, _⟩ => ⟨S1x4x128, .f32⟩
  | .hbm, ⟨6, _⟩ => ⟨S1x256, .f32⟩
  | .hbm, ⟨7, _⟩ => ⟨S1x256, .f32⟩
  | .hbm, ⟨8, _⟩ => ⟨S4x128, .f32⟩
  | .hbm, ⟨9, _⟩ => ⟨S128x4, .f32⟩
  | .hbm, ⟨10, _⟩ => ⟨S4x128x128, .f32⟩
  | .hbm, ⟨11, _⟩ => ⟨S4096x512, .bf16⟩
  | .hbm, ⟨12, _⟩ => ⟨S4x128x128, .f32⟩
  | .hbm, ⟨13, _⟩ => ⟨S128x4, .f32⟩
  | .hbm, ⟨14, _⟩ => ⟨S1x256, .f32⟩
  | .hbm, ⟨15, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S4x128x128, .f32⟩
  | .local _ .vmem, ⟨9, _⟩ => ⟨S128x4, .f32⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | .local _ .vmem, ⟨13, _⟩ => ⟨S128x4, .f32⟩
  | .local _ .vmem, ⟨14, _⟩ => ⟨S1x256, .f32⟩
  | .local _ .vmem, ⟨15, _⟩ => ⟨S1x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "c0c1" => some (((6693141 / 8388608) * (12003091 / 268435456) : ℝ) : EReal)
  | "c0c1x3" => some (((3 * (6693141 / 8388608)) * (12003091 / 268435456) : ℝ) : EReal)
  | _ => none
-- ==== ReferenceIdeal.lean ====
abbrev S4096x2816 : Shape := ⟨2, ![4096, 2816]⟩
abbrev S4096x1024 : Shape := ⟨2, ![4096, 1024]⟩
abbrev S1x4x64 : Shape := ⟨3, ![1, 4, 64]⟩
abbrev S1x4x128x128 : Shape := ⟨4, ![1, 4, 128, 128]⟩
abbrev S1x4x128 : Shape := ⟨3, ![1, 4, 128]⟩
abbrev S2x2048x2816 : Shape := ⟨3, ![2, 2048, 2816]⟩
abbrev S2x2048x256 : Shape := ⟨3, ![2, 2048, 256]⟩
abbrev S2x2048x4x64 : Shape := ⟨4, ![2, 2048, 4, 64]⟩
abbrev S2x2048x1024 : Shape := ⟨3, ![2, 2048, 1024]⟩
abbrev S4x64 : Shape := ⟨2, ![4, 64]⟩
abbrev S4x128x128 : Shape := ⟨3, ![4, 128, 128]⟩
abbrev S4x128 : Shape := ⟨2, ![4, 128]⟩
abbrev S_ : Shape := ⟨0, ![]⟩
abbrev S2x2048x4 : Shape := ⟨3, ![2, 2048, 4]⟩
abbrev S2x2048x4x1 : Shape := ⟨4, ![2, 2048, 4, 1]⟩
abbrev S1x1x4x64 : Shape := ⟨4, ![1, 1, 4, 64]⟩
abbrev S2x16x128x4x64 : Shape := ⟨5, ![2, 16, 128, 4, 64]⟩
abbrev S128x128 : Shape := ⟨2, ![128, 128]⟩
abbrev S1x128x128 : Shape := ⟨3, ![1, 128, 128]⟩
abbrev S4x2x16x64x128 : Shape := ⟨5, ![4, 2, 16, 64, 128]⟩
abbrev S128x4 : Shape := ⟨2, ![128, 4]⟩
abbrev S1x1x128x4x1 : Shape := ⟨5, ![1, 1, 128, 4, 1]⟩
abbrev S4096x256 : Shape := ⟨2, ![4096, 256]⟩
abbrev S4096x512 : Shape := ⟨2, ![4096, 512]⟩
abbrev S1x256 : Shape := ⟨2, ![1, 256]⟩

abbrev nBuf : Space → Nat
  | .hbm => 230
  | .vmem => 0
  | .smem => 0
  | _ => 0

abbrev hbmTy0_0 (i : Nat) : BufTy := match i % 128 with
  | 0 => ⟨S4096x2816, .f32⟩
  | 1 => ⟨S4096x1024, .f32⟩
  | 2 => ⟨S1x4x64, .f32⟩
  | 3 => ⟨S1x4x64, .f32⟩
  | 4 => ⟨S1x4x128x128, .f32⟩
  | 5 => ⟨S1x4x128, .f32⟩
  | 6 => ⟨S2x2048x2816, .f32⟩
  | 7 => ⟨S2x2048x256, .f32⟩
  | 8 => ⟨S2x2048x4x64, .f32⟩
  | 9 => ⟨S2x2048x256, .f32⟩
  | 10 => ⟨S2x2048x4x64, .f32⟩
  | 11 => ⟨S2x2048x1024, .f32⟩
  | 12 => ⟨S2x2048x256, .f32⟩
  | 13 => ⟨S2x2048x4x64, .f32⟩
  | 14 => ⟨S4x64, .f32⟩
  | 15 => ⟨S4x64, .f32⟩
  | 16 => ⟨S4x128x128, .f32⟩
  | 17 => ⟨S4x128, .f32⟩
  | 18 => ⟨S2x2048x4x64, .f32⟩
  | 19 => ⟨S2x2048x4x64, .f32⟩
  | 20 => ⟨S2x2048x4x64, .f32⟩
  | 21 => ⟨S_, .f32⟩
  | 22 => ⟨S2x2048x4x64, .f32⟩
  | 23 => ⟨S2x2048x4x64, .f32⟩
  | 24 => ⟨S_, .f32⟩
  | 25 => ⟨S2x2048x4x64, .f32⟩
  | 26 => ⟨S2x2048x4x64, .f32⟩
  | 27 => ⟨S2x2048x4x64, .f32⟩
  | 28 => ⟨S_, .f32⟩
  | 29 => ⟨S2x2048x4x64, .f32⟩
  | 30 => ⟨S2x2048x4x64, .f32⟩
  | 31 => ⟨S2x2048x4x64, .f32⟩
  | 32 => ⟨S_, .f32⟩
  | 33 => ⟨S2x2048x4x64, .f32⟩
  | 34 => ⟨S2x2048x4x64, .f32⟩
  | 35 => ⟨S_, .f32⟩
  | 36 => ⟨S2x2048x4x64, .f32⟩
  | 37 => ⟨S2x2048x4x64, .f32⟩
  | 38 => ⟨S2x2048x4x64, .f32⟩
  | 39 => ⟨S_, .f32⟩
  | 40 => ⟨S2x2048x4x64, .f32⟩
  | 41 => ⟨S2x2048x4x64, .f32⟩
  | 42 => ⟨S_, .f32⟩
  | 43 => ⟨S2x2048x4x64, .f32⟩
  | 44 => ⟨S2x2048x4x64, .f32⟩
  | 45 => ⟨S2x2048x4x64, .f32⟩
  | 46 => ⟨S2x2048x4x64, .f32⟩
  | 47 => ⟨S2x2048x4x64, .f32⟩
  | 48 => ⟨S2x2048x4x64, .f32⟩
  | 49 => ⟨S_, .f32⟩
  | 50 => ⟨S2x2048x4x64, .f32⟩
  | 51 => ⟨S2x2048x4x64, .f32⟩
  | 52 => ⟨S_, .f32⟩
  | 53 => ⟨S2x2048x4x64, .f32⟩
  | 54 => ⟨S2x2048x4x64, .f32⟩
  | 55 => ⟨S2x2048x4x64, .f32⟩
  | 56 => ⟨S_, .f32⟩
  | 57 => ⟨S2x2048x4x64, .f32⟩
  | 58 => ⟨S2x2048x4x64, .f32⟩
  | 59 => ⟨S2x2048x4x64, .f32⟩
  | 60 => ⟨S_, .f32⟩
  | 61 => ⟨S2x2048x4x64, .f32⟩
  | 62 => ⟨S2x2048x4x64, .f32⟩
  | 63 => ⟨S_, .f32⟩
  | 64 => ⟨S2x2048x4x64, .f32⟩
  | 65 => ⟨S2x2048x4x64, .f32⟩
  | 66 => ⟨S2x2048x4x64, .f32⟩
  | 67 => ⟨S_, .f32⟩
  | 68 => ⟨S2x2048x4x64, .f32⟩
  | 69 => ⟨S2x2048x4x64, .f32⟩
  | 70 => ⟨S_, .f32⟩
  | 71 => ⟨S2x2048x4x64, .f32⟩
  | 72 => ⟨S2x2048x4x64, .f32⟩
  | 73 => ⟨S2x2048x4x64, .f32⟩
  | 74 => ⟨S_, .f32⟩
  | 75 => ⟨S2x2048x4, .f32⟩
  | 76 => ⟨S2x2048x4x1, .f32⟩
  | 77 => ⟨S_, .f32⟩
  | 78 => ⟨S2x2048x4x1, .f32⟩
  | 79 => ⟨S2x2048x4x1, .f32⟩
  | 80 => ⟨S2x2048x4x64, .f32⟩
  | 81 => ⟨S2x2048x4x64, .f32⟩
  | 82 => ⟨S2x2048x4x64, .f32⟩
  | 83 => ⟨S_, .f32⟩
  | 84 => ⟨S2x2048x4x64, .f32⟩
  | 85 => ⟨S2x2048x4x64, .f32⟩
  | 86 => ⟨S_, .f32⟩
  | 87 => ⟨S2x2048x4, .f32⟩
  | 88 => ⟨S2x2048x4x1, .f32⟩
  | 89 => ⟨S_, .f32⟩
  | 90 => ⟨S2x2048x4x1, .f32⟩
  | 91 => ⟨S2x2048x4x1, .f32⟩
  | 92 => ⟨S2x2048x4x64, .f32⟩
  | 93 => ⟨S2x2048x4x64, .f32⟩
  | 94 => ⟨S_, .f32⟩
  | 95 => ⟨S2x2048x4x1, .f32⟩
  | 96 => ⟨S2x2048x4x1, .f32⟩
  | 97 => ⟨S2x2048x4x1, .f32⟩
  | 98 => ⟨S2x2048x4x1, .f32⟩
  | 99 => ⟨S_, .f32⟩
  | 100 => ⟨S2x2048x4x1, .f32⟩
  | 101 => ⟨S2x2048x4x1, .f32⟩
  | 102 => ⟨S2x2048x4x64, .f32⟩
  | 103 => ⟨S2x2048x4x64, .f32⟩
  | 104 => ⟨S1x1x4x64, .f32⟩
  | 105 => ⟨S2x2048x4x64, .f32⟩
  | 106 => ⟨S2x2048x4x64, .f32⟩
  | 107 => ⟨S1x1x4x64, .f32⟩
  | 108 => ⟨S2x2048x4x64, .f32⟩
  | 109 => ⟨S2x2048x4x64, .f32⟩
  | 110 => ⟨S2x16x128x4x64, .f32⟩
  | 111 => ⟨S_, .f32⟩
  | 112 => ⟨S128x128, .f32⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i1⟩
  | 119 => ⟨S_, .f32⟩
  | 120 => ⟨S128x128, .f32⟩
  | 121 => ⟨S128x128, .f32⟩
  | 122 => ⟨S1x128x128, .f32⟩
  | 123 => ⟨S4x128x128, .f32⟩
  | 124 => ⟨S4x128x128, .f32⟩
  | 125 => ⟨S4x2x16x64x128, .f32⟩
  | 126 => ⟨S2x16x128x4x64, .f32⟩
  | 127 => ⟨S128x4, .f32⟩
  | _ => ⟨S4096x2816, .f32⟩

abbrev hbmTy0_1 (i : Nat) : BufTy := match i % 128 with
  | 0 => ⟨S1x1x128x4x1, .f32⟩
  | 1 => ⟨S2x16x128x4x64, .f32⟩
  | 2 => ⟨S2x16x128x4x64, .f32⟩
  | 3 => ⟨S2x2048x4x64, .f32⟩
  | 4 => ⟨S2x2048x4x64, .f32⟩
  | 5 => ⟨S2x2048x4x64, .f32⟩
  | 6 => ⟨S2x2048x4x64, .f32⟩
  | 7 => ⟨S2x16x128x4x64, .f32⟩
  | 8 => ⟨S_, .f32⟩
  | 9 => ⟨S128x4, .f32⟩
  | 10 => ⟨S1x1x128x4x1, .f32⟩
  | 11 => ⟨S_, .f32⟩
  | 12 => ⟨S128x4, .f32⟩
  | 13 => ⟨S4x128, .f32⟩
  | 14 => ⟨S4x2x16x64x128, .f32⟩
  | 15 => ⟨S4x128x128, .f32⟩
  | 16 => ⟨S4x2x16x64x128, .f32⟩
  | 17 => ⟨S2x16x128x4x64, .f32⟩
  | 18 => ⟨S4x128x128, .f32⟩
  | 19 => ⟨S4x128x128, .f32⟩
  | 20 => ⟨S2x2048x4x64, .f32⟩
  | 21 => ⟨S_, .f32⟩
  | 22 => ⟨S4x64, .f32⟩
  | 23 => ⟨S1x1x4x64, .f32⟩
  | 24 => ⟨S_, .f32⟩
  | 25 => ⟨S4x64, .f32⟩
  | 26 => ⟨S2x2048x4x64, .f32⟩
  | 27 => ⟨S_, .f32⟩
  | 28 => ⟨S4x64, .f32⟩
  | 29 => ⟨S1x1x4x64, .f32⟩
  | 30 => ⟨S2x2048x4x64, .f32⟩
  | 31 => ⟨S2x2048x4x64, .f32⟩
  | 32 => ⟨S_, .f32⟩
  | 33 => ⟨S4x64, .f32⟩
  | 34 => ⟨S2x2048x4x64, .f32⟩
  | 35 => ⟨S_, .f32⟩
  | 36 => ⟨S2x2048x4, .f32⟩
  | 37 => ⟨S2x2048x4x1, .f32⟩
  | 38 => ⟨S2x2048x4x64, .f32⟩
  | 39 => ⟨S2x2048x4x64, .f32⟩
  | 40 => ⟨S2x2048x4x1, .f32⟩
  | 41 => ⟨S2x2048x4x64, .f32⟩
  | 42 => ⟨S_, .f32⟩
  | 43 => ⟨S2x2048x4, .f32⟩
  | 44 => ⟨S2x2048x4x1, .f32⟩
  | 45 => ⟨S_, .f32⟩
  | 46 => ⟨S2x2048x4x1, .f32⟩
  | 47 => ⟨S2x2048x4x1, .f32⟩
  | 48 => ⟨S_, .f32⟩
  | 49 => ⟨S2x2048x4, .f32⟩
  | 50 => ⟨S2x2048x4x64, .f32⟩
  | 51 => ⟨S2x2048x4x64, .f32⟩
  | 52 => ⟨S2x2048x4x64, .f32⟩
  | 53 => ⟨S_, .f32⟩
  | 54 => ⟨S2x2048x4, .f32⟩
  | 55 => ⟨S2x2048x4x1, .f32⟩
  | 56 => ⟨S2x2048x4x64, .f32⟩
  | 57 => ⟨S2x2048x4x1, .f32⟩
  | 58 => ⟨S_, .f32⟩
  | 59 => ⟨S2x2048x4x1, .f32⟩
  | 60 => ⟨S2x2048x4x1, .f32⟩
  | 61 => ⟨S_, .f32⟩
  | 62 => ⟨S2x2048x4, .f32⟩
  | 63 => ⟨S2x2048x4x64, .f32⟩
  | 64 => ⟨S2x2048x4x64, .f32⟩
  | 65 => ⟨S2x2048x4x64, .f32⟩
  | 66 => ⟨S2x2048x4x64, .f32⟩
  | 67 => ⟨S_, .f32⟩
  | 68 => ⟨S2x2048x4x64, .f32⟩
  | 69 => ⟨S2x2048x4x64, .f32⟩
  | 70 => ⟨S2x2048x4x64, .f32⟩
  | 71 => ⟨S_, .f32⟩
  | 72 => ⟨S2x2048x4x64, .f32⟩
  | 73 => ⟨S2x2048x4x64, .f32⟩
  | 74 => ⟨S2x2048x4x64, .f32⟩
  | 75 => ⟨S_, .f32⟩
  | 76 => ⟨S2x2048x4x64, .f32⟩
  | 77 => ⟨S2x2048x4x64, .f32⟩
  | 78 => ⟨S2x2048x4x64, .f32⟩
  | 79 => ⟨S2x2048x4x64, .f32⟩
  | 80 => ⟨S2x2048x4x64, .f32⟩
  | 81 => ⟨S2x2048x4x64, .f32⟩
  | 82 => ⟨S_, .f32⟩
  | 83 => ⟨S2x2048x4x64, .f32⟩
  | 84 => ⟨S2x2048x4x64, .f32⟩
  | 85 => ⟨S2x2048x4x64, .f32⟩
  | 86 => ⟨S_, .f32⟩
  | 87 => ⟨S2x2048x4x64, .f32⟩
  | 88 => ⟨S2x2048x4x64, .f32⟩
  | 89 => ⟨S2x2048x4x64, .f32⟩
  | 90 => ⟨S_, .f32⟩
  | 91 => ⟨S2x2048x4x64, .f32⟩
  | 92 => ⟨S2x2048x4x64, .f32⟩
  | 93 => ⟨S2x2048x4x64, .f32⟩
  | 94 => ⟨S2x2048x4x64, .f32⟩
  | 95 => ⟨S4096x256, .f32⟩
  | 96 => ⟨S4096x256, .f32⟩
  | 97 => ⟨S4096x512, .f32⟩
  | 98 => ⟨S4096x512, .bf16⟩
  | 99 => ⟨S128x4, .f32⟩
  | 100 => ⟨S1x256, .f32⟩
  | 101 => ⟨S1x256, .f32⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_19 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_20 : Ref sig .tc := ⟨.hbm, 111, rfl⟩
abbrev main_v84 : Ref sig .tc := ⟨.hbm, 112, rfl⟩
abbrev main_call0_v0 : Ref sig .tc := ⟨.hbm, 113, rfl⟩
abbrev main_call0_c : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_cst : Ref sig .tc := ⟨.hbm, 119, rfl⟩
abbrev main_call0_v5 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_21 : Ref sig .tc := ⟨.hbm, 136, rfl⟩
abbrev main_v100 : Ref sig .tc := ⟨.hbm, 137, rfl⟩
abbrev main_v101 : Ref sig .tc := ⟨.hbm, 138, rfl⟩
abbrev main_cst_22 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_23 : Ref sig .tc := ⟨.hbm, 149, rfl⟩
abbrev main_v111 : Ref sig .tc := ⟨.hbm, 150, rfl⟩
abbrev main_v112 : Ref sig .tc := ⟨.hbm, 151, rfl⟩
abbrev main_cst_24 : Ref sig .tc := ⟨.hbm, 152, rfl⟩
abbrev main_v113 : Ref sig .tc := ⟨.hbm, 153, rfl⟩
abbrev main_v114 : Ref sig .tc := ⟨.hbm, 154, rfl⟩
abbrev main_cst_25 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_26 : Ref sig .tc := ⟨.hbm, 160, rfl⟩
abbrev main_v119 : Ref sig .tc := ⟨.hbm, 161, rfl⟩
abbrev main_v120 : Ref sig .tc := ⟨.hbm, 162, rfl⟩
abbrev main_cst_27 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_28 : Ref sig .tc := ⟨.hbm, 170, rfl⟩
abbrev main_v127 : Ref sig .tc := ⟨.hbm, 171, rfl⟩
abbrev main_v128 : Ref sig .tc := ⟨.hbm, 172, rfl⟩
abbrev main_cst_29 : Ref sig .tc := ⟨.hbm, 173, rfl⟩
abbrev main_v129 : Ref sig .tc := ⟨.hbm, 174, rfl⟩
abbrev main_v130 : Ref sig .tc := ⟨.hbm, 175, rfl⟩
abbrev main_cst_30 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_31 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_32 : Ref sig .tc := ⟨.hbm, 186, rfl⟩
abbrev main_v139 : Ref sig .tc := ⟨.hbm, 187, rfl⟩
abbrev main_v140 : Ref sig .tc := ⟨.hbm, 188, rfl⟩
abbrev main_cst_33 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_34 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_35 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_36 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_cst_37 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_cst_38 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_cst_39 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩

abbrev nD : Nat := 1
abbrev τ : Topo := Topo.v7x

variable {F : FTy → Type} [FloatOps F]
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1x1024, .f32⟩
  | .hbm, ⟨12, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v64 : BitVec 1 := Scalar.cmpi .eq arg0 c0_i32
  let v65 : BitVec 32 := Scalar.extui v64
  let c0_i32_33 : BitVec 32 := 0#32
  let v66 : BitVec 1 := Scalar.cmpi .ne v65 c0_i32_33
  v66

def k0_cond2 (i : grid0.Coords) : BitVec 1 :=
  let arg0 : BitVec 32 := BitVec.ofNat 32 (i 0).val
  let c0_i32_34 : BitVec 32 := 0#32
  let v67 : BitVec 1 := Scalar.cmpi .sgt arg0 c0_i32_34
  let v68 : BitVec 32 := Scalar.extui v67
  let c0_i32_35 : BitVec 32 := 0#32
  let v69 : BitVec 1 := Scalar.cmpi .ne v68 c0_i32_35
  v69

def k0_cond3 (i : grid0.Coords) : BitVec 1 :=
  let arg0 : BitVec 32 := BitVec.ofNat 32 (i 0).val
  let c0_i32_37 : BitVec 32 := 0#32
  let v72 : BitVec 1 := Scalar.cmpi .eq arg0 c0_i32_37
  let v73 : BitVec 32 := Scalar.extui v72
  let c0_i32_38 : BitVec 32 := 0#32
  let v74 : BitVec 1 := Scalar.cmpi .ne v73 c0_i32_38
  v74

def k0_cond4 (i : grid0.Coords) : BitVec 1 :=
  let arg0 : BitVec 32 := BitVec.ofNat 32 (i 0).val
  let c0_i32_39 : BitVec 32 := 0#32
  let v75 : BitVec 1 := Scalar.cmpi .sgt arg0 c0_i32_39
  let v76 : BitVec 32 := Scalar.extui v75
  let c0_i32_40 : BitVec 32 := 0#32
  let v77 : BitVec 1 := Scalar.cmpi .ne v76 c0_i32_40
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 116
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S1024x2816, .f32⟩
  | .hbm, ⟨13, _⟩ => ⟨S4096x2816, .f32⟩
  | .hbm, ⟨14, _⟩ => ⟨S4096x2816, .f32⟩
  | .hbm, ⟨15, _⟩ => ⟨S1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S1x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S1024, .f32⟩
  | .hbm, ⟨96, _⟩ => ⟨S4096x1024, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S4096x1024, .f32⟩
  | .hbm, ⟨101, _⟩ => ⟨S4096x1024, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S4096, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S4096x1024, .f32⟩
  | .hbm, ⟨113, _⟩ => ⟨S4096x1024, .bf16⟩
  | .hbm, ⟨114, _⟩ => ⟨S1x1024, .f32⟩
  | .hbm, ⟨115, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c11_i32 : BitVec 32 := 11#32
  let v1 : BitVec 1 := Scalar.cmpi .slt arg0 c11_i32
  let v2 : BitVec 1 := Scalar.andi v0 v1
  let arg1 : BitVec 32 := BitVec.ofNat 32 (i 1).val
  let c0_i32_0 : BitVec 32 := 0#32
  let v3 : BitVec 1 := Scalar.cmpi .sge arg1 c0_i32_0
  let v4 : BitVec 1 := Scalar.andi v2 v3
  let c1_i32 : BitVec 32 := 1#32
  let v5 : BitVec 1 := Scalar.cmpi .slt arg1 c1_i32
  let v6 : BitVec 1 := Scalar.andi v4 v5
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_24 : BitVec 32 := 0#32
  let v54 : BitVec 1 := Scalar.cmpi .eq arg0 c0_i32_24
  let v55 : BitVec 32 := Scalar.extui v54
  let c0_i32_25 : BitVec 32 := 0#32
  let v56 : BitVec 1 := Scalar.cmpi .ne v55 c0_i32_25
  v56

def k0_cond2 (i : grid0.Coords) : BitVec 1 :=
  let arg0 : BitVec 32 := BitVec.ofNat 32 (i 0).val
  let c0_i32_26 : BitVec 32 := 0#32
  let v57 : BitVec 1 := Scalar.cmpi .sgt arg0 c0_i32_26
  let v58 : BitVec 32 := Scalar.extui v57
  let c0_i32_27 : BitVec 32 := 0#32
  let v59 : BitVec 1 := Scalar.cmpi .ne v58 c0_i32_27
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1 : Shape := ⟨2, ![1, 1]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .bf16⟩
  | .hbm, ⟨79, _⟩ => ⟨S1x1024, .f32⟩
  | .hbm, ⟨80, _⟩ => ⟨S1x1, .f32⟩
  | .hbm, ⟨81, _⟩ => ⟨S_, .i32⟩
  | .hbm, ⟨82, _⟩ => ⟨S_, .f32⟩
  | .hbm, ⟨83, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_cst_13 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_14 : Ref sig .tc := ⟨.hbm, 68, rfl⟩
abbrev main_v48 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c : Ref sig .tc := ⟨.hbm, 81, rfl⟩
abbrev main_call0_v0 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S4096x1024, .bf16⟩
  | .hbm, ⟨4, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2816, .f32⟩
  | .local _ .vmem, ⟨7, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4096x1024 : Shape := ⟨2, ![4096, 1024]⟩
abbrev S1x1024 : Shape := ⟨2, ![1, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S2816x1024, .f32⟩
  | .hbm, ⟨22, _⟩ => ⟨S1024x2816, .f32⟩
  | .hbm, ⟨23, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel8.lean ====
abbrev S4096x512 : Shape := ⟨2, ![4096, 512]⟩
abbrev S4096x768 : Shape := ⟨2, ![4096, 768]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x512, .bf16⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S4096x1024, .bf16⟩
  | .hbm, ⟨5, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x1024, .bf16⟩
  | .local _ .vmem, ⟨9, _⟩ => ⟨S256x1024, .bf16⟩
  | .local _ .vmem, ⟨10, _⟩ => ⟨S256x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let arg1 : BitVec 32 := BitVec.ofNat 32 (i 1).val
  let c0_i32_0 : BitVec 32 := 0#32
  let v3 : BitVec 1 := Scalar.cmpi .sge arg1 c0_i32_0
  let v4 : BitVec 1 := Scalar.andi v2 v3
  let c1_i32 : BitVec 32 := 1#32
  let v5 : BitVec 1 := Scalar.cmpi .slt arg1 c1_i32
  let v6 : BitVec 1 := Scalar.andi v4 v5
  let v7 : BitVec 32 := Scalar.extui v6
  let c0_i32_1 : BitVec 32 := 0#32
  let v8 : BitVec 1 := Scalar.cmpi .ne v7 c0_i32_1
  v8

def k0_cond2 (i : grid0.Coords) : BitVec 1 :=
  let arg0 : BitVec 32 := BitVec.ofNat 32 (i 0).val
  let c2_i32_2 : BitVec 32 := 2#32
  let v9 : BitVec 1 := Scalar.cmpi .sge arg0 c2_i32_2
  let c5_i32 : BitVec 32 := 5#32
  let v10 : BitVec 1 := Scalar.cmpi .slt arg0 c5_i32
  let v11 : BitVec 1 := Scalar.andi v9 v10
  let arg1 : BitVec 32 := BitVec.ofNat 32 (i 1).val
  let c0_i32_3 : BitVec 32 := 0#32
  let v12 : BitVec 1 := Scalar.cmpi .sge arg1 c0_i32_3
  let v13 : BitVec 1 := Scalar.andi v11 v12
  let c1_i32_4 : BitVec 32 := 1#32
  let v14 : BitVec 1 := Scalar.cmpi .slt arg1 c1_i32_4
  let v15 : BitVec 1 := Scalar.andi v13 v14
  let v16 : BitVec 32 := Scalar.extui v15
  let c0_i32_5 : BitVec 32 := 0#32
  let v17 : BitVec 1 := Scalar.cmpi .ne v16 c0_i32_5
  v17

def k0_cond3 (i : grid0.Coords) : BitVec 1 :=
  let arg0 : BitVec 32 := BitVec.ofNat 32 (i 0).val
  let c5_i32_6 : BitVec 32 := 5#32
  let v18 : BitVec 1 := Scalar.cmpi .sge arg0 c5_i32_6
  let c8_i32 : BitVec 32 := 8#32
  let v19 : BitVec 1 := Scalar.cmpi .slt arg0 c8_i32
  let v20 : BitVec 1 := Scalar.andi v18 v19
  let arg1 : BitVec 32 := BitVec.ofNat 32 (i 1).val
  let c0_i32_7 : BitVec 32 := 0#32
  let v21 : BitVec 1 := Scalar.cmpi .sge arg1 c0_i32_7
  let v22 : BitVec 1 := Scalar.andi v20 v21
  let c1_i32_8 : BitVec 32 := 1#32
  let v23 : BitVec 1 := Scalar.cmpi .slt arg1 c1_i32_8
  let v24 : BitVec 1 := Scalar.andi v22 v23
  let v25 : BitVec 32 := Scalar.extui v24
  let c0_i32_9 : BitVec 32 := 0#32
  let v26 : BitVec 1 := Scalar.cmpi .ne v25 c0_i32_9
  v26

def k0_cond4 (i : grid0.Coords) : BitVec 1 :=
  let arg0 : BitVec 32 := BitVec.ofNat 32 (i 0).val
  let c8_i32_10 : BitVec 32 := 8#32
  let v27 : BitVec 1 := Scalar.cmpi .sge arg0 c8_i32_10
  let c11_i32 : BitVec 32 := 11#32
  let v28 : BitVec 1 := Scalar.cmpi .slt arg0 c11_i32
  let v29 : BitVec 1 := Scalar.andi v27 v28
  let arg1 : BitVec 32 := BitVec.ofNat 32 (i 1).val
  let c0_i32_11 : BitVec 32 := 0#32
  let v30 : BitVec 1 := Scalar.cmpi .sge arg1 c0_i32_11
  let v31 : BitVec 1 := Scalar.andi v29 v30
  let c1_i32_12 : BitVec 32 := 1#32
  let v32 : BitVec 1 := Scalar.cmpi .slt arg1 c1_i32_12
  let v33 : BitVec 1 := Scalar.andi v31 v32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let c2_i32_0 : BitVec 32 := 2#32
  let v1 : BitVec 32 := Scalar.maxsi c0_i32 v0
  let v2 : BitVec 32 := Scalar.minsi c2_i32_0 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg0 c5_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4096x512 : Shape := ⟨2, ![4096, 512]⟩
abbrev S4096x768 : Shape := ⟨2, ![4096, 768]⟩
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x768, .bf16⟩
  | .hbm, ⟨2, _⟩ => ⟨S4096x768, .bf16⟩
  | .hbm, ⟨3, _⟩ => ⟨S4096x768, .bf16⟩
  | .hbm, ⟨4, _⟩ => ⟨S4096x1024, .bf16⟩
  | .hbm, ⟨5, _⟩ => ⟨S4096x2816, .bf16⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S1024x2816, .f32⟩
  | .hbm, ⟨10, _⟩ => ⟨S4096x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel9.lean ====
abbrev S4096x256 : Shape := ⟨2, ![4096, 256]⟩
abbrev S4096x768 : Shape := ⟨2, ![4096, 768]⟩
abbrev S4096x1024 : Shape := ⟨2, ![4096, 1024]⟩
abbrev S1024x1024 : Shape := ⟨2, ![1024, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x768, .f32⟩
  | .hbm, ⟨2, _⟩ => ⟨S4096x1024, .bf16⟩
  | .hbm, ⟨3, _⟩ => ⟨S1024x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .f32⟩
  | .local _ .vmem, ⟨3, _⟩ => ⟨S4096x256, .f32⟩
  | .local _ .vmem, ⟨4, _⟩ => ⟨S4096x1024, .bf16⟩
  | .local _ .vmem, ⟨5, _⟩ => ⟨S256x1024, .bf16⟩
  | .local _ .vmem, ⟨6, _⟩ => ⟨S256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c1_i32 : BitVec 32 := 1#32
  let v1 : BitVec 1 := Scalar.cmpi .slt arg0 c1_i32
  let v2 : BitVec 1 := Scalar.andi v0 v1
  let arg1 : BitVec 32 := BitVec.ofNat 32 (i 1).val
  let c0_i32_0 : BitVec 32 := 0#32
  let v3 : BitVec 1 := Scalar.cmpi .sge arg1 c0_i32_0
  let v4 : BitVec 1 := Scalar.andi v2 v3
  let c1_i32_1 : BitVec 32 := 1#32
  let v5 : BitVec 1 := Scalar.cmpi .slt arg1 c1_i32_1
  let v6 : BitVec 1 := Scalar.andi v4 v5
  let v7 : BitVec 32 := Scalar.extui v6
  let c0_i32_2 : BitVec 32 := 0#32
  let v8 : BitVec 1 := Scalar.cmpi .ne v7 c0_i32_2
  v8

def k0_cond2 (i : grid0.Coords) : BitVec 1 :=
  let arg0 : BitVec 32 := BitVec.ofNat 32 (i 0).val
  let c1_i32_3 : BitVec 32 := 1#32
  let v9 : BitVec 1 := Scalar.cmpi .sge arg0 c1_i32_3
  let c4_i32 : BitVec 32 := 4#32
  let v10 : BitVec 1 := Scalar.cmpi .slt arg0 c4_i32
  let v11 : BitVec 1 := Scalar.andi v9 v10
  let arg1 : BitVec 32 := BitVec.ofNat 32 (i 1).val
  let c0_i32_4 : BitVec 32 := 0#32
  let v12 : BitVec 1 := Scalar.cmpi .sge arg1 c0_i32_4
  let v13 : BitVec 1 := Scalar.andi v11 v12
  let c1_i32_5 : BitVec 32 := 1#32
  let v14 : BitVec 1 := Scalar.cmpi .slt arg1 c1_i32_5
  let v15 : BitVec 1 := Scalar.andi v13 v14
  let v16 : BitVec 32 := Scalar.extui v15
  let c0_i32_6 : BitVec 32 := 0#32
  let v17 : BitVec 1 := Scalar.cmpi .ne v16 c0_i32_6
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x256 : Shape := ⟨2, ![4096, 256]⟩
abbrev S4096x768 : Shape := ⟨2, ![4096, 768]⟩
abbrev S4096x1024 : Shape := ⟨2, ![4096, 1024]⟩
abbrev S_ : Shape := ⟨0, ![]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x768, .f32⟩
  | .hbm, ⟨2, _⟩ => ⟨S4096x1024, .bf16⟩
  | .hbm, ⟨3, _⟩ => ⟨S4096x256, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Gate.Vec.lean ====
/-
What the body of the gating backward kernel computes on one chunk of 128 rows, as functions of the
arrays the chunk loads, over any float instance: the activation and its derivative, the group
normalisation, the spatial mix, and the five results a chunk contributes.
-/
module

public import proofs.«01_k».proof.Proof.Gen.KernelIdeal.Skeleton

@[expose] public section

noncomputable section

namespace Cert.KernelIdeal.Gate

open Idealize.ShloMosaic Idealize.SL.Sem Cert.KernelIdeal.Gen

variable {F : FTy → Type} [FloatOps F] [Named F]

/-- The group, 0 to 3, of each lane of a chunk. -/
def lane : IVec S128x256 32 := k0_pay7

/-- The lower triangle of the spatial weights. -/
def tril : IVec S128x128 1 := k0_pay6

/-- The matrix that takes each lane to the mean of its group. -/
def gm : FVec F S256x256 .bf16 :=
  k0_pay10 (iota .tc S256x256 32 [0] iota_S256x256_d0_w32) 64#32 k0_pay8 k0_pay9
    (Scalar.extui (Scalar.cmpi .sgt 64#32 0#32)) (Scalar.cmpi .slt 64#32 0#32)

/-- The matrix that adds the lanes of each group up into a column of its own. -/
def gs : FVec F S256x128 .bf16 :=
  k0_pay13 (iota .tc S256x128 32 [0] iota_S256x128_d0_w32) 64#32 k0_pay11 k0_pay12

/-- An f32 literal spread over a chunk. -/
def kc (b : BitVec 32) : FVec F S128x256 .f32 := broadcast S128x256 (Scalar.ofBits .f32 b : F .f32)

/-- A named constant spread over a chunk. -/
def kn (s : String) (b : BitVec 32) : FVec F S128x256 .f32 :=
  broadcast S128x256 (Named.named κ s b : F .f32)

/-- The inner hyperbolic tangent of the activation. -/
def vth (x : FVec F S128x256 .f32) : FVec F S128x256 .f32 :=
  tanh (mulf x (addf (kc 0x3F4C422A#32) (mulf (kn "c0c1" 0x3D122279#32) (mulf x x))))

/-- Half of one plus the inner tangent. -/
def vhalf (x : FVec F S128x256 .f32) : FVec F S128x256 .f32 :=
  addf (kc 0x3F000000#32) (mulf (kc 0x3F000000#32) (vth x))

/-- The derivative of the activation. -/
def vdg (x : FVec F S128x256 .f32) : FVec F S128x256 .f32 :=
  addf (vhalf x) (mulf (mulf x (subf (kc 0x3F000000#32) (mulf (kc 0x3F000000#32) (mulf (vth x) (vth x)))))
    (addf (kc 0x3F4C422A#32) (mulf (kn "c0c1x3" 0x3DDB33B6#32) (mulf x x))))

/-- The activation. -/
def vgl (x : FVec F S128x256 .f32) : FVec F S128x256 .f32 := mulf x (vhalf x)

/-- The group mean of a chunk: the product with the averaging matrix, the chunk split into a high and
    a low part. -/
def vdot (y : FVec F S128x256 .f32) : FVec F S128x256 .f32 :=
  addf
    (matmul dot_S128x256_S256x256_S128x256_1_0_0_1_n_n none (truncf .bf16 y bitsLt_bf16_f32) gm
      (constant S128x256 .f32 0x00000000#32))
    (matmul dot_S128x256_S256x256_S128x256_1_0_0_1_n_n none
      (truncf .bf16 (subf y (extf .f32 (truncf .bf16 y bitsLt_bf16_f32) bitsLt_bf16_f32)) bitsLt_bf16_f32) gm
      (constant S128x256 .f32 0x00000000#32))

/-- The group sums of a chunk, split the same way. -/
def vsum (y : FVec F S128x256 .f32) : FVec F S128x128 .f32 :=
  addf
    (matmul dot_S128x256_S256x128_S128x128_1_0_0_1_n_n none (truncf .bf16 y bitsLt_bf16_f32) gs
      (constant S128x128 .f32 0x00000000#32))
    (matmul dot_S128x256_S256x128_S128x128_1_0_0_1_n_n none
      (truncf .bf16 (subf y (extf .f32 (truncf .bf16 y bitsLt_bf16_f32) bitsLt_bf16_f32)) bitsLt_bf16_f32) gs
      (constant S128x128 .f32 0x00000000#32))

/-- The activated half, centred in each group. -/
def vxc (V : FVec F S128x256 .f32) : FVec F S128x256 .f32 := subf (vgl V) (vdot (vgl V))

/-- The reciprocal root of its variance. -/
def vrs (V : FVec F S128x256 .f32) : FVec F S128x256 .f32 :=
  rsqrt (addf (vdot (mulf (vxc V) (vxc V))) (kc 0x358637BD#32))

/-- The normalised half, before its gain. -/
def vhat (V : FVec F S128x256 .f32) : FVec F S128x256 .f32 := mulf (vxc V) (vrs V)

/-- A row spread over the rows of a chunk. -/
def vrow (g : FVec F S1x256 .f32) : FVec F S128x256 .f32 :=
  broadcastTo S128x256 (shapeCast S1x256 g shapeCasts_S1x256_S1x256) broadcasts_S1x256_S128x256

/-- The normalised half, with gain and bias. -/
def vvn (V : FVec F S128x256 .f32) (lg lb : FVec F S1x256 .f32) : FVec F S128x256 .bf16 :=
  truncf .bf16 (addf (mulf (vhat V) (vrow lg)) (vrow lb)) bitsLt_bf16_f32

/-- One group's spatial weights, below the diagonal. -/
def vw (w : FVec F S1x128x128 .f32) : FVec F S128x128 .f32 :=
  select tril (shapeCast S128x128 w shapeCasts_S1x128x128_S128x128)
    (broadcast S128x128 (Scalar.ofBits .f32 0x00000000#32 : F .f32))

/-- The product of one group's weights with a chunk. -/
def vmm (w : FVec F S1x128x128 .f32) (x : FVec F S128x256 .bf16) : FVec F S128x256 .f32 :=
  matmul dot_S128x128_S128x256_S128x256_1_0_0_1_n_n none (truncf .bf16 (vw w) bitsLt_bf16_f32) x
    (constant S128x256 .f32 0x00000000#32)

/-- The product of one group's transposed weights with a chunk. -/
def vmt (w : FVec F S1x128x128 .f32) (x : FVec F S128x256 .bf16) : FVec F S128x256 .f32 :=
  matmul dot_S128x128_S128x256_S128x256_1_0_0_1_n_n none
    (truncf .bf16 (transpose S128x128 [1, 0] (vw w) transposes_S128x128_p1_0_S128x128) bitsLt_bf16_f32) x
    (constant S128x256 .f32 0x00000000#32)

/-- Each lane from the array of its group. -/
def pick (a b c d : FVec F S128x256 .f32) : FVec F S128x256 .f32 :=
  select (cmpi .eq lane (broadcast S128x256 0#32)) a
    (select (cmpi .eq lane (broadcast S128x256 1#32)) b
      (select (cmpi .eq lane (broadcast S128x256 2#32)) c d))

/-- A column of the spatial bias spread over the lanes. -/
def vcol (s : FVec F S128x1 .f32) : FVec F S128x256 .f32 :=
  broadcastTo S128x256 (shapeCast S128x1 (shapeCast S128x1 s shapeCasts_S128x1_S128x1)
    shapeCasts_S128x1_S128x1) broadcasts_S128x1_S128x256

/-- The gate: the spatial mix of the normalised half, plus its bias. -/
def vz (V : FVec F S128x256 .f32) (lg lb : FVec F S1x256 .f32) (w0 w1 w2 w3 : FVec F S1x128x128 .f32)
    (s0 s1 s2 s3 : FVec F S128x1 .f32) : FVec F S128x256 .f32 :=
  addf (pick (vmm w0 (vvn V lg lb)) (vmm w1 (vvn V lg lb)) (vmm w2 (vvn V lg lb)) (vmm w3 (vvn V lg lb)))
    (pick (vcol s0) (vcol s1) (vcol s2) (vcol s3))

/-- The gradient of the gate. -/
def vdz (U A : FVec F S128x256 .f32) : FVec F S128x256 .f32 := mulf A (vgl U)

/-- The gradient of the first half. -/
def vdu (U V A : FVec F S128x256 .f32) (lg lb : FVec F S1x256 .f32)
    (w0 w1 w2 w3 : FVec F S1x128x128 .f32) (s0 s1 s2 s3 : FVec F S128x1 .f32) :
    FVec F S128x256 .bf16 :=
  truncf .bf16 (mulf (mulf A (vz V lg lb w0 w1 w2 w3 s0 s1 s2 s3)) (vdg U)) bitsLt_bf16_f32

/-- The spatial bias's gradient after a chunk, from what it was before. -/
def vdsb (acc : FVec F S128x4 .f32) (U A : FVec F S128x256 .f32) : FVec F S128x4 .f32 :=
  addf (shapeCast S128x4 acc shapeCasts_S128x4_S128x4)
    (extractStridedSlice S128x4 ![0, 0] (vsum (vdz U A)) slices_S128x128_o0_0_S128x4)

/-- One group's part of the gate's gradient, zero in the other lanes. -/
def vdzg (g : BitVec 32) (U A : FVec F S128x256 .f32) : FVec F S128x256 .bf16 :=
  select (cmpi .eq lane (broadcast S128x256 g)) (truncf .bf16 (vdz U A) bitsLt_bf16_f32)
    (broadcast S128x256 (Scalar.ofBits .bf16 0x0000#16 : F .bf16))

/-- One group's spatial weights' gradient after a chunk, from what it was before. -/
def vdw (g : BitVec 32) (acc : FVec F S1x128x128 .f32) (U V A : FVec F S128x256 .f32)
    (lg lb : FVec F S1x256 .f32) : FVec F S1x128x128 .f32 :=
  shapeCast S1x128x128
    (addf (shapeCast S128x128 acc shapeCasts_S1x128x128_S128x128)
      (select tril
        (matmul dot_S128x256_S128x256_S128x128_1_1_0_0_n_n none (vdzg g U A) (vvn V lg lb)
          (constant S128x128 .f32 0x00000000#32))
        (broadcast S128x128 (Scalar.ofBits .f32 0x00000000#32 : F .f32))))
    shapeCasts_S128x128_S1x128x128

/-- The gradient of the normalised half. -/
def vdvn (U A : FVec F S128x256 .f32) (w0 w1 w2 w3 : FVec F S1x128x128 .f32) :
    FVec F S128x256 .f32 :=
  pick (vmt w0 (truncf .bf16 (vdz U A) bitsLt_bf16_f32)) (vmt w1 (truncf .bf16 (vdz U A) bitsLt_bf16_f32))
    (vmt w2 (truncf .bf16 (vdz U A) bitsLt_bf16_f32)) (vmt w3 (truncf .bf16 (vdz U A) bitsLt_bf16_f32))

/-- A row after the column sums of a chunk are added to it. -/
def vacc (acc : FVec F S1x256 .f32) (y : FVec F S128x256 .f32) : FVec F S1x256 .f32 :=
  addf (shapeCast S1x256 acc shapeCasts_S1x256_S1x256)
    (shapeCast S1x256 (multiReduction .add [0] S256 y 0x00000000#32 reduces_S128x256_S256 (.inl rfl) rfl)
      shapeCasts_S256_S1x256)

/-- The gain's gradient after a chunk. -/
def vdlg (acc : FVec F S1x256 .f32) (U V A : FVec F S128x256 .f32)
    (w0 w1 w2 w3 : FVec F S1x128x128 .f32) : FVec F S1x256 .f32 :=
  vacc acc (mulf (vdvn U A w0 w1 w2 w3) (vhat V))

/-- The bias's gradient after a chunk. -/
def vdlb (acc : FVec F S1x256 .f32) (U A : FVec F S128x256 .f32)
    (w0 w1 w2 w3 : FVec F S1x128x128 .f32) : FVec F S1x256 .f32 :=
  vacc acc (vdvn U A w0 w1 w2 w3)

/-- The gradient of the normalised half before its gain. -/
def vdvh (U A : FVec F S128x256 .f32) (lg : FVec F S1x256 .f32)
    (w0 w1 w2 w3 : FVec F S1x128x128 .f32) : FVec F S128x256 .f32 :=
  mulf (vdvn U A w0 w1 w2 w3) (vrow lg)

/-- The gradient of the second half, given the gradient of its normalised form. -/
def vback (V y : FVec F S128x256 .f32) : FVec F S128x256 .bf16 :=
  truncf .bf16 (mulf (mulf (vrs V) (subf (subf y (vdot y)) (mulf (vhat V) (vdot (mulf y (vhat V))))))
    (vdg V)) bitsLt_bf16_f32

/-- The gradient of the second half. -/
def vdv (U V A : FVec F S128x256 .f32) (lg : FVec F S1x256 .f32)
    (w0 w1 w2 w3 : FVec F S1x128x128 .f32) : FVec F S128x256 .bf16 :=
  vback V (vdvh U A lg w0 w1 w2 w3)

end Cert.KernelIdeal.Gate
-- ==== Proof.Gate.Load.lean ====
/-
The parts of the windows that the body of the gating backward kernel loads.
-/
module

public import proofs.«01_k».proof.Proof.Gate.Vec
public import proofs.«01_k».proof.Proof.Gen.KernelIdeal.Frame

@[expose] public section

noncomputable section

namespace Cert.KernelIdeal.Gate

open Idealize.ShloMosaic Idealize.ShloMosaic.TcCoe Idealize.SL.Sem Cert.KernelIdeal.Gen

variable {F : FTy → Type} [FloatOps F] [Named F]

/-- A chunk's rows of a window of 512 rows. -/
def rows (k : Fin 4) (r : Memref sig .tc .vmem S512x256 .f32) (h : r.IsWhole) (x : Vec F S512x256 .f32) :
    FVec F S128x256 .f32 :=
  match k with
  | 0 => View.readAt (Elt F) r.view (Rect.unit (s := S512x256) ![0, 0] S128x256.size inb_S512x256_S128x256_0_0).toLoadRect (h.unread x)
  | 1 => View.readAt (Elt F) r.view (Rect.unit (s := S512x256) ![128, 0] S128x256.size inb_S512x256_S128x256_128_0).toLoadRect (h.unread x)
  | 2 => View.readAt (Elt F) r.view (Rect.unit (s := S512x256) ![256, 0] S128x256.size inb_S512x256_S128x256_256_0).toLoadRect (h.unread x)
  | 3 => View.readAt (Elt F) r.view (Rect.unit (s := S512x256) ![384, 0] S128x256.size inb_S512x256_S128x256_384_0).toLoadRect (h.unread x)

/-- A group's part of the spatial weights. -/
def part (k : Fin 4) (r : Memref sig .tc .vmem S4x128x128 .f32) (h : r.IsWhole) (x : Vec F S4x128x128 .f32) :
    FVec F S1x128x128 .f32 :=
  match k with
  | 0 => View.readAt (Elt F) r.view (Rect.unit (s := S4x128x128) ![0, 0, 0] S1x128x128.size inb_S4x128x128_S1x128x128_0_0_0).toLoadRect (h.unread x)
  | 1 => View.readAt (Elt F) r.view (Rect.unit (s := S4x128x128) ![1, 0, 0] S1x128x128.size inb_S4x128x128_S1x128x128_1_0_0).toLoadRect (h.unread x)
  | 2 => View.readAt (Elt F) r.view (Rect.unit (s := S4x128x128) ![2, 0, 0] S1x128x128.size inb_S4x128x128_S1x128x128_2_0_0).toLoadRect (h.unread x)
  | 3 => View.readAt (Elt F) r.view (Rect.unit (s := S4x128x128) ![3, 0, 0] S1x128x128.size inb_S4x128x128_S1x128x128_3_0_0).toLoadRect (h.unread x)

/-- A group's column of the spatial bias. -/
def colm (k : Fin 4) (r : Memref sig .tc .vmem S128x4 .f32) (h : r.IsWhole) (x : Vec F S128x4 .f32) :
    FVec F S128x1 .f32 :=
  match k with
  | 0 => View.readAt (Elt F) r.view (Rect.unit (s := S128x4) ![0, 0] S128x1.size inb_S128x4_S128x1_0_0).toLoadRect (h.unread x)
  | 1 => View.readAt (Elt F) r.view (Rect.unit (s := S128x4) ![0, 1] S128x1.size inb_S128x4_S128x1_0_1).toLoadRect (h.unread x)
  | 2 => View.readAt (Elt F) r.view (Rect.unit (s := S128x4) ![0, 2] S128x1.size inb_S128x4_S128x1_0_2).toLoadRect (h.unread x)
  | 3 => View.readAt (Elt F) r.view (Rect.unit (s := S128x4) ![0, 3] S128x1.size inb_S128x4_S128x1_0_3).toLoadRect (h.unread x)

/-- A row of 256 lanes. -/
def roww (r : Memref sig .tc .vmem S1x256 .f32) (h : r.IsWhole) (x : Vec F S1x256 .f32) :
    FVec F S1x256 .f32 :=
  View.readAt (Elt F) r.view (Rect.unit (s := S1x256) ![0, 0] S1x256.size inb_S1x256_S1x256_0_0).toLoadRect (h.unread x)

section
variable (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S4x128x128 .f32) (harg6 : arg6.IsWhole)
    (arg7 : Memref sig .tc .vmem S128x4 .f32) (harg7 : arg7.IsWhole)
    (arg8 : Memref sig .tc .vmem S512x512 .bf16) (harg8 : arg8.IsWhole)
    (arg9 : Memref sig .tc .vmem S4x128x128 .f32) (harg9 : arg9.IsWhole)
    (arg10 : Memref sig .tc .vmem S128x4 .f32) (harg10 : arg10.IsWhole)
    (arg11 : Memref sig .tc .vmem S1x256 .f32) (harg11 : arg11.IsWhole)
    (arg12 : Memref sig .tc .vmem S1x256 .f32) (harg12 : arg12.IsWhole)
    (x0 : Vec F S512x256 .f32) (x1 : Vec F S512x256 .f32) (x2 : Vec F S512x256 .f32) (x3 : Vec F S1x256 .f32) (x4 : Vec F S1x256 .f32) (x5 : Vec F S4x128x128 .f32) (x6 : Vec F S128x4 .f32) (xo8 : Vec F S4x128x128 .f32) (xo9 : Vec F S128x4 .f32) (xo10 : Vec F S1x256 .f32) (xo11 : Vec F S1x256 .f32)

/-- The first half's gradient on one chunk of a point. -/
def pdu (k : Fin 4) : FVec F S128x256 .bf16 :=
  vdu (rows k arg1 harg1 x0) (rows k arg2 harg2 x1) (rows k arg3 harg3 x2) (roww arg4 harg4 x3)
    (roww arg5 harg5 x4) (part 0 arg6 harg6 x5) (part 1 arg6 harg6 x5) (part 2 arg6 harg6 x5)
    (part 3 arg6 harg6 x5) (colm 0 arg7 harg7 x6) (colm 1 arg7 harg7 x6) (colm 2 arg7 harg7 x6)
    (colm 3 arg7 harg7 x6)

/-- The second half's gradient on one chunk of a point. -/
def pdv (k : Fin 4) : FVec F S128x256 .bf16 :=
  vdv (rows k arg1 harg1 x0) (rows k arg2 harg2 x1) (rows k arg3 harg3 x2) (roww arg4 harg4 x3)
    (part 0 arg6 harg6 x5) (part 1 arg6 harg6 x5) (part 2 arg6 harg6 x5) (part 3 arg6 harg6 x5)

/-- A piece of the array of first and second halves' gradients. -/
def duvPieces : List (View.Piece (Elt F) S512x512 .bf16) :=
  [⟨Rect.unit (s := S512x512) ![384, 256] S128x256.size inb_S512x512_S128x256_384_256, pdv arg1 harg1 arg2 harg2 arg3 harg3 arg4 harg4 arg6 harg6 x0 x1 x2 x3 x5 3⟩,
   ⟨Rect.unit (s := S512x512) ![384, 0] S128x256.size inb_S512x512_S128x256_384_0, pdu arg1 harg1 arg2 harg2 arg3 harg3 arg4 harg4 arg5 harg5 arg6 harg6 arg7 harg7 x0 x1 x2 x3 x4 x5 x6 3⟩,
   ⟨Rect.unit (s := S512x512) ![256, 256] S128x256.size inb_S512x512_S128x256_256_256, pdv arg1 harg1 arg2 harg2 arg3 harg3 arg4 harg4 arg6 harg6 x0 x1 x2 x3 x5 2⟩,
   ⟨Rect.unit (s := S512x512) ![256, 0] S128x256.size inb_S512x512_S128x256_256_0, pdu arg1 harg1 arg2 harg2 arg3 harg3 arg4 harg4 arg5 harg5 arg6 harg6 arg7 harg7 x0 x1 x2 x3 x4 x5 x6 2⟩,
   ⟨Rect.unit (s := S512x512) ![128, 256] S128x256.size inb_S512x512_S128x256_128_256, pdv arg1 harg1 arg2 harg2 arg3 harg3 arg4 harg4 arg6 harg6 x0 x1 x2 x3 x5 1⟩,
   ⟨Rect.unit (s := S512x512) ![128, 0] S128x256.size inb_S512x512_S128x256_128_0, pdu arg1 harg1 arg2 harg2 arg3 harg3 arg4 harg4 arg5 harg5 arg6 harg6 arg7 harg7 x0 x1 x2 x3 x4 x5 x6 1⟩,
   ⟨Rect.unit (s := S512x512) ![0, 256] S128x256.size inb_S512x512_S128x256_0_256, pdv arg1 harg1 arg2 harg2 arg3 harg3 arg4 harg4 arg6 harg6 x0 x1 x2 x3 x5 0⟩,
   ⟨Rect.unit (s := S512x512) ![0, 0] S128x256.size inb_S512x512_S128x256_0_0, pdu arg1 harg1 arg2 harg2 arg3 harg3 arg4 harg4 arg5 harg5 arg6 harg6 arg7 harg7 x0 x1 x2 x3 x4 x5 x6 0⟩]

theorem runB_duv (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11).1 = duvPieces arg1 harg1 arg2 harg2 arg3 harg3 arg4 harg4 arg5 harg5 arg6 harg6 arg7 harg7 x0 x1 x2 x3 x4 x5 x6 := rfl

theorem runA_duv (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 = duvPieces arg1 harg1 arg2 harg2 arg3 harg3 arg4 harg4 arg5 harg5 arg6 harg6 arg7 harg7 x0 x1 x2 x3 x4 x5 x6 := rfl

/-- The stores of one chunk to the spatial weights' gradient, over the stores before it, given what each
    group's load reads. -/
def ext8 (ld : List (View.Piece (Elt F) S4x128x128 .f32) → Fin 4 → FVec F S1x128x128 .f32)
    (U V A : FVec F S128x256 .f32) (lg lb : FVec F S1x256 .f32)
    (L : List (View.Piece (Elt F) S4x128x128 .f32)) : List (View.Piece (Elt F) S4x128x128 .f32) :=
  let L0 : List (View.Piece (Elt F) S4x128x128 .f32) := ⟨Rect.unit (s := S4x128x128) ![0, 0, 0] S1x128x128.size inb_S4x128x128_S1x128x128_0_0_0, vdw 0#32 (ld L 0) U V A lg lb⟩ :: L
  let L1 : List (View.Piece (Elt F) S4x128x128 .f32) := ⟨Rect.unit (s := S4x128x128) ![1, 0, 0] S1x128x128.size inb_S4x128x128_S1x128x128_1_0_0, vdw 1#32 (ld L0 1) U V A lg lb⟩ :: L0
  let L2 : List (View.Piece (Elt F) S4x128x128 .f32) := ⟨Rect.unit (s := S4x128x128) ![2, 0, 0] S1x128x128.size inb_S4x128x128_S1x128x128_2_0_0, vdw 2#32 (ld L1 2) U V A lg lb⟩ :: L1
  ⟨Rect.unit (s := S4x128x128) ![3, 0, 0] S1x128x128.size inb_S4x128x128_S1x128x128_3_0_0, vdw 3#32 (ld L2 3) U V A lg lb⟩ :: L2

/-- A load of one group's part after stores. -/
def cov8 (L : List (View.Piece (Elt F) S4x128x128 .f32)) (k : Fin 4) : FVec F S1x128x128 .f32 :=
  match k with
  | 0 => arg9.view.readCov L (Rect.unit (s := S4x128x128) ![0, 0, 0] S1x128x128.size inb_S4x128x128_S1x128x128_0_0_0).toLoadRect
  | 1 => arg9.view.readCov L (Rect.unit (s := S4x128x128) ![1, 0, 0] S1x128x128.size inb_S4x128x128_S1x128x128_1_0_0).toLoadRect
  | 2 => arg9.view.readCov L (Rect.unit (s := S4x128x128) ![2, 0, 0] S1x128x128.size inb_S4x128x128_S1x128x128_2_0_0).toLoadRect
  | 3 => arg9.view.readCov L (Rect.unit (s := S4x128x128) ![3, 0, 0] S1x128x128.size inb_S4x128x128_S1x128x128_3_0_0).toLoadRect

/-- A chunk's stores to the spatial weights' gradient at a point. -/
def pext8 (ld : List (View.Piece (Elt F) S4x128x128 .f32) → Fin 4 → FVec F S1x128x128 .f32) (k : Fin 4)
    (L : List (View.Piece (Elt F) S4x128x128 .f32)) : List (View.Piece (Elt F) S4x128x128 .f32) :=
  ext8 ld (rows k arg1 harg1 x0) (rows k arg2 harg2 x1) (rows k arg3 harg3 x2) (roww arg4 harg4 x3)
    (roww arg5 harg5 x4) L

set_option maxHeartbeats 1000000 in
theorem runB_dw (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11).2.1 =
      pext8 arg1 harg1 arg2 harg2 arg3 harg3 arg4 harg4 arg5 harg5 x0 x1 x2 x3 x4 (cov8 arg9) 3 (pext8 arg1 harg1 arg2 harg2 arg3 harg3 arg4 harg4 arg5 harg5 x0 x1 x2 x3 x4 (cov8 arg9) 2 (pext8 arg1 harg1 arg2 harg2 arg3 harg3 arg4 harg4 arg5 harg5 x0 x1 x2 x3 x4 (cov8 arg9) 1
        (pext8 arg1 harg1 arg2 harg2 arg3 harg3 arg4 harg4 arg5 harg5 x0 x1 x2 x3 x4 (fun _ g => part g arg9 harg9 xo8) 0 []))) := rfl

set_option maxHeartbeats 1000000 in
theorem runA_dw (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1 =
      pext8 arg1 harg1 arg2 harg2 arg3 harg3 arg4 harg4 arg5 harg5 x0 x1 x2 x3 x4 (cov8 arg9) 3 (pext8 arg1 harg1 arg2 harg2 arg3 harg3 arg4 harg4 arg5 harg5 x0 x1 x2 x3 x4 (cov8 arg9) 2 (pext8 arg1 harg1 arg2 harg2 arg3 harg3 arg4 harg4 arg5 harg5 x0 x1 x2 x3 x4 (cov8 arg9) 1
        (pext8 arg1 harg1 arg2 harg2 arg3 harg3 arg4 harg4 arg5 harg5 x0 x1 x2 x3 x4 (cov8 arg9) 0
          [⟨Rect.unit (s := S4x128x128) ![0, 0, 0] S4x128x128.size inb_S4x128x128_S4x128x128_0_0_0, k0_pay2⟩]))) := rfl

/-- A chunk's store to the spatial bias's gradient, over the stores before it. -/
def pext9 (k : Fin 4) (acc : FVec F S128x4 .f32) (L : List (View.Piece (Elt F) S128x4 .f32)) :
    List (View.Piece (Elt F) S128x4 .f32) :=
  ⟨Rect.unit (s := S128x4) ![0, 0] S128x4.size inb_S128x4_S128x4_0_0,
    vdsb acc (rows k arg1 harg1 x0) (rows k arg3 harg3 x2)⟩ :: L

/-- … its load reading the stores before it. -/
def qext9 (k : Fin 4) (L : List (View.Piece (Elt F) S128x4 .f32)) : List (View.Piece (Elt F) S128x4 .f32) :=
  pext9 arg1 harg1 arg3 harg3 x0 x2 k
    (arg10.view.readCov L (Rect.unit (s := S128x4) ![0, 0] S128x4.size inb_S128x4_S128x4_0_0).toLoadRect) L

theorem runB_dsb (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11).2.2.1 =
      qext9 arg1 harg1 arg3 harg3 arg10 x0 x2 3 (qext9 arg1 harg1 arg3 harg3 arg10 x0 x2 2 (qext9 arg1 harg1 arg3 harg3 arg10 x0 x2 1
        (pext9 arg1 harg1 arg3 harg3 x0 x2 0 (View.readAt (Elt F) arg10.view (Rect.unit (s := S128x4) ![0, 0] S128x4.size inb_S128x4_S128x4_0_0).toLoadRect (harg10.unread xo9)) []))) := rfl

theorem runA_dsb (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1 =
      qext9 arg1 harg1 arg3 harg3 arg10 x0 x2 3 (qext9 arg1 harg1 arg3 harg3 arg10 x0 x2 2 (qext9 arg1 harg1 arg3 harg3 arg10 x0 x2 1 (qext9 arg1 harg1 arg3 harg3 arg10 x0 x2 0
        [⟨Rect.unit (s := S128x4) ![0, 0] S128x4.size inb_S128x4_S128x4_0_0, k0_pay3⟩]))) := rfl

/-- The gradient of the normalised half on a chunk of a point. -/
def pdvn (k : Fin 4) : FVec F S128x256 .f32 :=
  vdvn (rows k arg1 harg1 x0) (rows k arg3 harg3 x2) (part 0 arg6 harg6 x5) (part 1 arg6 harg6 x5)
    (part 2 arg6 harg6 x5) (part 3 arg6 harg6 x5)

/-- A store that adds a chunk's column sums to a row. -/
def pextr (acc : FVec F S1x256 .f32) (y : FVec F S128x256 .f32) (L : List (View.Piece (Elt F) S1x256 .f32)) :
    List (View.Piece (Elt F) S1x256 .f32) :=
  ⟨Rect.unit (s := S1x256) ![0, 0] S1x256.size inb_S1x256_S1x256_0_0, vacc acc y⟩ :: L

/-- … its load reading the stores before it. -/
def qextr (r : Memref sig .tc .vmem S1x256 .f32) (y : FVec F S128x256 .f32)
    (L : List (View.Piece (Elt F) S1x256 .f32)) : List (View.Piece (Elt F) S1x256 .f32) :=
  pextr (r.view.readCov L (Rect.unit (s := S1x256) ![0, 0] S1x256.size inb_S1x256_S1x256_0_0).toLoadRect) y L

/-- What a chunk of a point adds to the gain's gradient, row by row. -/
def pdlg (k : Fin 4) : FVec F S128x256 .f32 :=
  mulf (pdvn arg1 harg1 arg3 harg3 arg6 harg6 x0 x2 x5 k) (vhat (rows k arg2 harg2 x1))

theorem runB_dlg (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11).2.2.2.1 =
      qextr arg11 (pdlg arg1 harg1 arg2 harg2 arg3 harg3 arg6 harg6 x0 x1 x2 x5 3) (qextr arg11 (pdlg arg1 harg1 arg2 harg2 arg3 harg3 arg6 harg6 x0 x1 x2 x5 2) (qextr arg11 (pdlg arg1 harg1 arg2 harg2 arg3 harg3 arg6 harg6 x0 x1 x2 x5 1)
        (pextr (roww arg11 harg11 xo10) (pdlg arg1 harg1 arg2 harg2 arg3 harg3 arg6 harg6 x0 x1 x2 x5 0) []))) := rfl

theorem runA_dlg (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.1 =
      qextr arg11 (pdlg arg1 harg1 arg2 harg2 arg3 harg3 arg6 harg6 x0 x1 x2 x5 3) (qextr arg11 (pdlg arg1 harg1 arg2 harg2 arg3 harg3 arg6 harg6 x0 x1 x2 x5 2) (qextr arg11 (pdlg arg1 harg1 arg2 harg2 arg3 harg3 arg6 harg6 x0 x1 x2 x5 1)
        (qextr arg11 (pdlg arg1 harg1 arg2 harg2 arg3 harg3 arg6 harg6 x0 x1 x2 x5 0)
          [⟨Rect.unit (s := S1x256) ![0, 0] S1x256.size inb_S1x256_S1x256_0_0, k0_pay4⟩]))) := rfl

theorem runB_dlb (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11).2.2.2.2.1 =
      qextr arg12 (pdvn arg1 harg1 arg3 harg3 arg6 harg6 x0 x2 x5 3) (qextr arg12 (pdvn arg1 harg1 arg3 harg3 arg6 harg6 x0 x2 x5 2) (qextr arg12 (pdvn arg1 harg1 arg3 harg3 arg6 harg6 x0 x2 x5 1)
        (pextr (roww arg12 harg12 xo11) (pdvn arg1 harg1 arg3 harg3 arg6 harg6 x0 x2 x5 0) []))) := rfl

theorem runA_dlb (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1 =
      qextr arg12 (pdvn arg1 harg1 arg3 harg3 arg6 harg6 x0 x2 x5 3) (qextr arg12 (pdvn arg1 harg1 arg3 harg3 arg6 harg6 x0 x2 x5 2) (qextr arg12 (pdvn arg1 harg1 arg3 harg3 arg6 harg6 x0 x2 x5 1)
        (qextr arg12 (pdvn arg1 harg1 arg3 harg3 arg6 harg6 x0 x2 x5 0)
          [⟨Rect.unit (s := S1x256) ![0, 0] S1x256.size inb_S1x256_S1x256_0_0, k0_pay5⟩]))) := rfl

end
end Cert.KernelIdeal.Gate
-- ==== Proof.Gate.Real.lean ====
/-
  The gated block over the reals: what one chunk of 128 rows gives. `U`, `V`, `A` are the gate's two inputs and the
  gradient that arrives; `L`, `B` the normalisation's gain and bias by column; `W` the four spatial matrices, `S` their
  bias by row and group. Columns 0..255 are four groups of 64. No operation of the programs appears here.
-/
module

public import Idealize.ShloMosaic.PureOps.Ideal

@[expose] public section

noncomputable section

open scoped BigOperators

namespace Cert.Gate

/-- The tanh form's inner factor: the f32 next to √(2/π). -/
def k0 : ℝ := 6693141 / 8388608
/-- Its cubic coefficient: the f32 next to 0.044715. -/
def k1 : ℝ := 12003091 / 268435456
/-- The normalisation's additive constant: the f32 next to 10⁻⁶. -/
def eps : ℝ := 8796093 / 8796093022208

theorem eps_pos : 0 < eps := by norm_num [eps]

/-- The tanh of the GELU's cubic. -/
def th (x : ℝ) : ℝ := Real.tanh (x * (k0 + k0 * k1 * (x * x)))
/-- Half of one plus that tanh. -/
def hf (x : ℝ) : ℝ := 1 / 2 + 1 / 2 * th x
/-- GELU in its tanh form. -/
def gelu (x : ℝ) : ℝ := x * hf x
/-- Its derivative. -/
def dgelu (x : ℝ) : ℝ := hf x + x * (1 / 2 - 1 / 2 * (th x * th x)) * (k0 + 3 * k0 * k1 * (x * x))

/-- The column of group `g` at place `d`. -/
def col (g : Fin 4) (d : Fin 64) : Fin 256 := ⟨g.val * 64 + d.val, by omega⟩
/-- The group of a column. -/
def grp (c : Fin 256) : Fin 4 := ⟨c.val / 64, by omega⟩

theorem grp_col (g : Fin 4) (d : Fin 64) : grp (col g d) = g := Fin.ext (by show (g.val * 64 + d.val) / 64 = g.val; omega)

/-- A sum over the columns of one group is the sum over its 64 places. -/
theorem sum_grp {M : Type*} [AddCommMonoid M] (f : Fin 256 → M) (g : Fin 4) :
    ∑ k, (if grp k = g then f k else 0) = ∑ d, f (col g d) := by
  rw [← Finset.sum_filter]
  symm
  refine Finset.sum_bij (fun d _ => col g d) (fun d _ => ?_) (fun d _ d' _ h => ?_) (fun k hk => ?_) (fun _ _ => rfl)
  · simp [grp_col]
  · have := congrArg Fin.val h
    simp only [col] at this
    exact Fin.ext (by omega)
  · have hk' : k.val / 64 = g.val := congrArg Fin.val (by simpa using hk)
    exact ⟨⟨k.val - g.val * 64, by omega⟩, Finset.mem_univ _, Fin.ext (by show g.val * 64 + (k.val - g.val * 64) = k.val; omega)⟩

/-- The mean of `f` over the group column `c` lies in. -/
def gmean (f : Fin 256 → ℝ) (c : Fin 256) : ℝ := (∑ d, f (col (grp c) d)) * (1 / 64)

section Chunk
variable (U V A : Fin 128 → Fin 256 → ℝ) (L B : Fin 256 → ℝ) (W : Fin 4 → Fin 128 → Fin 128 → ℝ) (S : Fin 128 → Fin 4 → ℝ)

/-- The activated gate input less its group's mean. -/
def xc (s : Fin 128) (c : Fin 256) : ℝ := gelu (V s c) - gmean (fun k => gelu (V s k)) c
/-- One over the group's standard deviation. -/
def rs (s : Fin 128) (c : Fin 256) : ℝ := (Real.sqrt (gmean (fun k => xc V s k * xc V s k) c + eps))⁻¹
/-- The normalised value. -/
def vh (s : Fin 128) (c : Fin 256) : ℝ := xc V s c * rs V s c
/-- The normalised value with gain and bias. -/
def vn (s : Fin 128) (c : Fin 256) : ℝ := vh V s c * L c + B c
/-- The spatial matrix of group `g`, its entries above the diagonal zero. -/
def wl (g : Fin 4) (s j : Fin 128) : ℝ := if j ≤ s then W g s j else 0
/-- The gate: each row a combination of the rows not after it, with its bias. -/
def z (s : Fin 128) (c : Fin 256) : ℝ := (∑ j, wl W (grp c) s j * vn V L B j c) + S s (grp c)
/-- The gradient that reaches the gate. -/
def dz (s : Fin 128) (c : Fin 256) : ℝ := A s c * gelu (U s c)
/-- The gradient of the first input. -/
def du (s : Fin 128) (c : Fin 256) : ℝ := A s c * z V L B W S s c * dgelu (U s c)
/-- What the chunk adds to the spatial bias's gradient. -/
def dsb (s : Fin 128) (g : Fin 4) : ℝ := ∑ d, dz U A s (col g d)
/-- What the chunk adds to the spatial matrices' gradient. -/
def dw (g : Fin 4) (s j : Fin 128) : ℝ := if j ≤ s then ∑ d, dz U A s (col g d) * vn V L B j (col g d) else 0
/-- The gradient that reaches the normalised value with gain and bias. -/
def dvn (j : Fin 128) (c : Fin 256) : ℝ := ∑ s, wl W (grp c) s j * dz U A s c
/-- What the chunk adds to the gain's gradient. -/
def dlg (c : Fin 256) : ℝ := ∑ s, dvn U A W s c * vh V s c
/-- What the chunk adds to the bias's gradient. -/
def dlb (c : Fin 256) : ℝ := ∑ s, dvn U A W s c
/-- The gradient that reaches the normalised value. -/
def dvh (s : Fin 128) (c : Fin 256) : ℝ := dvn U A W s c * L c
/-- The gradient of the second input. -/
def dv (s : Fin 128) (c : Fin 256) : ℝ :=
  rs V s c * (dvh U A L W s c - gmean (fun k => dvh U A L W s k) c - vh V s c * gmean (fun k => dvh U A L W s k * vh V s k) c)
    * dgelu (V s c)

end Chunk

/-- A lane of the first half. -/
def left (c : Fin 256) : Fin 512 := ⟨c.val, by omega⟩
/-- A lane of the second half. -/
def right (c : Fin 256) : Fin 512 := ⟨256 + c.val, by omega⟩

/-- Row s of chunk q of the 4096 rows. -/
def rowq (q : Fin 32) (s : Fin 128) : Fin 4096 := ⟨128 * q.val + s.val, by omega⟩

/-- The chunk of a number. -/
def qn (n : ℕ) : Fin 32 := ⟨n % 32, Nat.mod_lt _ (by decide)⟩

/-- A chunk's rows of the first half. -/
def uq (P : Fin 4096 → Fin 512 → ℝ) (q : Fin 32) (s : Fin 128) (l : Fin 256) : ℝ := P (rowq q s) (left l)
/-- A chunk's rows of the second half. -/
def vq (P : Fin 4096 → Fin 512 → ℝ) (q : Fin 32) (s : Fin 128) (l : Fin 256) : ℝ := P (rowq q s) (right l)
/-- A chunk's rows of the mixed gradient. -/
def aq (D : Fin 4096 → Fin 256 → ℝ) (q : Fin 32) (s : Fin 128) (l : Fin 256) : ℝ := D (rowq q s) l

/-- A group's mean of squares is not negative. -/
theorem gmean_sq_nonneg (f : Fin 256 → ℝ) (c : Fin 256) : 0 ≤ gmean (fun k => f k * f k) c :=
  mul_nonneg (Finset.sum_nonneg fun d _ => mul_self_nonneg _) (by norm_num)

/-- Under the root stands a positive number. -/
theorem var_pos (V : Fin 128 → Fin 256 → ℝ) (s : Fin 128) (c : Fin 256) : 0 < gmean (fun k => xc V s k * xc V s k) c + eps :=
  add_pos_of_nonneg_of_pos (gmean_sq_nonneg _ _) eps_pos

/-- A sum of reals read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Gate

end
-- ==== Proof.Gate.Lits.lean ====
/-
  The real numbers that the programs' float literals are.
-/
module

public import proofs.«01_k».proof.Proof.Gate.Real

@[expose] public section

noncomputable section

namespace Cert.Gate

open Idealize.ShloMosaic

theorem lit_64th : Ideal.ofBits .f32 0x3C800000#32 = (((1 / 64 : ℝ)) : EReal) := by
  simp [Ideal.ofBits, Ideal.ieee, -EReal.coe_mul]; norm_num

theorem lit_1024th : Ideal.ofBits .f32 0x3A800000#32 = (((1 / 1024 : ℝ)) : EReal) := by
  simp [Ideal.ofBits, Ideal.ieee, -EReal.coe_mul]; norm_num

theorem lit_2048th : Ideal.ofBits .f32 0x3A000000#32 = (((1 / 2048 : ℝ)) : EReal) := by
  simp [Ideal.ofBits, Ideal.ieee, -EReal.coe_mul]; norm_num

theorem lit_half : Ideal.ofBits .f32 0x3F000000#32 = (((1 / 2 : ℝ)) : EReal) := by
  simp [Ideal.ofBits, Ideal.ieee, -EReal.coe_mul]; norm_num

theorem lit_mhalf : Ideal.ofBits .f32 0xBF000000#32 = (((-(1 / 2) : ℝ)) : EReal) := by
  simp [Ideal.ofBits, Ideal.ieee, -EReal.coe_mul]; norm_num

theorem lit_one : Ideal.ofBits .f32 0x3F800000#32 = (((1 : ℝ)) : EReal) := by
  simp [Ideal.ofBits, Ideal.ieee, -EReal.coe_mul]; norm_num

theorem lit_two : Ideal.ofBits .f32 0x40000000#32 = (((2 : ℝ)) : EReal) := by
  simp [Ideal.ofBits, Ideal.ieee, -EReal.coe_mul]; norm_num

theorem lit_three : Ideal.ofBits .f32 0x40400000#32 = (((3 : ℝ)) : EReal) := by
  simp [Ideal.ofBits, Ideal.ieee, -EReal.coe_mul]; norm_num

theorem lit_64 : Ideal.ofBits .f32 0x42800000#32 = (((64 : ℝ)) : EReal) := by
  simp [Ideal.ofBits, Ideal.ieee, -EReal.coe_mul]; norm_num

theorem lit_1024 : Ideal.ofBits .f32 0x44800000#32 = (((1024 : ℝ)) : EReal) := by
  simp [Ideal.ofBits, Ideal.ieee, -EReal.coe_mul]; norm_num

theorem lit_eps : Ideal.ofBits .f32 0x358637BD#32 = ((eps : ℝ) : EReal) := by
  unfold eps
  simp [Ideal.ofBits, Ideal.ieee, -EReal.coe_mul]; norm_num

theorem lit_c0 : Ideal.ofBits .f32 0x3F4C422A#32 = ((k0 : ℝ) : EReal) := by
  unfold k0
  simp [Ideal.ofBits, Ideal.ieee, -EReal.coe_mul]; norm_num

theorem lit_c1 : Ideal.ofBits .f32 0x3D372713#32 = ((k1 : ℝ) : EReal) := by
  unfold k1
  simp [Ideal.ofBits, Ideal.ieee, -EReal.coe_mul]; norm_num

end Cert.Gate
-- ==== Proof.Gate.Mask.lean ====
/-
The integer arrays of the gating backward kernel's body read at an index: which group a lane lies in,
the lower triangle, and the two matrices made from them.
-/
module

public import proofs.«01_k».proof.Proof.Gate.Vec
public import proofs.«01_k».proof.Proof.Gate.Lits
public import Idealize.ShloMosaic.Lib.Pointwise

@[expose] public section

noncomputable section

namespace Cert.KernelIdeal.Gate

open Idealize.ShloMosaic hiding ix0 ix1 ix2 ix3 ix4 ix5
open Idealize.ShloMosaic.ValueIdx Cert.KernelIdeal.Gen Cert.Gate

/-- The floor of a signed word over 64, as the body computes it. -/
def fdiv (n : BitVec 32) : BitVec 32 :=
  Scalar.select
    (IntOp.andi (IntOp.cmpi .ne (IntOp.subi ((IntOp.cmpi .sgt n 0#32).setWidth 32) ((IntOp.cmpi .slt n 0#32).setWidth 32))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32) (IntOp.divsi .vector n 64#32)

theorem fdiv_eq : ∀ n : Fin 256, fdiv (BitVec.ofNat 32 n.val) = BitVec.ofNat 32 (n.val / 64) := by
  decide +kernel

theorem lane_apply (r : Fin 128) (c : Fin 256) : lane (ix2 r c) = BitVec.ofNat 32 (c.val / 64) := by
  have h : lane (ix2 r c) = fdiv ((iota .tc S128x256 32 [1] iota_S128x256_d1_w32 : IVec S128x256 32) (ix2 r c)) := rfl
  rw [h, iota_single_apply, ← fdiv_eq c]

theorem cmp_grp : ∀ (c : Fin 256) (g : Fin 4),
    IntOp.cmpi .eq (BitVec.ofNat 32 (c.val / 64)) (BitVec.ofNat 32 g.val) = if grp c = g then 1#1 else 0#1 := by
  decide +kernel

theorem cmp_grp2 : ∀ (c k : Fin 256),
    IntOp.cmpi .eq (BitVec.ofNat 32 (c.val / 64)) (BitVec.ofNat 32 (k.val / 64)) = if grp c = grp k then 1#1 else 0#1 := by
  intro c k
  exact cmp_grp c (grp k)

theorem cmp_col : ∀ (c : Fin 256) (k : Fin 128),
    IntOp.cmpi .eq (BitVec.ofNat 32 (c.val / 64)) (BitVec.ofNat 32 k.val) = if (grp c).val = k.val then 1#1 else 0#1 := by
  decide +kernel

theorem cmp_tril : ∀ (s j : Fin 128),
    IntOp.cmpi .sge (BitVec.ofNat 32 s.val) (BitVec.ofNat 32 j.val) = if j ≤ s then 1#1 else 0#1 := by
  decide +kernel

theorem tril_apply (s j : Fin 128) : tril (ix2 s j) = if j ≤ s then 1#1 else 0#1 := by
  have h : tril (ix2 s j) = IntOp.cmpi .sge
      ((iota .tc S128x128 32 [0] iota_S128x128_d0_w32 : IVec S128x128 32) (ix2 s j))
      ((iota .tc S128x128 32 [1] iota_S128x128_d1_w32 : IVec S128x128 32) (ix2 s j)) := rfl
  rw [h, iota_single_apply, iota_single_apply]
  exact cmp_tril s j

/-- A choice on a decided bit. -/
theorem select_ite {α : Type} (p : Prop) [Decidable p] (a b : α) :
    Scalar.select (if p then 1#1 else 0#1) a b = if p then a else b := by
  split <;> rfl

theorem gm_apply (k c : Fin 256) :
    (gm : FVec Ideal S256x256 .bf16) (ix2 k c) = if grp k = grp c then (((1 / 64 : ℝ)) : EReal) else 0 := by
  have h : (gm : FVec Ideal S256x256 .bf16) (ix2 k c) = Scalar.select (IntOp.cmpi .eq
      (fdiv ((iota .tc S256x256 32 [0] iota_S256x256_d0_w32 : IVec S256x256 32) (ix2 k c)))
      (fdiv ((iota .tc S256x256 32 [1] iota_S256x256_d1_w32 : IVec S256x256 32) (ix2 k c))))
      (Ideal.ofBits .f32 0x3C800000#32) (Ideal.ofBits .f32 0x00000000#32) := rfl
  rw [h, iota_single_apply, iota_single_apply]
  show Scalar.select (IntOp.cmpi .eq (fdiv (BitVec.ofNat 32 k.val)) (fdiv (BitVec.ofNat 32 c.val))) _ _ = _
  rw [fdiv_eq, fdiv_eq, cmp_grp2, select_ite, lit_64th, Ideal.ofBits_zero_f32]

theorem gs_apply (k : Fin 256) (c : Fin 128) :
    (gs : FVec Ideal S256x128 .bf16) (ix2 k c) = if (grp k).val = c.val then (1 : EReal) else 0 := by
  have h : (gs : FVec Ideal S256x128 .bf16) (ix2 k c) = (((((IntOp.cmpi .eq
      (fdiv ((iota .tc S256x128 32 [0] iota_S256x128_d0_w32 : IVec S256x128 32) (ix2 k c)))
      ((iota .tc S256x128 32 [1] iota_S256x128_d1_w32 : IVec S256x128 32) (ix2 k c))).setWidth 32).toInt : ℝ)) : EReal) := rfl
  rw [h, iota_single_apply, iota_single_apply]
  show (((((IntOp.cmpi .eq (fdiv (BitVec.ofNat 32 k.val)) (BitVec.ofNat 32 c.val)).setWidth 32).toInt : ℝ)) : EReal) = _
  rw [fdiv_eq, cmp_col]
  split <;> simp

end Cert.KernelIdeal.Gate
-- ==== Proof.Gate.Lift.lean ====
/-
What the body of the gating backward kernel computes on a chunk, when the arrays it loads hold reals: each
vector function of Vec.lean holds the real function of Real.lean, index by index.
-/
module

public import proofs.«01_k».proof.Proof.Gate.Mask
public import Idealize.ShloMosaic.Lib.MatmulPlain
public import Idealize.ShloMosaic.Lib.ValueLayout
public import Idealize.ShloMosaic.Lib.Pipeline.Value

@[expose] public section

noncomputable section

namespace Cert.KernelIdeal.Gate

open Idealize.ShloMosaic hiding ix0 ix1 ix2 ix3 ix4 ix5
open Idealize.ShloMosaic.ValueIdx Cert.KernelIdeal.Gen Cert.Gate
open scoped BigOperators

/-- A chunk that holds reals. -/
def Is {φ : FTy} {n : Nat} (x : FVec Ideal ⟨2, ![n, 256]⟩ φ) (X : Fin n → Fin 256 → ℝ) : Prop :=
  ∀ r c, x (ix2 r c) = ((X r c : ℝ) : EReal)

variable {n : Nat} {x y : FVec Ideal S128x256 .f32} {X Y : Fin 128 → Fin 256 → ℝ}

theorem Is.mul (hx : Is x X) (hy : Is y Y) : Is (mulf x y) (fun r c => X r c * Y r c) := fun r c => by
  rw [mulf_apply, hx r c, hy r c, EReal.coe_mul]
theorem Is.add (hx : Is x X) (hy : Is y Y) : Is (addf x y) (fun r c => X r c + Y r c) := fun r c => by
  rw [addf_apply, hx r c, hy r c, EReal.coe_add]
theorem Is.sub (hx : Is x X) (hy : Is y Y) : Is (subf x y) (fun r c => X r c - Y r c) := fun r c => by
  rw [subf_apply, hx r c, hy r c, EReal.coe_sub]
theorem Is.trunc (hx : Is x X) : Is (truncf .bf16 x bitsLt_bf16_f32 : FVec Ideal S128x256 .bf16) X := hx

theorem is_half : Is (kc 0x3F000000#32 : FVec Ideal S128x256 .f32) (fun _ _ => 1 / 2) := fun _ _ => lit_half
theorem is_eps : Is (kc 0x358637BD#32 : FVec Ideal S128x256 .f32) (fun _ _ => eps) := fun _ _ => lit_eps
theorem is_c0 : Is (kc 0x3F4C422A#32 : FVec Ideal S128x256 .f32) (fun _ _ => k0) := fun _ _ => lit_c0
theorem is_c0c1 : Is (kn "c0c1" 0x3D122279#32 : FVec Ideal S128x256 .f32) (fun _ _ => k0 * k1) := fun _ _ =>
  IdealRules.named_const.ideal_named_scalar _ _ _ _ rfl
theorem is_c0c1x3 : Is (kn "c0c1x3" 0x3DDB33B6#32 : FVec Ideal S128x256 .f32) (fun _ _ => 3 * k0 * k1) := fun _ _ =>
  IdealRules.named_const.ideal_named_scalar _ _ _ _ rfl

theorem is_th (hx : Is x X) : Is (vth x) (fun r c => th (X r c)) := fun r c => by
  have h := (hx.mul (is_c0.add (is_c0c1.mul (hx.mul hx)))) r c
  show Ideal.tanh _ = _
  rw [h, Ideal.tanh_coe]; rfl

theorem is_hf (hx : Is x X) : Is (vhalf x) (fun r c => hf (X r c)) := is_half.add (is_half.mul (is_th hx))

theorem is_dgelu (hx : Is x X) : Is (vdg x) (fun r c => dgelu (X r c)) :=
  (is_hf hx).add ((hx.mul (is_half.sub (is_half.mul ((is_th hx).mul (is_th hx))))).mul
    (is_c0.add (is_c0c1x3.mul (hx.mul hx))))

theorem is_gelu (hx : Is x X) : Is (vgl x) (fun r c => gelu (X r c)) := hx.mul (is_hf hx)

/-- A product into zeros, read at an index. -/
theorem dot256_apply (a : FVec Ideal S128x256 .bf16) (b : FVec Ideal S256x256 .bf16) (r : Fin 128) (c : Fin 256) :
    matmul dot_S128x256_S256x256_S128x256_1_0_0_1_n_n none a b (constant S128x256 .f32 0x00000000#32) (ix2 r c)
      = ∑ k : Fin 256, a (ix2 r k) * b (ix2 k c) := by
  have h := Ideal.matmul_plain_apply (M := 128) (K := 256) (N := 256) none a b
    (constant (F := Ideal) S128x256 .f32 0x00000000#32) r c
  rw [constant_apply, Ideal.ofBits_zero_f32, zero_add] at h
  exact h

theorem dot128_apply (a : FVec Ideal S128x256 .bf16) (b : FVec Ideal S256x128 .bf16) (r c : Fin 128) :
    matmul dot_S128x256_S256x128_S128x128_1_0_0_1_n_n none a b (constant S128x128 .f32 0x00000000#32) (ix2 r c)
      = ∑ k : Fin 256, a (ix2 r k) * b (ix2 k c) := by
  have h := Ideal.matmul_plain_apply (M := 128) (K := 256) (N := 128) none a b
    (constant (F := Ideal) S128x128 .f32 0x00000000#32) r c
  rw [constant_apply, Ideal.ofBits_zero_f32, zero_add] at h
  exact h

theorem dotW_apply (a : FVec Ideal S128x128 .bf16) (b : FVec Ideal S128x256 .bf16) (r : Fin 128) (c : Fin 256) :
    matmul dot_S128x128_S128x256_S128x256_1_0_0_1_n_n none a b (constant S128x256 .f32 0x00000000#32) (ix2 r c)
      = ∑ k : Fin 128, a (ix2 r k) * b (ix2 k c) := by
  have h := Ideal.matmul_plain_apply (M := 128) (K := 128) (N := 256) none a b
    (constant (F := Ideal) S128x256 .f32 0x00000000#32) r c
  rw [constant_apply, Ideal.ofBits_zero_f32, zero_add] at h
  exact h

theorem dotT_apply (a b : FVec Ideal S128x256 .bf16) (r c : Fin 128) :
    matmul dot_S128x256_S128x256_S128x128_1_1_0_0_n_n none a b (constant S128x128 .f32 0x00000000#32) (ix2 r c)
      = ∑ k : Fin 256, a (ix2 r k) * b (ix2 c k) := by
  have h := Ideal.matmul_transposedRhs_apply (M := 128) (K := 256) (N := 128) none a b
    (constant (F := Ideal) S128x128 .f32 0x00000000#32) r c
  rw [constant_apply, Ideal.ofBits_zero_f32, zero_add] at h
  exact h

/-- The low part of a chunk of reals is zero. -/
theorem is_low (hx : Is x X) (r : Fin 128) (k : Fin 256) :
    (truncf .bf16 (subf x (extf .f32 (truncf .bf16 x bitsLt_bf16_f32) bitsLt_bf16_f32)) bitsLt_bf16_f32
      : FVec Ideal S128x256 .bf16) (ix2 r k) = 0 := by
  rw [truncf_apply, subf_apply, extf_apply, truncf_apply, hx r k, ← EReal.coe_sub, sub_self, EReal.coe_zero]

theorem is_mean (hx : Is x X) : Is (vdot x) (fun r c => gmean (X r) c) := fun r c => by
  unfold vdot
  rw [addf_apply, dot256_apply, dot256_apply]
  have h0 : ∀ k : Fin 256, (truncf .bf16 (subf x (extf .f32 (truncf .bf16 x bitsLt_bf16_f32) bitsLt_bf16_f32)) bitsLt_bf16_f32
      : FVec Ideal S128x256 .bf16) (ix2 r k) * (gm : FVec Ideal S256x256 .bf16) (ix2 k c) = 0 := fun k => by
    rw [is_low hx, zero_mul]
  rw [Finset.sum_congr rfl (fun k _ => h0 k), Finset.sum_const_zero, add_zero]
  have h1 : ∀ k : Fin 256, (truncf .bf16 x bitsLt_bf16_f32 : FVec Ideal S128x256 .bf16) (ix2 r k)
      * (gm : FVec Ideal S256x256 .bf16) (ix2 k c) = (((if grp k = grp c then X r k * (1 / 64) else 0 : ℝ)) : EReal) := fun k => by
    rw [truncf_apply, hx r k, gm_apply]
    split
    · rw [EReal.coe_mul]
    · rw [mul_zero, EReal.coe_zero]
  rw [Finset.sum_congr rfl (fun k _ => h1 k), ← coe_sum, sum_grp (fun k => X r k * (1 / 64)) (grp c), ← Finset.sum_mul]
  rfl

theorem is_xc (hx : Is x X) : Is (vxc x) (xc X) := (is_gelu hx).sub (is_mean (is_gelu hx))

theorem is_rs (hx : Is x X) : Is (vrs x) (rs X) := fun r c => by
  have h := ((is_mean ((is_xc hx).mul (is_xc hx))).add is_eps) r c
  show Ideal.rsqrt _ = _
  have hp := var_pos X r c
  rw [h, Ideal.rsqrt_coe, if_neg (not_lt.mpr hp.le), if_neg hp.ne']; rfl

theorem is_vh (hx : Is x X) : Is (vhat x) (vh X) := (is_xc hx).mul (is_rs hx)

variable {U V A : Fin 128 → Fin 256 → ℝ} {L B : Fin 256 → ℝ} {W : Fin 4 → Fin 128 → Fin 128 → ℝ} {S : Fin 128 → Fin 4 → ℝ}
variable {u v a : FVec Ideal S128x256 .f32} {lg lb : FVec Ideal S1x256 .f32} {w0 w1 w2 w3 : FVec Ideal S1x128x128 .f32}
  {s0 s1 s2 s3 : FVec Ideal S128x1 .f32}

theorem is_row (hl : ∀ c, lg (ix2 0 c) = ((L c : ℝ) : EReal)) : Is (vrow lg) (fun _ c => L c) := fun r c => by
  unfold vrow
  rw [broadcastTo_apply _ _ (ix2 r c) (ix2 0 c) (fun b => by match b with | ⟨0, _⟩ => rfl | ⟨1, _⟩ => rfl), shapeCast_self]
  exact hl c

theorem is_col (s : FVec Ideal S128x1 .f32) (Sg : Fin 128 → ℝ) (h : ∀ r, s (ix2 r 0) = ((Sg r : ℝ) : EReal)) :
    Is (vcol s) (fun r _ => Sg r) := fun r c => by
  unfold vcol
  rw [broadcastTo_apply _ _ (ix2 r c) (ix2 r 0) (fun b => by match b with | ⟨0, _⟩ => rfl | ⟨1, _⟩ => rfl), shapeCast_self, shapeCast_self]
  exact h r

theorem is_vn (hv : Is v V) (hl : ∀ c, lg (ix2 0 c) = ((L c : ℝ) : EReal)) (hb : ∀ c, lb (ix2 0 c) = ((B c : ℝ) : EReal)) :
    Is (vvn v lg lb) (vn V L B) := ((is_vh hv).mul (is_row hl)).add (is_row hb)

/-- A group's part of the spatial weights holds reals. -/
def IsW (w : FVec Ideal S1x128x128 .f32) (Wg : Fin 128 → Fin 128 → ℝ) : Prop :=
  ∀ s j, w (ix3 0 s j) = ((Wg s j : ℝ) : EReal)

theorem is_w {w : FVec Ideal S1x128x128 .f32} {Wg : Fin 128 → Fin 128 → ℝ} (h : IsW w Wg) (s j : Fin 128) :
    vw w (ix2 s j) = (((if j ≤ s then Wg s j else 0 : ℝ)) : EReal) := by
  unfold vw
  rw [select_apply, tril_apply, select_ite, shapeCast_1ab_ab_apply, h s j, broadcast_apply]
  split
  · rfl
  · exact Ideal.ofBits_zero_f32

theorem is_mm {w : FVec Ideal S1x128x128 .f32} {Wg : Fin 128 → Fin 128 → ℝ} (h : IsW w Wg) {z : FVec Ideal S128x256 .bf16}
    (hx : Is z X) : Is (vmm w z) (fun s c => ∑ j, (if j ≤ s then Wg s j else 0) * X j c) := fun s c => by
  unfold vmm
  rw [dotW_apply, coe_sum]
  refine Finset.sum_congr rfl fun j _ => ?_
  rw [truncf_apply, is_w h, hx j c, EReal.coe_mul]

theorem is_mt {w : FVec Ideal S1x128x128 .f32} {Wg : Fin 128 → Fin 128 → ℝ} (h : IsW w Wg) {z : FVec Ideal S128x256 .bf16}
    (hx : Is z X) : Is (vmt w z) (fun j c => ∑ s, (if j ≤ s then Wg s j else 0) * X s c) := fun j c => by
  unfold vmt
  rw [dotW_apply, coe_sum]
  refine Finset.sum_congr rfl fun s _ => ?_
  rw [truncf_apply, transpose_ix2_apply, is_w h, hx s c, EReal.coe_mul]

theorem pick_apply (b : Fin 4 → FVec Ideal S128x256 .f32) (r : Fin 128) (c : Fin 256) :
    pick (b 0) (b 1) (b 2) (b 3) (ix2 r c) = b (grp c) (ix2 r c) := by
  have h : ∀ g : Fin 4, cmpi .eq lane (broadcast S128x256 (BitVec.ofNat 32 g.val)) (ix2 r c)
      = if grp c = g then 1#1 else 0#1 := fun g => by
    show IntOp.cmpi .eq (lane (ix2 r c)) (BitVec.ofNat 32 g.val) = _
    rw [lane_apply, cmp_grp]
  have h0 := h 0; have h1 := h 1; have h2 := h 2
  unfold pick
  rw [select_apply, select_apply, select_apply]
  erw [h0, h1, h2]
  rw [select_ite, select_ite, select_ite]
  generalize grp c = g
  fin_cases g <;> rfl

/-- Lanes chosen by group. -/
theorem is_pick {b : Fin 4 → FVec Ideal S128x256 .f32} {Bs : Fin 4 → Fin 128 → Fin 256 → ℝ} (h : ∀ g, Is (b g) (Bs g)) :
    Is (pick (b 0) (b 1) (b 2) (b 3)) (fun r c => Bs (grp c) r c) := fun r c => by
  rw [pick_apply, h (grp c) r c]

variable (hu : Is u U) (hv : Is v V) (ha : Is a A)
  (hl : ∀ c, lg (ix2 0 c) = ((L c : ℝ) : EReal)) (hb : ∀ c, lb (ix2 0 c) = ((B c : ℝ) : EReal))
  (w : Fin 4 → FVec Ideal S1x128x128 .f32) (hw : ∀ g, IsW (w g) (W g))
  (s : Fin 4 → FVec Ideal S128x1 .f32) (hs : ∀ g r, s g (ix2 r 0) = ((S r g : ℝ) : EReal))

include hv hl hb hw hs in
theorem is_z : Is (vz v lg lb (w 0) (w 1) (w 2) (w 3) (s 0) (s 1) (s 2) (s 3)) (z V L B W S) :=
  (is_pick (b := fun g => vmm (w g) (vvn v lg lb)) (fun g => is_mm (hw g) (is_vn hv hl hb))).add
    (is_pick (b := fun g => vcol (s g)) (fun g => is_col (s g) (fun r => S r g) (hs g)))

include hu ha in
theorem is_dz : Is (vdz u a) (dz U A) := ha.mul (is_gelu hu)

include hu hv ha hl hb hw hs in
theorem is_du : Is (vdu u v a lg lb (w 0) (w 1) (w 2) (w 3) (s 0) (s 1) (s 2) (s 3)) (du U V A L B W S) :=
  (ha.mul (is_z hv hl hb w hw s hs)).mul (is_dgelu hu)

include hu ha hw in
theorem is_dvn : Is (vdvn u a (w 0) (w 1) (w 2) (w 3)) (dvn U A W) :=
  is_pick (b := fun g => vmt (w g) (truncf .bf16 (vdz u a) bitsLt_bf16_f32)) (fun g => is_mt (hw g) (is_dz hu ha))

include hu ha hw hl in
theorem is_dvh : Is (vdvh u a lg (w 0) (w 1) (w 2) (w 3)) (dvh U A L W) :=
  (is_dvn hu ha w hw).mul (is_row hl)

include hu hv ha hl hw in
theorem is_dv : Is (vdv u v a lg (w 0) (w 1) (w 2) (w 3)) (dv U V A L W) := by
  have h := is_dvh hu ha hl w hw
  exact ((is_rs hv).mul ((h.sub (is_mean h)).sub ((is_vh hv).mul (is_mean (h.mul (is_vh hv)))))).mul (is_dgelu hv)

include hu ha in
theorem is_dsb (acc : FVec Ideal S128x4 .f32) (r : Fin 128) (g : Fin 4) :
    vdsb acc u a (ix2 r g) = acc (ix2 r g) + ((dsb U A r g : ℝ) : EReal) := by
  have hz := is_dz hu ha
  unfold vdsb
  rw [addf_apply, shapeCast_self, slice2_axis1_apply 0 _ _ r g ⟨g.val, by omega⟩ (by simp)]
  unfold vsum
  rw [addf_apply, dot128_apply, dot128_apply]
  have h0 : ∀ k : Fin 256, (truncf .bf16 (subf (vdz u a) (extf .f32 (truncf .bf16 (vdz u a) bitsLt_bf16_f32) bitsLt_bf16_f32)) bitsLt_bf16_f32
      : FVec Ideal S128x256 .bf16) (ix2 r k) * (gs : FVec Ideal S256x128 .bf16) (ix2 k ⟨g.val, by omega⟩) = 0 := fun k => by
    rw [is_low hz, zero_mul]
  rw [Finset.sum_congr rfl (fun k _ => h0 k), Finset.sum_const_zero, add_zero]
  have h1 : ∀ k : Fin 256, (truncf .bf16 (vdz u a) bitsLt_bf16_f32 : FVec Ideal S128x256 .bf16) (ix2 r k)
      * (gs : FVec Ideal S256x128 .bf16) (ix2 k ⟨g.val, by omega⟩) = (((if grp k = g then dz U A r k else 0 : ℝ)) : EReal) := fun k => by
    rw [truncf_apply, hz r k, gs_apply]
    have he : (grp k).val = (⟨g.val, by omega⟩ : Fin 128).val ↔ grp k = g := ⟨fun h => Fin.ext h, fun h => congrArg Fin.val h⟩
    by_cases h : grp k = g
    · rw [if_pos (he.mpr h), if_pos h, mul_one]
    · rw [if_neg (fun h' => h (he.mp h')), if_neg h, mul_zero, EReal.coe_zero]
  rw [Finset.sum_congr rfl (fun k _ => h1 k), ← coe_sum, sum_grp (fun k => dz U A r k) g]
  rfl

include hu hv ha hl hb in
theorem is_dw (acc : FVec Ideal S1x128x128 .f32) (g : Fin 4) (i j : Fin 128) :
    vdw (BitVec.ofNat 32 g.val) acc u v a lg lb (ix3 0 i j)
      = acc (ix3 0 i j) + ((dw U V A L B g i j : ℝ) : EReal) := by
  have hz := is_dz hu ha
  have hn := is_vn hv hl hb
  unfold vdw
  rw [shapeCast_ab_1ab_apply, addf_apply, shapeCast_1ab_ab_apply, select_apply, tril_apply, select_ite, dotT_apply, broadcast_apply]
  congr 1
  have h1 : ∀ k : Fin 256, vdzg (BitVec.ofNat 32 g.val) u a (ix2 i k) * vvn v lg lb (ix2 j k)
      = (((if grp k = g then dz U A i k * vn V L B j k else 0 : ℝ)) : EReal) := fun k => by
    unfold vdzg
    have h : cmpi .eq lane (broadcast S128x256 (BitVec.ofNat 32 g.val)) (ix2 i k) = if grp k = g then 1#1 else 0#1 := by
      show IntOp.cmpi .eq (lane (ix2 i k)) (BitVec.ofNat 32 g.val) = _
      rw [lane_apply, cmp_grp]
    rw [select_apply, h, select_ite, truncf_apply, hz i k, hn j k, broadcast_apply]
    split
    · rw [EReal.coe_mul]
    · rw [show (Scalar.ofBits .bf16 0x0000#16 : Ideal .bf16) = 0 from Ideal.ofBits_zero_bf16, zero_mul, EReal.coe_zero]
  rw [Finset.sum_congr rfl (fun k _ => h1 k), ← coe_sum, sum_grp (fun k => dz U A i k * vn V L B j k) g]
  unfold dw
  split
  · rfl
  · exact Ideal.ofBits_zero_f32

/-- A row after a chunk's column sums. -/
theorem is_acc (acc : FVec Ideal S1x256 .f32) (hx : Is x X) (c : Fin 256) :
    vacc acc x (ix2 0 c) = acc (ix2 0 c) + ((∑ r, X r c : ℝ) : EReal) := by
  unfold vacc
  rw [addf_apply, shapeCast_self, shapeCast_a_1a_apply]
  congr 1
  refine (Ideal.multiReduction_add_single _ _ reduces_S128x256_S256 _ _ (ix1 c)).trans ?_
  rw [coe_sum]
  refine Finset.sum_congr rfl fun r _ => ?_
  rw [← hx r c]
  congr 1
  funext b
  match b with
  | ⟨0, _⟩ => rfl
  | ⟨1, _⟩ => rfl

include hu hv ha hw in
theorem is_dlg (acc : FVec Ideal S1x256 .f32) (c : Fin 256) :
    vacc acc (mulf (vdvn u a (w 0) (w 1) (w 2) (w 3)) (vhat v)) (ix2 0 c)
      = acc (ix2 0 c) + ((dlg U V A W c : ℝ) : EReal) :=
  is_acc acc ((is_dvn hu ha w hw).mul (is_vh hv)) c

include hu ha hw in
theorem is_dlb (acc : FVec Ideal S1x256 .f32) (c : Fin 256) :
    vacc acc (vdvn u a (w 0) (w 1) (w 2) (w 3)) (ix2 0 c) = acc (ix2 0 c) + ((dlb U A W c : ℝ) : EReal) :=
  is_acc acc (is_dvn hu ha w hw) c

end Cert.KernelIdeal.Gate
-- ==== Proof.Gate.Out.lean ====
/-
What a point of the gating backward kernel leaves in its output windows, read at an index, when the input
windows hold reals.
-/
module

public import proofs.«01_k».proof.Proof.Gate.Load
public import proofs.«01_k».proof.Proof.Gate.Lift
public import Idealize.ShloMosaic.Lib.Pipeline.ValueKit

@[expose] public section

noncomputable section

namespace Cert.KernelIdeal.Gate

open Idealize.ShloMosaic hiding ix0 ix1 ix2 ix3 ix4 ix5
open Idealize.ShloMosaic.ValueIdx Idealize.ShloMosaic.TcCoe Idealize.SL.Sem Cert.KernelIdeal.Gen Cert.Gate
open scoped BigOperators

/-- Row i of chunk k of a point's 512 rows. -/
def row4 (k : Fin 4) (i : Fin 128) : Fin 512 := ⟨128 * k.val + i.val, by omega⟩

/-- Chunk k of a point's 512 rows. -/
def chunk (k : Fin 4) (X : Fin 512 → Fin 256 → ℝ) (i : Fin 128) (c : Fin 256) : ℝ := X (row4 k i) c

theorem rows_apply (k : Fin 4) (r : Memref sig .tc .vmem S512x256 .f32) (h : r.IsWhole) (x : Vec Ideal S512x256 .f32)
    (i : Fin 128) (c : Fin 256) : rows k r h x (ix2 i c) = x (ix2 (row4 k i) c) := by
  unfold rows
  split <;>
  · rw [View.readAt_eq_ld, h.read_unread]
    exact View.ld_unit_apply_of x _ _ _ (ix2 i c) _ (fun a => by
      match a with
      | ⟨0, _⟩ => simp [row4]
      | ⟨1, _⟩ => simp)

theorem part_apply (g : Fin 4) (r : Memref sig .tc .vmem S4x128x128 .f32) (h : r.IsWhole) (x : Vec Ideal S4x128x128 .f32)
    (s j : Fin 128) : part g r h x (ix3 0 s j) = x (ix3 g s j) := by
  unfold part
  split <;>
  · rw [View.readAt_eq_ld, h.read_unread]
    exact View.ld_unit_apply_of x _ _ _ (ix3 0 s j) _ (fun a => by
      match a with
      | ⟨0, _⟩ => simp
      | ⟨1, _⟩ => simp
      | ⟨2, _⟩ => simp)

theorem colm_apply (g : Fin 4) (r : Memref sig .tc .vmem S128x4 .f32) (h : r.IsWhole) (x : Vec Ideal S128x4 .f32)
    (s : Fin 128) : colm g r h x (ix2 s 0) = x (ix2 s g) := by
  unfold colm
  split <;>
  · rw [View.readAt_eq_ld, h.read_unread]
    exact View.ld_unit_apply_of x _ _ _ (ix2 s 0) _ (fun a => by
      match a with
      | ⟨0, _⟩ => simp
      | ⟨1, _⟩ => simp)

theorem hz2 : (![0, 0] : Fin 2 → Nat) = fun _ => 0 := funext fun a => by fin_cases a <;> rfl

theorem roww_eq (r : Memref sig .tc .vmem S1x256 .f32) (h : r.IsWhole) (x : Vec Ideal S1x256 .f32) :
    roww r h x = x := by
  unfold roww
  rw [View.readAt_eq_ld, h.read_unread, View.ld_unit_zero (S := S1x256) hz2]

theorem hz3 : (![0, 0, 0] : Fin 3 → Nat) = fun _ => 0 := funext fun a => by fin_cases a <;> rfl

theorem canon_pextr {y : FVec Ideal S128x256 .f32} {Y : Fin 128 → Fin 256 → ℝ} (hy : Is y Y) (acc : FVec Ideal S1x256 .f32)
    (P : List (View.Piece (Elt Ideal) S1x256 .f32)) (l : Fin 256) :
    View.canon (pextr acc y P) (ix2 0 l) = acc (ix2 0 l) + ((∑ r, Y r l : ℝ) : EReal) := by
  unfold pextr
  rw [View.canon_cons_unit_zero (S := S1x256) hz2]
  exact is_acc acc hy l

theorem qextr_apply (r : Memref sig .tc .vmem S1x256 .f32) {y : FVec Ideal S128x256 .f32} {Y : Fin 128 → Fin 256 → ℝ}
    (hy : Is y Y) (P : List (View.Piece (Elt Ideal) S1x256 .f32)) (l : Fin 256) :
    View.canon (qextr r y P) (ix2 0 l) = View.canon P (ix2 0 l) + ((∑ r, Y r l : ℝ) : EReal) := by
  unfold qextr
  rw [canon_pextr hy, View.readCov_eq_canon']
  congr 1
  refine congrArg (View.canon P) (funext fun a => Fin.ext ?_)
  match a with
  | ⟨0, _⟩ => rfl
  | ⟨1, _⟩ => exact (by omega : 0 + 1 * l.val = l.val)

/-- A point's input windows hold these reals. -/
structure Holds (x0 x1 x2 : Vec Ideal S512x256 .f32) (x3 x4 : Vec Ideal S1x256 .f32) (x5 : Vec Ideal S4x128x128 .f32)
    (x6 : Vec Ideal S128x4 .f32) (X0 X1 X2 : Fin 512 → Fin 256 → ℝ) (L B : Fin 256 → ℝ)
    (W : Fin 4 → Fin 128 → Fin 128 → ℝ) (S : Fin 128 → Fin 4 → ℝ) : Prop where
  h0 : ∀ r c, x0 (ix2 r c) = ((X0 r c : ℝ) : EReal)
  h1 : ∀ r c, x1 (ix2 r c) = ((X1 r c : ℝ) : EReal)
  h2 : ∀ r c, x2 (ix2 r c) = ((X2 r c : ℝ) : EReal)
  h3 : ∀ c, x3 (ix2 0 c) = ((L c : ℝ) : EReal)
  h4 : ∀ c, x4 (ix2 0 c) = ((B c : ℝ) : EReal)
  h5 : ∀ g s j, x5 (ix3 g s j) = ((W g s j : ℝ) : EReal)
  h6 : ∀ s g, x6 (ix2 s g) = ((S s g : ℝ) : EReal)

/-- A store of a group's part, over the stores before it. -/
def put8 (g' : Nat) (hin : ∀ a, (![g', 0, 0] : Fin 3 → Nat) a + S1x128x128.size a ≤ S4x128x128.size a)
    (w : S1x128x128.Idx → Elt Ideal .f32) (L : List (View.Piece (Elt Ideal) S4x128x128 .f32)) :
    List (View.Piece (Elt Ideal) S4x128x128 .f32) :=
  ⟨Rect.unit (s := S4x128x128) ![g', 0, 0] S1x128x128.size hin, w⟩ :: L

/-- A store of a group's part, read at an index. -/
theorem canon_part (g' : Nat) (hin : ∀ a, (![g', 0, 0] : Fin 3 → Nat) a + S1x128x128.size a ≤ S4x128x128.size a)
    (w : S1x128x128.Idx → Elt Ideal .f32) (L : List (View.Piece (Elt Ideal) S4x128x128 .f32)) (g : Fin 4) (s j : Fin 128) :
    View.canon (put8 g' hin w L) (ix3 g s j)
      = if g.val = g' then w (ix3 0 s j) else View.canon L (ix3 g s j) := by
  split
  · rename_i h
    subst h
    have e : (Rect.unit (s := S4x128x128) ![g.val, 0, 0] S1x128x128.size hin).emb (ix3 (0 : Fin 1) s j : S1x128x128.Idx) = ix3 g s j := by
      funext a
      apply Fin.ext
      rw [Rect.emb_apply]
      match a with
      | ⟨0, _⟩ => exact (by omega : g.val + 1 * 0 = g.val)
      | ⟨1, _⟩ => exact (by omega : 0 + 1 * s.val = s.val)
      | ⟨2, _⟩ => exact (by omega : 0 + 1 * j.val = j.val)
    have h := View.canon_cons_emb (Val := Elt Ideal) (Rect.unit (s := S4x128x128) ![g.val, 0, 0] S1x128x128.size hin) w L
      (ix3 (0 : Fin 1) s j : S1x128x128.Idx)
    rw [e] at h
    exact h
  · rename_i h
    have hn : ix3 g s j ∉ (Rect.unit (s := S4x128x128) ![g', 0, 0] S1x128x128.size hin).set := fun hm => h (by
      have h0 := (Rect.mem_set_unit.mp hm) 0
      have h1 : g' ≤ g.val := h0.1
      have h2 : g.val < g' + 1 := h0.2
      omega)
    exact View.canon_cons_of_not_mem (Val := Elt Ideal) ⟨Rect.unit (s := S4x128x128) ![g', 0, 0] S1x128x128.size hin, w⟩ L hn

/-- A chunk's stores add the chunk's part to what the stores before it hold. -/
theorem ext8_apply (ld : List (View.Piece (Elt Ideal) S4x128x128 .f32) → Fin 4 → FVec Ideal S1x128x128 .f32)
    {u v a : FVec Ideal S128x256 .f32} {lg lb : FVec Ideal S1x256 .f32} {U V A : Fin 128 → Fin 256 → ℝ} {Lg B : Fin 256 → ℝ}
    (hu : Is u U) (hv : Is v V) (ha : Is a A) (hl : ∀ c, lg (ix2 0 c) = ((Lg c : ℝ) : EReal))
    (hb : ∀ c, lb (ix2 0 c) = ((B c : ℝ) : EReal)) (L : List (View.Piece (Elt Ideal) S4x128x128 .f32)) (g : Fin 4) :
    ∃ L', (∀ s j, View.canon L' (ix3 g s j) = View.canon L (ix3 g s j)) ∧
      ∀ s j, View.canon (ext8 ld u v a lg lb L) (ix3 g s j) = ld L' g (ix3 0 s j) + ((dw U V A Lg B g s j : ℝ) : EReal) := by
  have hd := fun acc g i j => is_dw hu hv ha hl hb acc g i j
  suffices key : ∀ L0 L1 L2 : List (View.Piece (Elt Ideal) S4x128x128 .f32),
      L0 = put8 0 inb_S4x128x128_S1x128x128_0_0_0 (vdw 0#32 (ld L 0) u v a lg lb) L →
      L1 = put8 1 inb_S4x128x128_S1x128x128_1_0_0 (vdw 1#32 (ld L0 1) u v a lg lb) L0 →
      L2 = put8 2 inb_S4x128x128_S1x128x128_2_0_0 (vdw 2#32 (ld L1 2) u v a lg lb) L1 →
      ∃ L', (∀ s j, View.canon L' (ix3 g s j) = View.canon L (ix3 g s j)) ∧
      ∀ s j, View.canon (put8 3 inb_S4x128x128_S1x128x128_3_0_0 (vdw 3#32 (ld L2 3) u v a lg lb) L2) (ix3 g s j)
        = ld L' g (ix3 0 s j) + ((dw U V A Lg B g s j : ℝ) : EReal) from key _ _ _ rfl rfl rfl
  intro L0 L1 L2 e0 e1 e2
  match g with
  | 0 => exact ⟨L, fun s j => rfl, fun s j => by
      rw [canon_part, if_neg (by decide), e2, canon_part, if_neg (by decide), e1, canon_part, if_neg (by decide), e0, canon_part, if_pos (by decide)]
      exact hd _ 0 s j⟩
  | 1 => exact ⟨L0, fun s j => by rw [e0, canon_part, if_neg (by decide)], fun s j => by
      rw [canon_part, if_neg (by decide), e2, canon_part, if_neg (by decide), e1, canon_part, if_pos (by decide)]; exact hd _ 1 s j⟩
  | 2 => exact ⟨L1, fun s j => by rw [e1, canon_part, if_neg (by decide), e0, canon_part, if_neg (by decide)], fun s j => by
      rw [canon_part, if_neg (by decide), e2, canon_part, if_pos (by decide)]; exact hd _ 2 s j⟩
  | 3 => exact ⟨L2, fun s j => by
      rw [e2, canon_part, if_neg (by decide), e1, canon_part, if_neg (by decide), e0, canon_part, if_neg (by decide)], fun s j => by
      rw [canon_part, if_pos (by decide)]; exact hd _ 3 s j⟩

theorem cov8_apply (r : Memref sig .tc .vmem S4x128x128 .f32) (L : List (View.Piece (Elt Ideal) S4x128x128 .f32))
    (g : Fin 4) (s j : Fin 128) : cov8 r L g (ix3 0 s j) = View.canon L (ix3 g s j) := by
  unfold cov8
  split <;>
  · rw [View.readCov_eq_canon']
    refine congrArg (View.canon L) (funext fun a => Fin.ext ?_)
    match a with
    | ⟨0, _⟩ => rfl
    | ⟨1, _⟩ => exact (by omega : 0 + 1 * s.val = s.val)
    | ⟨2, _⟩ => exact (by omega : 0 + 1 * j.val = j.val)

section
variable (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S4x128x128 .f32) (harg6 : arg6.IsWhole)
    (arg7 : Memref sig .tc .vmem S128x4 .f32) (harg7 : arg7.IsWhole)
    (arg8 : Memref sig .tc .vmem S512x512 .bf16) (harg8 : arg8.IsWhole)
    (arg9 : Memref sig .tc .vmem S4x128x128 .f32) (harg9 : arg9.IsWhole)
    (arg10 : Memref sig .tc .vmem S128x4 .f32) (harg10 : arg10.IsWhole)
    (arg11 : Memref sig .tc .vmem S1x256 .f32) (harg11 : arg11.IsWhole)
    (arg12 : Memref sig .tc .vmem S1x256 .f32) (harg12 : arg12.IsWhole)
    (x0 : Vec Ideal S512x256 .f32) (x1 : Vec Ideal S512x256 .f32) (x2 : Vec Ideal S512x256 .f32) (x3 : Vec Ideal S1x256 .f32) (x4 : Vec Ideal S1x256 .f32) (x5 : Vec Ideal S4x128x128 .f32) (x6 : Vec Ideal S128x4 .f32) (xo8 : Vec Ideal S4x128x128 .f32) (xo9 : Vec Ideal S128x4 .f32) (xo10 : Vec Ideal S1x256 .f32) (xo11 : Vec Ideal S1x256 .f32)

variable {X0 X1 X2 : Fin 512 → Fin 256 → ℝ} {L B : Fin 256 → ℝ} {W : Fin 4 → Fin 128 → Fin 128 → ℝ} {S : Fin 128 → Fin 4 → ℝ}
  (H : Holds x0 x1 x2 x3 x4 x5 x6 X0 X1 X2 L B W S)

include H

theorem is_rows0 (k : Fin 4) : Is (rows k arg1 harg1 x0) (chunk k X0) := fun s l => (rows_apply k arg1 harg1 x0 s l).trans (H.h0 _ _)
theorem is_rows1 (k : Fin 4) : Is (rows k arg2 harg2 x1) (chunk k X1) := fun s l => (rows_apply k arg2 harg2 x1 s l).trans (H.h1 _ _)
theorem is_rows2 (k : Fin 4) : Is (rows k arg3 harg3 x2) (chunk k X2) := fun s l => (rows_apply k arg3 harg3 x2 s l).trans (H.h2 _ _)
theorem is_row3 : ∀ l, roww arg4 harg4 x3 (ix2 0 l) = ((L l : ℝ) : EReal) := fun l => by rw [roww_eq]; exact H.h3 l
theorem is_row4 : ∀ l, roww arg5 harg5 x4 (ix2 0 l) = ((B l : ℝ) : EReal) := fun l => by rw [roww_eq]; exact H.h4 l
theorem is_part (g : Fin 4) : IsW (part g arg6 harg6 x5) (W g) := fun s j => (part_apply g arg6 harg6 x5 s j).trans (H.h5 g s j)
theorem is_colm (g : Fin 4) : ∀ s, colm g arg7 harg7 x6 (ix2 s 0) = ((S s g : ℝ) : EReal) :=
  fun s => (colm_apply g arg7 harg7 x6 s).trans (H.h6 s g)

theorem is_pdu (k : Fin 4) : Is (pdu arg1 harg1 arg2 harg2 arg3 harg3 arg4 harg4 arg5 harg5 arg6 harg6 arg7 harg7 x0 x1 x2 x3 x4 x5 x6 k) (du (chunk k X0) (chunk k X1) (chunk k X2) L B W S) :=
  is_du (is_rows0 arg1 harg1 _ _ _ _ _ _ _ H k) (is_rows1 arg2 harg2 _ _ _ _ _ _ _ H k) (is_rows2 arg3 harg3 _ _ _ _ _ _ _ H k)
    (is_row3 arg4 harg4 _ _ _ _ _ _ _ H) (is_row4 arg5 harg5 _ _ _ _ _ _ _ H) (fun g => part g arg6 harg6 x5)
    (is_part arg6 harg6 _ _ _ _ _ _ _ H) (fun g => colm g arg7 harg7 x6) (is_colm arg7 harg7 _ _ _ _ _ _ _ H)

theorem is_pdv (k : Fin 4) : Is (pdv arg1 harg1 arg2 harg2 arg3 harg3 arg4 harg4 arg6 harg6 x0 x1 x2 x3 x5 k) (dv (chunk k X0) (chunk k X1) (chunk k X2) L W) :=
  is_dv (is_rows0 arg1 harg1 _ _ _ _ _ _ _ H k) (is_rows1 arg2 harg2 _ _ _ _ _ _ _ H k) (is_rows2 arg3 harg3 _ _ _ _ _ _ _ H k)
    (is_row3 arg4 harg4 _ _ _ _ _ _ _ H) (fun g => part g arg6 harg6 x5) (is_part arg6 harg6 _ _ _ _ _ _ _ H)

theorem is_pdvn (k : Fin 4) : Is (pdvn arg1 harg1 arg3 harg3 arg6 harg6 x0 x2 x5 k) (dvn (chunk k X0) (chunk k X2) W) :=
  is_dvn (is_rows0 arg1 harg1 _ _ _ _ _ _ _ H k) (is_rows2 arg3 harg3 _ _ _ _ _ _ _ H k)
    (fun g => part g arg6 harg6 x5) (is_part arg6 harg6 _ _ _ _ _ _ _ H)

theorem is_pdlg (k : Fin 4) : Is (pdlg arg1 harg1 arg2 harg2 arg3 harg3 arg6 harg6 x0 x1 x2 x5 k)
    (fun s l => dvn (chunk k X0) (chunk k X2) W s l * vh (chunk k X1) s l) :=
  (is_pdvn arg1 harg1 arg3 harg3 arg6 harg6 _ _ _ _ _ _ _ H k).mul (is_vh (is_rows1 arg2 harg2 _ _ _ _ _ _ _ H k))

/-- A chunk's stores to the spatial weights' gradient, each load reading the stores before it. -/
theorem pext8_apply (k : Fin 4) (P : List (View.Piece (Elt Ideal) S4x128x128 .f32)) (g : Fin 4) (s j : Fin 128) :
    View.canon (pext8 arg1 harg1 arg2 harg2 arg3 harg3 arg4 harg4 arg5 harg5 x0 x1 x2 x3 x4 (cov8 arg9) k P) (ix3 g s j)
      = View.canon P (ix3 g s j) + ((dw (chunk k X0) (chunk k X1) (chunk k X2) L B g s j : ℝ) : EReal) := by
  obtain ⟨P', h1, h2⟩ := ext8_apply (cov8 arg9) (is_rows0 arg1 harg1 _ _ _ _ _ _ _ H k) (is_rows1 arg2 harg2 _ _ _ _ _ _ _ H k)
    (is_rows2 arg3 harg3 _ _ _ _ _ _ _ H k) (is_row3 arg4 harg4 _ _ _ _ _ _ _ H) (is_row4 arg5 harg5 _ _ _ _ _ _ _ H) P g
  refine (h2 s j).trans ?_
  rw [cov8_apply, h1]

/-- … and the first chunk's, its loads reading what the point found. -/
theorem pext8_first (k : Fin 4) (g : Fin 4) (s j : Fin 128) :
    View.canon (pext8 arg1 harg1 arg2 harg2 arg3 harg3 arg4 harg4 arg5 harg5 x0 x1 x2 x3 x4 (fun _ g => part g arg9 harg9 xo8) k []) (ix3 g s j)
      = xo8 (ix3 g s j) + ((dw (chunk k X0) (chunk k X1) (chunk k X2) L B g s j : ℝ) : EReal) := by
  obtain ⟨P', h1, h2⟩ := ext8_apply (fun _ g => part g arg9 harg9 xo8) (is_rows0 arg1 harg1 _ _ _ _ _ _ _ H k) (is_rows1 arg2 harg2 _ _ _ _ _ _ _ H k)
    (is_rows2 arg3 harg3 _ _ _ _ _ _ _ H k) (is_row3 arg4 harg4 _ _ _ _ _ _ _ H) (is_row4 arg5 harg5 _ _ _ _ _ _ _ H) [] g
  refine (h2 s j).trans ?_
  rw [part_apply]

theorem outB_8 (hc0 : ¬cond0_0 i) (g : Fin 4) (s j : Fin 128) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix3 g s j)
      = xo8 (ix3 g s j) + ((dw (chunk 0 X0) (chunk 0 X1) (chunk 0 X2) L B g s j : ℝ) : EReal)
        + ((dw (chunk 1 X0) (chunk 1 X1) (chunk 1 X2) L B g s j : ℝ) : EReal)
        + ((dw (chunk 2 X0) (chunk 2 X1) (chunk 2 X2) L B g s j : ℝ) : EReal)
        + ((dw (chunk 3 X0) (chunk 3 X1) (chunk 3 X2) L B g s j : ℝ) : EReal) := by
  unfold out0_B_8
  rw [View.read_writes_junk_eq_canon, runB_dw]
  have hp := fun k P => pext8_apply arg1 harg1 arg2 harg2 arg3 harg3 arg4 harg4 arg5 harg5 arg9 _ _ _ _ _ _ _ H k P g s j
  rw [hp 3, hp 2, hp 1, pext8_first arg1 harg1 arg2 harg2 arg3 harg3 arg4 harg4 arg5 harg5 arg9 harg9 _ _ _ _ _ _ _ xo8 H]

theorem outA_8 (hc0 : cond0_0 i) (g : Fin 4) (s j : Fin 128) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix3 g s j)
      = ((dw (chunk 0 X0) (chunk 0 X1) (chunk 0 X2) L B g s j : ℝ) : EReal)
        + ((dw (chunk 1 X0) (chunk 1 X1) (chunk 1 X2) L B g s j : ℝ) : EReal)
        + ((dw (chunk 2 X0) (chunk 2 X1) (chunk 2 X2) L B g s j : ℝ) : EReal)
        + ((dw (chunk 3 X0) (chunk 3 X1) (chunk 3 X2) L B g s j : ℝ) : EReal) := by
  unfold out0_A_8
  rw [View.read_writes_junk_eq_canon, runA_dw]
  have hp := fun k P => pext8_apply arg1 harg1 arg2 harg2 arg3 harg3 arg4 harg4 arg5 harg5 arg9 _ _ _ _ _ _ _ H k P g s j
  rw [hp 3, hp 2, hp 1, hp 0, View.canon_cons_unit_zero (S := S4x128x128) hz3]
  have h0 : (k0_pay2 : FVec Ideal S4x128x128 .f32) (ix3 g s j) = 0 := Ideal.ofBits_zero_f32
  rw [h0, zero_add]

theorem canon_qext9 (k : Fin 4) (acc : FVec Ideal S128x4 .f32) (P : List (View.Piece (Elt Ideal) S128x4 .f32))
    (s : Fin 128) (g : Fin 4) :
    View.canon (pext9 arg1 harg1 arg3 harg3 x0 x2 k acc P) (ix2 s g)
      = acc (ix2 s g) + ((dsb (chunk k X0) (chunk k X2) s g : ℝ) : EReal) := by
  unfold pext9
  rw [View.canon_cons_unit_zero (S := S128x4) hz2]
  exact is_dsb (is_rows0 arg1 harg1 _ _ _ _ _ _ _ H k) (is_rows2 arg3 harg3 _ _ _ _ _ _ _ H k) acc s g

theorem qext9_apply (k : Fin 4) (P : List (View.Piece (Elt Ideal) S128x4 .f32)) (s : Fin 128) (g : Fin 4) :
    View.canon (qext9 arg1 harg1 arg3 harg3 arg10 x0 x2 k P) (ix2 s g)
      = View.canon P (ix2 s g) + ((dsb (chunk k X0) (chunk k X2) s g : ℝ) : EReal) := by
  unfold qext9
  rw [canon_qext9 arg1 harg1 arg3 harg3 _ _ _ _ _ _ _ H, View.readCov_eq_canon']
  congr 1
  refine congrArg (View.canon P) (funext fun a => Fin.ext ?_)
  match a with
  | ⟨0, _⟩ => exact (by omega : 0 + 1 * s.val = s.val)
  | ⟨1, _⟩ => exact (by omega : 0 + 1 * g.val = g.val)

theorem outB_9 (hc0 : ¬cond0_0 i) (s : Fin 128) (g : Fin 4) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 s g)
      = xo9 (ix2 s g) + ((dsb (chunk 0 X0) (chunk 0 X2) s g : ℝ) : EReal) + ((dsb (chunk 1 X0) (chunk 1 X2) s g : ℝ) : EReal)
        + ((dsb (chunk 2 X0) (chunk 2 X2) s g : ℝ) : EReal) + ((dsb (chunk 3 X0) (chunk 3 X2) s g : ℝ) : EReal) := by
  unfold out0_B_9
  rw [View.read_writes_junk_eq_canon, runB_dsb]
  have hp := fun k P => qext9_apply arg1 harg1 arg3 harg3 arg10 _ _ _ _ _ _ _ H k P s g
  rw [hp 3, hp 2, hp 1, canon_qext9 arg1 harg1 arg3 harg3 _ _ _ _ _ _ _ H, View.readAt_eq_ld, harg10.read_unread,
    View.ld_unit_zero (S := S128x4) hz2]

theorem outA_9 (hc0 : cond0_0 i) (s : Fin 128) (g : Fin 4) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 s g)
      = ((dsb (chunk 0 X0) (chunk 0 X2) s g : ℝ) : EReal) + ((dsb (chunk 1 X0) (chunk 1 X2) s g : ℝ) : EReal)
        + ((dsb (chunk 2 X0) (chunk 2 X2) s g : ℝ) : EReal) + ((dsb (chunk 3 X0) (chunk 3 X2) s g : ℝ) : EReal) := by
  unfold out0_A_9
  rw [View.read_writes_junk_eq_canon, runA_dsb]
  have hp := fun k P => qext9_apply arg1 harg1 arg3 harg3 arg10 _ _ _ _ _ _ _ H k P s g
  rw [hp 3, hp 2, hp 1, hp 0, View.canon_cons_unit_zero (S := S128x4) hz2]
  have h0 : (k0_pay3 : FVec Ideal S128x4 .f32) (ix2 s g) = 0 := Ideal.ofBits_zero_f32
  rw [h0, zero_add]

theorem outB_10 (hc0 : ¬cond0_0 i) (l : Fin 256) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 0 l)
      = xo10 (ix2 0 l) + ((dlg (chunk 0 X0) (chunk 0 X1) (chunk 0 X2) W l : ℝ) : EReal)
        + ((dlg (chunk 1 X0) (chunk 1 X1) (chunk 1 X2) W l : ℝ) : EReal)
        + ((dlg (chunk 2 X0) (chunk 2 X1) (chunk 2 X2) W l : ℝ) : EReal)
        + ((dlg (chunk 3 X0) (chunk 3 X1) (chunk 3 X2) W l : ℝ) : EReal) := by
  unfold out0_B_10
  rw [View.read_writes_junk_eq_canon, runB_dlg]
  have hk := fun k => is_pdlg arg1 harg1 arg2 harg2 arg3 harg3 arg6 harg6 _ _ _ _ _ _ _ H k
  rw [qextr_apply _ (hk 3), qextr_apply _ (hk 2), qextr_apply _ (hk 1), canon_pextr (hk 0), roww_eq]
  rfl

theorem outA_10 (hc0 : cond0_0 i) (l : Fin 256) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 0 l)
      = ((dlg (chunk 0 X0) (chunk 0 X1) (chunk 0 X2) W l : ℝ) : EReal)
        + ((dlg (chunk 1 X0) (chunk 1 X1) (chunk 1 X2) W l : ℝ) : EReal)
        + ((dlg (chunk 2 X0) (chunk 2 X1) (chunk 2 X2) W l : ℝ) : EReal)
        + ((dlg (chunk 3 X0) (chunk 3 X1) (chunk 3 X2) W l : ℝ) : EReal) := by
  unfold out0_A_10
  rw [View.read_writes_junk_eq_canon, runA_dlg]
  have hk := fun k => is_pdlg arg1 harg1 arg2 harg2 arg3 harg3 arg6 harg6 _ _ _ _ _ _ _ H k
  rw [qextr_apply _ (hk 3), qextr_apply _ (hk 2), qextr_apply _ (hk 1), qextr_apply _ (hk 0), View.canon_cons_unit_zero (S := S1x256) hz2]
  have h0 : (k0_pay4 : FVec Ideal S1x256 .f32) (ix2 0 l) = 0 := Ideal.ofBits_zero_f32
  rw [h0, zero_add]
  rfl

theorem outB_11 (hc0 : ¬cond0_0 i) (l : Fin 256) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 0 l)
      = xo11 (ix2 0 l) + ((dlb (chunk 0 X0) (chunk 0 X2) W l : ℝ) : EReal)
        + ((dlb (chunk 1 X0) (chunk 1 X2) W l : ℝ) : EReal)
        + ((dlb (chunk 2 X0) (chunk 2 X2) W l : ℝ) : EReal)
        + ((dlb (chunk 3 X0) (chunk 3 X2) W l : ℝ) : EReal) := by
  unfold out0_B_11
  rw [View.read_writes_junk_eq_canon, runB_dlb]
  have hk := fun k => is_pdvn arg1 harg1 arg3 harg3 arg6 harg6 _ _ _ _ _ _ _ H k
  rw [qextr_apply _ (hk 3), qextr_apply _ (hk 2), qextr_apply _ (hk 1), canon_pextr (hk 0), roww_eq]
  rfl

theorem outA_11 (hc0 : cond0_0 i) (l : Fin 256) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 0 l)
      = ((dlb (chunk 0 X0) (chunk 0 X2) W l : ℝ) : EReal)
        + ((dlb (chunk 1 X0) (chunk 1 X2) W l : ℝ) : EReal)
        + ((dlb (chunk 2 X0) (chunk 2 X2) W l : ℝ) : EReal)
        + ((dlb (chunk 3 X0) (chunk 3 X2) W l : ℝ) : EReal) := by
  unfold out0_A_11
  rw [View.read_writes_junk_eq_canon, runA_dlb]
  have hk := fun k => is_pdvn arg1 harg1 arg3 harg3 arg6 harg6 _ _ _ _ _ _ _ H k
  rw [qextr_apply _ (hk 3), qextr_apply _ (hk 2), qextr_apply _ (hk 1), qextr_apply _ (hk 0), View.canon_cons_unit_zero (S := S1x256) hz2]
  have h0 : (k0_pay5 : FVec Ideal S1x256 .f32) (ix2 0 l) = 0 := Ideal.ofBits_zero_f32
  rw [h0, zero_add]
  rfl

end

end Cert.KernelIdeal.Gate
-- ==== Proof.Gate.OutDuv.lean ====
/-
What a point of the gating backward kernel leaves in the window of the two halves' gradients, read at an index.
-/
module

public import proofs.«01_k».proof.Proof.Gate.Out

@[expose] public section

noncomputable section

namespace Cert.KernelIdeal.Gate

open Idealize.ShloMosaic hiding ix0 ix1 ix2 ix3 ix4 ix5
open Idealize.ShloMosaic.ValueIdx Idealize.ShloMosaic.TcCoe Idealize.SL.Sem Cert.KernelIdeal.Gen Cert.Gate

theorem tile_left {w : FVec Ideal S128x256 .bf16} {D : Fin 4 → Fin 128 → Fin 256 → ℝ} {k' : Fin 4} (hw : Is w (D k'))
    (o : Nat) (ho : o = 128 * k'.val) (k : Fin 4) (s : Fin 128) (c : Fin 256) :
    View.TileAt (Val := Elt Ideal) (S := S512x512) (e := .bf16) (ix2 (row4 k s) (left c)) ![o, 0] S128x256.size w ((D k s c : ℝ) : EReal) := by
  intro x hx
  subst ho
  have h0 : 128 * k.val + s.val = 128 * k'.val + (x 0).val := hx 0
  have h1 : c.val = 0 + (x 1).val := hx 1
  have b0 : (x 0).val < 128 := (x 0).isLt
  have b1 : (x 1).val < 256 := (x 1).isLt
  have e : x = ix2 s c := by
    funext a
    match a with
    | ⟨0, _⟩ => exact Fin.ext (by show (x 0).val = s.val; omega)
    | ⟨1, _⟩ => exact Fin.ext (by show (x 1).val = c.val; omega)
  have ek : k = k' := Fin.ext (by omega)
  rw [e, ek]
  exact hw s c

theorem tile_right {w : FVec Ideal S128x256 .bf16} {D : Fin 4 → Fin 128 → Fin 256 → ℝ} {k' : Fin 4} (hw : Is w (D k'))
    (o : Nat) (ho : o = 128 * k'.val) (k : Fin 4) (s : Fin 128) (c : Fin 256) :
    View.TileAt (Val := Elt Ideal) (S := S512x512) (e := .bf16) (ix2 (row4 k s) (right c)) ![o, 256] S128x256.size w ((D k s c : ℝ) : EReal) := by
  intro x hx
  subst ho
  have h0 : 128 * k.val + s.val = 128 * k'.val + (x 0).val := hx 0
  have h1 : 256 + c.val = 256 + (x 1).val := hx 1
  have b0 : (x 0).val < 128 := (x 0).isLt
  have b1 : (x 1).val < 256 := (x 1).isLt
  have e : x = ix2 s c := by
    funext a
    match a with
    | ⟨0, _⟩ => exact Fin.ext (by show (x 0).val = s.val; omega)
    | ⟨1, _⟩ => exact Fin.ext (by show (x 1).val = c.val; omega)
  have ek : k = k' := Fin.ext (by omega)
  rw [e, ek]
  exact hw s c

theorem tile_not_left (w : S128x256.Idx → Elt Ideal .bf16) (o : Nat) (v : EReal) (r : Fin 512) (c : Fin 256) :
    View.TileAt (Val := Elt Ideal) (S := S512x512) (e := .bf16) (ix2 r (left c)) ![o, 256] S128x256.size w v := by
  intro x hx
  have h1 : c.val = 256 + (x 1).val := hx 1
  omega

theorem tile_not_right (w : S128x256.Idx → Elt Ideal .bf16) (o : Nat) (v : EReal) (r : Fin 512) (c : Fin 256) :
    View.TileAt (Val := Elt Ideal) (S := S512x512) (e := .bf16) (ix2 r (right c)) ![o, 0] S128x256.size w v := by
  intro x hx
  have h1 : 256 + c.val = 0 + (x 1).val := hx 1
  have b1 : (x 1).val < 256 := (x 1).isLt
  omega

section
variable (c : Dev nD) (i : grid0.Coords)
    (arg1 : Memref sig .tc .vmem S512x256 .f32) (harg1 : arg1.IsWhole)
    (arg2 : Memref sig .tc .vmem S512x256 .f32) (harg2 : arg2.IsWhole)
    (arg3 : Memref sig .tc .vmem S512x256 .f32) (harg3 : arg3.IsWhole)
    (arg4 : Memref sig .tc .vmem S1x256 .f32) (harg4 : arg4.IsWhole)
    (arg5 : Memref sig .tc .vmem S1x256 .f32) (harg5 : arg5.IsWhole)
    (arg6 : Memref sig .tc .vmem S4x128x128 .f32) (harg6 : arg6.IsWhole)
    (arg7 : Memref sig .tc .vmem S128x4 .f32) (harg7 : arg7.IsWhole)
    (arg8 : Memref sig .tc .vmem S512x512 .bf16) (harg8 : arg8.IsWhole)
    (arg9 : Memref sig .tc .vmem S4x128x128 .f32) (harg9 : arg9.IsWhole)
    (arg10 : Memref sig .tc .vmem S128x4 .f32) (harg10 : arg10.IsWhole)
    (arg11 : Memref sig .tc .vmem S1x256 .f32) (harg11 : arg11.IsWhole)
    (arg12 : Memref sig .tc .vmem S1x256 .f32) (harg12 : arg12.IsWhole)
    (x0 : Vec Ideal S512x256 .f32) (x1 : Vec Ideal S512x256 .f32) (x2 : Vec Ideal S512x256 .f32) (x3 : Vec Ideal S1x256 .f32) (x4 : Vec Ideal S1x256 .f32) (x5 : Vec Ideal S4x128x128 .f32) (x6 : Vec Ideal S128x4 .f32) (xo8 : Vec Ideal S4x128x128 .f32) (xo9 : Vec Ideal S128x4 .f32) (xo10 : Vec Ideal S1x256 .f32) (xo11 : Vec Ideal S1x256 .f32)

variable {X0 X1 X2 : Fin 512 → Fin 256 → ℝ} {L B : Fin 256 → ℝ} {W : Fin 4 → Fin 128 → Fin 128 → ℝ} {S : Fin 128 → Fin 4 → ℝ}
  (H : Holds x0 x1 x2 x3 x4 x5 x6 X0 X1 X2 L B W S)

include H

theorem duv_left (k : Fin 4) (s : Fin 128) (l : Fin 256)
    (hc : ∃ p ∈ duvPieces arg1 harg1 arg2 harg2 arg3 harg3 arg4 harg4 arg5 harg5 arg6 harg6 arg7 harg7 x0 x1 x2 x3 x4 x5 x6, (ix2 (row4 k s) (left l) : S512x512.Idx) ∈ p.1.set) :
    View.canon (duvPieces arg1 harg1 arg2 harg2 arg3 harg3 arg4 harg4 arg5 harg5 arg6 harg6 arg7 harg7 x0 x1 x2 x3 x4 x5 x6) (ix2 (row4 k s) (left l))
      = ((du (chunk k X0) (chunk k X1) (chunk k X2) L B W S s l : ℝ) : EReal) := by
  refine View.canon_eq_of_allAt _ _ _ hc ?_
  have hk := fun k => is_pdu arg1 harg1 arg2 harg2 arg3 harg3 arg4 harg4 arg5 harg5 arg6 harg6 arg7 harg7 _ _ _ _ _ _ _ H k
  unfold duvPieces
  refine View.allAt_cons_unit _ _ _ _ _ (tile_not_left _ 384 _ _ _) ?_
  refine View.allAt_cons_unit _ _ _ _ _ (tile_left (D := fun k => du (chunk k X0) (chunk k X1) (chunk k X2) L B W S) (hk 3) 384 rfl k s l) ?_
  refine View.allAt_cons_unit _ _ _ _ _ (tile_not_left _ 256 _ _ _) ?_
  refine View.allAt_cons_unit _ _ _ _ _ (tile_left (D := fun k => du (chunk k X0) (chunk k X1) (chunk k X2) L B W S) (hk 2) 256 rfl k s l) ?_
  refine View.allAt_cons_unit _ _ _ _ _ (tile_not_left _ 128 _ _ _) ?_
  refine View.allAt_cons_unit _ _ _ _ _ (tile_left (D := fun k => du (chunk k X0) (chunk k X1) (chunk k X2) L B W S) (hk 1) 128 rfl k s l) ?_
  refine View.allAt_cons_unit _ _ _ _ _ (tile_not_left _ 0 _ _ _) ?_
  refine View.allAt_cons_unit _ _ _ _ _ (tile_left (D := fun k => du (chunk k X0) (chunk k X1) (chunk k X2) L B W S) (hk 0) 0 rfl k s l) ?_
  exact View.allAt_nil _ _

theorem duv_right (k : Fin 4) (s : Fin 128) (l : Fin 256)
    (hc : ∃ p ∈ duvPieces arg1 harg1 arg2 harg2 arg3 harg3 arg4 harg4 arg5 harg5 arg6 harg6 arg7 harg7 x0 x1 x2 x3 x4 x5 x6, (ix2 (row4 k s) (right l) : S512x512.Idx) ∈ p.1.set) :
    View.canon (duvPieces arg1 harg1 arg2 harg2 arg3 harg3 arg4 harg4 arg5 harg5 arg6 harg6 arg7 harg7 x0 x1 x2 x3 x4 x5 x6) (ix2 (row4 k s) (right l))
      = ((dv (chunk k X0) (chunk k X1) (chunk k X2) L W s l : ℝ) : EReal) := by
  refine View.canon_eq_of_allAt _ _ _ hc ?_
  have hk := fun k => is_pdv arg1 harg1 arg2 harg2 arg3 harg3 arg4 harg4 arg6 harg6 _ _ _ _ _ _ _ H k
  unfold duvPieces
  refine View.allAt_cons_unit _ _ _ _ _ (tile_right (D := fun k => dv (chunk k X0) (chunk k X1) (chunk k X2) L W) (hk 3) 384 rfl k s l) ?_
  refine View.allAt_cons_unit _ _ _ _ _ (tile_not_right _ 384 _ _ _) ?_
  refine View.allAt_cons_unit _ _ _ _ _ (tile_right (D := fun k => dv (chunk k X0) (chunk k X1) (chunk k X2) L W) (hk 2) 256 rfl k s l) ?_
  refine View.allAt_cons_unit _ _ _ _ _ (tile_not_right _ 256 _ _ _) ?_
  refine View.allAt_cons_unit _ _ _ _ _ (tile_right (D := fun k => dv (chunk k X0) (chunk k X1) (chunk k X2) L W) (hk 1) 128 rfl k s l) ?_
  refine View.allAt_cons_unit _ _ _ _ _ (tile_not_right _ 128 _ _ _) ?_
  refine View.allAt_cons_unit _ _ _ _ _ (tile_right (D := fun k => dv (chunk k X0) (chunk k X1) (chunk k X2) L W) (hk 0) 0 rfl k s l) ?_
  refine View.allAt_cons_unit _ _ _ _ _ (tile_not_right _ 0 _ _ _) ?_
  exact View.allAt_nil _ _

theorem outB_7_left (hc0 : ¬cond0_0 i) (k : Fin 4) (s : Fin 128) (l : Fin 256) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 (row4 k s) (left l)) = ((du (chunk k X0) (chunk k X1) (chunk k X2) L B W S s l : ℝ) : EReal) := by
  unfold out0_B_7
  have hc := cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 (row4 k s) (left l))
  rw [runB_duv] at hc
  rw [View.read_writes_junk_eq_canon, runB_duv]
  exact duv_left arg1 harg1 arg2 harg2 arg3 harg3 arg4 harg4 arg5 harg5 arg6 harg6 arg7 harg7 _ _ _ _ _ _ _ H k s l hc

theorem outB_7_right (hc0 : ¬cond0_0 i) (k : Fin 4) (s : Fin 128) (l : Fin 256) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 (row4 k s) (right l)) = ((dv (chunk k X0) (chunk k X1) (chunk k X2) L W s l : ℝ) : EReal) := by
  unfold out0_B_7
  have hc := cover0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xo8 xo9 xo10 xo11 (ix2 (row4 k s) (right l))
  rw [runB_duv] at hc
  rw [View.read_writes_junk_eq_canon, runB_duv]
  exact duv_right arg1 harg1 arg2 harg2 arg3 harg3 arg4 harg4 arg5 harg5 arg6 harg6 arg7 harg7 _ _ _ _ _ _ _ H k s l hc

theorem outA_7_left (hc0 : cond0_0 i) (k : Fin 4) (s : Fin 128) (l : Fin 256) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 (row4 k s) (left l)) = ((du (chunk k X0) (chunk k X1) (chunk k X2) L B W S s l : ℝ) : EReal) := by
  unfold out0_A_7
  have hc := cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 (row4 k s) (left l))
  rw [runA_duv] at hc
  rw [View.read_writes_junk_eq_canon, runA_duv]
  exact duv_left arg1 harg1 arg2 harg2 arg3 harg3 arg4 harg4 arg5 harg5 arg6 harg6 arg7 harg7 _ _ _ _ _ _ _ H k s l hc

theorem outA_7_right (hc0 : cond0_0 i) (k : Fin 4) (s : Fin 128) (l : Fin 256) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 (row4 k s) (right l)) = ((dv (chunk k X0) (chunk k X1) (chunk k X2) L W s l : ℝ) : EReal) := by
  unfold out0_A_7
  have hc := cover0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 (ix2 (row4 k s) (right l))
  rw [runA_duv] at hc
  rw [View.read_writes_junk_eq_canon, runA_duv]
  exact duv_right arg1 harg1 arg2 harg2 arg3 harg3 arg4 harg4 arg5 harg5 arg6 harg6 arg7 harg7 _ _ _ _ _ _ _ H k s l hc

end

end Cert.KernelIdeal.Gate
-- ==== Proof.Gate.Blocks.lean ====
/-
What the input windows of the gating backward kernel hold at a point, when the arguments hold reals.
-/
module

public import proofs.«01_k».proof.Proof.Gate.OutDuv
public import proofs.«01_k».proof.Proof.Gen.KernelIdeal.Value
public import Idealize.ShloMosaic.Lib.StableHlo.Run

@[expose] public section

noncomputable section

namespace Cert.KernelIdeal.Gate

open Idealize.ShloMosaic hiding ix0 ix1 ix2 ix3 ix4 ix5
open Idealize.ShloMosaic.ValueIdx Idealize.ShloMosaic.TcCoe Idealize.SL.Sem Cert.KernelIdeal.Gen Cert.Gate

variable (m : (ℓ : Loc nD τ sig) → Buf (Elt Ideal) ℓ) (c : Dev nD)

/-- The arguments hold these reals: the first 512 lanes of the projection, the first 256 lanes of the mixed
    gradient, the gain, the bias, the spatial weights and the spatial bias. -/
structure Args (P : Fin 4096 → Fin 512 → ℝ) (D : Fin 4096 → Fin 256 → ℝ) (L B : Fin 256 → ℝ)
    (W : Fin 4 → Fin 128 → Fin 128 → ℝ) (S : Fin 128 → Fin 4 → ℝ) : Prop where
  h0 : ∀ r (l : Fin 512), (m ((c : Thread nD τ).loc main_arg0) : FVec Ideal S4096x2816 .f32) (ix2 r ⟨l.val, by omega⟩) = ((P r l : ℝ) : EReal)
  h1 : ∀ r (l : Fin 256), (m ((c : Thread nD τ).loc main_arg1) : FVec Ideal S4096x1024 .f32) (ix2 r ⟨l.val, by omega⟩) = ((D r l : ℝ) : EReal)
  h2 : ∀ g d, (m ((c : Thread nD τ).loc main_arg2) : FVec Ideal S1x4x64 .f32) (ix3 0 g d) = ((L (col g d) : ℝ) : EReal)
  h3 : ∀ g d, (m ((c : Thread nD τ).loc main_arg3) : FVec Ideal S1x4x64 .f32) (ix3 0 g d) = ((B (col g d) : ℝ) : EReal)
  h4 : ∀ g s j, (m ((c : Thread nD τ).loc main_arg4) : FVec Ideal S1x4x128x128 .f32) (ix4 0 g s j) = ((W g s j : ℝ) : EReal)
  h5 : ∀ g s, (m ((c : Thread nD τ).loc main_arg5) : FVec Ideal S1x4x128 .f32) (ix3 0 g s) = ((S s g : ℝ) : EReal)

theorem V_v0 : (V m c main_v0 : FVec Ideal S1x256 .f32) = shapeCast S1x256 (m ((c : Thread nD τ).loc main_arg2) : FVec Ideal S1x4x64 .f32) shapeCasts_S1x4x64_S1x256 := by
  unfold V
  simp only [StableHlo.after_cons, StableHlo.after_nil]
  rfl

theorem V_v1 : (V m c main_v1 : FVec Ideal S1x256 .f32) = shapeCast S1x256 (m ((c : Thread nD τ).loc main_arg3) : FVec Ideal S1x4x64 .f32) shapeCasts_S1x4x64_S1x256 := by
  unfold V
  simp only [StableHlo.after_cons, StableHlo.after_nil]
  rfl

theorem V_v4 : (V m c main_v4 : FVec Ideal S4x128x128 .f32) = shapeCast S4x128x128 (m ((c : Thread nD τ).loc main_arg4) : FVec Ideal S1x4x128x128 .f32) shapeCasts_S1x4x128x128_S4x128x128 := by
  unfold V
  simp only [StableHlo.after_cons, StableHlo.after_nil]
  rfl

theorem V_v3 : (V m c main_v3 : FVec Ideal S128x4 .f32) = transpose S128x4 [1, 0] (shapeCast S4x128 (m ((c : Thread nD τ).loc main_arg5) : FVec Ideal S1x4x128 .f32) shapeCasts_S1x4x128_S4x128) transposes_S4x128_S128x4_1_0 := by
  unfold V
  simp only [StableHlo.after_cons, StableHlo.after_nil]
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 1 :=
  (by decide +kernel : ∀ t : Fin grid0.N, win0_1.index t 0 = t.val ∧ win0_1.index t 1 = 1)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx6 : ∀ t : Fin cfg0.N, win0_6.index t 0 = 0 ∧ win0_6.index t 1 = 0 :=
  (by decide +kernel : ∀ t : Fin grid0.N, win0_6.index t 0 = 0 ∧ win0_6.index t 1 = 0)

/-- Row r of point t's 512 rows. -/
def rowt (t : Fin cfg0.N) (r : Fin 512) : Fin 4096 :=
  ⟨512 * t.val + r.val, by have := lt_of_lt_of_eq t.isLt (show cfg0.N = 8 from N_0); omega⟩

variable {m c} {P : Fin 4096 → Fin 512 → ℝ} {D : Fin 4096 → Fin 256 → ℝ} {L B : Fin 256 → ℝ}
    {W : Fin 4 → Fin 128 → Fin 128 → ℝ} {S : Fin 128 → Fin 4 → ℝ}

theorem col_val (l : Fin 256) : ∃ g d, l = col g d := ⟨grp l, ⟨l.val % 64, by omega⟩, Fin.ext (by simp only [col, grp]; omega)⟩

theorem blk0 (H : Args m c P D L B W S) (t : Fin cfg0.N) (r : Fin 512) (l : Fin 256) :
    (iblk m c 0 t : Vec Ideal S512x256 .f32) (ix2 r l) = ((P (rowt t r) (left l) : ℝ) : EReal) := by
  rw [← H.h0]
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(idx0 t).1]; omega
  | ⟨1, _⟩ => show win0_0.index t 1 * 256 + 1 * l.val = l.val; rw [(idx0 t).2]; omega

theorem blk1 (H : Args m c P D L B W S) (t : Fin cfg0.N) (r : Fin 512) (l : Fin 256) :
    (iblk m c 1 t : Vec Ideal S512x256 .f32) (ix2 r l) = ((P (rowt t r) (right l) : ℝ) : EReal) := by
  rw [← H.h0]
  unfold iblk
  rw [View.read_apply]
  show V m c main_arg0 _ = _
  rw [V_main_arg0]
  congr 1
  funext a
  apply Fin.ext
  match a with
  | ⟨0, _⟩ => show win0_1.index t 0 * 512 + 1 * r.val = 512 * t.val + r.val; rw [(idx1 t).1]; omega
  | ⟨1, _⟩ => show win0_1.index t 1 * 256 + 1 * l.val = 256 + l.val; rw [(idx1 t).2]; omega

theorem blk2 (H : Args m c P D L B W S) (t : Fin cfg0.N) (r : Fin 512) (l : Fin 256) :
    (iblk m c 2 t : Vec Ideal S512x256 .f32) (ix2 r l) = ((D (rowt t r) l : ℝ) : EReal) := by
  rw [← H.h1]
  unfold iblk
  rw [View.read_apply]
  show V m c main_arg1 _ = _
  rw [V_main_arg1]
  congr 1
  funext a
  apply Fin.ext
  match a with
  | ⟨0, _⟩ => show win0_2.index t 0 * 512 + 1 * r.val = 512 * t.val + r.val; rw [(idx2 t).1]; omega
  | ⟨1, _⟩ => show win0_2.index t 1 * 256 + 1 * l.val = l.val; rw [(idx2 t).2]; omega

theorem emb3 (t : Fin cfg0.N) (l : Fin 256) :
    ((cfg0.win 3).blk t).view.emb (ix2 (0 : Fin 1) l : S1x256.Idx) = (ix2 (0 : Fin 1) l : S1x256.Idx) := by
  funext a
  apply Fin.ext
  match a with
  | ⟨0, _⟩ => show win0_3.index t 0 * 1 + 1 * 0 = 0; rw [(idx3 t).1]
  | ⟨1, _⟩ => show win0_3.index t 1 * 256 + 1 * l.val = l.val; rw [(idx3 t).2]; omega

theorem emb4 (t : Fin cfg0.N) (l : Fin 256) :
    ((cfg0.win 4).blk t).view.emb (ix2 (0 : Fin 1) l : S1x256.Idx) = (ix2 (0 : Fin 1) l : S1x256.Idx) := by
  funext a
  apply Fin.ext
  match a with
  | ⟨0, _⟩ => show win0_4.index t 0 * 1 + 1 * 0 = 0; rw [(idx4 t).1]
  | ⟨1, _⟩ => show win0_4.index t 1 * 256 + 1 * l.val = l.val; rw [(idx4 t).2]; omega

theorem emb5 (t : Fin cfg0.N) (g : Fin 4) (s j : Fin 128) :
    ((cfg0.win 5).blk t).view.emb (ix3 g s j : S4x128x128.Idx) = (ix3 g s j : S4x128x128.Idx) := by
  funext a
  apply Fin.ext
  match a with
  | ⟨0, _⟩ => show win0_5.index t 0 * 4 + 1 * g.val = g.val; rw [(idx5 t).1]; omega
  | ⟨1, _⟩ => show win0_5.index t 1 * 128 + 1 * s.val = s.val; rw [(idx5 t).2.1]; omega
  | ⟨2, _⟩ => show win0_5.index t 2 * 128 + 1 * j.val = j.val; rw [(idx5 t).2.2]; omega

theorem emb6 (t : Fin cfg0.N) (s : Fin 128) (g : Fin 4) :
    ((cfg0.win 6).blk t).view.emb (ix2 s g : S128x4.Idx) = (ix2 s g : S128x4.Idx) := by
  funext a
  apply Fin.ext
  match a with
  | ⟨0, _⟩ => show win0_6.index t 0 * 128 + 1 * s.val = s.val; rw [(idx6 t).1]; omega
  | ⟨1, _⟩ => show win0_6.index t 1 * 4 + 1 * g.val = g.val; rw [(idx6 t).2]; omega

/-- A row of 256 lanes cut from four groups of 64. -/
theorem row_apply (x : FVec Ideal S1x4x64 .f32) (g : Fin 4) (d : Fin 64) :
    shapeCast S1x256 x shapeCasts_S1x4x64_S1x256 (ix2 0 (col g d)) = x (ix3 0 g d) :=
  shapeCast_apply x _ _ (ix3 0 g d) (by
    rw [Shape.rowMajor_val_three, Shape.rowMajor_val_two]
    show (0 * 4 + g.val) * 64 + d.val = 0 * 256 + (col g d).val
    simp only [col]
    omega)

theorem blk3 (H : Args m c P D L B W S) (t : Fin cfg0.N) (l : Fin 256) :
    (iblk m c 3 t : Vec Ideal S1x256 .f32) (ix2 0 l) = ((L l : ℝ) : EReal) := by
  obtain ⟨g, d, rfl⟩ := col_val l
  refine Eq.trans ?_ ((congrFun (V_v0 m c) (ix2 0 (col g d))).trans ((row_apply _ g d).trans (H.h2 g d)))
  unfold iblk
  rw [View.read_apply]
  exact congrArg (V m c main_v0) (emb3 t (col g d))

theorem blk4 (H : Args m c P D L B W S) (t : Fin cfg0.N) (l : Fin 256) :
    (iblk m c 4 t : Vec Ideal S1x256 .f32) (ix2 0 l) = ((B l : ℝ) : EReal) := by
  obtain ⟨g, d, rfl⟩ := col_val l
  refine Eq.trans ?_ ((congrFun (V_v1 m c) (ix2 0 (col g d))).trans ((row_apply _ g d).trans (H.h3 g d)))
  unfold iblk
  rw [View.read_apply]
  exact congrArg (V m c main_v1) (emb4 t (col g d))

theorem blk5 (H : Args m c P D L B W S) (t : Fin cfg0.N) (g : Fin 4) (s j : Fin 128) :
    (iblk m c 5 t : Vec Ideal S4x128x128 .f32) (ix3 g s j) = ((W g s j : ℝ) : EReal) := by
  refine Eq.trans ?_ ((congrFun (V_v4 m c) (ix3 g s j)).trans ((shapeCast_1abc_abc_apply _ _ g s j).trans (H.h4 g s j)))
  unfold iblk
  rw [View.read_apply]
  exact congrArg (V m c main_v4) (emb5 t g s j)

theorem blk6 (H : Args m c P D L B W S) (t : Fin cfg0.N) (s : Fin 128) (g : Fin 4) :
    (iblk m c 6 t : Vec Ideal S128x4 .f32) (ix2 s g) = ((S s g : ℝ) : EReal) := by
  have h := congrFun (V_v3 m c) (ix2 s g)
  rw [transpose_ix2_apply, shapeCast_1ab_ab_apply] at h
  rw [← H.h5]
  refine Eq.trans ?_ h
  unfold iblk
  rw [View.read_apply]
  exact congrArg (V m c main_v3) (emb6 t s g)

theorem holds (H : Args m c P D L B W S) (t : Fin cfg0.N) :
    Holds (iblk m c 0 t) (iblk m c 1 t) (iblk m c 2 t) (iblk m c 3 t) (iblk m c 4 t) (iblk m c 5 t) (iblk m c 6 t)
      (fun r l => P (rowt t r) (left l)) (fun r l => P (rowt t r) (right l)) (fun r l => D (rowt t r) l) L B W S :=
  ⟨blk0 H t, blk1 H t, blk2 H t, blk3 H t, blk4 H t, blk5 H t, blk6 H t⟩

end Cert.KernelIdeal.Gate
-- ==== Proof.Gate.Array.lean ====
/-
What the gating backward kernel's result arrays hold after the run, read at an index: each of the 32 chunks of
128 rows has its own part of the first array, and the other four are sums over the chunks.
-/
module

public import proofs.«01_k».proof.Proof.Gate.Blocks

@[expose] public section

noncomputable section

namespace Cert.KernelIdeal.Gate

open Idealize.ShloMosaic hiding ix0 ix1 ix2 ix3 ix4 ix5
open Idealize.ShloMosaic.ValueIdx Idealize.ShloMosaic.TcCoe Idealize.SL.Sem Cert.KernelIdeal.Gen Cert.Gate
open scoped BigOperators
open Idealize.ShloMosaic.Pipeline (Dat)

theorem lt8 (t : Fin cfg0.N) : t.val < 8 := lt_of_lt_of_eq t.isLt (show cfg0.N = 8 from N_0)

theorem row_eq (t : Fin cfg0.N) (k : Fin 4) (s : Fin 128) : rowt t (row4 k s) = rowq (qn (4 * t.val + k.val)) s :=
  Fin.ext (by have := lt8 t; simp only [rowt, row4, rowq, qn]; omega)

variable {P : Fin 4096 → Fin 512 → ℝ} {D : Fin 4096 → Fin 256 → ℝ} {L B : Fin 256 → ℝ}
    {W : Fin 4 → Fin 128 → Fin 128 → ℝ} {S : Fin 128 → Fin 4 → ℝ}

theorem chunk_u (t : Fin cfg0.N) (k : Fin 4) :
    chunk k (fun r l => P (rowt t r) (left l)) = uq P (qn (4 * t.val + k.val)) := by
  funext s l; simp only [chunk, uq, row_eq]
theorem chunk_v (t : Fin cfg0.N) (k : Fin 4) :
    chunk k (fun r l => P (rowt t r) (right l)) = vq P (qn (4 * t.val + k.val)) := by
  funext s l; simp only [chunk, vq, row_eq]
theorem chunk_a (t : Fin cfg0.N) (k : Fin 4) :
    chunk k (fun r l => D (rowt t r) l) = aq D (qn (4 * t.val + k.val)) := by
  funext s l; simp only [chunk, aq, row_eq]

/-- Four more terms of a running sum of reals. -/
theorem four_more (f : ℕ → ℝ) (n : ℕ) (e : EReal) (he : e = ((∑ i ∈ Finset.range (4 * n), f i : ℝ) : EReal)) :
    e + ((f (4 * n + 0) : ℝ) : EReal) + ((f (4 * n + 1) : ℝ) : EReal) + ((f (4 * n + 2) : ℝ) : EReal)
      + ((f (4 * n + 3) : ℝ) : EReal) = ((∑ i ∈ Finset.range (4 * (n + 1)), f i : ℝ) : EReal) := by
  rw [show 4 * (n + 1) = 4 * n + 1 + 1 + 1 + 1 from by omega, Finset.sum_range_succ, Finset.sum_range_succ,
    Finset.sum_range_succ, Finset.sum_range_succ, he, ← EReal.coe_add, ← EReal.coe_add, ← EReal.coe_add, ← EReal.coe_add, Nat.add_zero]

/-- The first four terms. -/
theorem four_first (f : ℕ → ℝ) :
    ((f (4 * 0 + 0) : ℝ) : EReal) + ((f (4 * 0 + 1) : ℝ) : EReal) + ((f (4 * 0 + 2) : ℝ) : EReal)
      + ((f (4 * 0 + 3) : ℝ) : EReal) = ((∑ i ∈ Finset.range (4 * (0 + 1)), f i : ℝ) : EReal) := by
  rw [← four_more f 0 0 (by simp), zero_add]

/-- All 32 terms. -/
theorem all32 (f : Fin 32 → ℝ) : ∑ i ∈ Finset.range (4 * (7 + 1)), f (qn i) = ∑ q, f q := by
  rw [show 4 * (7 + 1) = 32 from rfl, Finset.sum_range]
  refine Finset.sum_congr rfl fun q _ => congrArg f (Fin.ext ?_)
  simp only [qn]
  omega

variable (m : (ℓ : Loc nD τ sig) → Buf (Elt Ideal) ℓ) (c : Dev nD)

section
variable {α β γ δ ε : Type} {p : α × β × γ × δ × ε} {a : α} {b : β} {g : γ} {d : δ} {e : ε}
/-- A named tuple's first part, and so on. -/
theorem at_fst (h : p = (a, b, g, d, e)) : p.1 = a := by rw [h]
theorem at_snd (h : p = (a, b, g, d, e)) : p.2.1 = b := by rw [h]
theorem at_3rd (h : p = (a, b, g, d, e)) : p.2.2.1 = g := by rw [h]
theorem at_4th (h : p = (a, b, g, d, e)) : p.2.2.2.1 = d := by rw [h]
theorem at_5th (h : p = (a, b, g, d, e)) : p.2.2.2.2 = e := by rw [h]
end

/-- What window 8 holds after the first point. -/
theorem first_8 (H : Args m c P D L B W S) (t : Fin cfg0.N) (h0 : t.val % 8 = 0) (g : Fin 4) (s j : Fin 128) :
    (outsAt0 m c t.val t.isLt).2.1 (ix3 g s j) = ((dw (uq P (qn (4 * t.val + 0))) (vq P (qn (4 * t.val + 0))) (aq D (qn (4 * t.val + 0))) L B g s j : ℝ) : EReal) + ((dw (uq P (qn (4 * t.val + 1))) (vq P (qn (4 * t.val + 1))) (aq D (qn (4 * t.val + 1))) L B g s j : ℝ) : EReal)
      + ((dw (uq P (qn (4 * t.val + 2))) (vq P (qn (4 * t.val + 2))) (aq D (qn (4 * t.val + 2))) L B g s j : ℝ) : EReal) + ((dw (uq P (qn (4 * t.val + 3))) (vq P (qn (4 * t.val + 3))) (aq D (qn (4 * t.val + 3))) L B g s j : ℝ) : EReal) := by
  have e := outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ (holds H t) ((hcond0_0 t).mpr h0) g s j
  refine (congrFun (at_snd (outsAt0_A m c t h0)) (ix3 g s j)).trans (Eq.trans e ?_)
  clear e
  simp only [chunk_u, chunk_v, chunk_a]
  rfl

/-- What window 8 holds after a later point. -/
theorem step_8 (H : Args m c P D L B W S) (t : Fin cfg0.N) (h0 : ¬t.val % 8 = 0) (g : Fin 4) (s j : Fin 128) :
    (outsAt0 m c t.val t.isLt).2.1 (ix3 g s j)
      = (outsAt0 m c (t.val - 1) (Nat.lt_of_le_of_lt (Nat.sub_le _ _) t.isLt)).2.1 (ix3 g s j) + ((dw (uq P (qn (4 * t.val + 0))) (vq P (qn (4 * t.val + 0))) (aq D (qn (4 * t.val + 0))) L B g s j : ℝ) : EReal) + ((dw (uq P (qn (4 * t.val + 1))) (vq P (qn (4 * t.val + 1))) (aq D (qn (4 * t.val + 1))) L B g s j : ℝ) : EReal)
      + ((dw (uq P (qn (4 * t.val + 2))) (vq P (qn (4 * t.val + 2))) (aq D (qn (4 * t.val + 2))) L B g s j : ℝ) : EReal) + ((dw (uq P (qn (4 * t.val + 3))) (vq P (qn (4 * t.val + 3))) (aq D (qn (4 * t.val + 3))) L B g s j : ℝ) : EReal) := by
  have e := outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _
    (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2
    (holds H t) (fun q => h0 ((hcond0_0 t).mp q)) g s j
  refine (congrFun (at_snd (outsAt0_B m c t h0)) (ix3 g s j)).trans (Eq.trans e ?_)
  clear e
  simp only [chunk_u, chunk_v, chunk_a]
  rfl

/-- The running sum that window 8 holds after a point. -/
theorem acc_8 (H : Args m c P D L B W S) (g : Fin 4) (s j : Fin 128) (n : ℕ) (h : n < cfg0.N) :
    (outsAt0 m c n h).2.1 (ix3 g s j) = ((∑ i ∈ Finset.range (4 * (n + 1)), dw (uq P (qn i)) (vq P (qn i)) (aq D (qn i)) L B g s j : ℝ) : EReal) := by
  induction n with
  | zero =>
    refine (first_8 m c H ⟨0, h⟩ rfl g s j).trans ?_
    exact four_first fun i => dw (uq P (qn i)) (vq P (qn i)) (aq D (qn i)) L B g s j
  | succ n ih =>
    have hN : cfg0.N = 8 := N_0
    refine (step_8 m c H ⟨n + 1, h⟩ (by dsimp only; omega) g s j).trans ?_
    exact four_more (fun i => dw (uq P (qn i)) (vq P (qn i)) (aq D (qn i)) L B g s j) (n + 1) _ (ih (Nat.lt_of_succ_lt h))

/-- What window 9 holds after the first point. -/
theorem first_9 (H : Args m c P D L B W S) (t : Fin cfg0.N) (h0 : t.val % 8 = 0) (s : Fin 128) (g : Fin 4) :
    (outsAt0 m c t.val t.isLt).2.2.1 (ix2 s g) = ((dsb (uq P (qn (4 * t.val + 0))) (aq D (qn (4 * t.val + 0))) s g : ℝ) : EReal) + ((dsb (uq P (qn (4 * t.val + 1))) (aq D (qn (4 * t.val + 1))) s g : ℝ) : EReal)
      + ((dsb (uq P (qn (4 * t.val + 2))) (aq D (qn (4 * t.val + 2))) s g : ℝ) : EReal) + ((dsb (uq P (qn (4 * t.val + 3))) (aq D (qn (4 * t.val + 3))) s g : ℝ) : EReal) := by
  have e := outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ (holds H t) ((hcond0_0 t).mpr h0) s g
  refine (congrFun (at_3rd (outsAt0_A m c t h0)) (ix2 s g)).trans (Eq.trans e ?_)
  clear e
  simp only [chunk_u, chunk_v, chunk_a]
  rfl

/-- What window 9 holds after a later point. -/
theorem step_9 (H : Args m c P D L B W S) (t : Fin cfg0.N) (h0 : ¬t.val % 8 = 0) (s : Fin 128) (g : Fin 4) :
    (outsAt0 m c t.val t.isLt).2.2.1 (ix2 s g)
      = (outsAt0 m c (t.val - 1) (Nat.lt_of_le_of_lt (Nat.sub_le _ _) t.isLt)).2.2.1 (ix2 s g) + ((dsb (uq P (qn (4 * t.val + 0))) (aq D (qn (4 * t.val + 0))) s g : ℝ) : EReal) + ((dsb (uq P (qn (4 * t.val + 1))) (aq D (qn (4 * t.val + 1))) s g : ℝ) : EReal)
      + ((dsb (uq P (qn (4 * t.val + 2))) (aq D (qn (4 * t.val + 2))) s g : ℝ) : EReal) + ((dsb (uq P (qn (4 * t.val + 3))) (aq D (qn (4 * t.val + 3))) s g : ℝ) : EReal) := by
  have e := outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _
    (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2
    (holds H t) (fun q => h0 ((hcond0_0 t).mp q)) s g
  refine (congrFun (at_3rd (outsAt0_B m c t h0)) (ix2 s g)).trans (Eq.trans e ?_)
  clear e
  simp only [chunk_u, chunk_v, chunk_a]
  rfl

/-- The running sum that window 9 holds after a point. -/
theorem acc_9 (H : Args m c P D L B W S) (s : Fin 128) (g : Fin 4) (n : ℕ) (h : n < cfg0.N) :
    (outsAt0 m c n h).2.2.1 (ix2 s g) = ((∑ i ∈ Finset.range (4 * (n + 1)), dsb (uq P (qn i)) (aq D (qn i)) s g : ℝ) : EReal) := by
  induction n with
  | zero =>
    refine (first_9 m c H ⟨0, h⟩ rfl s g).trans ?_
    exact four_first fun i => dsb (uq P (qn i)) (aq D (qn i)) s g
  | succ n ih =>
    have hN : cfg0.N = 8 := N_0
    refine (step_9 m c H ⟨n + 1, h⟩ (by dsimp only; omega) s g).trans ?_
    exact four_more (fun i => dsb (uq P (qn i)) (aq D (qn i)) s g) (n + 1) _ (ih (Nat.lt_of_succ_lt h))

/-- What window 10 holds after the first point. -/
theorem first_10 (H : Args m c P D L B W S) (t : Fin cfg0.N) (h0 : t.val % 8 = 0) (l : Fin 256) :
    (outsAt0 m c t.val t.isLt).2.2.2.1 (ix2 0 l) = ((dlg (uq P (qn (4 * t.val + 0))) (vq P (qn (4 * t.val + 0))) (aq D (qn (4 * t.val + 0))) W l : ℝ) : EReal) + ((dlg (uq P (qn (4 * t.val + 1))) (vq P (qn (4 * t.val + 1))) (aq D (qn (4 * t.val + 1))) W l : ℝ) : EReal)
      + ((dlg (uq P (qn (4 * t.val + 2))) (vq P (qn (4 * t.val + 2))) (aq D (qn (4 * t.val + 2))) W l : ℝ) : EReal) + ((dlg (uq P (qn (4 * t.val + 3))) (vq P (qn (4 * t.val + 3))) (aq D (qn (4 * t.val + 3))) W l : ℝ) : EReal) := by
  have e := outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ (holds H t) ((hcond0_0 t).mpr h0) l
  refine (congrFun (at_4th (outsAt0_A m c t h0)) (ix2 0 l)).trans (Eq.trans e ?_)
  clear e
  simp only [chunk_u, chunk_v, chunk_a]
  rfl

/-- What window 10 holds after a later point. -/
theorem step_10 (H : Args m c P D L B W S) (t : Fin cfg0.N) (h0 : ¬t.val % 8 = 0) (l : Fin 256) :
    (outsAt0 m c t.val t.isLt).2.2.2.1 (ix2 0 l)
      = (outsAt0 m c (t.val - 1) (Nat.lt_of_le_of_lt (Nat.sub_le _ _) t.isLt)).2.2.2.1 (ix2 0 l) + ((dlg (uq P (qn (4 * t.val + 0))) (vq P (qn (4 * t.val + 0))) (aq D (qn (4 * t.val + 0))) W l : ℝ) : EReal) + ((dlg (uq P (qn (4 * t.val + 1))) (vq P (qn (4 * t.val + 1))) (aq D (qn (4 * t.val + 1))) W l : ℝ) : EReal)
      + ((dlg (uq P (qn (4 * t.val + 2))) (vq P (qn (4 * t.val + 2))) (aq D (qn (4 * t.val + 2))) W l : ℝ) : EReal) + ((dlg (uq P (qn (4 * t.val + 3))) (vq P (qn (4 * t.val + 3))) (aq D (qn (4 * t.val + 3))) W l : ℝ) : EReal) := by
  have e := outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _
    (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2
    (holds H t) (fun q => h0 ((hcond0_0 t).mp q)) l
  refine (congrFun (at_4th (outsAt0_B m c t h0)) (ix2 0 l)).trans (Eq.trans e ?_)
  clear e
  simp only [chunk_u, chunk_v, chunk_a]
  rfl

/-- The running sum that window 10 holds after a point. -/
theorem acc_10 (H : Args m c P D L B W S) (l : Fin 256) (n : ℕ) (h : n < cfg0.N) :
    (outsAt0 m c n h).2.2.2.1 (ix2 0 l) = ((∑ i ∈ Finset.range (4 * (n + 1)), dlg (uq P (qn i)) (vq P (qn i)) (aq D (qn i)) W l : ℝ) : EReal) := by
  induction n with
  | zero =>
    refine (first_10 m c H ⟨0, h⟩ rfl l).trans ?_
    exact four_first fun i => dlg (uq P (qn i)) (vq P (qn i)) (aq D (qn i)) W l
  | succ n ih =>
    have hN : cfg0.N = 8 := N_0
    refine (step_10 m c H ⟨n + 1, h⟩ (by dsimp only; omega) l).trans ?_
    exact four_more (fun i => dlg (uq P (qn i)) (vq P (qn i)) (aq D (qn i)) W l) (n + 1) _ (ih (Nat.lt_of_succ_lt h))

/-- What window 11 holds after the first point. -/
theorem first_11 (H : Args m c P D L B W S) (t : Fin cfg0.N) (h0 : t.val % 8 = 0) (l : Fin 256) :
    (outsAt0 m c t.val t.isLt).2.2.2.2 (ix2 0 l) = ((dlb (uq P (qn (4 * t.val + 0))) (aq D (qn (4 * t.val + 0))) W l : ℝ) : EReal) + ((dlb (uq P (qn (4 * t.val + 1))) (aq D (qn (4 * t.val + 1))) W l : ℝ) : EReal)
      + ((dlb (uq P (qn (4 * t.val + 2))) (aq D (qn (4 * t.val + 2))) W l : ℝ) : EReal) + ((dlb (uq P (qn (4 * t.val + 3))) (aq D (qn (4 * t.val + 3))) W l : ℝ) : EReal) := by
  have e := outA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ (holds H t) ((hcond0_0 t).mpr h0) l
  refine (congrFun (at_5th (outsAt0_A m c t h0)) (ix2 0 l)).trans (Eq.trans e ?_)
  clear e
  simp only [chunk_u, chunk_v, chunk_a]
  rfl

/-- What window 11 holds after a later point. -/
theorem step_11 (H : Args m c P D L B W S) (t : Fin cfg0.N) (h0 : ¬t.val % 8 = 0) (l : Fin 256) :
    (outsAt0 m c t.val t.isLt).2.2.2.2 (ix2 0 l)
      = (outsAt0 m c (t.val - 1) (Nat.lt_of_le_of_lt (Nat.sub_le _ _) t.isLt)).2.2.2.2 (ix2 0 l) + ((dlb (uq P (qn (4 * t.val + 0))) (aq D (qn (4 * t.val + 0))) W l : ℝ) : EReal) + ((dlb (uq P (qn (4 * t.val + 1))) (aq D (qn (4 * t.val + 1))) W l : ℝ) : EReal)
      + ((dlb (uq P (qn (4 * t.val + 2))) (aq D (qn (4 * t.val + 2))) W l : ℝ) : EReal) + ((dlb (uq P (qn (4 * t.val + 3))) (aq D (qn (4 * t.val + 3))) W l : ℝ) : EReal) := by
  have e := outB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _
    (outsAt0 m c (t.val - 1) (Nat.lt_of_le_of_lt (Nat.sub_le _ _) t.isLt)).2.1 (outsAt0 m c (t.val - 1) (Nat.lt_of_le_of_lt (Nat.sub_le _ _) t.isLt)).2.2.1
    (outsAt0 m c (t.val - 1) (Nat.lt_of_le_of_lt (Nat.sub_le _ _) t.isLt)).2.2.2.1 (outsAt0 m c (t.val - 1) (Nat.lt_of_le_of_lt (Nat.sub_le _ _) t.isLt)).2.2.2.2
    (holds H t) (fun q => h0 ((hcond0_0 t).mp q)) l
  refine (congrFun (at_5th (outsAt0_B m c t h0)) (ix2 0 l)).trans (Eq.trans e ?_)
  clear e
  simp only [chunk_u, chunk_v, chunk_a]
  rfl

/-- The running sum that window 11 holds after a point. -/
theorem acc_11 (H : Args m c P D L B W S) (l : Fin 256) (n : ℕ) (h : n < cfg0.N) :
    (outsAt0 m c n h).2.2.2.2 (ix2 0 l) = ((∑ i ∈ Finset.range (4 * (n + 1)), dlb (uq P (qn i)) (aq D (qn i)) W l : ℝ) : EReal) := by
  induction n with
  | zero =>
    refine (first_11 m c H ⟨0, h⟩ rfl l).trans ?_
    exact four_first fun i => dlb (uq P (qn i)) (aq D (qn i)) W l
  | succ n ih =>
    have hN : cfg0.N = 8 := N_0
    refine (step_11 m c H ⟨n + 1, h⟩ (by dsimp only; omega) l).trans ?_
    exact four_more (fun i => dlb (uq P (qn i)) (aq D (qn i)) W l) (n + 1) _ (ih (Nat.lt_of_succ_lt h))

end Cert.KernelIdeal.Gate
-- ==== Proof.Gate.Final.lean ====
/-
The gating backward kernel's five result arrays after the run, at an index: the gradient array chunk by chunk, and the
sums over all 32 chunks.
-/
module

public import proofs.«01_k».proof.Proof.Gate.Array
public import proofs.«01_k».proof.Proof.Gate.OutDuv

@[expose] public section

noncomputable section

namespace Cert.KernelIdeal.Gate

open Idealize.ShloMosaic hiding ix0 ix1 ix2 ix3 ix4 ix5
open Idealize.ShloMosaic.ValueIdx Idealize.ShloMosaic.TcCoe Idealize.SL.Sem Cert.KernelIdeal.Gen Cert.Gate
open scoped BigOperators
open Idealize.ShloMosaic.Pipeline (Dat)

variable {P : Fin 4096 → Fin 512 → ℝ} {D : Fin 4096 → Fin 256 → ℝ} {L B : Fin 256 → ℝ}
    {W : Fin 4 → Fin 128 → Fin 128 → ℝ} {S : Fin 128 → Fin 4 → ℝ}
variable (m : (ℓ : Loc nD τ sig) → Buf (Elt Ideal) ℓ) (c : Dev nD)

/-- The last point is the only one that writes the sums back. -/
theorem last_only (t t' : Fin cfg0.N) (h : t.val % 8 = 7) (h' : t'.val % 8 = 7) : t = t' :=
  Fin.ext (by have := lt8 t; have := lt8 t'; omega)

theorem idx8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

theorem disjoint8 (t t' : Fin cfg0.N) (h : (cfg0.win 8).flush t = true) (h' : (cfg0.win 8).flush t' = true) (hne : t ≠ t') :
    Disjoint ((cfg0.win 8).blk t).view.set ((cfg0.win 8).blk t').view.set :=
  absurd (last_only t t' ((flush0_8 t).mp h) ((flush0_8 t').mp h')) hne

/-- Window 8's array ends holding the sum over all chunks. -/
theorem final_8 (H : Args m c P D L B W S) (g : Fin 4) (s j : Fin 128) :
    ((dats m 0 c).arrAt 8 cfg0.N : FVec Ideal S4x128x128 .f32) (ix3 g s j) = ((∑ q, dw (uq P q) (vq P q) (aq D q) L B g s j : ℝ) : EReal) := by
  have h := congrFun ((dats m 0 c).read_blk_arrAt_eq_flushed 8 disjoint8 cfg0.N t0_7 t0_7.isLt ((flush0_8 t0_7).mpr rfl)) (ix3 g s j : S4x128x128.Idx)
  rw [View.read_apply, Value.flushed8] at h
  have e : ((cfg0.win 8).blk t0_7).view.emb (ix3 g s j : S4x128x128.Idx) = (ix3 g s j : S4x128x128.Idx) := by
    funext a
    apply Fin.ext
    match a with
    | ⟨0, _⟩ => show win0_8.index t0_7 0 * 4 + 1 * g.val = g.val; rw [(idx8 t0_7).1]; omega
    | ⟨1, _⟩ => show win0_8.index t0_7 1 * 128 + 1 * s.val = s.val; rw [(idx8 t0_7).2.1]; omega
    | ⟨2, _⟩ => show win0_8.index t0_7 2 * 128 + 1 * j.val = j.val; rw [(idx8 t0_7).2.2]; omega
  rw [← all32]
  exact (congrArg ((dats m 0 c).arrAt 8 cfg0.N) e).symm.trans (h.trans (acc_8 m c H g s j 7 t0_7.isLt))

theorem idx9 : ∀ t : Fin cfg0.N, win0_9.index t 0 = 0 ∧ win0_9.index t 1 = 0 :=
  (by decide +kernel : ∀ t : Fin grid0.N, win0_9.index t 0 = 0 ∧ win0_9.index t 1 = 0)

theorem disjoint9 (t t' : Fin cfg0.N) (h : (cfg0.win 9).flush t = true) (h' : (cfg0.win 9).flush t' = true) (hne : t ≠ t') :
    Disjoint ((cfg0.win 9).blk t).view.set ((cfg0.win 9).blk t').view.set :=
  absurd (last_only t t' ((flush0_9 t).mp h) ((flush0_9 t').mp h')) hne

/-- Window 9's array ends holding the sum over all chunks. -/
theorem final_9 (H : Args m c P D L B W S) (s : Fin 128) (g : Fin 4) :
    ((dats m 0 c).arrAt 9 cfg0.N : FVec Ideal S128x4 .f32) (ix2 s g) = ((∑ q, dsb (uq P q) (aq D q) s g : ℝ) : EReal) := by
  have h := congrFun ((dats m 0 c).read_blk_arrAt_eq_flushed 9 disjoint9 cfg0.N t0_7 t0_7.isLt ((flush0_9 t0_7).mpr rfl)) (ix2 s g : S128x4.Idx)
  rw [View.read_apply, Value.flushed9] at h
  have e : ((cfg0.win 9).blk t0_7).view.emb (ix2 s g : S128x4.Idx) = (ix2 s g : S128x4.Idx) := by
    funext a
    apply Fin.ext
    match a with
    | ⟨0, _⟩ => show win0_9.index t0_7 0 * 128 + 1 * s.val = s.val; rw [(idx9 t0_7).1]; omega
    | ⟨1, _⟩ => show win0_9.index t0_7 1 * 4 + 1 * g.val = g.val; rw [(idx9 t0_7).2]; omega
  rw [← all32]
  exact (congrArg ((dats m 0 c).arrAt 9 cfg0.N) e).symm.trans (h.trans (acc_9 m c H s g 7 t0_7.isLt))

theorem idx10 : ∀ t : Fin cfg0.N, win0_10.index t 0 = 0 ∧ win0_10.index t 1 = 0 :=
  (by decide +kernel : ∀ t : Fin grid0.N, win0_10.index t 0 = 0 ∧ win0_10.index t 1 = 0)

theorem disjoint10 (t t' : Fin cfg0.N) (h : (cfg0.win 10).flush t = true) (h' : (cfg0.win 10).flush t' = true) (hne : t ≠ t') :
    Disjoint ((cfg0.win 10).blk t).view.set ((cfg0.win 10).blk t').view.set :=
  absurd (last_only t t' ((flush0_10 t).mp h) ((flush0_10 t').mp h')) hne

/-- Window 10's array ends holding the sum over all chunks. -/
theorem final_10 (H : Args m c P D L B W S) (l : Fin 256) :
    ((dats m 0 c).arrAt 10 cfg0.N : FVec Ideal S1x256 .f32) (ix2 (0 : Fin 1) l) = ((∑ q, dlg (uq P q) (vq P q) (aq D q) W l : ℝ) : EReal) := by
  have h := congrFun ((dats m 0 c).read_blk_arrAt_eq_flushed 10 disjoint10 cfg0.N t0_7 t0_7.isLt ((flush0_10 t0_7).mpr rfl)) (ix2 (0 : Fin 1) l : S1x256.Idx)
  rw [View.read_apply, Value.flushed10] at h
  have e : ((cfg0.win 10).blk t0_7).view.emb (ix2 (0 : Fin 1) l : S1x256.Idx) = (ix2 (0 : Fin 1) l : S1x256.Idx) := by
    funext a
    apply Fin.ext
    match a with
    | ⟨0, _⟩ => show win0_10.index t0_7 0 * 1 + 1 * 0 = 0; rw [(idx10 t0_7).1]
    | ⟨1, _⟩ => show win0_10.index t0_7 1 * 256 + 1 * l.val = l.val; rw [(idx10 t0_7).2]; omega
  rw [← all32]
  exact (congrArg ((dats m 0 c).arrAt 10 cfg0.N) e).symm.trans (h.trans (acc_10 m c H l 7 t0_7.isLt))

theorem idx11 : ∀ t : Fin cfg0.N, win0_11.index t 0 = 0 ∧ win0_11.index t 1 = 0 :=
  (by decide +kernel : ∀ t : Fin grid0.N, win0_11.index t 0 = 0 ∧ win0_11.index t 1 = 0)

theorem disjoint11 (t t' : Fin cfg0.N) (h : (cfg0.win 11).flush t = true) (h' : (cfg0.win 11).flush t' = true) (hne : t ≠ t') :
    Disjoint ((cfg0.win 11).blk t).view.set ((cfg0.win 11).blk t').view.set :=
  absurd (last_only t t' ((flush0_11 t).mp h) ((flush0_11 t').mp h')) hne

/-- Window 11's array ends holding the sum over all chunks. -/
theorem final_11 (H : Args m c P D L B W S) (l : Fin 256) :
    ((dats m 0 c).arrAt 11 cfg0.N : FVec Ideal S1x256 .f32) (ix2 (0 : Fin 1) l) = ((∑ q, dlb (uq P q) (aq D q) W l : ℝ) : EReal) := by
  have h := congrFun ((dats m 0 c).read_blk_arrAt_eq_flushed 11 disjoint11 cfg0.N t0_7 t0_7.isLt ((flush0_11 t0_7).mpr rfl)) (ix2 (0 : Fin 1) l : S1x256.Idx)
  rw [View.read_apply, Value.flushed11] at h
  have e : ((cfg0.win 11).blk t0_7).view.emb (ix2 (0 : Fin 1) l : S1x256.Idx) = (ix2 (0 : Fin 1) l : S1x256.Idx) := by
    funext a
    apply Fin.ext
    match a with
    | ⟨0, _⟩ => show win0_11.index t0_7 0 * 1 + 1 * 0 = 0; rw [(idx11 t0_7).1]
    | ⟨1, _⟩ => show win0_11.index t0_7 1 * 256 + 1 * l.val = l.val; rw [(idx11 t0_7).2]; omega
  rw [← all32]
  exact (congrArg ((dats m 0 c).arrAt 11 cfg0.N) e).symm.trans (h.trans (acc_11 m c H l 7 t0_7.isLt))

theorem idx7 : ∀ t : Fin cfg0.N, win0_7.index t 0 = t.val ∧ win0_7.index t 1 = 0 :=
  (by decide +kernel : ∀ t : Fin grid0.N, win0_7.index t 0 = t.val ∧ win0_7.index t 1 = 0)

theorem emb7 (t : Fin cfg0.N) (r : Fin 512) (l : Fin 512) :
    ((cfg0.win 7).blk t).view.emb (ix2 r l : S512x512.Idx) = (ix2 (rowt t r) l : S4096x512.Idx) := by
  funext a
  apply Fin.ext
  match a with
  | ⟨0, _⟩ => show win0_7.index t 0 * 512 + 1 * r.val = 512 * t.val + r.val; rw [(idx7 t).1]; omega
  | ⟨1, _⟩ => show win0_7.index t 1 * 512 + 1 * l.val = l.val; rw [(idx7 t).2]; omega

/-- What a point leaves in the gradient block, left half. -/
theorem out7_left (H : Args m c P D L B W S) (t : Fin cfg0.N) (k : Fin 4) (s : Fin 128) (l : Fin 256) :
    (outsAt0 m c t.val t.isLt).1 (ix2 (row4 k s) (left l)) = ((du (uq P (qn (4 * t.val + k.val))) (vq P (qn (4 * t.val + k.val))) (aq D (qn (4 * t.val + k.val))) L B W S s l : ℝ) : EReal) := by
  by_cases h0 : t.val % 8 = 0
  · have e := outA_7_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ (holds H t) ((hcond0_0 t).mpr h0) k s l
    refine (congrFun (at_fst (outsAt0_A m c t h0)) (ix2 (row4 k s) (left l))).trans (Eq.trans e ?_)
    rw [chunk_u, chunk_v, chunk_a]
  · have e := outB_7_left c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2
      (holds H t) (fun q => h0 ((hcond0_0 t).mp q)) k s l
    refine (congrFun (at_fst (outsAt0_B m c t h0)) (ix2 (row4 k s) (left l))).trans (Eq.trans e ?_)
    rw [chunk_u, chunk_v, chunk_a]

/-- The gradient array, left half. -/
theorem final7_left (H : Args m c P D L B W S) (q : Fin 32) (s : Fin 128) (l : Fin 256) :
    ((dats m 0 c).arrAt 7 cfg0.N : FVec Ideal S4096x512 .f32) (ix2 (rowq q s) (left l)) = ((du (uq P q) (vq P q) (aq D q) L B W S s l : ℝ) : EReal) := by
  have hN : cfg0.N = 8 := N_0
  obtain ⟨t, k, hq⟩ : ∃ (t : Fin cfg0.N) (k : Fin 4), qn (4 * t.val + k.val) = q :=
    ⟨⟨q.val / 4, by omega⟩, ⟨q.val % 4, by omega⟩, Fin.ext (by simp only [qn]; omega)⟩
  have h := congrFun (Value.blocks7 m c t (flush0_7 t)) (ix2 (row4 k s) (left l) : S512x512.Idx)
  rw [View.read_apply, Value.flushed7] at h
  have e := emb7 t (row4 k s) (left l)
  rw [row_eq, hq] at e
  have o := out7_left m c H t k s l
  rw [hq] at o
  exact (congrArg ((dats m 0 c).arrAt 7 cfg0.N) e).symm.trans (h.trans o)

/-- What a point leaves in the gradient block, right half. -/
theorem out7_right (H : Args m c P D L B W S) (t : Fin cfg0.N) (k : Fin 4) (s : Fin 128) (l : Fin 256) :
    (outsAt0 m c t.val t.isLt).1 (ix2 (row4 k s) (right l)) = ((dv (uq P (qn (4 * t.val + k.val))) (vq P (qn (4 * t.val + k.val))) (aq D (qn (4 * t.val + k.val))) L W s l : ℝ) : EReal) := by
  by_cases h0 : t.val % 8 = 0
  · have e := outA_7_right c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _ (holds H t) ((hcond0_0 t).mpr h0) k s l
    refine (congrFun (at_fst (outsAt0_A m c t h0)) (ix2 (row4 k s) (right l))).trans (Eq.trans e ?_)
    rw [chunk_u, chunk_v, chunk_a]
  · have e := outB_7_right c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ _ _ _ _ _ _
      (outsAt0 m c (t.val - 1) (Nat.lt_of_le_of_lt (Nat.sub_le _ _) t.isLt)).2.1 (outsAt0 m c (t.val - 1) (Nat.lt_of_le_of_lt (Nat.sub_le _ _) t.isLt)).2.2.1
      (outsAt0 m c (t.val - 1) (Nat.lt_of_le_of_lt (Nat.sub_le _ _) t.isLt)).2.2.2.1 (outsAt0 m c (t.val - 1) (Nat.lt_of_le_of_lt (Nat.sub_le _ _) t.isLt)).2.2.2.2
      (holds H t) (fun q => h0 ((hcond0_0 t).mp q)) k s l
    refine (congrFun (at_fst (outsAt0_B m c t h0)) (ix2 (row4 k s) (right l))).trans (Eq.trans e ?_)
    rw [chunk_u, chunk_v, chunk_a]

/-- The gradient array, right half. -/
theorem final7_right (H : Args m c P D L B W S) (q : Fin 32) (s : Fin 128) (l : Fin 256) :
    ((dats m 0 c).arrAt 7 cfg0.N : FVec Ideal S4096x512 .f32) (ix2 (rowq q s) (right l)) = ((dv (uq P q) (vq P q) (aq D q) L W s l : ℝ) : EReal) := by
  have hN : cfg0.N = 8 := N_0
  obtain ⟨t, k, hq⟩ : ∃ (t : Fin cfg0.N) (k : Fin 4), qn (4 * t.val + k.val) = q :=
    ⟨⟨q.val / 4, by omega⟩, ⟨q.val % 4, by omega⟩, Fin.ext (by simp only [qn]; omega)⟩
  have h := congrFun (Value.blocks7 m c t (flush0_7 t)) (ix2 (row4 k s) (right l) : S512x512.Idx)
  rw [View.read_apply, Value.flushed7] at h
  have e := emb7 t (row4 k s) (right l)
  rw [row_eq, hq] at e
  have o := out7_right m c H t k s l
  rw [hq] at o
  exact (congrArg ((dats m 0 c).arrAt 7 cfg0.N) e).symm.trans (h.trans o)

end Cert.KernelIdeal.Gate
-- ==== Proof.Gate.Pre.lean ====
/-
What the precondition says: the entries of the arguments that the kernel reads are real numbers.
-/
module

public import proofs.«01_k».proof.Proof.Gate.Blocks
public import proofs.«01_k».proof.Proof.Gen.Pre_finite
public import proofs.«01_k».proof.Defs
public import Idealize.ShloMosaic.Lib.KernelVsHost

@[expose] public section

noncomputable section

namespace Cert.KernelIdeal.Gate

open Idealize.ShloMosaic hiding ix0 ix1 ix2 ix3 ix4 ix5
open Idealize.ShloMosaic.ValueIdx Idealize.ShloMosaic.TcCoe Idealize.SL.Sem Cert.KernelIdeal.Gen Cert.Gate

/-- A value whose magnitude is below infinity is a real number. -/
theorem real_of_finite (x : Ideal .f32)
    (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  have hw : ¬ ((x : EReal) = ⊤ ∨ (x : EReal) = ⊥) := fun hw => by
    have e : FloatOps.weird x = 1#1 := by
      show BitVec.ofBool (decide ((x : EReal) = ⊤ ∨ (x : EReal) = ⊥)) = 1#1
      rw [decide_eq_true hw]; rfl
    rw [e] at h
    exact absurd h (by decide)
  exact (EReal.coe_toReal (fun e => hw (Or.inl e)) fun e => hw (Or.inr e)).symm

variable (m : (ℓ : Loc nD τ sig) → Buf (Elt Ideal) ℓ) (c : Dev nD)

/-- The arguments' real entries, by the names the closed forms use. -/
def realP (r : Fin 4096) (l : Fin 512) : ℝ :=
  EReal.toReal ((m ((c : Thread nD τ).loc main_arg0) : FVec Ideal S4096x2816 .f32) (ix2 r ⟨l.val, by omega⟩))
def realD (r : Fin 4096) (l : Fin 256) : ℝ :=
  EReal.toReal ((m ((c : Thread nD τ).loc main_arg1) : FVec Ideal S4096x1024 .f32) (ix2 r ⟨l.val, by omega⟩))
def realL (l : Fin 256) : ℝ :=
  EReal.toReal ((m ((c : Thread nD τ).loc main_arg2) : FVec Ideal S1x4x64 .f32) (ix3 0 (grp l) ⟨l.val % 64, by omega⟩))
def realB (l : Fin 256) : ℝ :=
  EReal.toReal ((m ((c : Thread nD τ).loc main_arg3) : FVec Ideal S1x4x64 .f32) (ix3 0 (grp l) ⟨l.val % 64, by omega⟩))
def realW (g : Fin 4) (s j : Fin 128) : ℝ :=
  EReal.toReal ((m ((c : Thread nD τ).loc main_arg4) : FVec Ideal S1x4x128x128 .f32) (ix4 0 g s j))
def realS (s : Fin 128) (g : Fin 4) : ℝ :=
  EReal.toReal ((m ((c : Thread nD τ).loc main_arg5) : FVec Ideal S1x4x128 .f32) (ix3 0 g s))

theorem place_col (g : Fin 4) (d : Fin 64) : (⟨(col g d).val % 64, by omega⟩ : Fin 64) = d :=
  Fin.ext (by dsimp only [col]; omega)

theorem args_of_pre (h : Cert.Pre_KernelIdeal_finite (hPre_finite := Cert.Pre_finite.Gen.facts) m) :
    Args m c (realP m c) (realD m c) (realL m c) (realB m c) (realW m c) (realS m c) := by
  obtain ⟨h0, h1, h2, h3, h4, h5⟩ := h c
  refine ⟨fun r l => ?_, fun r l => ?_, fun g d => ?_, fun g d => ?_, fun g s j => ?_, fun g s => ?_⟩
  · have e := congrFun h0 (ix2 r l)
    have hs := extractStridedSlice_apply (α := Ideal .f32) ![0, 0] (m ((c : Thread nD τ).loc main_arg0) : FVec Ideal S4096x2816 .f32)
      Cert.Pre_finite.Gen.facts.slices_S4096x2816_S4096x512_0_0 (ix2 r l) (ix2 r ⟨l.val, by omega⟩) (fun a => match a with
        | ⟨0, _⟩ => by show r.val = 0 + r.val; omega
        | ⟨1, _⟩ => by show l.val = 0 + l.val; omega)
    exact real_of_finite _ ((congrArg (fun x : Ideal .f32 => FloatOps.cmpf .olt (FloatOps.hostAbsf x) (FloatOps.ofBits (F := Ideal) .f32 0x7F800000#32)) hs.symm).trans e)
  · have e := congrFun h1 (ix2 r l)
    have hs := extractStridedSlice_apply (α := Ideal .f32) ![0, 0] (m ((c : Thread nD τ).loc main_arg1) : FVec Ideal S4096x1024 .f32)
      Cert.Pre_finite.Gen.facts.slices_S4096x1024_S4096x256_0_0 (ix2 r l) (ix2 r ⟨l.val, by omega⟩) (fun a => match a with
        | ⟨0, _⟩ => by show r.val = 0 + r.val; omega
        | ⟨1, _⟩ => by show l.val = 0 + l.val; omega)
    exact real_of_finite _ ((congrArg (fun x : Ideal .f32 => FloatOps.cmpf .olt (FloatOps.hostAbsf x) (FloatOps.ofBits (F := Ideal) .f32 0x7F800000#32)) hs.symm).trans e)
  · rw [realL, grp_col, place_col]
    exact real_of_finite _ (congrFun h2 (ix3 0 g d))
  · rw [realB, grp_col, place_col]
    exact real_of_finite _ (congrFun h3 (ix3 0 g d))
  · exact real_of_finite _ (congrFun h4 (ix4 0 g s j))
  · exact real_of_finite _ (congrFun h5 (ix3 0 g s))

end Cert.KernelIdeal.Gate
-- ==== Proof.Gate.RefAct.lean ====
/-
The reference's arguments as reals, and its activations and their derivatives at an index of a chunk.
-/
module

public import proofs.«01_k».proof.Proof.Gate.Lits
public import proofs.«01_k».proof.Proof.Gen.ReferenceIdeal.Read

@[expose] public section

noncomputable section

namespace Cert.ReferenceIdeal.Gate

open Idealize.ShloMosaic Idealize.ShloMosaic.ValueIdx Cert.ReferenceIdeal.Gen Cert.ReferenceIdeal.Read Cert.Gate

/-- Row s of chunk q, group g, place d. -/
def at4 (q : Fin 32) (s : Fin 128) (g : Fin 4) (d : Fin 64) : S2x2048x4x64.Idx :=
  ix4 (⟨q.val / 16, by omega⟩ : Fin 2) (⟨128 * (q.val % 16) + s.val, by omega⟩ : Fin 2048) g d
/-- The same row and group, with a last axis of size one. -/
def at41 (q : Fin 32) (s : Fin 128) (g : Fin 4) : S2x2048x4x1.Idx :=
  ix4 (⟨q.val / 16, by omega⟩ : Fin 2) (⟨128 * (q.val % 16) + s.val, by omega⟩ : Fin 2048) g (0 : Fin 1)
/-- The same row and group, without a last axis. -/
def at3 (q : Fin 32) (s : Fin 128) (g : Fin 4) : S2x2048x4.Idx :=
  ix3 (⟨q.val / 16, by omega⟩ : Fin 2) (⟨128 * (q.val % 16) + s.val, by omega⟩ : Fin 2048) g
/-- The same element where the chunks have an axis of their own. -/
def at5 (q : Fin 32) (s : Fin 128) (g : Fin 4) (d : Fin 64) : S2x16x128x4x64.Idx :=
  ix5 (⟨q.val / 16, by omega⟩ : Fin 2) (⟨q.val % 16, by omega⟩ : Fin 16) s g d
/-- The same element where the group comes first and the row last. -/
def atT (q : Fin 32) (s : Fin 128) (g : Fin 4) (d : Fin 64) : S4x2x16x64x128.Idx :=
  ix5 g (⟨q.val / 16, by omega⟩ : Fin 2) (⟨q.val % 16, by omega⟩ : Fin 16) d s

/-- The arguments hold these reals: the first 512 lanes of the projection, the first 256 lanes of the mixed
    gradient, the gain, the bias, the spatial weights and the spatial bias. -/
structure Reals (x0 : (⟨S4096x2816, .f32⟩ : BufTy).Contents (Elt Ideal)) (x1 : (⟨S4096x1024, .f32⟩ : BufTy).Contents (Elt Ideal))
    (x2 x3 : (⟨S1x4x64, .f32⟩ : BufTy).Contents (Elt Ideal)) (x4 : (⟨S1x4x128x128, .f32⟩ : BufTy).Contents (Elt Ideal))
    (x5 : (⟨S1x4x128, .f32⟩ : BufTy).Contents (Elt Ideal))
    (P : Fin 4096 → Fin 512 → ℝ) (D : Fin 4096 → Fin 256 → ℝ) (L B : Fin 256 → ℝ)
    (W : Fin 4 → Fin 128 → Fin 128 → ℝ) (S : Fin 128 → Fin 4 → ℝ) : Prop where
  h0 : ∀ r (l : Fin 512), x0 (ix2 r (⟨l.val, by omega⟩ : Fin 2816)) = ((P r l : ℝ) : EReal)
  h1 : ∀ r (l : Fin 256), x1 (ix2 r (⟨l.val, by omega⟩ : Fin 1024)) = ((D r l : ℝ) : EReal)
  h2 : ∀ g d, x2 (ix3 (0 : Fin 1) g d) = ((L (col g d) : ℝ) : EReal)
  h3 : ∀ g d, x3 (ix3 (0 : Fin 1) g d) = ((B (col g d) : ℝ) : EReal)
  h4 : ∀ g s j, x4 (ix4 (0 : Fin 1) g s j) = ((W g s j : ℝ) : EReal)
  h5 : ∀ g s, x5 (ix3 (0 : Fin 1) g s) = ((S s g : ℝ) : EReal)

variable {x0 : (⟨S4096x2816, .f32⟩ : BufTy).Contents (Elt Ideal)} {x1 : (⟨S4096x1024, .f32⟩ : BufTy).Contents (Elt Ideal)}
    {x2 x3 : (⟨S1x4x64, .f32⟩ : BufTy).Contents (Elt Ideal)} {x4 : (⟨S1x4x128x128, .f32⟩ : BufTy).Contents (Elt Ideal)}
    {x5 : (⟨S1x4x128, .f32⟩ : BufTy).Contents (Elt Ideal)}
    {P : Fin 4096 → Fin 512 → ℝ} {D : Fin 4096 → Fin 256 → ℝ} {L B : Fin 256 → ℝ}
    {W : Fin 4 → Fin 128 → Fin 128 → ℝ} {S : Fin 128 → Fin 4 → ℝ}

theorem u_at (H : Reals x0 x1 x2 x3 x4 x5 P D L B W S) (q : Fin 32) (s : Fin 128) (g : Fin 4) (d : Fin 64) :
    val_main_v2 (F := Ideal) x0 (at4 q s g d) = ((uq P q s (col g d) : ℝ) : EReal) := by
  rw [val_main_v2_apply, val_main_v1_apply, val_main_v0_apply]
  refine (congrArg x0 ?_).trans (H.h0 (rowq q s) (left (col g d)))
  have hg : g.val < 4 := g.isLt
  have hd : d.val < 64 := d.isLt
  funext a; apply Fin.ext
  match a with
  | ⟨0, _⟩ => dsimp only [at4, ix2, ix4, rowq]; omega
  | ⟨1, _⟩ => dsimp only [at4, ix2, ix4, left, col]; omega

theorem v_at (H : Reals x0 x1 x2 x3 x4 x5 P D L B W S) (q : Fin 32) (s : Fin 128) (g : Fin 4) (d : Fin 64) :
    val_main_v4 (F := Ideal) x0 (at4 q s g d) = ((vq P q s (col g d) : ℝ) : EReal) := by
  rw [val_main_v4_apply, val_main_v3_apply, val_main_v0_apply]
  refine (congrArg x0 ?_).trans (H.h0 (rowq q s) (right (col g d)))
  have hg : g.val < 4 := g.isLt
  have hd : d.val < 64 := d.isLt
  funext a; apply Fin.ext
  match a with
  | ⟨0, _⟩ => dsimp only [at4, ix2, ix4, rowq]; omega
  | ⟨1, _⟩ => dsimp only [at4, ix2, ix4, right, col]; omega

theorem a_at (H : Reals x0 x1 x2 x3 x4 x5 P D L B W S) (q : Fin 32) (s : Fin 128) (g : Fin 4) (d : Fin 64) :
    val_main_v7 (F := Ideal) x1 (at4 q s g d) = ((aq D q s (col g d) : ℝ) : EReal) := by
  rw [val_main_v7_apply, val_main_v6_apply, val_main_v5_apply]
  refine (congrArg x1 ?_).trans (H.h1 (rowq q s) (col g d))
  have hg : g.val < 4 := g.isLt
  have hd : d.val < 64 := d.isLt
  funext a; apply Fin.ext
  match a with
  | ⟨0, _⟩ => dsimp only [at4, ix2, ix4, rowq]; omega
  | ⟨1, _⟩ => dsimp only [at4, ix2, ix4, col]; omega

/-- The tanh of the first half's cubic. -/
theorem tanh_u {i : S2x2048x4x64.Idx} {x : ℝ} (h : val_main_v2 (F := Ideal) x0 i = (x : EReal)) :
    val_main_v22 (F := Ideal) x0 i = ((th x : ℝ) : EReal) := by
  simp only [val_main_v22_apply, val_main_v21_apply, val_main_v20_apply, val_main_v19_apply, val_main_v18_apply, val_main_v17_apply,
    val_main_v13_apply, val_main_v12_apply, val_main_cst_0_apply, val_main_cst_1_apply, h, Ideal.mulf_def, Ideal.addf_def,
    Ideal.hostUnary_tanh_def, Ideal.ofBits_def, lit_c0, lit_c1, ← EReal.coe_mul, ← EReal.coe_add, Ideal.tanh_coe]
  refine congrArg (fun r : ℝ => ((Real.tanh r : ℝ) : EReal)) ?_
  ring

theorem tanh_v {i : S2x2048x4x64.Idx} {x : ℝ} (h : val_main_v4 (F := Ideal) x0 i = (x : EReal)) :
    val_main_v43 (F := Ideal) x0 i = ((th x : ℝ) : EReal) := by
  simp only [val_main_v43_apply, val_main_v42_apply, val_main_v41_apply, val_main_v40_apply, val_main_v39_apply, val_main_v38_apply,
    val_main_v34_apply, val_main_v33_apply, val_main_cst_7_apply, val_main_cst_8_apply, h, Ideal.mulf_def, Ideal.addf_def,
    Ideal.hostUnary_tanh_def, Ideal.ofBits_def, lit_c0, lit_c1, ← EReal.coe_mul, ← EReal.coe_add, Ideal.tanh_coe]
  refine congrArg (fun r : ℝ => ((Real.tanh r : ℝ) : EReal)) ?_
  ring

/-- Half of one plus that tanh. -/
theorem half_u {i : S2x2048x4x64.Idx} {x : ℝ} (h : val_main_v2 (F := Ideal) x0 i = (x : EReal)) :
    val_main_v31 (F := Ideal) x0 i = ((hf x : ℝ) : EReal) := by
  simp only [val_main_v31_apply, val_main_v30_apply, val_main_v29_apply, val_main_v28_apply, val_main_cst_4_apply, val_main_cst_5_apply,
    tanh_u h, Ideal.mulf_def, Ideal.addf_def, Ideal.ofBits_def, lit_half, lit_one, ← EReal.coe_mul, ← EReal.coe_add]
  refine congrArg (fun r : ℝ => (r : EReal)) ?_
  rw [hf]; ring

theorem half_v {i : S2x2048x4x64.Idx} {x : ℝ} (h : val_main_v4 (F := Ideal) x0 i = (x : EReal)) :
    val_main_v52 (F := Ideal) x0 i = ((hf x : ℝ) : EReal) := by
  simp only [val_main_v52_apply, val_main_v51_apply, val_main_v50_apply, val_main_v49_apply, val_main_cst_11_apply, val_main_cst_12_apply,
    tanh_v h, Ideal.mulf_def, Ideal.addf_def, Ideal.ofBits_def, lit_half, lit_one, ← EReal.coe_mul, ← EReal.coe_add]
  refine congrArg (fun r : ℝ => (r : EReal)) ?_
  rw [hf]; ring

theorem gelu_u {i : S2x2048x4x64.Idx} {x : ℝ} (h : val_main_v2 (F := Ideal) x0 i = (x : EReal)) :
    val_main_v32 (F := Ideal) x0 i = ((gelu x : ℝ) : EReal) := by
  simp only [val_main_v32_apply, half_u h, h, Ideal.mulf_def, ← EReal.coe_mul]
  rfl

theorem gelu_v {i : S2x2048x4x64.Idx} {x : ℝ} (h : val_main_v4 (F := Ideal) x0 i = (x : EReal)) :
    val_main_v53 (F := Ideal) x0 i = ((gelu x : ℝ) : EReal) := by
  simp only [val_main_v53_apply, half_v h, h, Ideal.mulf_def, ← EReal.coe_mul]
  rfl

/-- The gradient `y` of the first half's activation, carried to the first half. -/
theorem back_u {i : S2x2048x4x64.Idx} {x y : ℝ} (h : val_main_v2 (F := Ideal) x0 i = (x : EReal))
    (hy : val_main_v98 (F := Ideal) x0 x1 x2 x3 x4 x5 i = (y : EReal)) :
    val_main_v167 (F := Ideal) x0 x1 x2 x3 x4 x5 i = ((y * dgelu x : ℝ) : EReal) := by
  simp only [val_main_v167_apply, val_main_v166_apply, val_main_v165_apply, val_main_v164_apply, val_main_v163_apply, val_main_v162_apply,
    val_main_v161_apply, val_main_v160_apply, val_main_v159_apply, val_main_v158_apply, val_main_v157_apply, val_main_v156_apply,
    val_main_v27_apply, val_main_v26_apply, val_main_v25_apply, val_main_v24_apply, val_main_v23_apply, val_main_v16_apply, val_main_v15_apply, val_main_v14_apply,
    val_main_cst_apply, val_main_cst_2_apply, val_main_cst_3_apply, val_main_cst_37_apply, val_main_cst_38_apply, val_main_cst_39_apply,
    half_u h, tanh_u h, h, hy, Ideal.mulf_def, Ideal.addf_def, Ideal.subf_def, Ideal.ofBits_def, lit_half, lit_one, lit_three, lit_c0, lit_c1,
    ← EReal.coe_mul, ← EReal.coe_add, ← EReal.coe_sub]
  refine congrArg (fun r : ℝ => (r : EReal)) ?_
  rw [dgelu]; ring

theorem back_v {i : S2x2048x4x64.Idx} {x y : ℝ} (h : val_main_v4 (F := Ideal) x0 i = (x : EReal))
    (hy : val_main_v143 (F := Ideal) x0 x1 x2 x4 i = (y : EReal)) :
    val_main_v155 (F := Ideal) x0 x1 x2 x4 i = ((y * dgelu x : ℝ) : EReal) := by
  simp only [val_main_v155_apply, val_main_v154_apply, val_main_v153_apply, val_main_v152_apply, val_main_v151_apply, val_main_v150_apply,
    val_main_v149_apply, val_main_v148_apply, val_main_v147_apply, val_main_v146_apply, val_main_v145_apply, val_main_v144_apply,
    val_main_v48_apply, val_main_v47_apply, val_main_v46_apply, val_main_v45_apply, val_main_v44_apply, val_main_v37_apply, val_main_v36_apply, val_main_v35_apply,
    val_main_cst_6_apply, val_main_cst_9_apply, val_main_cst_10_apply, val_main_cst_34_apply, val_main_cst_35_apply, val_main_cst_36_apply,
    half_v h, tanh_v h, h, hy, Ideal.mulf_def, Ideal.addf_def, Ideal.subf_def, Ideal.ofBits_def, lit_half, lit_one, lit_three, lit_c0, lit_c1,
    ← EReal.coe_mul, ← EReal.coe_add, ← EReal.coe_sub]
  refine congrArg (fun r : ℝ => (r : EReal)) ?_
  rw [dgelu]; ring

end Cert.ReferenceIdeal.Gate
-- ==== Proof.Gate.RefNorm.lean ====
/-
The reference's normalisation and spatial gate at an index of a chunk.
-/
module

public import proofs.«01_k».proof.Proof.Gate.RefAct

@[expose] public section

noncomputable section

namespace Cert.ReferenceIdeal.Gate

open Idealize.ShloMosaic Idealize.ShloMosaic.ValueIdx Cert.ReferenceIdeal.Gen Cert.ReferenceIdeal.Read Cert.Gate
open scoped BigOperators

variable {x0 : (⟨S4096x2816, .f32⟩ : BufTy).Contents (Elt Ideal)} {x1 : (⟨S4096x1024, .f32⟩ : BufTy).Contents (Elt Ideal)}
    {x2 x3 : (⟨S1x4x64, .f32⟩ : BufTy).Contents (Elt Ideal)} {x4 : (⟨S1x4x128x128, .f32⟩ : BufTy).Contents (Elt Ideal)}
    {x5 : (⟨S1x4x128, .f32⟩ : BufTy).Contents (Elt Ideal)}
    {P : Fin 4096 → Fin 512 → ℝ} {D : Fin 4096 → Fin 256 → ℝ} {L B : Fin 256 → ℝ}
    {W : Fin 4 → Fin 128 → Fin 128 → ℝ} {S : Fin 128 → Fin 4 → ℝ}

/-- A sum of real numbers from zero, read among the extended reals. -/
theorem zero_add_sum {ι : Type*} [Fintype ι] {f : ι → EReal} {r : ι → ℝ} (h : ∀ k, f k = ((r k : ℝ) : EReal)) :
    Ideal.ofBits .f32 0x00000000#32 + ∑ k, f k = ((∑ k, r k : ℝ) : EReal) := by
  rw [Ideal.ofBits_zero_f32, zero_add, coe_sum]
  exact Finset.sum_congr rfl fun k _ => h k

/-- Over 64 is times 1/64. -/
theorem div_64 (x : ℝ) : Ideal.div (x : EReal) (Ideal.ofBits .f32 0x42800000#32) = ((x * (1 / 64) : ℝ) : EReal) := by
  rw [lit_64, Ideal.div_coe (by norm_num), ← EReal.coe_mul]

/-- The mean of `f` over group `g`. -/
def gm (f : Fin 256 → ℝ) (g : Fin 4) : ℝ := (∑ d, f (col g d)) * (1 / 64)

theorem gmean_col (f : Fin 256 → ℝ) (g : Fin 4) (d : Fin 64) : gmean f (col g d) = gm f g := by
  simp only [gmean, gm, grp_col]

theorem i54 (q : Fin 32) (s : Fin 128) (g : Fin 4) (k : Fin 64) : idx_main_v54 (at3 q s g) k = at4 q s g k := by
  funext a; match a with | ⟨0, _⟩ => rfl | ⟨1, _⟩ => rfl | ⟨2, _⟩ => rfl | ⟨3, _⟩ => rfl
theorem i55 (q : Fin 32) (s : Fin 128) (g : Fin 4) : idx_main_v55 (at41 q s g) = at3 q s g := by
  funext a; match a with | ⟨0, _⟩ => rfl | ⟨1, _⟩ => rfl | ⟨2, _⟩ => rfl
theorem i58 (q : Fin 32) (s : Fin 128) (g : Fin 4) (d : Fin 64) : idx_main_v58 (at4 q s g d) = at41 q s g := by
  funext a; match a with | ⟨0, _⟩ => rfl | ⟨1, _⟩ => rfl | ⟨2, _⟩ => rfl | ⟨3, _⟩ => rfl

/-- The group's mean of the activated second half. -/
theorem mean_at (H : Reals x0 x1 x2 x3 x4 x5 P D L B W S) (q : Fin 32) (s : Fin 128) (g : Fin 4) :
    val_main_v57 (F := Ideal) x0 (at41 q s g) = ((gm (fun k => gelu (vq P q s k)) g : ℝ) : EReal) := by
  rw [val_main_v57_apply, val_main_v55_apply, i55, val_main_v54_apply, val_main_v56_apply, val_main_cst_13_apply, val_main_cst_14_apply]
  simp only [Ideal.ofBits_def, Ideal.hostDivf_def]
  rw [zero_add_sum (fun k => by rw [i54]; exact gelu_v (v_at H q s g k)), div_64]
  rfl

/-- The activated second half less its group's mean. -/
theorem cent_at (H : Reals x0 x1 x2 x3 x4 x5 P D L B W S) (q : Fin 32) (s : Fin 128) (g : Fin 4) (d : Fin 64) :
    val_main_v59 (F := Ideal) x0 (at4 q s g d) = ((xc (vq P q) s (col g d) : ℝ) : EReal) := by
  rw [val_main_v59_apply, val_main_v58_apply, i58, mean_at H, gelu_v (v_at H q s g d), Ideal.subf_def, ← EReal.coe_sub, xc, gmean_col]

theorem cent2_at (H : Reals x0 x1 x2 x3 x4 x5 P D L B W S) (q : Fin 32) (s : Fin 128) (g : Fin 4) (d : Fin 64) :
    val_main_v68 (F := Ideal) x0 (at4 q s g d) = ((xc (vq P q) s (col g d) : ℝ) : EReal) := by
  rw [val_main_v68_apply, val_main_v67_apply, show idx_main_v67 (at4 q s g d) = at41 q s g from i58 q s g d, mean_at H, gelu_v (v_at H q s g d),
    Ideal.subf_def, ← EReal.coe_sub, xc, gmean_col]

/-- The group's mean of squares and the additive constant. -/
def ve (V : Fin 128 → Fin 256 → ℝ) (s : Fin 128) (g : Fin 4) : ℝ := gm (fun k => xc V s k * xc V s k) g + eps
/-- One over its root. -/
def rg (V : Fin 128 → Fin 256 → ℝ) (s : Fin 128) (g : Fin 4) : ℝ := (Real.sqrt (ve V s g))⁻¹

theorem ve_pos (V s g) : 0 < ve V s g := by
  have h := var_pos V s (col g 0)
  rw [gmean_col] at h
  exact h

theorem rs_col (V s g d) : rs V s (col g d) = rg V s g := by rw [rs, gmean_col]; rfl

theorem ve_at (H : Reals x0 x1 x2 x3 x4 x5 P D L B W S) (q : Fin 32) (s : Fin 128) (g : Fin 4) :
    val_main_v70 (F := Ideal) x0 (at41 q s g) = ((ve (vq P q) s g : ℝ) : EReal) := by
  rw [val_main_v70_apply, val_main_v69_apply, val_main_v66_apply, val_main_v65_apply, val_main_v64_apply,
    show idx_main_v64 (at41 q s g) = at3 q s g from i55 q s g, val_main_v63_apply, val_main_cst_16_apply, val_main_cst_17_apply, val_main_cst_18_apply]
  simp only [Ideal.ofBits_def, Ideal.hostDivf_def, Ideal.addf_def]
  rw [zero_add_sum (r := fun k => xc (vq P q) s (col g k) * xc (vq P q) s (col g k)) (fun k => by
      rw [show idx_main_v63 (at3 q s g) k = at4 q s g k from i54 q s g k, val_main_v60_apply, cent_at H, Ideal.mulf_def, ← EReal.coe_mul]),
    div_64, lit_eps, ← EReal.coe_add]
  rfl

theorem rs_at (H : Reals x0 x1 x2 x3 x4 x5 P D L B W S) (q : Fin 32) (s : Fin 128) (g : Fin 4) :
    val_main_v71 (F := Ideal) x0 (at41 q s g) = ((rg (vq P q) s g : ℝ) : EReal) := by
  rw [val_main_v71_apply, ve_at H, Ideal.hostUnary_rsqrt_def, Ideal.rsqrt_coe, if_neg (not_lt.mpr (ve_pos _ _ _).le), if_neg (ve_pos _ _ _).ne']
  rfl

/-- The normalised value. -/
theorem vh_at (H : Reals x0 x1 x2 x3 x4 x5 P D L B W S) (q : Fin 32) (s : Fin 128) (g : Fin 4) (d : Fin 64) :
    val_main_v76 (F := Ideal) x0 (at4 q s g d) = ((vh (vq P q) s (col g d) : ℝ) : EReal) := by
  rw [val_main_v76_apply, cent2_at H, val_main_v75_apply, show idx_main_v75 (at4 q s g d) = at41 q s g from i58 q s g d, rs_at H,
    Ideal.mulf_def, ← EReal.coe_mul, vh, rs_col]

/-- The gain at an index. -/
theorem gain_at (H : Reals x0 x1 x2 x3 x4 x5 P D L B W S) (q : Fin 32) (s : Fin 128) (g : Fin 4) (d : Fin 64) :
    val_main_v78 (F := Ideal) x2 (at4 q s g d) = ((L (col g d) : ℝ) : EReal) := by
  rw [val_main_v78_apply, val_main_v77_apply, val_main_v8_apply]
  refine (congrArg x2 ?_).trans (H.h2 g d)
  have hq : q.val < 32 := q.isLt
  have hs : s.val < 128 := s.isLt
  have hg : g.val < 4 := g.isLt
  have hd : d.val < 64 := d.isLt
  funext a; apply Fin.ext
  match a with
  | ⟨0, _⟩ => rfl
  | ⟨1, _⟩ => dsimp only [at4, ix3, ix4]; omega
  | ⟨2, _⟩ => dsimp only [at4, ix3, ix4]; omega

theorem bias_at (H : Reals x0 x1 x2 x3 x4 x5 P D L B W S) (q : Fin 32) (s : Fin 128) (g : Fin 4) (d : Fin 64) :
    val_main_v81 (F := Ideal) x3 (at4 q s g d) = ((B (col g d) : ℝ) : EReal) := by
  rw [val_main_v81_apply, val_main_v80_apply, val_main_v9_apply]
  refine (congrArg x3 ?_).trans (H.h3 g d)
  have hq : q.val < 32 := q.isLt
  have hs : s.val < 128 := s.isLt
  have hg : g.val < 4 := g.isLt
  have hd : d.val < 64 := d.isLt
  funext a; apply Fin.ext
  match a with
  | ⟨0, _⟩ => rfl
  | ⟨1, _⟩ => dsimp only [at4, ix3, ix4]; omega
  | ⟨2, _⟩ => dsimp only [at4, ix3, ix4]; omega

/-- The normalised value with gain and bias. -/
theorem vn_at (H : Reals x0 x1 x2 x3 x4 x5 P D L B W S) (q : Fin 32) (s : Fin 128) (g : Fin 4) (d : Fin 64) :
    val_main_v82 (F := Ideal) x0 x2 x3 (at4 q s g d) = ((vn (vq P q) L B s (col g d) : ℝ) : EReal) := by
  rw [val_main_v82_apply, val_main_v79_apply, vh_at H, gain_at H, bias_at H, Ideal.mulf_def, Ideal.addf_def, ← EReal.coe_mul, ← EReal.coe_add]
  rfl

/-- The element's place where the chunks have no axis of their own. -/
theorem i5_4 (q : Fin 32) (s : Fin 128) (g : Fin 4) (d : Fin 64) : idx_main_v83 (at5 q s g d) = at4 q s g d := by
  have hq : q.val < 32 := q.isLt
  have hs : s.val < 128 := s.isLt
  have hg : g.val < 4 := g.isLt
  have hd : d.val < 64 := d.isLt
  funext a; apply Fin.ext
  match a with
  | ⟨0, _⟩ => dsimp only [at4, at5, ix4, ix5]; omega
  | ⟨1, _⟩ => dsimp only [at4, at5, ix4, ix5]; omega
  | ⟨2, _⟩ => dsimp only [at4, at5, ix4, ix5]; omega
  | ⟨3, _⟩ => dsimp only [at4, at5, ix4, ix5]; omega

theorem i4_5 (q : Fin 32) (s : Fin 128) (g : Fin 4) (d : Fin 64) : idx_main_v95 (at4 q s g d) = at5 q s g d := by
  have hq : q.val < 32 := q.isLt
  have hs : s.val < 128 := s.isLt
  have hg : g.val < 4 := g.isLt
  have hd : d.val < 64 := d.isLt
  funext a; apply Fin.ext
  match a with
  | ⟨0, _⟩ => dsimp only [at4, at5, ix4, ix5]; omega
  | ⟨1, _⟩ => dsimp only [at4, at5, ix4, ix5]; omega
  | ⟨2, _⟩ => dsimp only [at4, at5, ix4, ix5]; omega
  | ⟨3, _⟩ => dsimp only [at4, at5, ix4, ix5]; omega
  | ⟨4, _⟩ => dsimp only [at4, at5, ix4, ix5]; omega

theorem vn5_at (H : Reals x0 x1 x2 x3 x4 x5 P D L B W S) (q : Fin 32) (s : Fin 128) (g : Fin 4) (d : Fin 64) :
    val_main_v83 (F := Ideal) x0 x2 x3 (at5 q s g d) = ((vn (vq P q) L B s (col g d) : ℝ) : EReal) := by
  rw [val_main_v83_apply, i5_4, vn_at H]

theorem bit_tril : ∀ (s j : Fin 128),
    IntOp.cmpi .sge (IntOp.addi (BitVec.ofNat 32 s.val) 0#32) (BitVec.ofNat 32 j.val) = if j ≤ s then 1#1 else 0#1 := by
  decide +kernel

/-- One on and below the diagonal, zero above. -/
theorem tril_at (s j : Fin 128) : val_main_v85 (F := Ideal) (ix2 s j) = (((if j ≤ s then 1 else 0 : ℝ)) : EReal) := by
  rw [val_main_v85_apply, val_main_call0_v4_apply, val_main_call0_v2_apply, val_main_call0_v1_apply, val_main_call0_c_apply,
    val_main_call0_v0_apply, val_main_call0_v3_apply, val_main_call0_v5_apply, val_main_call0_cst_apply, val_main_v84_apply, val_main_cst_20_apply]
  simp only [Ideal.ofBits_def]
  rw [lit_one, Ideal.ofBits_zero_f32]
  refine (congrArg (fun b => Scalar.select b _ _) (bit_tril s j)).trans ?_
  by_cases h : j ≤ s
  · rw [if_pos h, if_pos h]; rfl
  · rw [if_neg h, if_neg h]; rfl

theorem tril3_at (g : Fin 4) (s j : Fin 128) : val_main_v87 (F := Ideal) (ix3 g s j) = (((if j ≤ s then 1 else 0 : ℝ)) : EReal) := by
  rw [val_main_v87_apply, val_main_v86_apply]
  refine (congrArg (val_main_v85 (F := Ideal)) ?_).trans (tril_at s j)
  funext a; match a with | ⟨0, _⟩ => rfl | ⟨1, _⟩ => rfl

/-- The spatial matrix with zeros above the diagonal. -/
theorem wl_at (H : Reals x0 x1 x2 x3 x4 x5 P D L B W S) (g : Fin 4) (s j : Fin 128) :
    val_main_v88 (F := Ideal) x4 (ix3 g s j) = ((wl W g s j : ℝ) : EReal) := by
  have h : val_main_v10 (F := Ideal) x4 (ix3 g s j) = ((W g s j : ℝ) : EReal) := by
    rw [val_main_v10_apply]
    refine (congrArg x4 ?_).trans (H.h4 g s j)
    have hg : g.val < 4 := g.isLt
    have hs : s.val < 128 := s.isLt
    have hj : j.val < 128 := j.isLt
    funext a; apply Fin.ext
    match a with
    | ⟨0, _⟩ => rfl
    | ⟨1, _⟩ => dsimp only [ix3, ix4]; omega
    | ⟨2, _⟩ => dsimp only [ix3, ix4]; omega
    | ⟨3, _⟩ => dsimp only [ix3, ix4]; omega
  rw [val_main_v88_apply, h, tril3_at, Ideal.mulf_def, ← EReal.coe_mul, wl]
  split <;> simp

/-- The gate. -/
theorem z_at (H : Reals x0 x1 x2 x3 x4 x5 P D L B W S) (q : Fin 32) (s : Fin 128) (g : Fin 4) (d : Fin 64) :
    val_main_v95 (F := Ideal) x0 x2 x3 x4 x5 (at4 q s g d) = ((z (vq P q) L B W S s (col g d) : ℝ) : EReal) := by
  have hb : val_main_v93 (F := Ideal) x5 (at5 q s g d) = ((S s g : ℝ) : EReal) := by
    rw [val_main_v93_apply, val_main_v92_apply, val_main_v91_apply, val_main_v11_apply]
    refine (congrArg x5 ?_).trans (H.h5 g s)
    have hq : q.val < 32 := q.isLt
    have hs : s.val < 128 := s.isLt
    have hg : g.val < 4 := g.isLt
    have hd : d.val < 64 := d.isLt
    funext a; apply Fin.ext
    match a with
    | ⟨0, _⟩ => rfl
    | ⟨1, _⟩ => dsimp only [at5, ix3, ix5]; omega
    | ⟨2, _⟩ => dsimp only [at5, ix3, ix5]; omega
  have hs : val_main_v90 (F := Ideal) x0 x2 x3 x4 (at5 q s g d)
      = ((∑ j, wl W g s j * vn (vq P q) L B j (col g d) : ℝ) : EReal) := by
    rw [val_main_v90_apply, show idx_main_v90 (at5 q s g d) = atT q s g d from by
      funext a; match a with | ⟨0, _⟩ => rfl | ⟨1, _⟩ => rfl | ⟨2, _⟩ => rfl | ⟨3, _⟩ => rfl | ⟨4, _⟩ => rfl, val_main_v89_apply, coe_sum]
    refine Finset.sum_congr rfl fun k _ => ?_
    rw [show lidx_main_v89 (atT q s g d) k = at5 q k g d from by
        funext a; match a with | ⟨0, _⟩ => rfl | ⟨1, _⟩ => rfl | ⟨2, _⟩ => rfl | ⟨3, _⟩ => rfl | ⟨4, _⟩ => rfl,
      show ridx_main_v89 (atT q s g d) k = ix3 g s k from by
        funext a; match a with | ⟨0, _⟩ => rfl | ⟨1, _⟩ => rfl | ⟨2, _⟩ => rfl, vn5_at H, wl_at H, ← EReal.coe_mul, mul_comm]
  rw [val_main_v95_apply, i4_5, val_main_v94_apply, hs, hb, Ideal.addf_def, ← EReal.coe_add, z, grp_col]

end Cert.ReferenceIdeal.Gate
-- ==== Proof.Gate.RefBack.lean ====
/-
The gradients that the reference carries back through its gate and its normalisation, at an index of a chunk.
-/
module

public import proofs.«01_k».proof.Proof.Gate.RefNorm

@[expose] public section

noncomputable section

namespace Cert.ReferenceIdeal.Gate

open Idealize.ShloMosaic Idealize.ShloMosaic.ValueIdx Cert.ReferenceIdeal.Gen Cert.ReferenceIdeal.Read Cert.Gate
open scoped BigOperators

variable {x0 : (⟨S4096x2816, .f32⟩ : BufTy).Contents (Elt Ideal)} {x1 : (⟨S4096x1024, .f32⟩ : BufTy).Contents (Elt Ideal)}
    {x2 x3 : (⟨S1x4x64, .f32⟩ : BufTy).Contents (Elt Ideal)} {x4 : (⟨S1x4x128x128, .f32⟩ : BufTy).Contents (Elt Ideal)}
    {x5 : (⟨S1x4x128, .f32⟩ : BufTy).Contents (Elt Ideal)}
    {P : Fin 4096 → Fin 512 → ℝ} {D : Fin 4096 → Fin 256 → ℝ} {L B : Fin 256 → ℝ}
    {W : Fin 4 → Fin 128 → Fin 128 → ℝ} {S : Fin 128 → Fin 4 → ℝ}

/-- The gradient of the first half's activation. -/
theorem az_at (H : Reals x0 x1 x2 x3 x4 x5 P D L B W S) (q : Fin 32) (s : Fin 128) (g : Fin 4) (d : Fin 64) :
    val_main_v98 (F := Ideal) x0 x1 x2 x3 x4 x5 (at4 q s g d)
      = ((aq D q s (col g d) * z (vq P q) L B W S s (col g d) : ℝ) : EReal) := by
  rw [val_main_v98_apply, a_at H, z_at H, Ideal.mulf_def, ← EReal.coe_mul]

/-- The gradient of the first half. -/
theorem du_at (H : Reals x0 x1 x2 x3 x4 x5 P D L B W S) (q : Fin 32) (s : Fin 128) (g : Fin 4) (d : Fin 64) :
    val_main_v167 (F := Ideal) x0 x1 x2 x3 x4 x5 (at4 q s g d)
      = ((du (uq P q) (vq P q) (aq D q) L B W S s (col g d) : ℝ) : EReal) := by
  rw [back_u (u_at H q s g d) (az_at H q s g d)]
  rfl

/-- The gradient that reaches the gate. -/
theorem dz_at (H : Reals x0 x1 x2 x3 x4 x5 P D L B W S) (q : Fin 32) (s : Fin 128) (g : Fin 4) (d : Fin 64) :
    val_main_v99 (F := Ideal) x0 x1 (at5 q s g d) = ((dz (uq P q) (aq D q) s (col g d) : ℝ) : EReal) := by
  rw [val_main_v99_apply, show idx_main_v99 (at5 q s g d) = at4 q s g d from i5_4 q s g d, val_main_v97_apply, gelu_u (u_at H q s g d), a_at H,
    Ideal.mulf_def, ← EReal.coe_mul, mul_comm]
  rfl

/-- The gradient that reaches the normalised value with gain and bias. -/
theorem dvn5_at (H : Reals x0 x1 x2 x3 x4 x5 P D L B W S) (q : Fin 32) (j : Fin 128) (g : Fin 4) (d : Fin 64) :
    val_main_v107 (F := Ideal) x0 x1 x4 (at5 q j g d) = ((dvn (uq P q) (aq D q) W j (col g d) : ℝ) : EReal) := by
  rw [val_main_v107_apply, show idx_main_v107 (at5 q j g d) = atT q j g d from by
    funext a; match a with | ⟨0, _⟩ => rfl | ⟨1, _⟩ => rfl | ⟨2, _⟩ => rfl | ⟨3, _⟩ => rfl | ⟨4, _⟩ => rfl, val_main_v106_apply, dvn, coe_sum]
  refine Finset.sum_congr rfl fun k _ => ?_
  rw [show lidx_main_v106 (atT q j g d) k = atT q k g d from by
      funext a; match a with | ⟨0, _⟩ => rfl | ⟨1, _⟩ => rfl | ⟨2, _⟩ => rfl | ⟨3, _⟩ => rfl | ⟨4, _⟩ => rfl,
    show ridx_main_v106 (atT q j g d) k = ix3 g k j from by
      funext a; match a with | ⟨0, _⟩ => rfl | ⟨1, _⟩ => rfl | ⟨2, _⟩ => rfl, wl_at H, val_main_v104_apply,
    show idx_main_v104 (atT q k g d) = at5 q k g d from by
      funext a; match a with | ⟨0, _⟩ => rfl | ⟨1, _⟩ => rfl | ⟨2, _⟩ => rfl | ⟨3, _⟩ => rfl | ⟨4, _⟩ => rfl, dz_at H, ← EReal.coe_mul, grp_col, mul_comm]

theorem dvn_at (H : Reals x0 x1 x2 x3 x4 x5 P D L B W S) (q : Fin 32) (j : Fin 128) (g : Fin 4) (d : Fin 64) :
    val_main_v110 (F := Ideal) x0 x1 x4 (at4 q j g d) = ((dvn (uq P q) (aq D q) W j (col g d) : ℝ) : EReal) := by
  rw [val_main_v110_apply, show idx_main_v110 (at4 q j g d) = at5 q j g d from i4_5 q j g d, dvn5_at H]

/-- The gradient that reaches the normalised value. -/
theorem dvh_at (H : Reals x0 x1 x2 x3 x4 x5 P D L B W S) (q : Fin 32) (s : Fin 128) (g : Fin 4) (d : Fin 64) :
    val_main_v118 (F := Ideal) x0 x1 x2 x4 (at4 q s g d) = ((dvh (uq P q) (aq D q) L W s (col g d) : ℝ) : EReal) := by
  rw [val_main_v118_apply, dvn_at H, val_main_v117_apply]
  refine (congrArg (fun w => FloatOps.mulf (F := Ideal) _ w) (gain_at H q s g d)).trans ?_
  rw [Ideal.mulf_def, ← EReal.coe_mul]
  rfl

/-- The gain's gradient before it is summed. -/
theorem gvh_at (H : Reals x0 x1 x2 x3 x4 x5 P D L B W S) (q : Fin 32) (s : Fin 128) (g : Fin 4) (d : Fin 64) :
    val_main_v114 (F := Ideal) x0 x1 x4 (at4 q s g d)
      = ((dvn (uq P q) (aq D q) W s (col g d) * vh (vq P q) s (col g d) : ℝ) : EReal) := by
  rw [val_main_v114_apply, vh_at H, dvn_at H, Ideal.mulf_def, ← EReal.coe_mul, mul_comm]

section Norm
variable (U V A : Fin 128 → Fin 256 → ℝ) (L : Fin 256 → ℝ) (W : Fin 4 → Fin 128 → Fin 128 → ℝ)

/-- The gradient times one over the root. -/
def gr (s : Fin 128) (g : Fin 4) (d : Fin 64) : ℝ := dvh U A L W s (col g d) * rg V s g
/-- The gradient of the group's mean of squares. -/
def gv (s : Fin 128) (g : Fin 4) : ℝ :=
  (∑ d, xc V s (col g d) * dvh U A L W s (col g d)) * (-(1 / 2) * (rg V s g * (1 / ve V s g))) * (1 / 64)
/-- What that gradient gives to a place. -/
def gw (s : Fin 128) (g : Fin 4) (d : Fin 64) : ℝ := gv U V A L W s g * (2 * xc V s (col g d))
/-- The gradient of the group's mean. -/
def gq (s : Fin 128) (g : Fin 4) : ℝ := ((∑ d, -gr U V A L W s g d) + ∑ d, -gw U V A L W s g d) * (1 / 64)

/-- The centred values of a group sum to zero. -/
theorem sum_xc (s : Fin 128) (g : Fin 4) : ∑ d, xc V s (col g d) = 0 := by
  simp only [xc, gmean_col, Finset.sum_sub_distrib, Finset.sum_const, Finset.card_univ, Fintype.card_fin, gm, nsmul_eq_mul]
  push_cast
  ring

theorem rg_sq (s : Fin 128) (g : Fin 4) : rg V s g * rg V s g = 1 / ve V s g := by
  have h := Real.mul_self_sqrt (ve_pos V s g).le
  rw [rg, ← mul_inv, h, one_div]

/-- The gradient of the normalisation's input, in the reference's form and in the closed form. -/
theorem norm_back (s : Fin 128) (g : Fin 4) (d : Fin 64) : gr U V A L W s g d + gw U V A L W s g d + gq U V A L W s g
    = rs V s (col g d) * (dvh U A L W s (col g d) - gmean (fun k => dvh U A L W s k) (col g d)
        - vh V s (col g d) * gmean (fun k => dvh U A L W s k * vh V s k) (col g d)) := by
  have h1 : ∑ d, -gw U V A L W s g d = 0 := by
    simp only [gw]
    rw [Finset.sum_neg_distrib, ← Finset.mul_sum, ← Finset.mul_sum, sum_xc]
    ring
  have h2 : ∑ d, -gr U V A L W s g d = -((∑ d, dvh U A L W s (col g d)) * rg V s g) := by
    simp only [gr]
    rw [Finset.sum_neg_distrib, Finset.sum_mul]
  have h3 : ∑ d, dvh U A L W s (col g d) * vh V s (col g d)
      = (∑ d, xc V s (col g d) * dvh U A L W s (col g d)) * rg V s g := by
    rw [Finset.sum_mul]
    refine Finset.sum_congr rfl fun k _ => ?_
    rw [vh, rs_col]; ring
  rw [gq, h1, h2, gmean_col, gmean_col, gm, gm, h3, vh, rs_col, gr, gw, gv, ← rg_sq]
  ring

end Norm

theorem gr_at (H : Reals x0 x1 x2 x3 x4 x5 P D L B W S) (q : Fin 32) (s : Fin 128) (g : Fin 4) (d : Fin 64) :
    val_main_v124 (F := Ideal) x0 x1 x2 x4 (at4 q s g d) = ((gr (uq P q) (vq P q) (aq D q) L W s g d : ℝ) : EReal) := by
  rw [val_main_v124_apply, dvh_at H, val_main_v123_apply, show idx_main_v123 (at4 q s g d) = at41 q s g from i58 q s g d, rs_at H,
    Ideal.mulf_def, ← EReal.coe_mul]
  rfl

/-- Dropping an axis of size one keeps the element. -/
theorem i122 (q : Fin 32) (s : Fin 128) (g : Fin 4) : idx_main_v122 (at41 q s g) = at3 q s g := by
  have hq : q.val < 32 := q.isLt
  have hs : s.val < 128 := s.isLt
  have hg : g.val < 4 := g.isLt
  funext a; apply Fin.ext
  match a with
  | ⟨0, _⟩ => show (((q.val / 16 * 2048 + (128 * (q.val % 16) + s.val)) * 4 + g.val) * 1 + 0) / 8192 = q.val / 16; omega
  | ⟨1, _⟩ => show (((q.val / 16 * 2048 + (128 * (q.val % 16) + s.val)) * 4 + g.val) * 1 + 0) / 4 % 2048 = 128 * (q.val % 16) + s.val; omega
  | ⟨2, _⟩ => show (((q.val / 16 * 2048 + (128 * (q.val % 16) + s.val)) * 4 + g.val) * 1 + 0) % 4 = g.val; omega

theorem i131 (q : Fin 32) (s : Fin 128) (g : Fin 4) (k : Fin 1) : idx_main_v131 (at3 q s g) k = at41 q s g := by
  funext a
  match a with
  | ⟨0, _⟩ => rfl
  | ⟨1, _⟩ => rfl
  | ⟨2, _⟩ => rfl
  | ⟨3, _⟩ => exact Fin.ext (by have := k.isLt; show k.val = 0; omega)

theorem i132 (q : Fin 32) (s : Fin 128) (g : Fin 4) (d : Fin 64) : idx_main_v132 (at4 q s g d) = at3 q s g := by
  funext a; match a with | ⟨0, _⟩ => rfl | ⟨1, _⟩ => rfl | ⟨2, _⟩ => rfl

/-- A sum over an axis of size one, from zero. -/
theorem zero_add_one {f : Fin 1 → EReal} {r : ℝ} (h : ∀ k, f k = (r : EReal)) :
    Ideal.ofBits .f32 0x00000000#32 + ∑ k, f k = (r : EReal) := by
  rw [Ideal.ofBits_zero_f32, zero_add, Fin.sum_univ_one, h]

theorem gv_at (H : Reals x0 x1 x2 x3 x4 x5 P D L B W S) (q : Fin 32) (s : Fin 128) (g : Fin 4) :
    val_main_v130 (F := Ideal) x0 x1 x2 x4 (at41 q s g) = ((gv (uq P q) (vq P q) (aq D q) L W s g : ℝ) : EReal) := by
  rw [val_main_v130_apply, val_main_v129_apply, val_main_cst_29_apply, val_main_v125_apply, val_main_v122_apply, i122, val_main_v121_apply,
    val_main_cst_27_apply, val_main_v74_apply, val_main_v73_apply, val_main_cst_19_apply, val_main_v72_apply, rs_at H, ve_at H]
  simp only [Ideal.ofBits_def, Ideal.hostDivf_def, Ideal.mulf_def]
  rw [zero_add_sum (r := fun k => xc (vq P q) s (col g k) * dvh (uq P q) (aq D q) L W s (col g k)) (fun k => by
      rw [show idx_main_v121 (at3 q s g) k = at4 q s g k from i54 q s g k, val_main_v120_apply, cent2_at H, dvh_at H, Ideal.mulf_def, ← EReal.coe_mul]),
    Ideal.div_coe (ve_pos _ _ _).ne', lit_mhalf, ← EReal.coe_mul, ← EReal.coe_mul, ← EReal.coe_mul, div_64]
  rfl

theorem gw_at (H : Reals x0 x1 x2 x3 x4 x5 P D L B W S) (q : Fin 32) (s : Fin 128) (g : Fin 4) (d : Fin 64) :
    val_main_v133 (F := Ideal) x0 x1 x2 x4 (at4 q s g d) = ((gw (uq P q) (vq P q) (aq D q) L W s g d : ℝ) : EReal) := by
  rw [val_main_v133_apply, val_main_v132_apply, i132, val_main_v131_apply, val_main_cst_30_apply, val_main_v62_apply, val_main_v61_apply,
    val_main_cst_15_apply, cent_at H]
  simp only [Ideal.ofBits_def, Ideal.mulf_def]
  rw [zero_add_one (fun k => by rw [i131, gv_at H]), lit_two, ← EReal.coe_mul, ← EReal.coe_mul]
  rfl

theorem gq_at (H : Reals x0 x1 x2 x3 x4 x5 P D L B W S) (q : Fin 32) (s : Fin 128) (g : Fin 4) :
    val_main_v140 (F := Ideal) x0 x1 x2 x4 (at41 q s g) = ((gq (uq P q) (vq P q) (aq D q) L W s g : ℝ) : EReal) := by
  rw [val_main_v140_apply, val_main_v139_apply, val_main_cst_32_apply, val_main_v138_apply, val_main_v128_apply, val_main_v136_apply,
    show idx_main_v128 (at41 q s g) = at3 q s g from i122 q s g, show idx_main_v136 (at41 q s g) = at3 q s g from i122 q s g,
    val_main_v127_apply, val_main_v135_apply, val_main_cst_28_apply, val_main_cst_31_apply]
  simp only [Ideal.ofBits_def, Ideal.hostDivf_def, Ideal.addf_def]
  rw [zero_add_sum (r := fun k => -gr (uq P q) (vq P q) (aq D q) L W s g k) (fun k => by
      rw [show idx_main_v127 (at3 q s g) k = at4 q s g k from i54 q s g k, val_main_v126_apply, gr_at H, Ideal.hostNegf_def, Ideal.negf_def, ← EReal.coe_neg]),
    zero_add_sum (r := fun k => -gw (uq P q) (vq P q) (aq D q) L W s g k) (fun k => by
      rw [show idx_main_v135 (at3 q s g) k = at4 q s g k from i54 q s g k, val_main_v134_apply, gw_at H, Ideal.hostNegf_def, Ideal.negf_def, ← EReal.coe_neg]),
    ← EReal.coe_add, div_64]
  rfl

/-- The gradient of the second half. -/
theorem dv_at (H : Reals x0 x1 x2 x3 x4 x5 P D L B W S) (q : Fin 32) (s : Fin 128) (g : Fin 4) (d : Fin 64) :
    val_main_v155 (F := Ideal) x0 x1 x2 x4 (at4 q s g d)
      = ((dv (uq P q) (vq P q) (aq D q) L W s (col g d) : ℝ) : EReal) := by
  have h : val_main_v143 (F := Ideal) x0 x1 x2 x4 (at4 q s g d)
      = ((gr (uq P q) (vq P q) (aq D q) L W s g d + gw (uq P q) (vq P q) (aq D q) L W s g d + gq (uq P q) (vq P q) (aq D q) L W s g : ℝ) : EReal) := by
    rw [val_main_v143_apply, val_main_v137_apply, gr_at H, gw_at H, val_main_v142_apply, show idx_main_v142 (at4 q s g d) = at3 q s g from i132 q s g d,
      val_main_v141_apply, val_main_cst_33_apply]
    simp only [Ideal.ofBits_def, Ideal.addf_def]
    rw [zero_add_one (fun k => by rw [show idx_main_v141 (at3 q s g) k = at41 q s g from i131 q s g k, gq_at H]), ← EReal.coe_add, ← EReal.coe_add]
  rw [back_v (v_at H q s g d) h, norm_back]
  rfl

end Cert.ReferenceIdeal.Gate
-- ==== Proof.Gate.RefSum.lean ====
/-
The reference's sums over all rows, and its product over all rows, as sums over the chunks.
-/
module

public import proofs.«01_k».proof.Proof.Gate.RefBack

@[expose] public section

noncomputable section

namespace Cert.ReferenceIdeal.Gate

open Idealize.ShloMosaic Idealize.ShloMosaic.ValueIdx Cert.ReferenceIdeal.Gen Cert.ReferenceIdeal.Read Cert.Gate
open scoped BigOperators

variable {x0 : (⟨S4096x2816, .f32⟩ : BufTy).Contents (Elt Ideal)} {x1 : (⟨S4096x1024, .f32⟩ : BufTy).Contents (Elt Ideal)}
    {x2 x3 : (⟨S1x4x64, .f32⟩ : BufTy).Contents (Elt Ideal)} {x4 : (⟨S1x4x128x128, .f32⟩ : BufTy).Contents (Elt Ideal)}
    {x5 : (⟨S1x4x128, .f32⟩ : BufTy).Contents (Elt Ideal)}
    {P : Fin 4096 → Fin 512 → ℝ} {D : Fin 4096 → Fin 256 → ℝ} {L B : Fin 256 → ℝ}
    {W : Fin 4 → Fin 128 → Fin 128 → ℝ} {S : Fin 128 → Fin 4 → ℝ}

/-- A sum over a fibre of a map, given what the fibre is. -/
theorem sum_fibre {ι κ : Type*} [Fintype ι] [Fintype κ] (p : ι → Prop) [DecidablePred p] (g : κ → ι)
    (hg : Function.Injective g) (hp : ∀ i, p i ↔ ∃ k, g k = i) (v : ι → EReal) :
    ∑ i ∈ Finset.univ.filter p, v i = ∑ k, v (g k) := by
  classical
  refine (Finset.sum_bij (fun k _ => g k) (fun k _ => ?_) (fun _ _ _ _ e => hg e) (fun i hi => ?_) fun _ _ => rfl).symm
  · exact Finset.mem_filter.mpr ⟨Finset.mem_univ _, (hp _).mpr ⟨k, rfl⟩⟩
  · obtain ⟨k, hk⟩ := (hp i).mp (Finset.mem_filter.mp hi).2
    exact ⟨k, Finset.mem_univ _, hk⟩

/-- The rows of all chunks and the places of a group. -/
theorem sum_r5 (v : S2x16x128x4x64.Idx → EReal) (init : EReal) (s : Fin 128) (g : Fin 4) :
    Ideal.hostReduceAdd reducesTo_S2x16x128x4x64_S128x4_d0_1_4 v init (ix2 s g) = init + ∑ q, ∑ d, v (at5 q s g d) := by
  unfold Ideal.hostReduceAdd
  rw [sum_fibre _ (fun p : Fin 32 × Fin 64 => at5 p.1 s g p.2) ?_ ?_, Fintype.sum_prod_type]
  · intro p p' e
    have e0 : p.1.val / 16 = p'.1.val / 16 := congrArg Fin.val (congrFun e 0)
    have e1 : p.1.val % 16 = p'.1.val % 16 := congrArg Fin.val (congrFun e 1)
    have e2 : p.2 = p'.2 := congrFun e 4
    exact Prod.ext (Fin.ext (by omega)) e2
  · intro i
    constructor
    · intro e
      have h0 : (i 0).val < 2 := (i 0).isLt
      have h1 : (i 1).val < 16 := (i 1).isLt
      refine ⟨(⟨16 * (i 0).val + (i 1).val, by omega⟩, i 4), ?_⟩
      funext a; apply Fin.ext
      match a with
      | ⟨0, _⟩ => show (16 * (i 0).val + (i 1).val) / 16 = (i 0).val; omega
      | ⟨1, _⟩ => show (16 * (i 0).val + (i 1).val) % 16 = (i 1).val; omega
      | ⟨2, _⟩ => exact (congrArg Fin.val (congrFun e ⟨0, by decide⟩)).symm
      | ⟨3, _⟩ => exact (congrArg Fin.val (congrFun e ⟨1, by decide⟩)).symm
      | ⟨4, _⟩ => rfl
    · rintro ⟨k, rfl⟩
      funext b; apply Fin.ext
      match b with
      | ⟨0, _⟩ => rfl
      | ⟨1, _⟩ => rfl

/-- The rows of all chunks. -/
theorem sum_r4 (v : S2x2048x4x64.Idx → EReal) (init : EReal) (g : Fin 4) (d : Fin 64) :
    Ideal.hostReduceAdd reducesTo_S2x2048x4x64_S4x64_d0_1 v init (ix2 g d) = init + ∑ q, ∑ s, v (at4 q s g d) := by
  unfold Ideal.hostReduceAdd
  rw [sum_fibre _ (fun p : Fin 32 × Fin 128 => at4 p.1 p.2 g d) ?_ ?_, Fintype.sum_prod_type]
  · intro p p' e
    have e0 : p.1.val / 16 = p'.1.val / 16 := congrArg Fin.val (congrFun e 0)
    have e1 : 128 * (p.1.val % 16) + p.2.val = 128 * (p'.1.val % 16) + p'.2.val := congrArg Fin.val (congrFun e 1)
    exact Prod.ext (Fin.ext (by omega)) (Fin.ext (by omega))
  · intro i
    constructor
    · intro e
      have h0 : (i 0).val < 2 := (i 0).isLt
      have h1 : (i 1).val < 2048 := (i 1).isLt
      refine ⟨(⟨16 * (i 0).val + (i 1).val / 128, by omega⟩, ⟨(i 1).val % 128, by omega⟩), ?_⟩
      funext a; apply Fin.ext
      match a with
      | ⟨0, _⟩ => show (16 * (i 0).val + (i 1).val / 128) / 16 = (i 0).val; omega
      | ⟨1, _⟩ => show 128 * ((16 * (i 0).val + (i 1).val / 128) % 16) + (i 1).val % 128 = (i 1).val; omega
      | ⟨2, _⟩ => exact (congrArg Fin.val (congrFun e ⟨0, by decide⟩)).symm
      | ⟨3, _⟩ => exact (congrArg Fin.val (congrFun e ⟨1, by decide⟩)).symm
    · rintro ⟨k, rfl⟩
      funext b; apply Fin.ext
      match b with
      | ⟨0, _⟩ => rfl
      | ⟨1, _⟩ => rfl

/-- A sum over axes of size one is its only element. -/
theorem sum_one5 (v : S1x1x128x4x1.Idx → EReal) (init : EReal) (s : Fin 128) (g : Fin 4) :
    Ideal.hostReduceAdd reducesTo_S1x1x128x4x1_S128x4_d0_1_4 v init (ix2 s g) = init + v (ix5 (0 : Fin 1) (0 : Fin 1) s g (0 : Fin 1)) := by
  unfold Ideal.hostReduceAdd
  rw [sum_fibre _ (fun _ : Fin 1 => (ix5 (0 : Fin 1) (0 : Fin 1) s g (0 : Fin 1) : S1x1x128x4x1.Idx)) (fun _ _ _ => Subsingleton.elim _ _) ?_, Fin.sum_univ_one]
  intro i
  constructor
  · intro e
    refine ⟨0, ?_⟩
    funext a; apply Fin.ext
    match a with
    | ⟨0, _⟩ => have h : (i 0).val < 1 := (i 0).isLt; show 0 = (i 0).val; omega
    | ⟨1, _⟩ => have h : (i 1).val < 1 := (i 1).isLt; show 0 = (i 1).val; omega
    | ⟨2, _⟩ => exact (congrArg Fin.val (congrFun e ⟨0, by decide⟩)).symm
    | ⟨3, _⟩ => exact (congrArg Fin.val (congrFun e ⟨1, by decide⟩)).symm
    | ⟨4, _⟩ => have h : (i 4).val < 1 := (i 4).isLt; show 0 = (i 4).val; omega
  · rintro ⟨k, rfl⟩
    funext b; apply Fin.ext
    match b with
    | ⟨0, _⟩ => rfl
    | ⟨1, _⟩ => rfl

theorem sum_one4 (v : S1x1x4x64.Idx → EReal) (init : EReal) (g : Fin 4) (d : Fin 64) :
    Ideal.hostReduceAdd reducesTo_S1x1x4x64_S4x64_d0_1 v init (ix2 g d) = init + v (ix4 (0 : Fin 1) (0 : Fin 1) g d) := by
  unfold Ideal.hostReduceAdd
  rw [sum_fibre _ (fun _ : Fin 1 => (ix4 (0 : Fin 1) (0 : Fin 1) g d : S1x1x4x64.Idx)) (fun _ _ _ => Subsingleton.elim _ _) ?_, Fin.sum_univ_one]
  intro i
  constructor
  · intro e
    refine ⟨0, ?_⟩
    funext a; apply Fin.ext
    match a with
    | ⟨0, _⟩ => have h : (i 0).val < 1 := (i 0).isLt; show 0 = (i 0).val; omega
    | ⟨1, _⟩ => have h : (i 1).val < 1 := (i 1).isLt; show 0 = (i 1).val; omega
    | ⟨2, _⟩ => exact (congrArg Fin.val (congrFun e ⟨0, by decide⟩)).symm
    | ⟨3, _⟩ => exact (congrArg Fin.val (congrFun e ⟨1, by decide⟩)).symm
  · rintro ⟨k, rfl⟩
    funext b; apply Fin.ext
    match b with
    | ⟨0, _⟩ => rfl
    | ⟨1, _⟩ => rfl

/-- The product that sums over a batch, a chunk of it and a place. -/
abbrev dotW := dot_S4x2x16x64x128_S2x16x128x4x64_S4x128x128_123_014_4_2_0_3

/-- Its summation index for a chunk and a place. -/
def contr3 (p : Fin 32 × Fin 64) : dotW.contr.Idx := fun a => match a with
  | ⟨0, _⟩ => (⟨p.1.val / 16, by omega⟩ : Fin 2)
  | ⟨1, _⟩ => (⟨p.1.val % 16, by omega⟩ : Fin 16)
  | ⟨2, _⟩ => p.2

theorem contr3_bij : Function.Bijective contr3 := by
  constructor
  · intro p p' e
    have e0 : p.1.val / 16 = p'.1.val / 16 := congrArg Fin.val (congrFun e ⟨0, by decide⟩)
    have e1 : p.1.val % 16 = p'.1.val % 16 := congrArg Fin.val (congrFun e ⟨1, by decide⟩)
    have e2 : p.2 = p'.2 := congrFun e ⟨2, by decide⟩
    exact Prod.ext (Fin.ext (by omega)) e2
  · intro k
    have h0 : (k ⟨0, by decide⟩).val < 2 := (k ⟨0, by decide⟩).isLt
    have h1 : (k ⟨1, by decide⟩).val < 16 := (k ⟨1, by decide⟩).isLt
    refine ⟨(⟨16 * (k ⟨0, by decide⟩).val + (k ⟨1, by decide⟩).val, by omega⟩, k ⟨2, by decide⟩), ?_⟩
    funext a; apply Fin.ext
    match a with
    | ⟨0, _⟩ => show (16 * (k ⟨0, by decide⟩).val + (k ⟨1, by decide⟩).val) / 16 = (k ⟨0, by decide⟩).val; omega
    | ⟨1, _⟩ => show (16 * (k ⟨0, by decide⟩).val + (k ⟨1, by decide⟩).val) % 16 = (k ⟨1, by decide⟩).val; omega
    | ⟨2, _⟩ => rfl

theorem dotW_apply (sched : HostSchedule) (l : FVec Ideal S4x2x16x64x128 .f32) (r : FVec Ideal S2x16x128x4x64 .f32) (g : Fin 4) (s j : Fin 128) :
    FloatOps.dotGeneral dotW none sched l r (ix3 g s j) = ∑ q, ∑ d, l (atT q s g d) * r (at5 q j g d) := by
  rw [Ideal.dotGeneral_apply, ← contr3_bij.sum_comp, Fintype.sum_prod_type]
  refine Finset.sum_congr rfl fun q _ => Finset.sum_congr rfl fun d _ => ?_
  have el : dotW.lhsIdx (ix3 g s j) (contr3 (q, d)) = atT q s g d := by
    funext a; apply Fin.ext
    match a with | ⟨0, _⟩ => rfl | ⟨1, _⟩ => rfl | ⟨2, _⟩ => rfl | ⟨3, _⟩ => rfl | ⟨4, _⟩ => rfl
  have er : dotW.rhsIdx (ix3 g s j) (contr3 (q, d)) = at5 q j g d := by
    funext a; apply Fin.ext
    match a with | ⟨0, _⟩ => rfl | ⟨1, _⟩ => rfl | ⟨2, _⟩ => rfl | ⟨3, _⟩ => rfl | ⟨4, _⟩ => rfl
  rw [el, er]

end Cert.ReferenceIdeal.Gate
-- ==== Proof.Gate.RefOut.lean ====
/-
The reference's five results at an index.
-/
module

public import proofs.«01_k».proof.Proof.Gate.RefSum

@[expose] public section

noncomputable section

namespace Cert.ReferenceIdeal.Gate

open Idealize.ShloMosaic Idealize.ShloMosaic.ValueIdx Cert.ReferenceIdeal.Gen Cert.ReferenceIdeal.Read Cert.Gate
open scoped BigOperators

variable {x0 : (⟨S4096x2816, .f32⟩ : BufTy).Contents (Elt Ideal)} {x1 : (⟨S4096x1024, .f32⟩ : BufTy).Contents (Elt Ideal)}
    {x2 x3 : (⟨S1x4x64, .f32⟩ : BufTy).Contents (Elt Ideal)} {x4 : (⟨S1x4x128x128, .f32⟩ : BufTy).Contents (Elt Ideal)}
    {x5 : (⟨S1x4x128, .f32⟩ : BufTy).Contents (Elt Ideal)}
    {P : Fin 4096 → Fin 512 → ℝ} {D : Fin 4096 → Fin 256 → ℝ} {L B : Fin 256 → ℝ}
    {W : Fin 4 → Fin 128 → Fin 128 → ℝ} {S : Fin 128 → Fin 4 → ℝ}

/-- A column is a group's place. -/
theorem col_eq (l : Fin 256) : ∃ g d, l = col g d :=
  ⟨⟨l.val / 64, by omega⟩, ⟨l.val % 64, by omega⟩, Fin.ext (by dsimp only [col]; omega)⟩

theorem i168 (q : Fin 32) (s : Fin 128) (g : Fin 4) (d : Fin 64) : idx_main_v168 (ix2 (rowq q s) (col g d)) = at4 q s g d := by
  have hq : q.val < 32 := q.isLt
  have hs : s.val < 128 := s.isLt
  have hg : g.val < 4 := g.isLt
  have hd : d.val < 64 := d.isLt
  funext a; apply Fin.ext
  match a with
  | ⟨0, _⟩ => dsimp only [at4, ix2, ix4, rowq, col]; omega
  | ⟨1, _⟩ => dsimp only [at4, ix2, ix4, rowq, col]; omega
  | ⟨2, _⟩ => dsimp only [at4, ix2, ix4, rowq, col]; omega
  | ⟨3, _⟩ => dsimp only [at4, ix2, ix4, rowq, col]; omega

/-- The first half of the first result. -/
theorem out_left (H : Reals x0 x1 x2 x3 x4 x5 P D L B W S) (q : Fin 32) (s : Fin 128) (l : Fin 256) :
    val_main_v171 (F := Ideal) x0 x1 x2 x3 x4 x5 (ix2 (rowq q s) (left l))
      = ((du (uq P q) (vq P q) (aq D q) L B W S s l : ℝ) : EReal) := by
  obtain ⟨g, d, rfl⟩ := col_eq l
  rw [val_main_v171_apply, Ideal.truncf_def]
  refine (concatenate_pair_apply_left 1 _ _ concatenates_S4096x256_S4096x256_S4096x512_d1 _ rfl (ix2 (rowq q s) (col g d)) fun b => ?_).trans ?_
  · match b with | ⟨0, _⟩ => rfl | ⟨1, _⟩ => rfl
  · rw [val_main_v168_apply, i168, du_at H]

/-- The second half of the first result. -/
theorem out_right (H : Reals x0 x1 x2 x3 x4 x5 P D L B W S) (q : Fin 32) (s : Fin 128) (l : Fin 256) :
    val_main_v171 (F := Ideal) x0 x1 x2 x3 x4 x5 (ix2 (rowq q s) (right l))
      = ((dv (uq P q) (vq P q) (aq D q) L W s l : ℝ) : EReal) := by
  obtain ⟨g, d, rfl⟩ := col_eq l
  rw [val_main_v171_apply, Ideal.truncf_def]
  refine (concatenate_pair_apply_right 1 _ _ concatenates_S4096x256_S4096x256_S4096x512_d1 _ rfl rfl (ix2 (rowq q s) (col g d)) (fun b hb => ?_) ?_).trans ?_
  · match b, hb with
    | ⟨0, _⟩, _ => rfl
    | ⟨1, _⟩, hb => exact absurd rfl hb
  · show (col g d).val + 256 = 256 + (col g d).val
    omega
  · rw [val_main_v169_apply, show idx_main_v169 (ix2 (rowq q s) (col g d)) = at4 q s g d from i168 q s g d, dv_at H]

/-- The spatial matrices' gradient. -/
theorem out_w (H : Reals x0 x1 x2 x3 x4 x5 P D L B W S) (g : Fin 4) (s : Fin 128) (j : Fin 128) :
    val_main_v109 (F := Ideal) x0 x1 x2 x3 (ix3 g s j) = ((∑ q, dw (uq P q) (vq P q) (aq D q) L B g s j : ℝ) : EReal) := by
  have h : val_main_v105 (F := Ideal) x0 x1 x2 x3 (ix3 g s j)
      = ((∑ q, ∑ d, dz (uq P q) (aq D q) s (col g d) * vn (vq P q) L B j (col g d) : ℝ) : EReal) := by
    refine (dotW_apply _ _ _ g s j).trans ?_
    rw [coe_sum]
    refine Finset.sum_congr rfl fun q _ => ?_
    rw [coe_sum]
    refine Finset.sum_congr rfl fun d _ => ?_
    rw [val_main_v104_apply, show idx_main_v104 (atT q s g d) = at5 q s g d from by
      funext a; match a with | ⟨0, _⟩ => rfl | ⟨1, _⟩ => rfl | ⟨2, _⟩ => rfl | ⟨3, _⟩ => rfl | ⟨4, _⟩ => rfl, dz_at H, vn5_at H, ← EReal.coe_mul]
  have ht : val_main_v108 (F := Ideal) (ix3 g s j) = (((if j ≤ s then 1 else 0 : ℝ)) : EReal) := tril3_at g s j
  rw [val_main_v109_apply, h, ht, Ideal.mulf_def, ← EReal.coe_mul]
  refine congrArg (fun r : ℝ => (r : EReal)) ?_
  simp only [dw]
  split <;> simp

/-- The spatial bias's gradient. -/
theorem out_sb (H : Reals x0 x1 x2 x3 x4 x5 P D L B W S) (s : Fin 128) (g : Fin 4) :
    val_main_v172 (F := Ideal) x0 x1 (ix2 s g) = ((∑ q, dsb (uq P q) (aq D q) s g : ℝ) : EReal) := by
  have h : val_main_v100 (F := Ideal) x0 x1 (ix2 s g) = ((∑ q, dsb (uq P q) (aq D q) s g : ℝ) : EReal) := by
    refine (sum_r5 _ _ s g).trans ?_
    rw [val_main_cst_21_apply]
    refine zero_add_sum fun q => ?_
    rw [dsb, coe_sum]
    exact Finset.sum_congr rfl fun d _ => dz_at H q s g d
  rw [val_main_v172_apply, val_main_v103_apply, show idx_main_v103 (idx_main_v172 (ix2 s g)) = ix2 s g from by
    funext a; match a with | ⟨0, _⟩ => rfl | ⟨1, _⟩ => rfl]
  refine (sum_one5 _ _ s g).trans ?_
  rw [val_main_cst_22_apply, Ideal.ofBits_def, Ideal.ofBits_zero_f32, zero_add, val_main_v101_apply]
  refine (congrArg (val_main_v100 (F := Ideal) x0 x1) ?_).trans h
  have hs : s.val < 128 := s.isLt
  have hg : g.val < 4 := g.isLt
  funext a; apply Fin.ext
  match a with
  | ⟨0, _⟩ => show ((((0 * 1 + 0) * 128 + s.val) * 4 + g.val) * 1 + 0) / 4 = s.val; omega
  | ⟨1, _⟩ => show ((((0 * 1 + 0) * 128 + s.val) * 4 + g.val) * 1 + 0) % 4 = g.val; omega

theorem i112 (g : Fin 4) (d : Fin 64) : idx_main_v112 (ix4 (0 : Fin 1) (0 : Fin 1) g d) = ix2 g d := by
  have hg : g.val < 4 := g.isLt
  have hd : d.val < 64 := d.isLt
  funext a; apply Fin.ext
  match a with
  | ⟨0, _⟩ => show (((0 * 1 + 0) * 4 + g.val) * 64 + d.val) / 64 = g.val; omega
  | ⟨1, _⟩ => show (((0 * 1 + 0) * 4 + g.val) * 64 + d.val) % 64 = d.val; omega

theorem i173 (g : Fin 4) (d : Fin 64) : idx_main_v173 (ix2 (0 : Fin 1) (col g d)) = ix2 g d := by
  have hg : g.val < 4 := g.isLt
  have hd : d.val < 64 := d.isLt
  funext a; apply Fin.ext
  match a with
  | ⟨0, _⟩ => show (0 * 256 + (g.val * 64 + d.val)) / 64 = g.val; omega
  | ⟨1, _⟩ => show (0 * 256 + (g.val * 64 + d.val)) % 64 = d.val; omega

/-- The gain's gradient. -/
theorem out_lg (H : Reals x0 x1 x2 x3 x4 x5 P D L B W S) (l : Fin 256) :
    val_main_v173 (F := Ideal) x0 x1 x4 (ix2 (0 : Fin 1) l) = ((∑ q, dlg (uq P q) (vq P q) (aq D q) W l : ℝ) : EReal) := by
  obtain ⟨g, d, rfl⟩ := col_eq l
  rw [val_main_v173_apply, i173]
  refine (sum_one4 _ _ g d).trans ?_
  rw [val_main_cst_26_apply, Ideal.ofBits_def, Ideal.ofBits_zero_f32, zero_add, val_main_v116_apply,
    show idx_main_v116 (ix4 (0 : Fin 1) (0 : Fin 1) g d) = ix2 g d from i112 g d]
  refine (sum_r4 _ _ g d).trans ?_
  rw [val_main_cst_25_apply]
  refine zero_add_sum fun q => ?_
  rw [dlg, coe_sum]
  exact Finset.sum_congr rfl fun s _ => gvh_at H q s g d

/-- The bias's gradient. -/
theorem out_lb (H : Reals x0 x1 x2 x3 x4 x5 P D L B W S) (l : Fin 256) :
    val_main_v174 (F := Ideal) x0 x1 x4 (ix2 (0 : Fin 1) l) = ((∑ q, dlb (uq P q) (aq D q) W l : ℝ) : EReal) := by
  obtain ⟨g, d, rfl⟩ := col_eq l
  rw [val_main_v174_apply, show idx_main_v174 (ix2 (0 : Fin 1) (col g d)) = ix2 g d from i173 g d]
  refine (sum_one4 _ _ g d).trans ?_
  rw [val_main_cst_24_apply, Ideal.ofBits_def, Ideal.ofBits_zero_f32, zero_add, val_main_v112_apply, i112]
  refine (sum_r4 _ _ g d).trans ?_
  rw [val_main_cst_23_apply]
  refine zero_add_sum fun q => ?_
  rw [dlb, coe_sum]
  exact Finset.sum_congr rfl fun s _ => dvn_at H q s g d

end Cert.ReferenceIdeal.Gate
-- ==== Proof.Gate.Equal.lean ====
/-
The gating backward kernel's five result arrays are the reference's five results.
-/
module

public import proofs.«01_k».proof.Proof.Gate.Final
public import proofs.«01_k».proof.Proof.Gate.Pre
public import proofs.«01_k».proof.Proof.Gate.RefOut

@[expose] public section

noncomputable section

namespace Cert.Gate

open Idealize.ShloMosaic hiding ix0 ix1 ix2 ix3 ix4 ix5
open Idealize.ShloMosaic.ValueIdx Idealize.ShloMosaic.TcCoe Idealize.SL.Sem
open Cert.KernelIdeal (nD τ sig main_arg0 main_arg1 main_arg2 main_arg3 main_arg4 main_arg5)
open Cert.KernelIdeal.Gen (dats)
open Cert.KernelIdeal (cfg0)
open Cert.KernelIdeal.Gate (Args final7_left final7_right final_8 final_9 final_10 final_11)
open Cert.ReferenceIdeal.Gate (Reals out_left out_right out_w out_sb out_lg out_lb)
open Cert.ReferenceIdeal.Read

variable {m : (ℓ : Loc nD τ sig) → Buf (Elt Ideal) ℓ} {c : Dev nD}
    {P : Fin 4096 → Fin 512 → ℝ} {D : Fin 4096 → Fin 256 → ℝ} {L B : Fin 256 → ℝ}
    {W : Fin 4 → Fin 128 → Fin 128 → ℝ} {S : Fin 128 → Fin 4 → ℝ}

/-- The two programs read the same reals. -/
theorem reals (H : Args m c P D L B W S) :
    Reals (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) P D L B W S :=
  ⟨H.h0, H.h1, H.h2, H.h3, H.h4, H.h5⟩

theorem row_cases (r : Fin 4096) : ∃ q s, r = rowq q s :=
  ⟨⟨r.val / 128, by omega⟩, ⟨r.val % 128, by omega⟩, Fin.ext (by dsimp only [rowq]; omega)⟩

theorem lane_cases (l : Fin 512) : (∃ k, l = left k) ∨ ∃ k, l = right k := by
  by_cases h : l.val < 256
  · exact Or.inl ⟨⟨l.val, h⟩, rfl⟩
  · exact Or.inr ⟨⟨l.val - 256, by omega⟩, Fin.ext (by dsimp only [right]; omega)⟩

theorem equal_uv (H : Args m c P D L B W S) :
    val_main_v171 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      = (dats m 0 c).arrAt 7 cfg0.N := by
  funext i
  obtain ⟨r, l, rfl⟩ : ∃ (r : Fin 4096) (l : Fin 512), i = ix2 r l := ⟨i 0, i 1, ValueIdx.eq_ix2 i⟩
  obtain ⟨q, s, rfl⟩ := row_cases r
  rcases lane_cases l with ⟨k, rfl⟩ | ⟨k, rfl⟩
  · exact (out_left (reals H) q s k).trans (final7_left m c H q s k).symm
  · exact (out_right (reals H) q s k).trans (final7_right m c H q s k).symm

theorem equal_w (H : Args m c P D L B W S) :
    val_main_v109 (F := Ideal) (m ((c : Thread nD τ).loc main_arg0)) (m ((c : Thread nD τ).loc main_arg1)) (m ((c : Thread nD τ).loc main_arg2))
      (m ((c : Thread nD τ).loc main_arg3)) = (dats m 0 c).arrAt 8 cfg0.N := by
  funext i
  obtain ⟨g, s, j, rfl⟩ : ∃ (g : Fin 4) (s j : Fin 128), i = ix3 g s j := ⟨i 0, i 1, i 2, ValueIdx.eq_ix3 i⟩
  exact (out_w (reals H) g s j).trans (final_8 m c H g s j).symm

theorem equal_sb (H : Args m c P D L B W S) :
    val_main_v172 (F := Ideal) (m ((c : Thread nD τ).loc main_arg0)) (m ((c : Thread nD τ).loc main_arg1)) = (dats m 0 c).arrAt 9 cfg0.N := by
  funext i
  obtain ⟨s, g, rfl⟩ : ∃ (s : Fin 128) (g : Fin 4), i = ix2 s g := ⟨i 0, i 1, ValueIdx.eq_ix2 i⟩
  exact (out_sb (reals H) s g).trans (final_9 m c H s g).symm

theorem one_row (r : Fin 1) : r = 0 := Subsingleton.elim _ _

theorem equal_lg (H : Args m c P D L B W S) :
    val_main_v173 (F := Ideal) (m ((c : Thread nD τ).loc main_arg0)) (m ((c : Thread nD τ).loc main_arg1)) (m ((c : Thread nD τ).loc main_arg4))
      = (dats m 0 c).arrAt 10 cfg0.N := by
  funext i
  obtain ⟨r, l, rfl⟩ : ∃ (r : Fin 1) (l : Fin 256), i = ix2 r l := ⟨i 0, i 1, ValueIdx.eq_ix2 i⟩
  rw [one_row r]
  exact (out_lg (reals H) l).trans (final_10 m c H l).symm

theorem equal_lb (H : Args m c P D L B W S) :
    val_main_v174 (F := Ideal) (m ((c : Thread nD τ).loc main_arg0)) (m ((c : Thread nD τ).loc main_arg1)) (m ((c : Thread nD τ).loc main_arg4))
      = (dats m 0 c).arrAt 11 cfg0.N := by
  funext i
  obtain ⟨r, l, rfl⟩ : ∃ (r : Fin 1) (l : Fin 256), i = ix2 r l := ⟨i 0, i 1, ValueIdx.eq_ix2 i⟩
  rw [one_row r]
  exact (out_lb (reals H) l).trans (final_11 m c H l).symm

end Cert.Gate
-- ==== Proof.Mid.Row.lean ====
/-
The backward pass of a row's normalisation, over the extended reals: the kernel's form and the derivative's form
are the same, whatever the row holds.
-/
module

public import proofs.«01_k».proof.Proof.Gate.Lits

@[expose] public section

noncomputable section

namespace Cert.Mid

open Idealize.ShloMosaic
open scoped BigOperators

/-- The row's mean square, with the small constant. -/
def ms (x : Fin 1024 → EReal) : EReal := Ideal.div (∑ l, x l * x l) ((1024 : ℝ) : EReal) + ((Cert.Gate.eps : ℝ) : EReal)

/-- The row's scale: one over the root of the mean square. -/
def rs (x : Fin 1024 → EReal) : EReal := Ideal.rsqrt (ms x)

/-- The kernel's gradient of the row: d is the gradient of the scaled row, g the gains. -/
def back (x d g : Fin 1024 → EReal) (l : Fin 1024) : EReal :=
  rs x * (g l * d l - x l * rs x * Ideal.div (∑ k, g k * d k * (x k * rs x)) ((1024 : ℝ) : EReal))

/-- The derivative of the scale, times the gradient it gets. -/
def drs (x d g : Fin 1024 → EReal) : EReal :=
  Ideal.div ((∑ k, x k * (d k * g k)) * (((-(1 / 2) : ℝ) : EReal) * Ideal.div (rs x) (ms x))) ((1024 : ℝ) : EReal)

theorem mul_sum_of_nonneg {ι : Type*} (s : Finset ι) (a : ℝ) (ha : 0 ≤ a) (f : ι → EReal) :
    ∑ i ∈ s, (a : EReal) * f i = (a : EReal) * ∑ i ∈ s, f i := by
  classical
  induction s using Finset.induction_on with
  | empty => simp
  | insert i s hi ih =>
    rw [Finset.sum_insert hi, Finset.sum_insert hi, ih,
      EReal.left_distrib_of_nonneg_of_ne_top (EReal.coe_nonneg.mpr ha) (EReal.coe_ne_top a)]

theorem two_mul_coe (b : ℝ) (s : EReal) : ((b + b : ℝ) : EReal) * s = (b : EReal) * s + (b : EReal) * s := by
  rcases lt_trichotomy b 0 with h | h | h
  · have h2 : b + b < 0 := by linarith
    induction s with
    | bot => rw [EReal.coe_mul_bot_of_neg h, EReal.coe_mul_bot_of_neg h2]; rfl
    | top => rw [EReal.coe_mul_top_of_neg h, EReal.coe_mul_top_of_neg h2]; rfl
    | coe r => rw [← EReal.coe_mul, ← EReal.coe_mul, ← EReal.coe_add]; congr 1; ring
  · subst h; simp
  · have h2 : 0 < b + b := by linarith
    induction s with
    | bot => rw [EReal.coe_mul_bot_of_pos h, EReal.coe_mul_bot_of_pos h2]; rfl
    | top => rw [EReal.coe_mul_top_of_pos h, EReal.coe_mul_top_of_pos h2]; rfl
    | coe r => rw [← EReal.coe_mul, ← EReal.coe_mul, ← EReal.coe_add]; congr 1; ring

theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A row with an infinite entry: its mean square is infinite. -/
theorem ms_top (x : Fin 1024 → EReal) (h : ∃ l, x l = ⊤ ∨ x l = ⊥) : ms x = ⊤ := by
  obtain ⟨l, hl⟩ := h
  have hs : ∑ l, x l * x l = ⊤ := by
    refine top_le_iff.mp (le_trans ?_ (Finset.single_le_sum (fun k _ => sq_nonneg' (x k)) (Finset.mem_univ l)))
    rcases hl with hl | hl
    · rw [hl, EReal.top_mul_top]
    · rw [hl, EReal.bot_mul_bot]
  unfold ms
  rw [hs, Ideal.div_coe (by norm_num), EReal.top_mul_coe_of_pos (by norm_num)]
  rfl

/-- A row of reals: its mean square is a positive real. -/
theorem ms_coe (X : Fin 1024 → ℝ) :
    ∃ Q : ℝ, 0 < Q ∧ ms (fun l => ((X l : ℝ) : EReal)) = (Q : EReal) := by
  refine ⟨(∑ l, X l * X l) * (1 / 1024) + Cert.Gate.eps,
    add_pos_of_nonneg_of_pos (mul_nonneg (Finset.sum_nonneg fun l _ => mul_self_nonneg (X l)) (by norm_num)) Cert.Gate.eps_pos, ?_⟩
  unfold ms
  rw [Ideal.div_coe (by norm_num), EReal.coe_add, EReal.coe_mul, Cert.Gate.coe_sum]
  simp only [EReal.coe_mul]

/-- The two forms are one. -/
theorem back_eq (x d g : Fin 1024 → EReal) (l : Fin 1024) :
    back x d g l = d l * g l * rs x + x l * drs x d g + drs x d g * x l := by
  by_cases h : ∃ l, x l = ⊤ ∨ x l = ⊥
  · have hm := ms_top x h
    have hr : rs x = 0 := by unfold rs; rw [hm]; rfl
    have hd : Ideal.div 0 ⊤ = 0 := by unfold Ideal.div; rw [if_neg (by decide), zero_mul]
    have h0 : drs x d g = 0 := by
      unfold drs
      rw [hr, hm, hd, mul_zero, mul_zero, Ideal.div_coe (by norm_num), zero_mul]
    unfold back
    rw [hr, h0]
    simp
  · have hx : ∃ X : Fin 1024 → ℝ, x = fun l => ((X l : ℝ) : EReal) := by
      refine ⟨fun l => (x l).toReal, funext fun l => (EReal.coe_toReal ?_ ?_).symm⟩
      · exact fun e => h ⟨l, Or.inl e⟩
      · exact fun e => h ⟨l, Or.inr e⟩
    obtain ⟨X, rfl⟩ := hx
    obtain ⟨Q, hQ, hm⟩ := ms_coe X
    have hs : 0 < Real.sqrt Q := Real.sqrt_pos.mpr hQ
    have hr : rs (fun l => ((X l : ℝ) : EReal)) = (((Real.sqrt Q)⁻¹ : ℝ) : EReal) := by
      unfold rs
      rw [hm, Ideal.rsqrt_coe, if_neg (not_lt.mpr hQ.le), if_neg hQ.ne']
    have hR : 0 < (Real.sqrt Q)⁻¹ := inv_pos.mpr hs
    have hRQ : (Real.sqrt Q)⁻¹ * (Real.sqrt Q)⁻¹ = 1 / Q := by
      rw [← mul_inv, Real.mul_self_sqrt hQ.le, one_div]
    generalize (Real.sqrt Q)⁻¹ = R at hr hR hRQ
    unfold back drs
    rw [hm, hr]
    dsimp only
    have hS : ∑ k, g k * d k * (((X k : ℝ) : EReal) * (R : EReal)) = (R : EReal) * ∑ k, ((X k : ℝ) : EReal) * (d k * g k) := by
      rw [← mul_sum_of_nonneg _ _ hR.le]
      exact Finset.sum_congr rfl fun k _ => by ac_rfl
    rw [hS]
    generalize (∑ k, ((X k : ℝ) : EReal) * (d k * g k)) = S
    rw [Ideal.div_coe (by norm_num), Ideal.div_coe (by norm_num), Ideal.div_coe hQ.ne', sub_eq_add_neg,
      EReal.left_distrib_of_nonneg_of_ne_top (EReal.coe_nonneg.mpr hR.le) (EReal.coe_ne_top R), mul_neg, add_assoc]
    congr 1
    · ac_rfl
    · have e1 : (R : EReal) * (((X l : ℝ) : EReal) * (R : EReal) * ((R : EReal) * S * ((1 / 1024 : ℝ) : EReal)))
          = ((R * X l * R * R * (1 / 1024) : ℝ) : EReal) * S := by
        simp only [EReal.coe_mul]
        ac_rfl
      have e2 : ((X l : ℝ) : EReal) * (S * (((-(1 / 2) : ℝ) : EReal) * ((R : EReal) * ((1 / Q : ℝ) : EReal))) * ((1 / 1024 : ℝ) : EReal))
          = ((X l * (-(1 / 2)) * R * (1 / Q) * (1 / 1024) : ℝ) : EReal) * S := by
        simp only [EReal.coe_mul]
        ac_rfl
      rw [mul_comm (S * _ * _) ((X l : ℝ) : EReal), e1, e2, ← two_mul_coe, ← hRQ, ← neg_mul, ← EReal.coe_neg]
      congr 2
      ring

end Cert.Mid
-- ==== Proof.Mid.Vec.lean ====
/-
The vectors of one point of the product and norms' backward kernel, at an index.
-/
module

public import proofs.«01_k».proof.Proof.Mid.Row
public import proofs.«01_k».proof.Proof.Gen.Kernel2Ideal.Skeleton
public import Idealize.ShloMosaic.Lib.MatmulPlain
public import Idealize.ShloMosaic.Lib.ValueLayout
public import Idealize.ShloMosaic.Lib.ValueLayoutCasts
public import Idealize.ShloMosaic.Lib.Pipeline.ValueKit

@[expose] public section

noncomputable section

namespace Cert.Kernel2Ideal.Mid

open Idealize.ShloMosaic hiding ix0 ix1 ix2 ix3 ix4 ix5
open Idealize.ShloMosaic.ValueIdx Idealize.SL.Sem Cert.Kernel2Ideal.Gen Cert.Mid
open scoped BigOperators

/-- A row of a block. -/
def row {n : ℕ} (x : FVec Ideal ⟨2, ![n, 1024]⟩ .f32) (r : Fin n) : Fin 1024 → EReal := fun l => x (ix2 r l)

/-- The product of the two gradients with the two weight blocks, summed. -/
def dh (a b : FVec Ideal S256x2816 .bf16) (u v : FVec Ideal S2816x1024 .bf16) (r : Fin 256) (l : Fin 1024) : EReal :=
  ∑ k : Fin 2816, a (ix2 r k) * u (ix2 k l) + ∑ k : Fin 2816, b (ix2 r k) * v (ix2 k l)

theorem dot_apply (a : FVec Ideal S256x2816 .bf16) (b : FVec Ideal S2816x1024 .bf16) (r : Fin 256) (l : Fin 1024) :
    matmul dot_S256x2816_S2816x1024_S256x1024_1_0_0_1_n_n none a b (constant S256x1024 .f32 0x00000000#32) (ix2 r l)
      = ∑ k : Fin 2816, a (ix2 r k) * b (ix2 k l) := by
  have h := Ideal.matmul_plain_apply (M := 256) (K := 2816) (N := 1024) none a b (constant S256x1024 .f32 0x00000000#32) r l
  rw [constant_apply, Ideal.ofBits_zero_f32, zero_add] at h
  exact h

theorem pay2_apply (a b : FVec Ideal S256x2816 .bf16) (u v : FVec Ideal S2816x1024 .bf16) (r : Fin 256) (l : Fin 1024) :
    k0_pay2 (F := Ideal) a u b v (ix2 r l) = dh a b u v r l := by
  unfold k0_pay2 dh
  rw [addf_apply, dot_apply, dot_apply]

/-- A sum along a row. -/
theorem rsum_apply (x : FVec Ideal S256x1024 .f32) (r : Fin 256) :
    shapeCast S256x1 (multiReduction .add [1] S256 x 0x00000000#32 reduces_S256x1024_S256 (.inl rfl) rfl) shapeCasts_S256_S256x1 (ix2 r 0)
      = ∑ l : Fin 1024, x (ix2 r l) := by
  rw [shapeCast_a_a1_apply]
  refine (Ideal.multiReduction_add_single _ _ reduces_S256x1024_S256 _ _ (ix1 r)).trans ?_
  refine Finset.sum_congr rfl fun l _ => congrArg x ?_
  funext b
  match b with
  | ⟨0, _⟩ => rfl
  | ⟨1, _⟩ => rfl

/-- A sum down a column. -/
theorem csum_apply (x : FVec Ideal S256x1024 .f32) (l : Fin 1024) :
    shapeCast S1x1024 (multiReduction .add [0] S1024 x 0x00000000#32 reduces_S256x1024_S1024 (.inl rfl) rfl) shapeCasts_S1024_S1x1024 (ix2 0 l)
      = ∑ r : Fin 256, x (ix2 r l) := by
  rw [shapeCast_a_1a_apply]
  refine (Ideal.multiReduction_add_single _ _ reduces_S256x1024_S1024 _ _ (ix1 l)).trans ?_
  refine Finset.sum_congr rfl fun r _ => congrArg x ?_
  funext b
  match b with
  | ⟨0, _⟩ => rfl
  | ⟨1, _⟩ => rfl

/-- A column spread over the lanes. -/
theorem spread_apply (x : FVec Ideal S256x1 .f32) (r : Fin 256) (l : Fin 1024) :
    broadcastTo S256x1024 x broadcasts_S256x1_S256x1024 (ix2 r l) = x (ix2 r 0) :=
  broadcastTo_apply _ _ (ix2 r l) (ix2 r 0) (fun b => by match b with | ⟨0, _⟩ => rfl | ⟨1, _⟩ => rfl)

/-- A row spread over the rows. -/
theorem spreadRow_apply (x : FVec Ideal S1x1024 .f32) (r : Fin 256) (l : Fin 1024) :
    broadcastTo S256x1024 x broadcasts_S1x1024_S256x1024 (ix2 r l) = x (ix2 0 l) :=
  broadcastTo_apply _ _ (ix2 r l) (ix2 0 l) (fun b => by match b with | ⟨0, _⟩ => rfl | ⟨1, _⟩ => rfl)

theorem rsqrt_at {s : Shape} (x : FVec Ideal s .f32) (i : s.Idx) : rsqrt x i = Ideal.rsqrt (x i) := rfl
theorem divf_at {s : Shape} (x y : FVec Ideal s .f32) (i : s.Idx) : divf x y i = Ideal.div (x i) (y i) := rfl
theorem lit_at (w : BitVec 32) : Scalar.ofBits (F := Ideal) .f32 w = Ideal.ofBits .f32 w := rfl

theorem pay3_apply (x : FVec Ideal S256x1024 .f32) (r : Fin 256) : k0_pay3 (F := Ideal) x (ix2 r 0) = rs (row x r) := by
  unfold k0_pay3
  dsimp only
  rw [rsqrt_at, addf_apply, divf_at, rsum_apply, broadcast_apply, broadcast_apply, lit_at, lit_at, Cert.Gate.lit_1024, Cert.Gate.lit_eps]
  unfold rs ms
  refine congrArg (fun s => Ideal.rsqrt (Ideal.div s ((1024 : ℝ) : EReal) + ((Cert.Gate.eps : ℝ) : EReal))) ?_
  exact Finset.sum_congr rfl fun l _ => ValueIdx.mulf_apply _ _ _

theorem pay4_apply (x : FVec Ideal S256x1024 .f32) (r : Fin 256) (l : Fin 1024) : k0_pay4 (F := Ideal) x (ix2 r l) = row x r l * rs (row x r) := by
  unfold k0_pay4
  rw [mulf_apply, spread_apply, pay3_apply]
  rfl

theorem pay7_eq (x : FVec Ideal S256x1024 .f32) : k0_pay7 (F := Ideal) x = k0_pay3 (F := Ideal) x := rfl
theorem pay8_eq (x : FVec Ideal S256x1024 .f32) : k0_pay8 (F := Ideal) x = k0_pay4 (F := Ideal) x := rfl

/-- The backward pass of a norm of a block, from the gradient of its result. -/
def vback (d x : FVec Ideal S256x1024 .f32) (g : FVec Ideal S1x1024 .f32) : FVec Ideal S256x1024 .f32 :=
  mulf (broadcastTo S256x1024 (k0_pay3 (F := Ideal) x) broadcasts_S256x1_S256x1024)
    (subf (mulf (broadcastTo S256x1024 g broadcasts_S1x1024_S256x1024) d)
      (mulf (k0_pay4 (F := Ideal) x) (broadcastTo S256x1024 (divf (shapeCast S256x1 (multiReduction .add [1] S256
        (mulf (mulf (broadcastTo S256x1024 g broadcasts_S1x1024_S256x1024) d) (k0_pay4 (F := Ideal) x)) 0x00000000#32 reduces_S256x1024_S256 (.inl rfl) rfl)
          shapeCasts_S256_S256x1) (broadcast S256x1 (Scalar.ofBits .f32 0x44800000#32))) broadcasts_S256x1_S256x1024)))

theorem vback_apply (d x : FVec Ideal S256x1024 .f32) (g : FVec Ideal S1x1024 .f32) (r : Fin 256) (l : Fin 1024) :
    vback d x g (ix2 r l) = back (row x r) (row d r) (row g 0) l := by
  unfold vback back
  rw [mulf_apply, subf_apply, mulf_apply, mulf_apply, spread_apply, spread_apply, spreadRow_apply, pay3_apply, pay4_apply,
    divf_at, rsum_apply, broadcast_apply, lit_at, Cert.Gate.lit_1024]
  have e : ∀ k : Fin 1024, mulf (mulf (broadcastTo S256x1024 g broadcasts_S1x1024_S256x1024) d) (k0_pay4 (F := Ideal) x) (ix2 r k)
      = row g 0 k * row d r k * (row x r k * rs (row x r)) := fun k => by
    rw [mulf_apply, mulf_apply, spreadRow_apply, pay4_apply]
    rfl
  rw [Finset.sum_congr rfl fun k _ => e k]
  rfl

theorem pay6_eq (a b : FVec Ideal S256x2816 .bf16) (u v : FVec Ideal S2816x1024 .bf16) (x : FVec Ideal S256x1024 .f32)
    (g : FVec Ideal S1x1024 .f32) (y : FVec Ideal S256x1024 .f32) :
    k0_pay6 (F := Ideal) a u b v x g y = addf y (vback (k0_pay2 (F := Ideal) a u b v) x g) := rfl

theorem pay9_eq (d x : FVec Ideal S256x1024 .f32) (g : FVec Ideal S1x1024 .f32) :
    k0_pay9 (F := Ideal) d x g = truncf .bf16 (vback d x g) bitsLt_bf16_f32 := rfl

theorem pay6_apply (a b : FVec Ideal S256x2816 .bf16) (u v : FVec Ideal S2816x1024 .bf16) (x : FVec Ideal S256x1024 .f32)
    (g : FVec Ideal S1x1024 .f32) (y : FVec Ideal S256x1024 .f32) (r : Fin 256) (l : Fin 1024) :
    k0_pay6 (F := Ideal) a u b v x g y (ix2 r l) = row y r l + back (row x r) (dh a b u v r) (row g 0) l := by
  rw [pay6_eq, addf_apply, vback_apply]
  have e : row (k0_pay2 (F := Ideal) a u b v) r = dh a b u v r := funext fun l => pay2_apply a b u v r l
  rw [e]
  rfl

theorem pay9_apply (d x : FVec Ideal S256x1024 .f32) (g : FVec Ideal S1x1024 .f32) (r : Fin 256) (l : Fin 1024) :
    k0_pay9 (F := Ideal) d x g (ix2 r l) = back (row x r) (row d r) (row g 0) l := by
  rw [pay9_eq, truncf_apply]
  exact vback_apply d x g r l

/-- The column sums of what the first norm's gains get. -/
theorem pay10_apply (a b : FVec Ideal S256x2816 .bf16) (u v : FVec Ideal S2816x1024 .bf16) (x : FVec Ideal S256x1024 .f32) (l : Fin 1024) :
    k0_pay10 (F := Ideal) (k0_pay5 (F := Ideal) a u b v x) (ix2 0 l) = ∑ r : Fin 256, dh a b u v r l * (row x r l * rs (row x r)) := by
  unfold k0_pay10
  dsimp only
  rw [csum_apply]
  refine Finset.sum_congr rfl fun r _ => ?_
  unfold k0_pay5
  rw [mulf_apply, pay2_apply, pay4_apply]

theorem pay11_apply (y : FVec Ideal S256x1024 .f32) (acc : FVec Ideal S1x1024 .f32) (l : Fin 1024) :
    k0_pay11 (F := Ideal) y acc (ix2 0 l) = acc (ix2 0 l) + k0_pay10 (F := Ideal) y (ix2 0 l) := by
  unfold k0_pay11
  rw [addf_apply, shapeCast_self]

theorem pay12_apply (d x : FVec Ideal S256x1024 .f32) (l : Fin 1024) :
    k0_pay12 (F := Ideal) d x (ix2 0 l) = ∑ r : Fin 256, row d r l * (row x r l * rs (row x r)) := by
  unfold k0_pay12
  dsimp only
  rw [csum_apply]
  refine Finset.sum_congr rfl fun r _ => ?_
  rw [mulf_apply, pay8_eq, pay4_apply]
  rfl

theorem pay1_apply (y acc : FVec Ideal S1x1024 .f32) (l : Fin 1024) :
    k0_pay1 (F := Ideal) y acc (ix2 0 l) = acc (ix2 0 l) + y (ix2 0 l) := by
  unfold k0_pay1
  rw [addf_apply, shapeCast_self]

end Cert.Kernel2Ideal.Mid
-- ==== Proof.Mid.Out.lean ====
/-
What a point of the product and norms' backward kernel leaves in its four result windows.
-/
module

public import proofs.«01_k».proof.Proof.Mid.Vec
public import proofs.«01_k».proof.Proof.Gen.Kernel2Ideal.Frame

@[expose] public section

noncomputable section

namespace Cert.Kernel2Ideal.Mid

open Idealize.ShloMosaic hiding ix0 ix1 ix2 ix3 ix4 ix5
open Idealize.ShloMosaic.ValueIdx Idealize.ShloMosaic.TcCoe Idealize.SL.Sem Cert.Kernel2Ideal.Gen Cert.Mid
open scoped BigOperators

theorem hz : (![0, 0] : Fin 2 → Nat) = fun _ => 0 := funext fun a => by fin_cases a <;> rfl

section
variable {F : FTy → Type} [FloatOps F]

/-- A whole block loaded. -/
def ldA (r : Memref sig .tc .vmem S256x2816 .bf16) (h : r.IsWhole) (x : Vec F S256x2816 .bf16) : Vec F S256x2816 .bf16 :=
  View.readAt (Elt F) r.view (Rect.unit (s := S256x2816) ![0, 0] S256x2816.size inb_S256x2816_S256x2816_0_0).toLoadRect (h.unread x)
theorem ldA_eq (r : Memref sig .tc .vmem S256x2816 .bf16) (h : r.IsWhole) (x : Vec F S256x2816 .bf16) : ldA r h x = x := by
  unfold ldA
  rw [View.readAt_eq_ld, h.read_unread, View.ld_unit_zero (S := S256x2816) hz]

/-- A whole block loaded. -/
def ldW (r : Memref sig .tc .vmem S2816x1024 .bf16) (h : r.IsWhole) (x : Vec F S2816x1024 .bf16) : Vec F S2816x1024 .bf16 :=
  View.readAt (Elt F) r.view (Rect.unit (s := S2816x1024) ![0, 0] S2816x1024.size inb_S2816x1024_S2816x1024_0_0).toLoadRect (h.unread x)
theorem ldW_eq (r : Memref sig .tc .vmem S2816x1024 .bf16) (h : r.IsWhole) (x : Vec F S2816x1024 .bf16) : ldW r h x = x := by
  unfold ldW
  rw [View.readAt_eq_ld, h.read_unread, View.ld_unit_zero (S := S2816x1024) hz]

/-- A whole block loaded. -/
def ldX (r : Memref sig .tc .vmem S256x1024 .f32) (h : r.IsWhole) (x : Vec F S256x1024 .f32) : Vec F S256x1024 .f32 :=
  View.readAt (Elt F) r.view (Rect.unit (s := S256x1024) ![0, 0] S256x1024.size inb_S256x1024_S256x1024_0_0).toLoadRect (h.unread x)
theorem ldX_eq (r : Memref sig .tc .vmem S256x1024 .f32) (h : r.IsWhole) (x : Vec F S256x1024 .f32) : ldX r h x = x := by
  unfold ldX
  rw [View.readAt_eq_ld, h.read_unread, View.ld_unit_zero (S := S256x1024) hz]

/-- A whole block loaded. -/
def ldG (r : Memref sig .tc .vmem S1x1024 .f32) (h : r.IsWhole) (x : Vec F S1x1024 .f32) : Vec F S1x1024 .f32 :=
  View.readAt (Elt F) r.view (Rect.unit (s := S1x1024) ![0, 0] S1x1024.size inb_S1x1024_S1x1024_0_0).toLoadRect (h.unread x)
theorem ldG_eq (r : Memref sig .tc .vmem S1x1024 .f32) (h : r.IsWhole) (x : Vec F S1x1024 .f32) : ldG r h x = x := by
  unfold ldG
  rw [View.readAt_eq_ld, h.read_unread, View.ld_unit_zero (S := S1x1024) hz]

variable (c : Dev nD) (i : grid0.Coords)
    (arg1 : Memref sig .tc .vmem S256x2816 .bf16) (harg1 : arg1.IsWhole)
    (arg2 : Memref sig .tc .vmem S256x2816 .bf16) (harg2 : arg2.IsWhole)
    (arg3 : Memref sig .tc .vmem S2816x1024 .bf16) (harg3 : arg3.IsWhole)
    (arg4 : Memref sig .tc .vmem S2816x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .f32) (harg10 : arg10.IsWhole)
    (arg11 : Memref sig .tc .vmem S256x1024 .bf16) (harg11 : arg11.IsWhole)
    (arg12 : Memref sig .tc .vmem S1x1024 .f32) (harg12 : arg12.IsWhole)
    (arg13 : Memref sig .tc .vmem S1x1024 .f32) (harg13 : arg13.IsWhole)
    (x0 : Vec F S256x2816 .bf16)
    (x1 : Vec F S256x2816 .bf16)
    (x2 : Vec F S2816x1024 .bf16)
    (x3 : Vec F S2816x1024 .bf16)
    (x4 : Vec F S256x1024 .f32)
    (x5 : Vec F S256x1024 .f32)
    (x6 : Vec F S256x1024 .f32)
    (x7 : Vec F S1x1024 .f32)
    (x8 : Vec F S1x1024 .f32)
    (xo11 xo12 : Vec F S1x1024 .f32)

theorem runA_9 (hc0 : cond0_0 i) (hc1 : ¬cond0_1 i) (hc2 : cond0_2 i) (hc3 : ¬cond0_3 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).1 =
      [⟨Rect.unit (s := S256x1024) ![0, 0] S256x1024.size inb_S256x1024_S256x1024_0_0,
        k0_pay6 (ldA arg1 harg1 x0) (ldW arg3 harg3 x2) (ldA arg2 harg2 x1) (ldW arg4 harg4 x3) (ldX arg5 harg5 x4) (ldG arg8 harg8 x7) (ldX arg6 harg6 x5)⟩] := rfl

theorem runA_10 (hc0 : cond0_0 i) (hc1 : ¬cond0_1 i) (hc2 : cond0_2 i) (hc3 : ¬cond0_3 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).2.1 =
      [⟨Rect.unit (s := S256x1024) ![0, 0] S256x1024.size inb_S256x1024_S256x1024_0_0,
        k0_pay9 (k0_pay6 (ldA arg1 harg1 x0) (ldW arg3 harg3 x2) (ldA arg2 harg2 x1) (ldW arg4 harg4 x3) (ldX arg5 harg5 x4) (ldG arg8 harg8 x7) (ldX arg6 harg6 x5)) (ldX arg7 harg7 x6) (ldG arg9 harg9 x8)⟩] := rfl

theorem runA_11 (hc0 : cond0_0 i) (hc1 : ¬cond0_1 i) (hc2 : cond0_2 i) (hc3 : ¬cond0_3 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).2.2.1 =
      [⟨Rect.unit (s := S1x1024) ![0, 0] S1x1024.size inb_S1x1024_S1x1024_0_0,
        k0_pay10 (k0_pay5 (ldA arg1 harg1 x0) (ldW arg3 harg3 x2) (ldA arg2 harg2 x1) (ldW arg4 harg4 x3) (ldX arg5 harg5 x4))⟩] := rfl

theorem runA_12 (hc0 : cond0_0 i) (hc1 : ¬cond0_1 i) (hc2 : cond0_2 i) (hc3 : ¬cond0_3 i) :
    (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8).2.2.2.1 =
      [⟨Rect.unit (s := S1x1024) ![0, 0] S1x1024.size inb_S1x1024_S1x1024_0_0,
        k0_pay12 (k0_pay6 (ldA arg1 harg1 x0) (ldW arg3 harg3 x2) (ldA arg2 harg2 x1) (ldW arg4 harg4 x3) (ldX arg5 harg5 x4) (ldG arg8 harg8 x7) (ldX arg6 harg6 x5)) (ldX arg7 harg7 x6)⟩] := rfl

theorem runB_9 (hc0 : ¬cond0_0 i) (hc1 : cond0_1 i) (hc2 : ¬cond0_2 i) (hc3 : cond0_3 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12).1 =
      [⟨Rect.unit (s := S256x1024) ![0, 0] S256x1024.size inb_S256x1024_S256x1024_0_0,
        k0_pay6 (ldA arg1 harg1 x0) (ldW arg3 harg3 x2) (ldA arg2 harg2 x1) (ldW arg4 harg4 x3) (ldX arg5 harg5 x4) (ldG arg8 harg8 x7) (ldX arg6 harg6 x5)⟩] := rfl

theorem runB_10 (hc0 : ¬cond0_0 i) (hc1 : cond0_1 i) (hc2 : ¬cond0_2 i) (hc3 : cond0_3 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12).2.1 =
      [⟨Rect.unit (s := S256x1024) ![0, 0] S256x1024.size inb_S256x1024_S256x1024_0_0,
        k0_pay9 (k0_pay6 (ldA arg1 harg1 x0) (ldW arg3 harg3 x2) (ldA arg2 harg2 x1) (ldW arg4 harg4 x3) (ldX arg5 harg5 x4) (ldG arg8 harg8 x7) (ldX arg6 harg6 x5)) (ldX arg7 harg7 x6) (ldG arg9 harg9 x8)⟩] := rfl

theorem runB_11 (hc0 : ¬cond0_0 i) (hc1 : cond0_1 i) (hc2 : ¬cond0_2 i) (hc3 : cond0_3 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12).2.2.1 =
      [⟨Rect.unit (s := S1x1024) ![0, 0] S1x1024.size inb_S1x1024_S1x1024_0_0,
        k0_pay11 (k0_pay5 (ldA arg1 harg1 x0) (ldW arg3 harg3 x2) (ldA arg2 harg2 x1) (ldW arg4 harg4 x3) (ldX arg5 harg5 x4)) (ldG arg12 harg12 xo11)⟩] := rfl

theorem runB_12 (hc0 : ¬cond0_0 i) (hc1 : cond0_1 i) (hc2 : ¬cond0_2 i) (hc3 : cond0_3 i) :
    (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12).2.2.2.1 =
      [⟨Rect.unit (s := S1x1024) ![0, 0] S1x1024.size inb_S1x1024_S1x1024_0_0,
        k0_pay1 (k0_pay12 (k0_pay6 (ldA arg1 harg1 x0) (ldW arg3 harg3 x2) (ldA arg2 harg2 x1) (ldW arg4 harg4 x3) (ldX arg5 harg5 x4) (ldG arg8 harg8 x7) (ldX arg6 harg6 x5)) (ldX arg7 harg7 x6)) (ldG arg13 harg13 xo12)⟩] := rfl

end

section
variable (c : Dev nD) (i : grid0.Coords)
    (arg1 : Memref sig .tc .vmem S256x2816 .bf16) (harg1 : arg1.IsWhole)
    (arg2 : Memref sig .tc .vmem S256x2816 .bf16) (harg2 : arg2.IsWhole)
    (arg3 : Memref sig .tc .vmem S2816x1024 .bf16) (harg3 : arg3.IsWhole)
    (arg4 : Memref sig .tc .vmem S2816x1024 .bf16) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S256x1024 .f32) (harg10 : arg10.IsWhole)
    (arg11 : Memref sig .tc .vmem S256x1024 .bf16) (harg11 : arg11.IsWhole)
    (arg12 : Memref sig .tc .vmem S1x1024 .f32) (harg12 : arg12.IsWhole)
    (arg13 : Memref sig .tc .vmem S1x1024 .f32) (harg13 : arg13.IsWhole)
    (x0 : Vec Ideal S256x2816 .bf16)
    (x1 : Vec Ideal S256x2816 .bf16)
    (x2 : Vec Ideal S2816x1024 .bf16)
    (x3 : Vec Ideal S2816x1024 .bf16)
    (x4 : Vec Ideal S256x1024 .f32)
    (x5 : Vec Ideal S256x1024 .f32)
    (x6 : Vec Ideal S256x1024 .f32)
    (x7 : Vec Ideal S1x1024 .f32)
    (x8 : Vec Ideal S1x1024 .f32)
    (xo11 xo12 : Vec Ideal S1x1024 .f32)

/-- What a point adds to the residual gradient's rows. -/
def pdx (r : Fin 256) (l : Fin 1024) : EReal := row x5 r l + back (row x4 r) (dh x0 x1 x2 x3 r) (row x7 0) l

theorem row_pay6 (r : Fin 256) :
    row (k0_pay6 (F := Ideal) x0 x2 x1 x3 x4 x7 x5) r = pdx x0 x1 x2 x3 x4 x5 x7 r :=
  funext fun l => pay6_apply x0 x1 x2 x3 x4 x7 x5 r l

theorem outA_9 (hc0 : cond0_0 i) (hc1 : ¬cond0_1 i) (hc2 : cond0_2 i) (hc3 : ¬cond0_3 i) (r : Fin 256) (l : Fin 1024) :
    out0_A_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 (ix2 r l) =
      pdx x0 x1 x2 x3 x4 x5 x7 r l := by
  unfold out0_A_9
  rw [View.read_writes_junk_eq_canon, runA_9, View.canon_cons_unit_zero (S := S256x1024) hz]
  simp only [ldA_eq, ldW_eq, ldX_eq, ldG_eq]
  exact pay6_apply x0 x1 x2 x3 x4 x7 x5 r l

theorem outA_10 (hc0 : cond0_0 i) (hc1 : ¬cond0_1 i) (hc2 : cond0_2 i) (hc3 : ¬cond0_3 i) (r : Fin 256) (l : Fin 1024) :
    out0_A_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 (ix2 r l) =
      back (row x6 r) (pdx x0 x1 x2 x3 x4 x5 x7 r) (row x8 0) l := by
  unfold out0_A_10
  rw [View.read_writes_junk_eq_canon, runA_10, View.canon_cons_unit_zero (S := S256x1024) hz]
  simp only [ldA_eq, ldW_eq, ldX_eq, ldG_eq]
  refine (pay9_apply _ x6 x8 r l).trans ?_
  rw [row_pay6]

theorem outA_11 (hc0 : cond0_0 i) (hc1 : ¬cond0_1 i) (hc2 : cond0_2 i) (hc3 : ¬cond0_3 i) (l : Fin 1024) :
    out0_A_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 (ix2 0 l) =
      ∑ r : Fin 256, dh x0 x1 x2 x3 r l * (row x4 r l * rs (row x4 r)) := by
  unfold out0_A_11
  rw [View.read_writes_junk_eq_canon, runA_11, View.canon_cons_unit_zero (S := S1x1024) hz]
  simp only [ldA_eq, ldW_eq, ldX_eq]
  exact pay10_apply x0 x1 x2 x3 x4 l

theorem outA_12 (hc0 : cond0_0 i) (hc1 : ¬cond0_1 i) (hc2 : cond0_2 i) (hc3 : ¬cond0_3 i) (l : Fin 1024) :
    out0_A_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 (ix2 0 l) =
      ∑ r : Fin 256, pdx x0 x1 x2 x3 x4 x5 x7 r l * (row x6 r l * rs (row x6 r)) := by
  unfold out0_A_12
  rw [View.read_writes_junk_eq_canon, runA_12, View.canon_cons_unit_zero (S := S1x1024) hz]
  simp only [ldA_eq, ldW_eq, ldX_eq, ldG_eq]
  refine (pay12_apply _ x6 l).trans ?_
  exact Finset.sum_congr rfl fun r _ => by rw [row_pay6]

theorem outB_9 (hc0 : ¬cond0_0 i) (hc1 : cond0_1 i) (hc2 : ¬cond0_2 i) (hc3 : cond0_3 i) (r : Fin 256) (l : Fin 1024) :
    out0_B_9 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12 (ix2 r l) =
      pdx x0 x1 x2 x3 x4 x5 x7 r l := by
  unfold out0_B_9
  rw [View.read_writes_junk_eq_canon, runB_9, View.canon_cons_unit_zero (S := S256x1024) hz]
  simp only [ldA_eq, ldW_eq, ldX_eq, ldG_eq]
  exact pay6_apply x0 x1 x2 x3 x4 x7 x5 r l

theorem outB_10 (hc0 : ¬cond0_0 i) (hc1 : cond0_1 i) (hc2 : ¬cond0_2 i) (hc3 : cond0_3 i) (r : Fin 256) (l : Fin 1024) :
    out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12 (ix2 r l) =
      back (row x6 r) (pdx x0 x1 x2 x3 x4 x5 x7 r) (row x8 0) l := by
  unfold out0_B_10
  rw [View.read_writes_junk_eq_canon, runB_10, View.canon_cons_unit_zero (S := S256x1024) hz]
  simp only [ldA_eq, ldW_eq, ldX_eq, ldG_eq]
  refine (pay9_apply _ x6 x8 r l).trans ?_
  rw [row_pay6]

theorem outB_11 (hc0 : ¬cond0_0 i) (hc1 : cond0_1 i) (hc2 : ¬cond0_2 i) (hc3 : cond0_3 i) (l : Fin 1024) :
    out0_B_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12 (ix2 0 l) =
      xo11 (ix2 0 l) + ∑ r : Fin 256, dh x0 x1 x2 x3 r l * (row x4 r l * rs (row x4 r)) := by
  unfold out0_B_11
  rw [View.read_writes_junk_eq_canon, runB_11, View.canon_cons_unit_zero (S := S1x1024) hz]
  simp only [ldA_eq, ldW_eq, ldX_eq, ldG_eq]
  refine (pay11_apply _ xo11 l).trans ?_
  rw [pay10_apply x0 x1 x2 x3 x4 l]

theorem outB_12 (hc0 : ¬cond0_0 i) (hc1 : cond0_1 i) (hc2 : ¬cond0_2 i) (hc3 : cond0_3 i) (l : Fin 1024) :
    out0_B_12 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xo11 xo12 (ix2 0 l) =
      xo12 (ix2 0 l) + ∑ r : Fin 256, pdx x0 x1 x2 x3 x4 x5 x7 r l * (row x6 r l * rs (row x6 r)) := by
  unfold out0_B_12
  rw [View.read_writes_junk_eq_canon, runB_12, View.canon_cons_unit_zero (S := S1x1024) hz]
  simp only [ldA_eq, ldW_eq, ldX_eq, ldG_eq]
  refine (pay1_apply _ xo12 l).trans ?_
  refine congrArg (fun s => xo12 (ix2 0 l) + s) ((pay12_apply _ x6 l).trans ?_)
  exact Finset.sum_congr rfl fun r _ => by rw [row_pay6]

end

end Cert.Kernel2Ideal.Mid
-- ==== Proof.Mid.Final.lean ====
/-
The product and norms' backward kernel's four result arrays after the run, at an index: the two gradient arrays row by
row, and the two sums over all 4096 rows.
-/
module

public import proofs.«01_k».proof.Proof.Mid.Out
public import proofs.«01_k».proof.Proof.Gen.Kernel2Ideal.Value

@[expose] public section

noncomputable section

namespace Cert.Kernel2Ideal.Mid

open Idealize.ShloMosaic hiding ix0 ix1 ix2 ix3 ix4 ix5
open Idealize.ShloMosaic.ValueIdx Idealize.ShloMosaic.TcCoe Idealize.SL.Sem Cert.Kernel2Ideal.Gen Cert.Mid
open scoped BigOperators
open Idealize.ShloMosaic.Pipeline (Dat)

theorem lt16 (t : Fin cfg0.N) : t.val < 16 := lt_of_lt_of_eq t.isLt (show cfg0.N = 16 from N_0)

/-- Row r of point t's 256 rows. -/
def rowt (t : Fin cfg0.N) (r : Fin 256) : Fin 4096 :=
  ⟨256 * t.val + r.val, by have := lt16 t; omega⟩

variable (m : (ℓ : Loc nD τ sig) → Buf (Elt Ideal) ℓ) (c : Dev nD)

/-! The arguments. -/

abbrev dgp : FVec Ideal S4096x2816 .bf16 := m ((c : Thread nD τ).loc main_arg0)
abbrev dup : FVec Ideal S4096x2816 .bf16 := m ((c : Thread nD τ).loc main_arg1)
abbrev wg : FVec Ideal S2816x1024 .bf16 := m ((c : Thread nD τ).loc main_arg2)
abbrev wu : FVec Ideal S2816x1024 .bf16 := m ((c : Thread nD τ).loc main_arg3)
abbrev xx : FVec Ideal S4096x1024 .f32 := m ((c : Thread nD τ).loc main_arg4)
abbrev dout : FVec Ideal S4096x1024 .f32 := m ((c : Thread nD τ).loc main_arg5)
abbrev zz : FVec Ideal S4096x1024 .f32 := m ((c : Thread nD τ).loc main_arg6)
abbrev g3 : FVec Ideal S1x1024 .f32 := m ((c : Thread nD τ).loc main_arg7)
abbrev g2 : FVec Ideal S1x1024 .f32 := m ((c : Thread nD τ).loc main_arg8)

/-- The gradient of the normalized input, a row. -/
def gdh (R : Fin 4096) (l : Fin 1024) : EReal :=
  ∑ k : Fin 2816, dgp m c (ix2 R k) * wg m c (ix2 k l) + ∑ k : Fin 2816, dup m c (ix2 R k) * wu m c (ix2 k l)
/-- The gradient of the residual, a row. -/
def gdx (R : Fin 4096) (l : Fin 1024) : EReal :=
  row (dout m c) R l + back (row (xx m c) R) (gdh m c R) (row (g3 m c) 0) l

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)

theorem blk0 (t : Fin cfg0.N) (r : Fin 256) (l : Fin 2816) :
    (iblk m c 0 t : Vec Ideal S256x2816 .bf16) (ix2 r l) = dgp m c (ix2 (rowt t r) l) := by
  unfold iblk
  rw [View.read_apply]
  show V m c main_arg0 _ = _
  rw [V_main_arg0]
  refine congrArg (dgp m c) ?_
  funext a
  apply Fin.ext
  match a with
  | ⟨0, _⟩ => show win0_0.index t 0 * 256 + 1 * r.val = 256 * t.val + r.val; rw [(idx0 t).1]; omega
  | ⟨1, _⟩ => show win0_0.index t 1 * 2816 + 1 * l.val = l.val; rw [(idx0 t).2]; omega

theorem blk1 (t : Fin cfg0.N) (r : Fin 256) (l : Fin 2816) :
    (iblk m c 1 t : Vec Ideal S256x2816 .bf16) (ix2 r l) = dup m c (ix2 (rowt t r) l) := by
  unfold iblk
  rw [View.read_apply]
  show V m c main_arg1 _ = _
  rw [V_main_arg1]
  refine congrArg (dup m c) ?_
  funext a
  apply Fin.ext
  match a with
  | ⟨0, _⟩ => show win0_1.index t 0 * 256 + 1 * r.val = 256 * t.val + r.val; rw [(idx1 t).1]; omega
  | ⟨1, _⟩ => show win0_1.index t 1 * 2816 + 1 * l.val = l.val; rw [(idx1 t).2]; omega

theorem blk2 (t : Fin cfg0.N) (r : Fin 2816) (l : Fin 1024) :
    (iblk m c 2 t : Vec Ideal S2816x1024 .bf16) (ix2 r l) = wg m c (ix2 (r) l) := by
  unfold iblk
  rw [View.read_apply]
  show V m c main_arg2 _ = _
  rw [V_main_arg2]
  refine congrArg (wg m c) ?_
  funext a
  apply Fin.ext
  match a with
  | ⟨0, _⟩ => show win0_2.index t 0 * 2816 + 1 * r.val = r.val; rw [(idx2 t).1]; omega
  | ⟨1, _⟩ => show win0_2.index t 1 * 1024 + 1 * l.val = l.val; rw [(idx2 t).2]; omega

theorem blk3 (t : Fin cfg0.N) (r : Fin 2816) (l : Fin 1024) :
    (iblk m c 3 t : Vec Ideal S2816x1024 .bf16) (ix2 r l) = wu m c (ix2 (r) l) := by
  unfold iblk
  rw [View.read_apply]
  show V m c main_arg3 _ = _
  rw [V_main_arg3]
  refine congrArg (wu m c) ?_
  funext a
  apply Fin.ext
  match a with
  | ⟨0, _⟩ => show win0_3.index t 0 * 2816 + 1 * r.val = r.val; rw [(idx3 t).1]; omega
  | ⟨1, _⟩ => show win0_3.index t 1 * 1024 + 1 * l.val = l.val; rw [(idx3 t).2]; omega

theorem blk4 (t : Fin cfg0.N) (r : Fin 256) (l : Fin 1024) :
    (iblk m c 4 t : Vec Ideal S256x1024 .f32) (ix2 r l) = xx m c (ix2 (rowt t r) l) := by
  unfold iblk
  rw [View.read_apply]
  show V m c main_arg4 _ = _
  rw [V_main_arg4]
  refine congrArg (xx m c) ?_
  funext a
  apply Fin.ext
  match a with
  | ⟨0, _⟩ => show win0_4.index t 0 * 256 + 1 * r.val = 256 * t.val + r.val; rw [(idx4 t).1]; omega
  | ⟨1, _⟩ => show win0_4.index t 1 * 1024 + 1 * l.val = l.val; rw [(idx4 t).2]; omega

theorem blk5 (t : Fin cfg0.N) (r : Fin 256) (l : Fin 1024) :
    (iblk m c 5 t : Vec Ideal S256x1024 .f32) (ix2 r l) = dout m c (ix2 (rowt t r) l) := by
  unfold iblk
  rw [View.read_apply]
  show V m c main_arg5 _ = _
  rw [V_main_arg5]
  refine congrArg (dout m c) ?_
  funext a
  apply Fin.ext
  match a with
  | ⟨0, _⟩ => show win0_5.index t 0 * 256 + 1 * r.val = 256 * t.val + r.val; rw [(idx5 t).1]; omega
  | ⟨1, _⟩ => show win0_5.index t 1 * 1024 + 1 * l.val = l.val; rw [(idx5 t).2]; omega

theorem blk6 (t : Fin cfg0.N) (r : Fin 256) (l : Fin 1024) :
    (iblk m c 6 t : Vec Ideal S256x1024 .f32) (ix2 r l) = zz m c (ix2 (rowt t r) l) := by
  unfold iblk
  rw [View.read_apply]
  show V m c main_arg6 _ = _
  rw [V_main_arg6]
  refine congrArg (zz m c) ?_
  funext a
  apply Fin.ext
  match a with
  | ⟨0, _⟩ => show win0_6.index t 0 * 256 + 1 * r.val = 256 * t.val + r.val; rw [(idx6 t).1]; omega
  | ⟨1, _⟩ => show win0_6.index t 1 * 1024 + 1 * l.val = l.val; rw [(idx6 t).2]; omega

theorem blk7 (t : Fin cfg0.N) (r : Fin 1) (l : Fin 1024) :
    (iblk m c 7 t : Vec Ideal S1x1024 .f32) (ix2 r l) = g3 m c (ix2 (r) l) := by
  unfold iblk
  rw [View.read_apply]
  show V m c main_arg7 _ = _
  rw [V_main_arg7]
  refine congrArg (g3 m c) ?_
  funext a
  apply Fin.ext
  match a with
  | ⟨0, _⟩ => show win0_7.index t 0 * 1 + 1 * r.val = r.val; rw [(idx7 t).1]; omega
  | ⟨1, _⟩ => show win0_7.index t 1 * 1024 + 1 * l.val = l.val; rw [(idx7 t).2]; omega

theorem blk8 (t : Fin cfg0.N) (r : Fin 1) (l : Fin 1024) :
    (iblk m c 8 t : Vec Ideal S1x1024 .f32) (ix2 r l) = g2 m c (ix2 (r) l) := by
  unfold iblk
  rw [View.read_apply]
  show V m c main_arg8 _ = _
  rw [V_main_arg8]
  refine congrArg (g2 m c) ?_
  funext a
  apply Fin.ext
  match a with
  | ⟨0, _⟩ => show win0_8.index t 0 * 1 + 1 * r.val = r.val; rw [(idx8 t).1]; omega
  | ⟨1, _⟩ => show win0_8.index t 1 * 1024 + 1 * l.val = l.val; rw [(idx8 t).2]; omega

theorem dh_congr (a b : FVec Ideal S256x2816 .bf16) (u v : FVec Ideal S2816x1024 .bf16) (A B : FVec Ideal S4096x2816 .bf16)
    (U W : FVec Ideal S2816x1024 .bf16) (r : Fin 256) (R : Fin 4096) (l : Fin 1024)
    (ha : ∀ k, a (ix2 r k) = A (ix2 R k)) (hb : ∀ k, b (ix2 r k) = B (ix2 R k))
    (hu : ∀ k, u (ix2 k l) = U (ix2 k l)) (hv : ∀ k, v (ix2 k l) = W (ix2 k l)) :
    dh a b u v r l = ∑ k : Fin 2816, A (ix2 R k) * U (ix2 k l) + ∑ k : Fin 2816, B (ix2 R k) * W (ix2 k l) := by
  unfold dh
  simp only [ha, hb, hu, hv]

theorem dh_blk (t : Fin cfg0.N) (r : Fin 256) :
    dh (iblk m c 0 t) (iblk m c 1 t) (iblk m c 2 t) (iblk m c 3 t) r = gdh m c (rowt t r) :=
  funext fun l => dh_congr _ _ _ _ _ _ _ _ r (rowt t r) l (fun k => blk0 m c t r k) (fun k => blk1 m c t r k)
    (fun k => blk2 m c t k l) (fun k => blk3 m c t k l)

theorem row4 (t : Fin cfg0.N) (r : Fin 256) : row (iblk m c 4 t : Vec Ideal S256x1024 .f32) r = row (xx m c) (rowt t r) :=
  funext fun l => blk4 m c t r l
theorem row5 (t : Fin cfg0.N) (r : Fin 256) : row (iblk m c 5 t : Vec Ideal S256x1024 .f32) r = row (dout m c) (rowt t r) :=
  funext fun l => blk5 m c t r l
theorem row6 (t : Fin cfg0.N) (r : Fin 256) : row (iblk m c 6 t : Vec Ideal S256x1024 .f32) r = row (zz m c) (rowt t r) :=
  funext fun l => blk6 m c t r l
theorem row7 (t : Fin cfg0.N) : row (iblk m c 7 t : Vec Ideal S1x1024 .f32) 0 = row (g3 m c) 0 :=
  funext fun l => blk7 m c t 0 l
theorem row8 (t : Fin cfg0.N) : row (iblk m c 8 t : Vec Ideal S1x1024 .f32) 0 = row (g2 m c) 0 :=
  funext fun l => blk8 m c t 0 l

theorem pdx_blk (t : Fin cfg0.N) (r : Fin 256) :
    pdx (iblk m c 0 t) (iblk m c 1 t) (iblk m c 2 t) (iblk m c 3 t) (iblk m c 4 t) (iblk m c 5 t) (iblk m c 7 t) r = gdx m c (rowt t r) := by
  funext l
  refine Eq.trans (congrArg₂ (fun p q => p + q) (blk5 m c t r l) (congrFun (?_ : back (row (iblk m c 4 t : Vec Ideal S256x1024 .f32) r)
    (dh (iblk m c 0 t) (iblk m c 1 t) (iblk m c 2 t) (iblk m c 3 t) r) (row (iblk m c 7 t : Vec Ideal S1x1024 .f32) 0) = _) l)) rfl
  rw [row4, row7, dh_blk]

/-- Point t's part of the first sum. -/
def part11 (t : Fin cfg0.N) (l : Fin 1024) : EReal :=
  ∑ r : Fin 256, gdh m c (rowt t r) l * (row (xx m c) (rowt t r) l * rs (row (xx m c) (rowt t r)))
/-- Point t's part of the second sum. -/
def part12 (t : Fin cfg0.N) (l : Fin 1024) : EReal :=
  ∑ r : Fin 256, gdx m c (rowt t r) l * (row (zz m c) (rowt t r) l * rs (row (zz m c) (rowt t r)))

section
variable {α β γ δ : Type} {p : α × β × γ × δ} {a : α} {b : β} {g : γ} {d : δ}
/-- A named tuple's first part, and so on. -/
theorem at_fst (h : p = (a, b, g, d)) : p.1 = a := by rw [h]
theorem at_snd (h : p = (a, b, g, d)) : p.2.1 = b := by rw [h]
theorem at_3rd (h : p = (a, b, g, d)) : p.2.2.1 = g := by rw [h]
theorem at_4th (h : p = (a, b, g, d)) : p.2.2.2 = d := by rw [h]
end

/-- What a point leaves in window 9. -/
theorem out9 (t : Fin cfg0.N) (r : Fin 256) (l : Fin 1024) :
    (outsAt0 m c t.val t.isLt).1 (ix2 r l) = gdx m c (rowt t r) l := by
  have hl := lt16 t
  by_cases h0 : t.val % 16 = 0
  · have h1 : ¬1 ≤ t.val := by omega
    have e := outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      ((hcond0_0 t).mpr h0) (fun q => h1 ((hcond0_1 t).mp q)) ((hcond0_2 t).mpr h0) (fun q => h1 ((hcond0_3 t).mp q)) r l
    refine (congrFun (at_fst (outsAt0_A m c t h0 h1 h0 h1)) (ix2 r l)).trans (Eq.trans e ?_)
    clear e
    refine congrFun (pdx_blk m c t r) l
  · have h1 : 1 ≤ t.val := by omega
    have e := outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) (fun q => h0 ((hcond0_2 t).mp q)) ((hcond0_3 t).mpr h1) r l
    refine (congrFun (at_fst (outsAt0_B m c t h0 h1 h0 h1)) (ix2 r l)).trans (Eq.trans e ?_)
    clear e
    refine congrFun (pdx_blk m c t r) l

theorem emb9 (t : Fin cfg0.N) (r : Fin 256) (l : Fin 1024) :
    ((cfg0.win 9).blk t).view.emb (ix2 r l : S256x1024.Idx) = (ix2 (rowt t r) l : S4096x1024.Idx) := by
  funext a
  apply Fin.ext
  match a with
  | ⟨0, _⟩ => show win0_9.index t 0 * 256 + 1 * r.val = 256 * t.val + r.val; rw [(idx9 t).1]; omega
  | ⟨1, _⟩ => show win0_9.index t 1 * 1024 + 1 * l.val = l.val; rw [(idx9 t).2]; omega

/-- Window 9's array after the run. -/
theorem final9 (R : Fin 4096) (l : Fin 1024) :
    ((dats m 0 c).arrAt 9 cfg0.N : FVec Ideal S4096x1024 .f32) (ix2 R l) = gdx m c R l := by
  have hN : cfg0.N = 16 := N_0
  obtain ⟨t, r, rfl⟩ : ∃ (t : Fin cfg0.N) (r : Fin 256), R = rowt t r :=
    ⟨⟨R.val / 256, by omega⟩, ⟨R.val % 256, by omega⟩, Fin.ext (by simp only [rowt]; omega)⟩
  have h := congrFun (Value.blocks9 m c t (flush0_9 t)) (ix2 r l : S256x1024.Idx)
  rw [View.read_apply, Value.flushed9] at h
  exact (congrArg ((dats m 0 c).arrAt 9 cfg0.N) (emb9 t r l)).symm.trans (h.trans (out9 m c t r l))

/-- What a point leaves in window 10. -/
theorem out10 (t : Fin cfg0.N) (r : Fin 256) (l : Fin 1024) :
    (outsAt0 m c t.val t.isLt).2.1 (ix2 r l) = back (row (zz m c) (rowt t r)) (gdx m c (rowt t r)) (row (g2 m c) 0) l := by
  have hl := lt16 t
  by_cases h0 : t.val % 16 = 0
  · have h1 : ¬1 ≤ t.val := by omega
    have e := outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      ((hcond0_0 t).mpr h0) (fun q => h1 ((hcond0_1 t).mp q)) ((hcond0_2 t).mpr h0) (fun q => h1 ((hcond0_3 t).mp q)) r l
    refine (congrFun (at_snd (outsAt0_A m c t h0 h1 h0 h1)) (ix2 r l)).trans (Eq.trans e ?_)
    clear e
    refine congrFun (?_ : back (row (iblk m c 6 t : Vec Ideal S256x1024 .f32) r) (pdx (iblk m c 0 t) (iblk m c 1 t) (iblk m c 2 t) (iblk m c 3 t) (iblk m c 4 t) (iblk m c 5 t) (iblk m c 7 t) r)
      (row (iblk m c 8 t : Vec Ideal S1x1024 .f32) 0) = _) l
    rw [row6, row8, pdx_blk]
  · have h1 : 1 ≤ t.val := by omega
    have e := outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) (fun q => h0 ((hcond0_2 t).mp q)) ((hcond0_3 t).mpr h1) r l
    refine (congrFun (at_snd (outsAt0_B m c t h0 h1 h0 h1)) (ix2 r l)).trans (Eq.trans e ?_)
    clear e
    refine congrFun (?_ : back (row (iblk m c 6 t : Vec Ideal S256x1024 .f32) r) (pdx (iblk m c 0 t) (iblk m c 1 t) (iblk m c 2 t) (iblk m c 3 t) (iblk m c 4 t) (iblk m c 5 t) (iblk m c 7 t) r)
      (row (iblk m c 8 t : Vec Ideal S1x1024 .f32) 0) = _) l
    rw [row6, row8, pdx_blk]

theorem emb10 (t : Fin cfg0.N) (r : Fin 256) (l : Fin 1024) :
    ((cfg0.win 10).blk t).view.emb (ix2 r l : S256x1024.Idx) = (ix2 (rowt t r) l : S4096x1024.Idx) := by
  funext a
  apply Fin.ext
  match a with
  | ⟨0, _⟩ => show win0_10.index t 0 * 256 + 1 * r.val = 256 * t.val + r.val; rw [(idx10 t).1]; omega
  | ⟨1, _⟩ => show win0_10.index t 1 * 1024 + 1 * l.val = l.val; rw [(idx10 t).2]; omega

/-- Window 10's array after the run. -/
theorem final10 (R : Fin 4096) (l : Fin 1024) :
    ((dats m 0 c).arrAt 10 cfg0.N : FVec Ideal S4096x1024 .bf16) (ix2 R l) = back (row (zz m c) R) (gdx m c R) (row (g2 m c) 0) l := by
  have hN : cfg0.N = 16 := N_0
  obtain ⟨t, r, rfl⟩ : ∃ (t : Fin cfg0.N) (r : Fin 256), R = rowt t r :=
    ⟨⟨R.val / 256, by omega⟩, ⟨R.val % 256, by omega⟩, Fin.ext (by simp only [rowt]; omega)⟩
  have h := congrFun (Value.blocks10 m c t (flush0_10 t)) (ix2 r l : S256x1024.Idx)
  rw [View.read_apply, Value.flushed10] at h
  exact (congrArg ((dats m 0 c).arrAt 10 cfg0.N) (emb10 t r l)).symm.trans (h.trans (out10 m c t r l))

/-- Point i's part of a sum, zero past the last point. -/
def upto (f : Fin cfg0.N → EReal) (i : ℕ) : EReal := if h : i < cfg0.N then f ⟨i, h⟩ else 0

theorem upto_val (f : Fin cfg0.N → EReal) (t : Fin cfg0.N) : upto f t.val = f t := dif_pos t.isLt

/-- The parts of all points make the sum over all rows. -/
theorem all_parts (f : Fin 4096 → EReal) :
    ∑ i ∈ Finset.range (15 + 1), upto (fun t => ∑ r : Fin 256, f (rowt t r)) i = ∑ R, f R := by
  have hN : cfg0.N = 16 := N_0
  rw [show 15 + 1 = cfg0.N from hN.symm, Finset.sum_range]
  simp only [upto_val]
  rw [← Fintype.sum_prod_type' (f := fun t r => f (rowt t r))]
  refine Fintype.sum_bijective (fun p : Fin cfg0.N × Fin 256 => rowt p.1 p.2) ⟨?_, ?_⟩ _ _ fun p => rfl
  · rintro ⟨t, r⟩ ⟨t', r'⟩ h
    have h' : 256 * t.val + r.val = 256 * t'.val + r'.val := congrArg Fin.val h
    exact Prod.ext (Fin.ext (by dsimp only; omega)) (Fin.ext (by dsimp only; omega))
  · intro R
    exact ⟨(⟨R.val / 256, by omega⟩, ⟨R.val % 256, by omega⟩), Fin.ext (by simp only [rowt]; omega)⟩

/-- The last point is the only one that writes the sums back. -/
theorem last_only (t t' : Fin cfg0.N) (h : t.val % 16 = 15) (h' : t'.val % 16 = 15) : t = t' :=
  Fin.ext (by have := lt16 t; have := lt16 t'; omega)

/-- What window 11 holds after the first point. -/
theorem first11 (t : Fin cfg0.N) (h0 : t.val % 16 = 0) (l : Fin 1024) :
    (outsAt0 m c t.val t.isLt).2.2.1 (ix2 0 l) = part11 m c t l := by
  have hl := lt16 t
  have h1 : ¬1 ≤ t.val := by omega
  have e := outA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      ((hcond0_0 t).mpr h0) (fun q => h1 ((hcond0_1 t).mp q)) ((hcond0_2 t).mpr h0) (fun q => h1 ((hcond0_3 t).mp q)) l
  refine (congrFun (at_3rd (outsAt0_A m c t h0 h1 h0 h1)) (ix2 0 l)).trans (Eq.trans e ?_)
  clear e
  refine Finset.sum_congr rfl fun r _ => ?_
  exact congrArg₂ (fun p q => p * q) (congrFun (dh_blk m c t r) l) (congrArg₂ (fun p q => p * q) (blk4 m c t r l) (congrArg rs (row4 m c t r)))

/-- What window 11 holds after a later point. -/
theorem step11 (t : Fin cfg0.N) (h0 : ¬t.val % 16 = 0) (l : Fin 1024) :
    (outsAt0 m c t.val t.isLt).2.2.1 (ix2 0 l) = (show EReal from (outsAt0 m c (t.val - 1) (Nat.lt_of_le_of_lt (Nat.sub_le _ _) t.isLt)).2.2.1 (ix2 0 l)) + part11 m c t l := by
  have h1 : 1 ≤ t.val := by omega
  have e := outB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) (fun q => h0 ((hcond0_2 t).mp q)) ((hcond0_3 t).mpr h1) l
  refine (congrFun (at_3rd (outsAt0_B m c t h0 h1 h0 h1)) (ix2 0 l)).trans (Eq.trans e ?_)
  clear e
  refine congrArg (fun q : EReal => (show EReal from (outsAt0 m c (t.val - 1) (Nat.lt_of_le_of_lt (Nat.sub_le _ _) t.isLt)).2.2.1 (ix2 0 l)) + q) ?_
  refine Finset.sum_congr rfl fun r _ => ?_
  exact congrArg₂ (fun p q => p * q) (congrFun (dh_blk m c t r) l) (congrArg₂ (fun p q => p * q) (blk4 m c t r l) (congrArg rs (row4 m c t r)))

/-- The running sum that window 11 holds after a point. -/
theorem acc11 (l : Fin 1024) (n : ℕ) (h : n < cfg0.N) :
    (outsAt0 m c n h).2.2.1 (ix2 0 l) = ∑ i ∈ Finset.range (n + 1), upto (fun t => part11 m c t l) i := by
  induction n with
  | zero =>
    refine (first11 m c ⟨0, h⟩ rfl l).trans ?_
    rw [Finset.sum_range_one]
    exact (upto_val (fun t => part11 m c t l) ⟨0, h⟩).symm
  | succ n ih =>
    have hN : cfg0.N = 16 := N_0
    refine (step11 m c ⟨n + 1, h⟩ (by dsimp only; omega) l).trans ?_
    rw [Finset.sum_range_succ]
    exact congrArg₂ (fun p q => p + q) (ih (Nat.lt_of_succ_lt h)) (upto_val (fun t => part11 m c t l) ⟨n + 1, h⟩).symm

theorem disjoint11 (t t' : Fin cfg0.N) (h : (cfg0.win 11).flush t = true) (h' : (cfg0.win 11).flush t' = true) (hne : t ≠ t') :
    Disjoint ((cfg0.win 11).blk t).view.set ((cfg0.win 11).blk t').view.set :=
  absurd (last_only t t' ((flush0_11 t).mp h) ((flush0_11 t').mp h')) hne

/-- Window 11's array ends holding the sum over all rows. -/
theorem final11 (l : Fin 1024) :
    ((dats m 0 c).arrAt 11 cfg0.N : FVec Ideal S1x1024 .f32) (ix2 0 l)
      = ∑ R : Fin 4096, gdh m c R l * (row (xx m c) R l * rs (row (xx m c) R)) := by
  have h := congrFun ((dats m 0 c).read_blk_arrAt_eq_flushed 11 disjoint11 cfg0.N t0_15 t0_15.isLt ((flush0_11 t0_15).mpr rfl)) (ix2 (0 : Fin 1) l : S1x1024.Idx)
  rw [View.read_apply, Value.flushed11] at h
  have e : ((cfg0.win 11).blk t0_15).view.emb (ix2 (0 : Fin 1) l : S1x1024.Idx) = (ix2 (0 : Fin 1) l : S1x1024.Idx) := by
    funext a
    apply Fin.ext
    match a with
    | ⟨0, _⟩ => show win0_11.index t0_15 0 * 1 + 1 * 0 = 0; rw [(idx11 t0_15).1]
    | ⟨1, _⟩ => show win0_11.index t0_15 1 * 1024 + 1 * l.val = l.val; rw [(idx11 t0_15).2]; omega
  rw [← all_parts fun R => gdh m c R l * (row (xx m c) R l * rs (row (xx m c) R))]
  exact (congrArg ((dats m 0 c).arrAt 11 cfg0.N) e).symm.trans (h.trans (acc11 m c l 15 t0_15.isLt))

/-- What window 12 holds after the first point. -/
theorem first12 (t : Fin cfg0.N) (h0 : t.val % 16 = 0) (l : Fin 1024) :
    (outsAt0 m c t.val t.isLt).2.2.2 (ix2 0 l) = part12 m c t l := by
  have hl := lt16 t
  have h1 : ¬1 ≤ t.val := by omega
  have e := outA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      ((hcond0_0 t).mpr h0) (fun q => h1 ((hcond0_1 t).mp q)) ((hcond0_2 t).mpr h0) (fun q => h1 ((hcond0_3 t).mp q)) l
  refine (congrFun (at_4th (outsAt0_A m c t h0 h1 h0 h1)) (ix2 0 l)).trans (Eq.trans e ?_)
  clear e
  refine Finset.sum_congr rfl fun r _ => ?_
  exact congrArg₂ (fun p q => p * q) (congrFun (pdx_blk m c t r) l) (congrArg₂ (fun p q => p * q) (blk6 m c t r l) (congrArg rs (row6 m c t r)))

/-- What window 12 holds after a later point. -/
theorem step12 (t : Fin cfg0.N) (h0 : ¬t.val % 16 = 0) (l : Fin 1024) :
    (outsAt0 m c t.val t.isLt).2.2.2 (ix2 0 l) = (show EReal from (outsAt0 m c (t.val - 1) (Nat.lt_of_le_of_lt (Nat.sub_le _ _) t.isLt)).2.2.2 (ix2 0 l)) + part12 m c t l := by
  have h1 : 1 ≤ t.val := by omega
  have e := outB_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
      (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) (fun q => h0 ((hcond0_2 t).mp q)) ((hcond0_3 t).mpr h1) l
  refine (congrFun (at_4th (outsAt0_B m c t h0 h1 h0 h1)) (ix2 0 l)).trans (Eq.trans e ?_)
  clear e
  refine congrArg (fun q : EReal => (show EReal from (outsAt0 m c (t.val - 1) (Nat.lt_of_le_of_lt (Nat.sub_le _ _) t.isLt)).2.2.2 (ix2 0 l)) + q) ?_
  refine Finset.sum_congr rfl fun r _ => ?_
  exact congrArg₂ (fun p q => p * q) (congrFun (pdx_blk m c t r) l) (congrArg₂ (fun p q => p * q) (blk6 m c t r l) (congrArg rs (row6 m c t r)))

/-- The running sum that window 12 holds after a point. -/
theorem acc12 (l : Fin 1024) (n : ℕ) (h : n < cfg0.N) :
    (outsAt0 m c n h).2.2.2 (ix2 0 l) = ∑ i ∈ Finset.range (n + 1), upto (fun t => part12 m c t l) i := by
  induction n with
  | zero =>
    refine (first12 m c ⟨0, h⟩ rfl l).trans ?_
    rw [Finset.sum_range_one]
    exact (upto_val (fun t => part12 m c t l) ⟨0, h⟩).symm
  | succ n ih =>
    have hN : cfg0.N = 16 := N_0
    refine (step12 m c ⟨n + 1, h⟩ (by dsimp only; omega) l).trans ?_
    rw [Finset.sum_range_succ]
    exact congrArg₂ (fun p q => p + q) (ih (Nat.lt_of_succ_lt h)) (upto_val (fun t => part12 m c t l) ⟨n + 1, h⟩).symm

theorem disjoint12 (t t' : Fin cfg0.N) (h : (cfg0.win 12).flush t = true) (h' : (cfg0.win 12).flush t' = true) (hne : t ≠ t') :
    Disjoint ((cfg0.win 12).blk t).view.set ((cfg0.win 12).blk t').view.set :=
  absurd (last_only t t' ((flush0_12 t).mp h) ((flush0_12 t').mp h')) hne

/-- Window 12's array ends holding the sum over all rows. -/
theorem final12 (l : Fin 1024) :
    ((dats m 0 c).arrAt 12 cfg0.N : FVec Ideal S1x1024 .f32) (ix2 0 l)
      = ∑ R : Fin 4096, gdx m c R l * (row (zz m c) R l * rs (row (zz m c) R)) := by
  have h := congrFun ((dats m 0 c).read_blk_arrAt_eq_flushed 12 disjoint12 cfg0.N t0_15 t0_15.isLt ((flush0_12 t0_15).mpr rfl)) (ix2 (0 : Fin 1) l : S1x1024.Idx)
  rw [View.read_apply, Value.flushed12] at h
  have e : ((cfg0.win 12).blk t0_15).view.emb (ix2 (0 : Fin 1) l : S1x1024.Idx) = (ix2 (0 : Fin 1) l : S1x1024.Idx) := by
    funext a
    apply Fin.ext
    match a with
    | ⟨0, _⟩ => show win0_12.index t0_15 0 * 1 + 1 * 0 = 0; rw [(idx12 t0_15).1]
    | ⟨1, _⟩ => show win0_12.index t0_15 1 * 1024 + 1 * l.val = l.val; rw [(idx12 t0_15).2]; omega
  rw [← all_parts fun R => gdx m c R l * (row (zz m c) R l * rs (row (zz m c) R))]
  exact (congrArg ((dats m 0 c).arrAt 12 cfg0.N) e).symm.trans (h.trans (acc12 m c l 15 t0_15.isLt))

end Cert.Kernel2Ideal.Mid
-- ==== Proof.Mid.Ref.lean ====
/-
The product and norms' reference at an index: its four results in terms of a row's scale and gradient.
-/
module

public import proofs.«01_k».proof.Proof.Mid.Final
public import proofs.«01_k».proof.Proof.Gen.Reference2Ideal.Read

@[expose] public section

noncomputable section

namespace Cert.Mid

open Idealize.ShloMosaic hiding ix0 ix1 ix2 ix3 ix4 ix5
open Idealize.ShloMosaic.ValueIdx Idealize.ShloMosaic.TcCoe Idealize.SL.Sem
open Cert.Reference2Ideal Cert.Reference2Ideal.Read
open Cert.Kernel2Ideal.Mid (row)
open scoped BigOperators

/-- A zero word as a sum's start. -/
theorem zero_start (e : EReal) : Ideal.ofBits .f32 0x00000000#32 + e = e := by rw [Ideal.ofBits_zero_f32, zero_add]

variable (x0 x1 : FVec Ideal S4096x2816 .bf16) (x2 x3 : FVec Ideal S2816x1024 .bf16) (x4 x5 x6 : FVec Ideal S4096x1024 .f32)
    (x7 x8 : FVec Ideal S1x1024 .f32)

/-- The product's gradient, a row. -/
def rdh (R : Fin 4096) (l : Fin 1024) : EReal :=
  ∑ k : Fin 2816, x0 (ix2 R k) * x2 (ix2 k l) + ∑ k : Fin 2816, x1 (ix2 R k) * x3 (ix2 k l)
/-- The residual's gradient, a row. -/
def rdx (R : Fin 4096) (l : Fin 1024) : EReal :=
  row x5 R l + back (row x4 R) (rdh x0 x1 x2 x3 R) (row x7 0) l

theorem v25_at (R : Fin 4096) (l : Fin 1024) :
    val_main_v25 (F := Ideal) x1 x3 (ix2 R l) = ∑ k : Fin 2816, x1 (ix2 R k) * x3 (ix2 k l) := by
  refine (val_main_v25_apply x1 x3 _).trans ?_
  refine Finset.sum_congr rfl fun k _ => ?_
  have el : lidx_main_v25 (ix2 R l) k = ix2 R k := funext fun x => Fin.ext (by match x with | ⟨0, _⟩ => rfl | ⟨1, _⟩ => rfl)
  have er : ridx_main_v25 (ix2 R l) k = ix2 l k := funext fun x => Fin.ext (by match x with | ⟨0, _⟩ => rfl | ⟨1, _⟩ => rfl)
  have et : idx_main_v3 (ix2 l k) = ix2 k l := funext fun x => Fin.ext (by match x with | ⟨0, _⟩ => rfl | ⟨1, _⟩ => rfl)
  rw [el, er, val_main_v3_apply, et]
  rfl

theorem v26_at (R : Fin 4096) (l : Fin 1024) :
    val_main_v26 (F := Ideal) x0 x2 (ix2 R l) = ∑ k : Fin 2816, x0 (ix2 R k) * x2 (ix2 k l) := by
  refine (val_main_v26_apply x0 x2 _).trans ?_
  refine Finset.sum_congr rfl fun k _ => ?_
  have el : lidx_main_v26 (ix2 R l) k = ix2 R k := funext fun x => Fin.ext (by match x with | ⟨0, _⟩ => rfl | ⟨1, _⟩ => rfl)
  have er : ridx_main_v26 (ix2 R l) k = ix2 l k := funext fun x => Fin.ext (by match x with | ⟨0, _⟩ => rfl | ⟨1, _⟩ => rfl)
  have et : idx_main_v1 (ix2 l k) = ix2 k l := funext fun x => Fin.ext (by match x with | ⟨0, _⟩ => rfl | ⟨1, _⟩ => rfl)
  rw [el, er, val_main_v1_apply, et]
  rfl

theorem v27_at (R : Fin 4096) (l : Fin 1024) :
    val_main_v27 (F := Ideal) x0 x1 x2 x3 (ix2 R l) = rdh x0 x1 x2 x3 R l := by
  rw [val_main_v27_apply, v25_at, v26_at, Ideal.addf_def]
  exact add_comm _ _

theorem v8_at (R : Fin 4096) : val_main_v8 (F := Ideal) x4 (ix1 R) = ∑ k, row x4 R k * row x4 R k := by
  refine (val_main_v8_apply x4 _).trans ?_
  rw [val_main_cst_apply, Ideal.ofBits_def, zero_start]
  refine Finset.sum_congr rfl fun k _ => ?_
  have e : idx_main_v8 (ix1 R) k = ix2 R k := funext fun x => Fin.ext (by match x with | ⟨0, _⟩ => rfl | ⟨1, _⟩ => rfl)
  rw [e]
  rfl

theorem v13_at (R : Fin 4096) : val_main_v13 (F := Ideal) x4 (ix2 R 0) = ms (row x4 R) := by
  rw [val_main_v13_apply, val_main_v11_apply, val_main_v9_apply, val_main_v10_apply, val_main_v12_apply,
    val_main_cst_0_apply, val_main_cst_1_apply]
  have e : idx_main_v9 (ix2 R 0) = ix1 R := funext fun x => Fin.ext (by match x with | ⟨0, _⟩ => rfl)
  rw [e, v8_at]
  simp only [Ideal.ofBits_def, Ideal.hostDivf_def, Ideal.addf_def]
  rw [Cert.Gate.lit_1024, Cert.Gate.lit_eps]
  rfl

theorem v14_at (R : Fin 4096) : val_main_v14 (F := Ideal) x4 (ix2 R 0) = rs (row x4 R) := by
  rw [val_main_v14_apply, v13_at]
  rfl

theorem v17_at (R : Fin 4096) :
    val_main_v17 (F := Ideal) x4 (ix2 R 0) = ((-(1 / 2) : ℝ) : EReal) * Ideal.div (rs (row x4 R)) (ms (row x4 R)) := by
  rw [val_main_v17_apply, val_main_v15_apply, v14_at, v13_at, val_main_v16_apply, val_main_cst_2_apply]
  simp only [Ideal.ofBits_def, Ideal.hostDivf_def, Ideal.mulf_def]
  rw [Cert.Gate.lit_mhalf]

theorem v19_at (R : Fin 4096) (l : Fin 1024) : val_main_v19 (F := Ideal) x4 (ix2 R l) = row x4 R l * rs (row x4 R) := by
  rw [val_main_v19_apply, val_main_v18_apply]
  have e : idx_main_v18 (ix2 R l) = ix2 R 0 := funext fun x => Fin.ext (by match x with | ⟨0, _⟩ => rfl | ⟨1, _⟩ => rfl)
  rw [e, v14_at]
  rfl

theorem v31_at (R : Fin 4096) (l : Fin 1024) : val_main_v31 (F := Ideal) x7 (ix2 R l) = row x7 0 l := by
  rw [val_main_v31_apply, val_main_v20_apply, val_main_v6_apply]
  have e : idx_main_v6 (idx_main_v20 (idx_main_v31 (ix2 R l))) = ix2 0 l :=
    funext fun x => Fin.ext (by match x with | ⟨0, _⟩ => rfl | ⟨1, _⟩ => exact Nat.mod_eq_of_lt l.isLt)
  rw [e]
  rfl

theorem v32_at (R : Fin 4096) (l : Fin 1024) :
    val_main_v32 (F := Ideal) x0 x1 x2 x3 x7 (ix2 R l) = rdh x0 x1 x2 x3 R l * row x7 0 l := by
  rw [val_main_v32_apply, v27_at, v31_at]
  rfl

theorem v35_at (R : Fin 4096) :
    val_main_v35 (F := Ideal) x0 x1 x2 x3 x4 x7 (ix1 R) = ∑ k, row x4 R k * (rdh x0 x1 x2 x3 R k * row x7 0 k) := by
  refine (val_main_v35_apply x0 x1 x2 x3 x4 x7 _).trans ?_
  rw [val_main_cst_5_apply, Ideal.ofBits_def, zero_start]
  refine Finset.sum_congr rfl fun k _ => ?_
  have e : idx_main_v35 (ix1 R) k = ix2 R k := funext fun x => Fin.ext (by match x with | ⟨0, _⟩ => rfl | ⟨1, _⟩ => rfl)
  rw [e, val_main_v34_apply, v32_at]
  rfl

theorem v42_at (R : Fin 4096) :
    val_main_v42 (F := Ideal) x0 x1 x2 x3 x4 x7 (ix2 R 0) = drs (row x4 R) (rdh x0 x1 x2 x3 R) (row x7 0) := by
  rw [val_main_v42_apply, val_main_v40_apply, v17_at, val_main_v36_apply, val_main_v41_apply, val_main_cst_6_apply]
  have e : idx_main_v36 (ix2 R 0) = ix1 R := funext fun x => Fin.ext (by match x with | ⟨0, _⟩ => show R.val * 1 + 0 = R.val; omega)
  rw [e, v35_at]
  simp only [Ideal.ofBits_def, Ideal.hostDivf_def, Ideal.mulf_def]
  rw [Cert.Gate.lit_1024]
  rfl

theorem v44_at (R : Fin 4096) (l : Fin 1024) :
    val_main_v44 (F := Ideal) x0 x1 x2 x3 x4 x7 (ix2 R l) = drs (row x4 R) (rdh x0 x1 x2 x3 R) (row x7 0) := by
  rw [val_main_v44_apply]
  have e : idx_main_v44 (ix2 R l) = ix1 R := funext fun x => Fin.ext (by match x with | ⟨0, _⟩ => rfl)
  rw [e]
  refine (val_main_v43_apply x0 x1 x2 x3 x4 x7 _).trans ?_
  have e' : idx_main_v43 (ix1 R) 0 = ix2 R 0 := funext fun x => Fin.ext (by match x with | ⟨0, _⟩ => rfl | ⟨1, _⟩ => rfl)
  rw [val_main_cst_7_apply, Ideal.ofBits_def, zero_start, Fin.sum_univ_one, e', v42_at]

theorem v38_at (R : Fin 4096) (l : Fin 1024) :
    val_main_v38 (F := Ideal) x0 x1 x2 x3 x4 x7 (ix2 R l) = rdh x0 x1 x2 x3 R l * row x7 0 l * rs (row x4 R) := by
  rw [val_main_v38_apply, v32_at, val_main_v37_apply]
  have e : idx_main_v37 (ix2 R l) = ix2 R 0 := funext fun x => Fin.ext (by match x with | ⟨0, _⟩ => rfl | ⟨1, _⟩ => rfl)
  rw [e, v14_at]
  rfl

/-- The reference's residual gradient. -/
theorem v48_at (R : Fin 4096) (l : Fin 1024) :
    val_main_v48 (F := Ideal) x0 x1 x2 x3 x4 x5 x7 (ix2 R l) = rdx x0 x1 x2 x3 x4 x5 x7 R l := by
  rw [val_main_v48_apply, val_main_v47_apply, val_main_v46_apply, val_main_v45_apply, val_main_v39_apply, v38_at, v44_at]
  unfold rdx
  rw [back_eq]
  simp only [Ideal.addf_def, Ideal.mulf_def]
  rw [add_assoc, add_assoc, add_assoc]
  rfl

theorem v51_at (R : Fin 4096) : val_main_v51 (F := Ideal) x6 (ix1 R) = ∑ k, row x6 R k * row x6 R k := by
  refine (val_main_v51_apply x6 _).trans ?_
  rw [val_main_cst_8_apply, Ideal.ofBits_def, zero_start]
  refine Finset.sum_congr rfl fun k _ => ?_
  have e : idx_main_v51 (ix1 R) k = ix2 R k := funext fun x => Fin.ext (by match x with | ⟨0, _⟩ => rfl | ⟨1, _⟩ => rfl)
  rw [e]
  rfl

theorem v56_at (R : Fin 4096) : val_main_v56 (F := Ideal) x6 (ix2 R 0) = ms (row x6 R) := by
  rw [val_main_v56_apply, val_main_v54_apply, val_main_v52_apply, val_main_v53_apply, val_main_v55_apply,
    val_main_cst_9_apply, val_main_cst_10_apply]
  have e : idx_main_v52 (ix2 R 0) = ix1 R := funext fun x => Fin.ext (by match x with | ⟨0, _⟩ => rfl)
  rw [e, v51_at]
  simp only [Ideal.ofBits_def, Ideal.hostDivf_def, Ideal.addf_def]
  rw [Cert.Gate.lit_1024, Cert.Gate.lit_eps]
  rfl

theorem v57_at (R : Fin 4096) : val_main_v57 (F := Ideal) x6 (ix2 R 0) = rs (row x6 R) := by
  rw [val_main_v57_apply, v56_at]
  rfl

theorem v60_at (R : Fin 4096) :
    val_main_v60 (F := Ideal) x6 (ix2 R 0) = ((-(1 / 2) : ℝ) : EReal) * Ideal.div (rs (row x6 R)) (ms (row x6 R)) := by
  rw [val_main_v60_apply, val_main_v58_apply, v57_at, v56_at, val_main_v59_apply, val_main_cst_11_apply]
  simp only [Ideal.ofBits_def, Ideal.hostDivf_def, Ideal.mulf_def]
  rw [Cert.Gate.lit_mhalf]

theorem v62_at (R : Fin 4096) (l : Fin 1024) : val_main_v62 (F := Ideal) x6 (ix2 R l) = row x6 R l * rs (row x6 R) := by
  rw [val_main_v62_apply, val_main_v61_apply]
  have e : idx_main_v61 (ix2 R l) = ix2 R 0 := funext fun x => Fin.ext (by match x with | ⟨0, _⟩ => rfl | ⟨1, _⟩ => rfl)
  rw [e, v57_at]
  rfl

theorem v69_at (R : Fin 4096) (l : Fin 1024) : val_main_v69 (F := Ideal) x8 (ix2 R l) = row x8 0 l := by
  rw [val_main_v69_apply, val_main_v63_apply, val_main_v49_apply]
  have e : idx_main_v49 (idx_main_v63 (idx_main_v69 (ix2 R l))) = ix2 0 l :=
    funext fun x => Fin.ext (by match x with | ⟨0, _⟩ => rfl | ⟨1, _⟩ => exact Nat.mod_eq_of_lt l.isLt)
  rw [e]
  rfl

theorem v70_at (R : Fin 4096) (l : Fin 1024) :
    val_main_v70 (F := Ideal) x0 x1 x2 x3 x4 x5 x7 x8 (ix2 R l) = rdx x0 x1 x2 x3 x4 x5 x7 R l * row x8 0 l := by
  rw [val_main_v70_apply, v48_at, v69_at]
  rfl

theorem v73_at (R : Fin 4096) :
    val_main_v73 (F := Ideal) x0 x1 x2 x3 x4 x5 x6 x7 x8 (ix1 R) = ∑ k, row x6 R k * (rdx x0 x1 x2 x3 x4 x5 x7 R k * row x8 0 k) := by
  refine (val_main_v73_apply x0 x1 x2 x3 x4 x5 x6 x7 x8 _).trans ?_
  rw [val_main_cst_14_apply, Ideal.ofBits_def, zero_start]
  refine Finset.sum_congr rfl fun k _ => ?_
  have e : idx_main_v73 (ix1 R) k = ix2 R k := funext fun x => Fin.ext (by match x with | ⟨0, _⟩ => rfl | ⟨1, _⟩ => rfl)
  rw [e, val_main_v72_apply, v70_at]
  rfl

theorem v79_at (R : Fin 4096) :
    val_main_v79 (F := Ideal) x0 x1 x2 x3 x4 x5 x6 x7 x8 (ix2 R 0) = drs (row x6 R) (rdx x0 x1 x2 x3 x4 x5 x7 R) (row x8 0) := by
  rw [val_main_v79_apply, val_main_v77_apply, v60_at, val_main_v74_apply, val_main_v78_apply, val_main_cst_15_apply]
  have e : idx_main_v74 (ix2 R 0) = ix1 R := funext fun x => Fin.ext (by match x with | ⟨0, _⟩ => show R.val * 1 + 0 = R.val; omega)
  rw [e, v73_at]
  simp only [Ideal.ofBits_def, Ideal.hostDivf_def, Ideal.mulf_def]
  rw [Cert.Gate.lit_1024]
  rfl

theorem v81_at (R : Fin 4096) (l : Fin 1024) :
    val_main_v81 (F := Ideal) x0 x1 x2 x3 x4 x5 x6 x7 x8 (ix2 R l) = drs (row x6 R) (rdx x0 x1 x2 x3 x4 x5 x7 R) (row x8 0) := by
  rw [val_main_v81_apply]
  have e : idx_main_v81 (ix2 R l) = ix1 R := funext fun x => Fin.ext (by match x with | ⟨0, _⟩ => rfl)
  rw [e]
  refine (val_main_v80_apply x0 x1 x2 x3 x4 x5 x6 x7 x8 _).trans ?_
  have e' : idx_main_v80 (ix1 R) 0 = ix2 R 0 := funext fun x => Fin.ext (by match x with | ⟨0, _⟩ => rfl | ⟨1, _⟩ => rfl)
  rw [val_main_cst_16_apply, Ideal.ofBits_def, zero_start, Fin.sum_univ_one, e', v79_at]

theorem v76_at (R : Fin 4096) (l : Fin 1024) :
    val_main_v76 (F := Ideal) x0 x1 x2 x3 x4 x5 x6 x7 x8 (ix2 R l) = rdx x0 x1 x2 x3 x4 x5 x7 R l * row x8 0 l * rs (row x6 R) := by
  rw [val_main_v76_apply, v70_at, val_main_v75_apply]
  have e : idx_main_v75 (ix2 R l) = ix2 R 0 := funext fun x => Fin.ext (by match x with | ⟨0, _⟩ => rfl | ⟨1, _⟩ => rfl)
  rw [e, v57_at]
  rfl

/-- The reference's gradient of the second norm's input. -/
theorem v86_at (R : Fin 4096) (l : Fin 1024) :
    val_main_v86 (F := Ideal) x0 x1 x2 x3 x4 x5 x6 x7 x8 (ix2 R l) = back (row x6 R) (rdx x0 x1 x2 x3 x4 x5 x7 R) (row x8 0) l := by
  rw [val_main_v86_apply, val_main_v85_apply, val_main_v84_apply, val_main_v83_apply, val_main_v82_apply, v76_at, v81_at, back_eq]
  rfl

theorem v29_at (l : Fin 1024) :
    val_main_v29 (F := Ideal) x0 x1 x2 x3 x4 (ix1 l) = ∑ R, rdh x0 x1 x2 x3 R l * (row x4 R l * rs (row x4 R)) := by
  refine (val_main_v29_apply x0 x1 x2 x3 x4 _).trans ?_
  rw [val_main_cst_3_apply, Ideal.ofBits_def, zero_start]
  refine Finset.sum_congr rfl fun R _ => ?_
  have e : idx_main_v29 (ix1 l) R = ix2 R l := funext fun x => Fin.ext (by match x with | ⟨0, _⟩ => rfl | ⟨1, _⟩ => rfl)
  rw [e, val_main_v28_apply, v19_at, v27_at]
  exact mul_comm _ _

/-- The reference's gradient of a norm's gains. -/
theorem v87_at (l : Fin 1024) :
    val_main_v87 (F := Ideal) x0 x1 x2 x3 x4 (ix2 0 l) = ∑ R, rdh x0 x1 x2 x3 R l * (row x4 R l * rs (row x4 R)) := by
  rw [val_main_v87_apply]
  have e : idx_main_v87 (ix2 0 l) = ix1 l := funext fun x => Fin.ext (by match x with | ⟨0, _⟩ => rfl)
  rw [e]
  refine (val_main_v33_apply x0 x1 x2 x3 x4 _).trans ?_
  have e' : idx_main_v33 (ix1 l) 0 = ix2 0 l := funext fun x => Fin.ext (by match x with | ⟨0, _⟩ => rfl | ⟨1, _⟩ => rfl)
  rw [val_main_cst_4_apply, Ideal.ofBits_def, zero_start, Fin.sum_univ_one, e', val_main_v30_apply]
  have e2 : idx_main_v30 (ix2 0 l) = ix1 l := funext fun x => Fin.ext (by match x with | ⟨0, _⟩ => show 0 * 1024 + l.val = l.val; omega)
  rw [e2, v29_at]

theorem v67_at (l : Fin 1024) :
    val_main_v67 (F := Ideal) x0 x1 x2 x3 x4 x5 x6 x7 (ix1 l) = ∑ R, rdx x0 x1 x2 x3 x4 x5 x7 R l * (row x6 R l * rs (row x6 R)) := by
  refine (val_main_v67_apply x0 x1 x2 x3 x4 x5 x6 x7 _).trans ?_
  rw [val_main_cst_12_apply, Ideal.ofBits_def, zero_start]
  refine Finset.sum_congr rfl fun R _ => ?_
  have e : idx_main_v67 (ix1 l) R = ix2 R l := funext fun x => Fin.ext (by match x with | ⟨0, _⟩ => rfl | ⟨1, _⟩ => rfl)
  rw [e, val_main_v66_apply, v62_at, v48_at]
  exact mul_comm _ _

/-- The reference's gradient of a norm's gains. -/
theorem v88_at (l : Fin 1024) :
    val_main_v88 (F := Ideal) x0 x1 x2 x3 x4 x5 x6 x7 (ix2 0 l) = ∑ R, rdx x0 x1 x2 x3 x4 x5 x7 R l * (row x6 R l * rs (row x6 R)) := by
  rw [val_main_v88_apply]
  have e : idx_main_v88 (ix2 0 l) = ix1 l := funext fun x => Fin.ext (by match x with | ⟨0, _⟩ => rfl)
  rw [e]
  refine (val_main_v71_apply x0 x1 x2 x3 x4 x5 x6 x7 _).trans ?_
  have e' : idx_main_v71 (ix1 l) 0 = ix2 0 l := funext fun x => Fin.ext (by match x with | ⟨0, _⟩ => rfl | ⟨1, _⟩ => rfl)
  rw [val_main_cst_13_apply, Ideal.ofBits_def, zero_start, Fin.sum_univ_one, e', val_main_v68_apply]
  have e2 : idx_main_v68 (ix2 0 l) = ix1 l := funext fun x => Fin.ext (by match x with | ⟨0, _⟩ => show 0 * 1024 + l.val = l.val; omega)
  rw [e2, v67_at]

end Cert.Mid
-- ==== Proof.Mid.Equal.lean ====
/-
The product and norms' backward kernel: its four result arrays are the reference's.
-/
module

public import proofs.«01_k».proof.Proof.Mid.Ref

@[expose] public section

noncomputable section

namespace Cert.Mid

open Idealize.ShloMosaic hiding ix0 ix1 ix2 ix3 ix4 ix5
open Idealize.ShloMosaic.ValueIdx Idealize.ShloMosaic.TcCoe Idealize.SL.Sem
open scoped BigOperators

variable (m : (ℓ : Loc Cert.Kernel2Ideal.nD Cert.Kernel2Ideal.τ Cert.Kernel2Ideal.sig) → Buf (Elt Ideal) ℓ) (c : Dev Cert.Kernel2Ideal.nD)

theorem row_idx (i : Cert.Kernel2Ideal.S1x1024.Idx) : i = ix2 (0 : Fin 1) (i 1 : Fin 1024) := by
  refine funext fun x => Fin.ext ?_
  match x with
  | ⟨0, _⟩ => exact Nat.lt_one_iff.mp (i 0).isLt
  | ⟨1, _⟩ => rfl

/-- Result 0. -/
theorem equal_0 : Cert.Reference2Ideal.Read.val_main_v48 (F := Ideal) (Cert.Kernel2Ideal.Mid.dgp m c) (Cert.Kernel2Ideal.Mid.dup m c) (Cert.Kernel2Ideal.Mid.wg m c) (Cert.Kernel2Ideal.Mid.wu m c) (Cert.Kernel2Ideal.Mid.xx m c) (Cert.Kernel2Ideal.Mid.dout m c) (Cert.Kernel2Ideal.Mid.g3 m c)
      = ((Cert.Kernel2Ideal.Gen.dats m 0 c).arrAt 9 Cert.Kernel2Ideal.cfg0.N : FVec Ideal Cert.Kernel2Ideal.S4096x1024 .f32) := by
  funext i
  rw [ValueIdx.eq_ix2 i]
  exact (v48_at _ _ _ _ _ _ _ _ _).trans (Cert.Kernel2Ideal.Mid.final9 m c _ _).symm

/-- Result 1. -/
theorem equal_1 : Cert.Reference2Ideal.Read.val_main_v86 (F := Ideal) (Cert.Kernel2Ideal.Mid.dgp m c) (Cert.Kernel2Ideal.Mid.dup m c) (Cert.Kernel2Ideal.Mid.wg m c) (Cert.Kernel2Ideal.Mid.wu m c) (Cert.Kernel2Ideal.Mid.xx m c) (Cert.Kernel2Ideal.Mid.dout m c) (Cert.Kernel2Ideal.Mid.zz m c) (Cert.Kernel2Ideal.Mid.g3 m c) (Cert.Kernel2Ideal.Mid.g2 m c)
      = ((Cert.Kernel2Ideal.Gen.dats m 0 c).arrAt 10 Cert.Kernel2Ideal.cfg0.N : FVec Ideal Cert.Kernel2Ideal.S4096x1024 .bf16) := by
  funext i
  rw [ValueIdx.eq_ix2 i]
  exact (v86_at _ _ _ _ _ _ _ _ _ _ _).trans (Cert.Kernel2Ideal.Mid.final10 m c _ _).symm

/-- Result 2. -/
theorem equal_2 : Cert.Reference2Ideal.Read.val_main_v87 (F := Ideal) (Cert.Kernel2Ideal.Mid.dgp m c) (Cert.Kernel2Ideal.Mid.dup m c) (Cert.Kernel2Ideal.Mid.wg m c) (Cert.Kernel2Ideal.Mid.wu m c) (Cert.Kernel2Ideal.Mid.xx m c)
      = ((Cert.Kernel2Ideal.Gen.dats m 0 c).arrAt 11 Cert.Kernel2Ideal.cfg0.N : FVec Ideal Cert.Kernel2Ideal.S1x1024 .f32) := by
  funext i
  refine Eq.trans (congrArg _ (row_idx i)) (Eq.trans ?_ (congrArg _ (row_idx i)).symm)
  exact (v87_at _ _ _ _ _ _).trans (Cert.Kernel2Ideal.Mid.final11 m c _).symm

/-- Result 3. -/
theorem equal_3 : Cert.Reference2Ideal.Read.val_main_v88 (F := Ideal) (Cert.Kernel2Ideal.Mid.dgp m c) (Cert.Kernel2Ideal.Mid.dup m c) (Cert.Kernel2Ideal.Mid.wg m c) (Cert.Kernel2Ideal.Mid.wu m c) (Cert.Kernel2Ideal.Mid.xx m c) (Cert.Kernel2Ideal.Mid.dout m c) (Cert.Kernel2Ideal.Mid.zz m c) (Cert.Kernel2Ideal.Mid.g3 m c)
      = ((Cert.Kernel2Ideal.Gen.dats m 0 c).arrAt 12 Cert.Kernel2Ideal.cfg0.N : FVec Ideal Cert.Kernel2Ideal.S1x1024 .f32) := by
  funext i
  refine Eq.trans (congrArg _ (row_idx i)) (Eq.trans ?_ (congrArg _ (row_idx i)).symm)
  exact (v88_at _ _ _ _ _ _ _ _ _).trans (Cert.Kernel2Ideal.Mid.final12 m c _).symm

end Cert.Mid
-- ==== Proof.Mid.Result.lean ====
/-
The product and norms' claims: the reference's frame, and the kernel's four results.
-/
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Mid.Equal
public import Idealize.ShloMosaic.Adequacy
public import Idealize.ShloMosaic.Init

@[expose] public section

noncomputable section

namespace Cert.Mid

open Idealize.ShloMosaic Idealize.SL.Sem Idealize.ShloMosaic.TcCoe

/-- The reference runs, leaves its arguments and ends with every semaphore at zero. -/
theorem reference_frame : Cert.quiescent_Reference2Ideal (hReference2Ideal := Cert.Reference2Ideal.Gen.facts) := by
  intro m g _
  exact (θ_run Cert.Reference2Ideal.defs _ _).mono
    (fun r h => ⟨fun c => (h c).2.2.2.2, Idealize.ShloMosaic.sem_eq_zero_of_no_sems (by decide) r.2⟩)
    (Cert.Reference2Ideal.Value.run (F := Ideal) m g)

/-- The kernel's results are the reference's. -/
theorem algebraic : Cert.algebraic_Kernel2Ideal_Reference2Ideal (hKernel2Ideal := Cert.Kernel2Ideal.Gen.facts)
    (hReference2Ideal := Cert.Reference2Ideal.Gen.facts) := by
  intro m g m' g' _ ha
  refine ⟨fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N,
    fun c => (Cert.Kernel2Ideal.Gen.dats m 0 c).arrAt 12 Cert.Kernel2Ideal.cfg0.N,
    Cert.Kernel2Ideal.Value.run_blocks m g, ?_⟩
  refine (θ_run Cert.Reference2Ideal.defs _ _).mono (fun r h c => ?_) (Cert.Reference2Ideal.Value.run (F := Ideal) m' g')
  obtain ⟨e0, e1, e2, e3, hargs⟩ := h c
  obtain ⟨a0, a1, a2, a3, a4, a5, a6, a7, a8⟩ := ha c
  have b0 : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0) := a0
  have b1 : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1) := a1
  have b2 : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2) := a2
  have b3 : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3) := a3
  have b4 : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4) := a4
  have b5 : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5) := a5
  have b6 : m' ((c.tc : Thread Cert.Reference2Ideal.nD Cert.Reference2Ideal.τ).loc Cert.Reference2Ideal.main_arg6)
      = m ((c.tc : Thread Cert.Kernel2Ideal.nD Cert.Kernel2Ideal.τ).loc Cert.Kernel2Ideal.main_arg6) := a6
  have b7 : m' ((c.tc : Thread Cert.Reference2Ideal.nD Cert.Reference2Ideal.τ).loc Cert.Reference2Ideal.main_arg7)
      = m ((c.tc : Thread Cert.Kernel2Ideal.nD Cert.Kernel2Ideal.τ).loc Cert.Kernel2Ideal.main_arg7) := a7
  have b8 : m' ((c.tc : Thread Cert.Reference2Ideal.nD Cert.Reference2Ideal.τ).loc Cert.Reference2Ideal.main_arg8)
      = m ((c.tc : Thread Cert.Kernel2Ideal.nD Cert.Kernel2Ideal.τ).loc Cert.Kernel2Ideal.main_arg8) := a8
  refine ⟨(e0.trans (Cert.Reference2Ideal.Read.val_main_v48_eq m' c)).trans ?_, (e1.trans (Cert.Reference2Ideal.Read.val_main_v86_eq m' c)).trans ?_, (e2.trans (Cert.Reference2Ideal.Read.val_main_v87_eq _ _ _ _ _)).trans ?_, (e3.trans (Cert.Reference2Ideal.Read.val_main_v88_eq m' c)).trans ?_, hargs⟩
  · rw [b0, b1, b2, b3, b4, b5, b7]
    exact Cert.Mid.equal_0 m c
  · rw [b0, b1, b2, b3, b4, b5, b6, b7, b8]
    exact Cert.Mid.equal_1 m c
  · rw [b0, b1, b2, b3, b4]
    exact Cert.Mid.equal_2 m c
  · rw [b0, b1, b2, b3, b4, b5, b6, b7]
    exact Cert.Mid.equal_3 m c

end Cert.Mid
-- ==== Proof.Dw.Final.lean ====
/-
The weight gradient product: what each point of its grid leaves, and the result array after the run.
-/
module

public import proofs.«01_k».proof.Proof.Gen.Kernel3Ideal.Value
public import Idealize.ShloMosaic.Lib.MatmulPlain
public import Idealize.ShloMosaic.Lib.ValueLayout
public import Idealize.ShloMosaic.Lib.Pipeline.ValueKit

@[expose] public section

noncomputable section

namespace Cert.Kernel3Ideal.Dw

open Idealize.ShloMosaic hiding ix0 ix1 ix2 ix3 ix4 ix5
open Idealize.ShloMosaic.ValueIdx Idealize.ShloMosaic.TcCoe Idealize.SL.Sem Cert.Kernel3Ideal.Gen
open scoped BigOperators

/-- The product of the transposed left block with the right block, at an index. -/
theorem dot_apply (a : FVec Ideal S4096x256 .bf16) (b : FVec Ideal S4096x1024 .bf16) (r : Fin 256) (n : Fin 1024) :
    matmul dot_S4096x256_S4096x1024_S256x1024_0_0_1_1_n_n none a b (constant S256x1024 .f32 0x00000000#32) (ix2 r n)
      = ∑ k : Fin 4096, a (ix2 k r) * b (ix2 k n) := by
  refine (Ideal.matmul_constant_zero_apply dot_S4096x256_S4096x1024_S256x1024_0_0_1_1_n_n none a b (ix2 r n)).trans ?_
  rw [← Equiv.sum_comp (contrEquiv1 dot_S4096x256_S4096x1024_S256x1024_0_0_1_1_n_n 4096 rfl rfl).symm]
  refine Finset.sum_congr rfl fun k _ => ?_
  have hk := contrEquiv1_symm_val dot_S4096x256_S4096x1024_S256x1024_0_0_1_1_n_n 4096 rfl rfl k
  have el : dot_S4096x256_S4096x1024_S256x1024_0_0_1_1_n_n.lhsIdx (ix2 r n) ((contrEquiv1 dot_S4096x256_S4096x1024_S256x1024_0_0_1_1_n_n 4096 rfl rfl).symm k) = ix2 k r :=
    funext fun x => Fin.ext (by
      match x with
      | ⟨0, _⟩ => exact hk
      | ⟨1, _⟩ => rfl)
  have er : dot_S4096x256_S4096x1024_S256x1024_0_0_1_1_n_n.rhsIdx (ix2 r n) ((contrEquiv1 dot_S4096x256_S4096x1024_S256x1024_0_0_1_1_n_n 4096 rfl rfl).symm k) = ix2 k n :=
    funext fun x => Fin.ext (by
      match x with
      | ⟨0, _⟩ => exact hk
      | ⟨1, _⟩ => rfl)
  rw [el, er]

theorem hz : (![0, 0] : Fin 2 → Nat) = fun _ => 0 := funext fun a => by fin_cases a <;> rfl

section
variable (c : Dev nD) (i : grid0.Coords)
    (arg2 : Memref sig .tc .vmem S4096x256 .bf16) (harg2 : arg2.IsWhole)
    (arg3 : Memref sig .tc .vmem S4096x1024 .bf16) (harg3 : arg3.IsWhole)
    (arg4 : Memref sig .tc .vmem S256x1024 .bf16) (harg4 : arg4.IsWhole) (hc0 : cond0_0 i)

theorem run_pieces {F : FTy → Type} [FloatOps F] (x0 : Vec F S4096x256 .bf16) (x1 : Vec F S4096x1024 .bf16) :
    (kernelRun0_A c i arg2 harg2 arg3 harg3 arg4 harg4 hc0 x0 x1).1 =
      [⟨Rect.unit (s := S256x1024) ![0, 0] S256x1024.size inb_S256x1024_S256x1024_0_0,
        k0_pay1 (View.readAt (Elt F) arg2.view (Rect.unit (s := S4096x256) ![0, 0] S4096x256.size inb_S4096x256_S4096x256_0_0).toLoadRect (harg2.unread x0))
          (View.readAt (Elt F) arg3.view (Rect.unit (s := S4096x1024) ![0, 0] S4096x1024.size inb_S4096x1024_S4096x1024_0_0).toLoadRect (harg3.unread x1))⟩] := rfl

/-- What a point leaves: the product of its blocks. -/
theorem out_apply (x0 : Vec Ideal S4096x256 .bf16) (x1 : Vec Ideal S4096x1024 .bf16) (r : Fin 256) (n : Fin 1024) :
    out0_A_2 c i arg2 harg2 arg3 harg3 arg4 harg4 hc0 x0 x1 (ix2 r n) = ∑ k : Fin 4096, x0 (ix2 k r) * x1 (ix2 k n) := by
  unfold out0_A_2
  rw [View.read_writes_junk_eq_canon, run_pieces, View.canon_cons_unit_zero (S := S256x1024) hz,
    View.readAt_eq_ld, View.readAt_eq_ld, harg2.read_unread, harg3.read_unread,
    View.ld_unit_zero (S := S4096x256) hz, View.ld_unit_zero (S := S4096x1024) hz]
  exact dot_apply x0 x1 r n
end

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem flush2 : ∀ t : Fin cfg0.N, (cfg0.win 2).flush t = true :=
  (by decide +kernel : ∀ t : Fin grid0.N, (cfg0.win 2).flush t = true)

theorem lt11 (t : Fin cfg0.N) : t.val < 11 := lt_of_lt_of_eq t.isLt (show cfg0.N = 11 from N_0)

/-- Row r of point t's 256 rows of the result. -/
def rowt (t : Fin cfg0.N) (r : Fin 256) : Fin 2816 :=
  ⟨256 * t.val + r.val, by have := lt11 t; omega⟩

variable (m : (ℓ : Loc nD τ sig) → Buf (Elt Ideal) ℓ) (c : Dev nD)

/-- The left argument. -/
abbrev lhs : FVec Ideal S4096x2816 .bf16 := m ((c : Thread nD τ).loc main_arg0)
/-- The right argument. -/
abbrev rhs : FVec Ideal S4096x1024 .bf16 := m ((c : Thread nD τ).loc main_arg1)

theorem blk0 (t : Fin cfg0.N) (k : Fin 4096) (r : Fin 256) :
    (iblk m c 0 t : Vec Ideal S4096x256 .bf16) (ix2 k r) = lhs m c (ix2 k (rowt t r)) := by
  unfold iblk
  rw [View.read_apply]
  show V m c main_arg0 _ = _
  rw [V_main_arg0]
  refine congrArg (lhs m c) ?_
  funext a
  apply Fin.ext
  match a with
  | ⟨0, _⟩ => show win0_0.index t 0 * 4096 + 1 * k.val = k.val; rw [(idx0 t).1]; omega
  | ⟨1, _⟩ => show win0_0.index t 1 * 256 + 1 * r.val = 256 * t.val + r.val; rw [(idx0 t).2]; omega

theorem blk1 (t : Fin cfg0.N) (k : Fin 4096) (n : Fin 1024) :
    (iblk m c 1 t : Vec Ideal S4096x1024 .bf16) (ix2 k n) = rhs m c (ix2 k n) := by
  unfold iblk
  rw [View.read_apply]
  show V m c main_arg1 _ = _
  rw [V_main_arg1]
  refine congrArg (rhs m c) ?_
  funext a
  apply Fin.ext
  match a with
  | ⟨0, _⟩ => show win0_1.index t 0 * 4096 + 1 * k.val = k.val; rw [(idx1 t).1]; omega
  | ⟨1, _⟩ => show win0_1.index t 1 * 1024 + 1 * n.val = n.val; rw [(idx1 t).2]; omega

theorem emb2 (t : Fin cfg0.N) (r : Fin 256) (n : Fin 1024) :
    ((cfg0.win 2).blk t).view.emb (ix2 r n : S256x1024.Idx) = (ix2 (rowt t r) n : S2816x1024.Idx) := by
  funext a
  apply Fin.ext
  match a with
  | ⟨0, _⟩ => show win0_2.index t 0 * 256 + 1 * r.val = 256 * t.val + r.val; rw [(idx2 t).1]; omega
  | ⟨1, _⟩ => show win0_2.index t 1 * 1024 + 1 * n.val = n.val; rw [(idx2 t).2]; omega

theorem sum_congr_blk (a : FVec Ideal S4096x256 .bf16) (b : FVec Ideal S4096x1024 .bf16) (A : FVec Ideal S4096x2816 .bf16)
    (B : FVec Ideal S4096x1024 .bf16) (r : Fin 256) (R : Fin 2816) (n : Fin 1024)
    (ha : ∀ k, a (ix2 k r) = A (ix2 k R)) (hb : ∀ k, b (ix2 k n) = B (ix2 k n)) :
    ∑ k : Fin 4096, a (ix2 k r) * b (ix2 k n) = ∑ k : Fin 4096, A (ix2 k R) * B (ix2 k n) :=
  Finset.sum_congr rfl fun k _ => by rw [ha, hb]

/-- The result array at an index: the sum of the products over all rows of the arguments. -/
theorem final (R : Fin 2816) (n : Fin 1024) :
    ((dats m 0 c).arrAt 2 cfg0.N : FVec Ideal S2816x1024 .bf16) (ix2 R n)
      = ∑ k : Fin 4096, lhs m c (ix2 k R) * rhs m c (ix2 k n) := by
  have hN : cfg0.N = 11 := N_0
  obtain ⟨t, r, rfl⟩ : ∃ (t : Fin cfg0.N) (r : Fin 256), R = rowt t r :=
    ⟨⟨R.val / 256, by omega⟩, ⟨R.val % 256, by omega⟩, Fin.ext (by simp only [rowt]; omega)⟩
  have h := congrFun (Value.blocks2 m c t (flush2 t)) (ix2 r n : S256x1024.Idx)
  rw [View.read_apply, Value.flushed2] at h
  refine (congrArg ((dats m 0 c).arrAt 2 cfg0.N) (emb2 t r n)).symm.trans (h.trans ?_)
  have o := out_apply c (grid0.coords t) (ms0_0 t) (hs0_0 t) (ms0_1 t) (hs0_1 t) (ms0_2 t) (hs0_2 t) (hcond0_0 t) (iblk m c 0 t) (iblk m c 1 t) r n
  exact Eq.trans o (sum_congr_blk _ _ _ _ _ _ _ (fun k => blk0 m c t k r) fun k => blk1 m c t k n)

end Cert.Kernel3Ideal.Dw
-- ==== Proof.Dw.Equal.lean ====
/-
The weight gradient product: the kernel's result array is the reference's.
-/
module

public import proofs.«01_k».proof.Proof.Dw.Final
public import proofs.«01_k».proof.Proof.Gen.Reference3Ideal.Read

@[expose] public section

noncomputable section

namespace Cert.Dw

open Idealize.ShloMosaic hiding ix0 ix1 ix2 ix3 ix4 ix5
open Idealize.ShloMosaic.ValueIdx Idealize.ShloMosaic.TcCoe Idealize.SL.Sem
open scoped BigOperators

/-- The reference's result at an index. -/
theorem ref_apply (a : FVec Ideal Cert.Reference3Ideal.S4096x2816 .bf16) (b : FVec Ideal Cert.Reference3Ideal.S4096x1024 .bf16) (R : Fin 2816) (n : Fin 1024) :
    Cert.Reference3Ideal.Read.val_main_v6 (F := Ideal) a b (ix2 R n) = ∑ k : Fin 4096, a (ix2 k R) * b (ix2 k n) := by
  rw [Cert.Reference3Ideal.Read.val_main_v6_apply, Cert.Reference3Ideal.Read.val_main_v5_apply]
  refine (Cert.Reference3Ideal.Read.val_main_v4_apply a b _).trans ?_
  refine Finset.sum_congr rfl fun k _ => ?_
  rw [mul_comm]
  have el : Cert.Reference3Ideal.Read.lidx_main_v4 (Cert.Reference3Ideal.Read.idx_main_v5 (ix2 R n)) k = ix2 k n :=
    funext fun x => Fin.ext (by match x with | ⟨0, _⟩ => rfl | ⟨1, _⟩ => rfl)
  have er : Cert.Reference3Ideal.Read.ridx_main_v4 (Cert.Reference3Ideal.Read.idx_main_v5 (ix2 R n)) k = ix2 k R :=
    funext fun x => Fin.ext (by match x with | ⟨0, _⟩ => rfl | ⟨1, _⟩ => rfl)
  rw [el, er]
  rfl

/-- The kernel's result array is the reference's. -/
theorem equal (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v6 (F := Ideal) (Cert.Kernel3Ideal.Dw.lhs m c) (Cert.Kernel3Ideal.Dw.rhs m c)
      = ((Cert.Kernel3Ideal.Gen.dats m 0 c).arrAt 2 Cert.Kernel3Ideal.cfg0.N : FVec Ideal Cert.Kernel3Ideal.S2816x1024 .bf16) := by
  funext i
  rw [ValueIdx.eq_ix2 i]
  exact (ref_apply _ _ _ _).trans (Cert.Kernel3Ideal.Dw.final m c _ _).symm

end Cert.Dw
-- ==== Proof.Dw.Result.lean ====
/-
The weight gradient product's claims: the reference's frame, and the kernel's result.
-/
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Dw.Equal
public import Idealize.ShloMosaic.Adequacy
public import Idealize.ShloMosaic.Init

@[expose] public section

noncomputable section

namespace Cert.Dw

open Idealize.ShloMosaic Idealize.SL.Sem Idealize.ShloMosaic.TcCoe

/-- The reference runs, leaves its arguments and ends with every semaphore at zero. -/
theorem reference_frame : Cert.quiescent_Reference3Ideal (hReference3Ideal := Cert.Reference3Ideal.Gen.facts) := by
  intro m g _
  exact (θ_run Cert.Reference3Ideal.defs _ _).mono
    (fun r h => ⟨fun c => (h c).2, Idealize.ShloMosaic.sem_eq_zero_of_no_sems (by decide) r.2⟩)
    (Cert.Reference3Ideal.Value.run (F := Ideal) m g)

/-- The kernel's results are the reference's. -/
theorem algebraic : Cert.algebraic_Kernel3Ideal_Reference3Ideal (hKernel3Ideal := Cert.Kernel3Ideal.Gen.facts)
    (hReference3Ideal := Cert.Reference3Ideal.Gen.facts) := by
  intro m g m' g' _ ha
  refine ⟨fun c => (Cert.Kernel3Ideal.Gen.dats m 0 c).arrAt 2 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨e0, hargs⟩ := h c
  obtain ⟨a0, a1⟩ := ha c
  have b0 : m' ((c.tc : Thread Cert.Reference3Ideal.nD Cert.Reference3Ideal.τ).loc Cert.Reference3Ideal.main_arg0)
      = m ((c.tc : Thread Cert.Kernel3Ideal.nD Cert.Kernel3Ideal.τ).loc Cert.Kernel3Ideal.main_arg0) := a0
  have b1 : m' ((c.tc : Thread Cert.Reference3Ideal.nD Cert.Reference3Ideal.τ).loc Cert.Reference3Ideal.main_arg1)
      = m ((c.tc : Thread Cert.Kernel3Ideal.nD Cert.Kernel3Ideal.τ).loc Cert.Kernel3Ideal.main_arg1) := a1
  refine ⟨(e0.trans (Cert.Reference3Ideal.Read.val_main_v6_eq _ _)).trans ?_, hargs⟩
  · rw [b0, b1]
    exact Cert.Dw.equal m c

end Cert.Dw
-- ==== Proof.Dgu.Final.lean ====
/-
The down projection's input gradient: what each point of its grid leaves, and the result array after the run.
-/
module

public import proofs.«01_k».proof.Proof.Gen.Kernel4Ideal.Value
public import Idealize.ShloMosaic.Lib.MatmulPlain
public import Idealize.ShloMosaic.Lib.ValueLayout
public import Idealize.ShloMosaic.Lib.Pipeline.ValueKit

@[expose] public section

noncomputable section

namespace Cert.Kernel4Ideal.Dgu

open Idealize.ShloMosaic hiding ix0 ix1 ix2 ix3 ix4 ix5
open Idealize.ShloMosaic.ValueIdx Idealize.ShloMosaic.TcCoe Idealize.SL.Sem Cert.Kernel4Ideal.Gen
open scoped BigOperators

/-- The product of the left block with the transposed right block, at an index. -/
theorem dot_apply (a : FVec Ideal S512x1024 .bf16) (b : FVec Ideal S2816x1024 .bf16) (r : Fin 512) (n : Fin 2816) :
    matmul dot_S512x1024_S2816x1024_S512x2816_1_1_0_0_n_n none a b (constant S512x2816 .f32 0x00000000#32) (ix2 r n)
      = ∑ k : Fin 1024, a (ix2 r k) * b (ix2 n k) := by
  refine (Ideal.matmul_constant_zero_apply dot_S512x1024_S2816x1024_S512x2816_1_1_0_0_n_n none a b (ix2 r n)).trans ?_
  rw [← Equiv.sum_comp (contrEquiv1 dot_S512x1024_S2816x1024_S512x2816_1_1_0_0_n_n 1024 rfl rfl).symm]
  refine Finset.sum_congr rfl fun k _ => ?_
  have hk := contrEquiv1_symm_val dot_S512x1024_S2816x1024_S512x2816_1_1_0_0_n_n 1024 rfl rfl k
  have el : dot_S512x1024_S2816x1024_S512x2816_1_1_0_0_n_n.lhsIdx (ix2 r n) ((contrEquiv1 dot_S512x1024_S2816x1024_S512x2816_1_1_0_0_n_n 1024 rfl rfl).symm k) = ix2 r k :=
    funext fun x => Fin.ext (by
      match x with
      | ⟨0, _⟩ => rfl
      | ⟨1, _⟩ => exact hk)
  have er : dot_S512x1024_S2816x1024_S512x2816_1_1_0_0_n_n.rhsIdx (ix2 r n) ((contrEquiv1 dot_S512x1024_S2816x1024_S512x2816_1_1_0_0_n_n 1024 rfl rfl).symm k) = ix2 n k :=
    funext fun x => Fin.ext (by
      match x with
      | ⟨0, _⟩ => rfl
      | ⟨1, _⟩ => exact hk)
  rw [el, er]

theorem hz : (![0, 0] : Fin 2 → Nat) = fun _ => 0 := funext fun a => by fin_cases a <;> rfl

/-- What a point leaves: the product of its blocks. -/
theorem out_apply (x0 : Vec Ideal S512x1024 .bf16) (x1 : Vec Ideal S2816x1024 .bf16) (r : Fin 512) (n : Fin 2816) :
    out0_2 x0 x1 (ix2 r n) = ∑ k : Fin 1024, x0 (ix2 r k) * x1 (ix2 n k) := by
  unfold out0_2
  rw [View.canon_cons_unit_zero (S := S512x2816) hz, View.ld_unit_zero (S := S512x1024) hz, View.ld_unit_zero (S := S2816x1024) hz]
  exact dot_apply x0 x1 r n

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem flush2 : ∀ t : Fin cfg0.N, (cfg0.win 2).flush t = true :=
  (by decide +kernel : ∀ t : Fin grid0.N, (cfg0.win 2).flush t = true)

theorem lt8 (t : Fin cfg0.N) : t.val < 8 := lt_of_lt_of_eq t.isLt (show cfg0.N = 8 from N_0)

/-- Row r of point t's 512 rows. -/
def rowt (t : Fin cfg0.N) (r : Fin 512) : Fin 4096 :=
  ⟨512 * t.val + r.val, by have := lt8 t; omega⟩

variable (m : (ℓ : Loc nD τ sig) → Buf (Elt Ideal) ℓ) (c : Dev nD)

/-- The left argument. -/
abbrev lhs : FVec Ideal S4096x1024 .bf16 := m ((c : Thread nD τ).loc main_arg0)
/-- The right argument. -/
abbrev rhs : FVec Ideal S2816x1024 .bf16 := m ((c : Thread nD τ).loc main_arg1)

theorem blk0 (t : Fin cfg0.N) (r : Fin 512) (k : Fin 1024) :
    (iblk m c 0 t : Vec Ideal S512x1024 .bf16) (ix2 r k) = lhs m c (ix2 (rowt t r) k) := by
  unfold iblk
  rw [View.read_apply]
  show V m c main_arg0 _ = _
  rw [V_main_arg0]
  refine congrArg (lhs m c) ?_
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem blk1 (t : Fin cfg0.N) (n : Fin 2816) (k : Fin 1024) :
    (iblk m c 1 t : Vec Ideal S2816x1024 .bf16) (ix2 n k) = rhs m c (ix2 n k) := by
  unfold iblk
  rw [View.read_apply]
  show V m c main_arg1 _ = _
  rw [V_main_arg1]
  refine congrArg (rhs m c) ?_
  funext a
  apply Fin.ext
  match a with
  | ⟨0, _⟩ => show win0_1.index t 0 * 2816 + 1 * n.val = n.val; rw [(idx1 t).1]; omega
  | ⟨1, _⟩ => show win0_1.index t 1 * 1024 + 1 * k.val = k.val; rw [(idx1 t).2]; omega

theorem emb2 (t : Fin cfg0.N) (r : Fin 512) (n : Fin 2816) :
    ((cfg0.win 2).blk t).view.emb (ix2 r n : S512x2816.Idx) = (ix2 (rowt t r) n : S4096x2816.Idx) := by
  funext a
  apply Fin.ext
  match a with
  | ⟨0, _⟩ => show win0_2.index t 0 * 512 + 1 * r.val = 512 * t.val + r.val; rw [(idx2 t).1]; omega
  | ⟨1, _⟩ => show win0_2.index t 1 * 2816 + 1 * n.val = n.val; rw [(idx2 t).2]; omega

theorem sum_congr_blk (a : FVec Ideal S512x1024 .bf16) (b : FVec Ideal S2816x1024 .bf16) (A : FVec Ideal S4096x1024 .bf16)
    (B : FVec Ideal S2816x1024 .bf16) (r : Fin 512) (R : Fin 4096) (n : Fin 2816)
    (ha : ∀ k, a (ix2 r k) = A (ix2 R k)) (hb : ∀ k, b (ix2 n k) = B (ix2 n k)) :
    ∑ k : Fin 1024, a (ix2 r k) * b (ix2 n k) = ∑ k : Fin 1024, A (ix2 R k) * B (ix2 n k) :=
  Finset.sum_congr rfl fun k _ => by rw [ha, hb]

/-- The result array at an index: the sum of the products over the arguments' columns. -/
theorem final (R : Fin 4096) (n : Fin 2816) :
    ((dats m 0 c).arrAt 2 cfg0.N : FVec Ideal S4096x2816 .bf16) (ix2 R n)
      = ∑ k : Fin 1024, lhs m c (ix2 R k) * rhs m c (ix2 n k) := by
  have hN : cfg0.N = 8 := N_0
  obtain ⟨t, r, rfl⟩ : ∃ (t : Fin cfg0.N) (r : Fin 512), R = rowt t r :=
    ⟨⟨R.val / 512, by omega⟩, ⟨R.val % 512, by omega⟩, Fin.ext (by simp only [rowt]; omega)⟩
  have h := congrFun (Value.blocks2 m c t (flush2 t)) (ix2 r n : S512x2816.Idx)
  rw [View.read_apply, Value.flushed2] at h
  refine (congrArg ((dats m 0 c).arrAt 2 cfg0.N) (emb2 t r n)).symm.trans (h.trans ?_)
  have o := out_apply (iblk m c 0 t) (iblk m c 1 t) r n
  exact Eq.trans o (sum_congr_blk _ _ _ _ _ _ _ (fun k => blk0 m c t r k) fun k => blk1 m c t n k)

end Cert.Kernel4Ideal.Dgu
-- ==== Proof.Dgu.Equal.lean ====
/-
The down projection's input gradient: the kernel's result array is the reference's.
-/
module

public import proofs.«01_k».proof.Proof.Dgu.Final
public import proofs.«01_k».proof.Proof.Gen.Reference4Ideal.Read

@[expose] public section

noncomputable section

namespace Cert.Dgu

open Idealize.ShloMosaic hiding ix0 ix1 ix2 ix3 ix4 ix5
open Idealize.ShloMosaic.ValueIdx Idealize.ShloMosaic.TcCoe Idealize.SL.Sem
open scoped BigOperators

/-- The reference's result at an index. -/
theorem ref_apply (a : FVec Ideal Cert.Reference4Ideal.S4096x1024 .bf16) (b : FVec Ideal Cert.Reference4Ideal.S2816x1024 .bf16) (R : Fin 4096) (n : Fin 2816) :
    Cert.Reference4Ideal.Read.val_main_v5 (F := Ideal) a b (ix2 R n) = ∑ k : Fin 1024, a (ix2 R k) * b (ix2 n k) := by
  rw [Cert.Reference4Ideal.Read.val_main_v5_apply]
  refine (Cert.Reference4Ideal.Read.val_main_v4_apply a b _).trans ?_
  refine Finset.sum_congr rfl fun k _ => ?_
  have el : Cert.Reference4Ideal.Read.lidx_main_v4 (ix2 R n) k = ix2 R k :=
    funext fun x => Fin.ext (by match x with | ⟨0, _⟩ => rfl | ⟨1, _⟩ => rfl)
  have er : Cert.Reference4Ideal.Read.ridx_main_v4 (ix2 R n) k = ix2 n k :=
    funext fun x => Fin.ext (by match x with | ⟨0, _⟩ => rfl | ⟨1, _⟩ => rfl)
  rw [el, er]
  rfl

/-- The kernel's result array is the reference's. -/
theorem equal (m : (ℓ : Loc Cert.Kernel4Ideal.nD Cert.Kernel4Ideal.τ Cert.Kernel4Ideal.sig) → Buf (Elt Ideal) ℓ) (c : Dev Cert.Kernel4Ideal.nD) :
    Cert.Reference4Ideal.Read.val_main_v5 (F := Ideal) (Cert.Kernel4Ideal.Dgu.lhs m c) (Cert.Kernel4Ideal.Dgu.rhs m c)
      = ((Cert.Kernel4Ideal.Gen.dats m 0 c).arrAt 2 Cert.Kernel4Ideal.cfg0.N : FVec Ideal Cert.Kernel4Ideal.S4096x2816 .bf16) := by
  funext i
  rw [ValueIdx.eq_ix2 i]
  exact (ref_apply _ _ _ _).trans (Cert.Kernel4Ideal.Dgu.final m c _ _).symm

end Cert.Dgu
-- ==== Proof.Dgu.Result.lean ====
/-
The down projection's input gradient: the reference's frame, and the kernel's result.
-/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Dgu.Equal
public import Idealize.ShloMosaic.Adequacy
public import Idealize.ShloMosaic.Init

@[expose] public section

noncomputable section

namespace Cert.Dgu

open Idealize.ShloMosaic Idealize.SL.Sem Idealize.ShloMosaic.TcCoe

/-- The reference runs, leaves its arguments and ends with every semaphore at zero. -/
theorem reference_frame : Cert.quiescent_Reference4Ideal (hReference4Ideal := Cert.Reference4Ideal.Gen.facts) := by
  intro m g _
  exact (θ_run Cert.Reference4Ideal.defs _ _).mono
    (fun r h => ⟨fun c => (h c).2, Idealize.ShloMosaic.sem_eq_zero_of_no_sems (by decide) r.2⟩)
    (Cert.Reference4Ideal.Value.run (F := Ideal) m g)

/-- The kernel's results are the reference's. -/
theorem algebraic : Cert.algebraic_Kernel4Ideal_Reference4Ideal (hKernel4Ideal := Cert.Kernel4Ideal.Gen.facts)
    (hReference4Ideal := Cert.Reference4Ideal.Gen.facts) := by
  intro m g m' g' _ ha
  refine ⟨fun c => (Cert.Kernel4Ideal.Gen.dats m 0 c).arrAt 2 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨e0, hargs⟩ := h c
  obtain ⟨a0, a1⟩ := ha c
  have b0 : m' ((c.tc : Thread Cert.Reference4Ideal.nD Cert.Reference4Ideal.τ).loc Cert.Reference4Ideal.main_arg0)
      = m ((c.tc : Thread Cert.Kernel4Ideal.nD Cert.Kernel4Ideal.τ).loc Cert.Kernel4Ideal.main_arg0) := a0
  have b1 : m' ((c.tc : Thread Cert.Reference4Ideal.nD Cert.Reference4Ideal.τ).loc Cert.Reference4Ideal.main_arg1)
      = m ((c.tc : Thread Cert.Kernel4Ideal.nD Cert.Kernel4Ideal.τ).loc Cert.Kernel4Ideal.main_arg1) := a1
  refine ⟨(e0.trans (Cert.Reference4Ideal.Read.val_main_v5_eq _ _)).trans ?_, hargs⟩
  · rw [b0, b1]
    exact Cert.Dgu.equal m c

end Cert.Dgu
-- ==== Proof.Dmix.Final.lean ====
/-
The output projection's input gradient: what each point of its grid leaves, and the result array after the run.
-/
module

public import proofs.«01_k».proof.Proof.Gen.Kernel5Ideal.Value
public import Idealize.ShloMosaic.Lib.MatmulPlain
public import Idealize.ShloMosaic.Lib.ValueLayout
public import Idealize.ShloMosaic.Lib.Pipeline.ValueKit

@[expose] public section

noncomputable section

namespace Cert.Kernel5Ideal.Dmix

open Idealize.ShloMosaic hiding ix0 ix1 ix2 ix3 ix4 ix5
open Idealize.ShloMosaic.ValueIdx Idealize.ShloMosaic.TcCoe Idealize.SL.Sem Cert.Kernel5Ideal.Gen
open scoped BigOperators

/-- The product of the left block with the transposed right block, at an index. -/
theorem dot_apply (a : FVec Ideal S512x1024 .bf16) (b : FVec Ideal S1024x1024 .bf16) (r : Fin 512) (n : Fin 1024) :
    matmul dot_S512x1024_S1024x1024_S512x1024_1_1_0_0_n_n none a b (constant S512x1024 .f32 0x00000000#32) (ix2 r n)
      = ∑ k : Fin 1024, a (ix2 r k) * b (ix2 n k) := by
  refine (Ideal.matmul_constant_zero_apply dot_S512x1024_S1024x1024_S512x1024_1_1_0_0_n_n none a b (ix2 r n)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r n) ((contrEquiv1 dot_S512x1024_S1024x1024_S512x1024_1_1_0_0_n_n 1024 rfl rfl).symm k) = ix2 r k :=
    funext fun x => Fin.ext (by
      match x with
      | ⟨0, _⟩ => rfl
      | ⟨1, _⟩ => exact hk)
  have er : dot_S512x1024_S1024x1024_S512x1024_1_1_0_0_n_n.rhsIdx (ix2 r n) ((contrEquiv1 dot_S512x1024_S1024x1024_S512x1024_1_1_0_0_n_n 1024 rfl rfl).symm k) = ix2 n k :=
    funext fun x => Fin.ext (by
      match x with
      | ⟨0, _⟩ => rfl
      | ⟨1, _⟩ => exact hk)
  rw [el, er]

theorem hz : (![0, 0] : Fin 2 → Nat) = fun _ => 0 := funext fun a => by fin_cases a <;> rfl

/-- What a point leaves: the product of its blocks. -/
theorem out_apply (x0 : Vec Ideal S512x1024 .bf16) (x1 : Vec Ideal S1024x1024 .bf16) (r : Fin 512) (n : Fin 1024) :
    out0_2 x0 x1 (ix2 r n) = ∑ k : Fin 1024, x0 (ix2 r k) * x1 (ix2 n k) := by
  unfold out0_2
  rw [View.canon_cons_unit_zero (S := S512x1024) hz, View.ld_unit_zero (S := S512x1024) hz, View.ld_unit_zero (S := S1024x1024) hz]
  exact dot_apply x0 x1 r n

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem flush2 : ∀ t : Fin cfg0.N, (cfg0.win 2).flush t = true :=
  (by decide +kernel : ∀ t : Fin grid0.N, (cfg0.win 2).flush t = true)

theorem lt8 (t : Fin cfg0.N) : t.val < 8 := lt_of_lt_of_eq t.isLt (show cfg0.N = 8 from N_0)

/-- Row r of point t's 512 rows. -/
def rowt (t : Fin cfg0.N) (r : Fin 512) : Fin 4096 :=
  ⟨512 * t.val + r.val, by have := lt8 t; omega⟩

variable (m : (ℓ : Loc nD τ sig) → Buf (Elt Ideal) ℓ) (c : Dev nD)

/-- The left argument. -/
abbrev lhs : FVec Ideal S4096x1024 .bf16 := m ((c : Thread nD τ).loc main_arg0)
/-- The right argument. -/
abbrev rhs : FVec Ideal S1024x1024 .bf16 := m ((c : Thread nD τ).loc main_arg1)

theorem blk0 (t : Fin cfg0.N) (r : Fin 512) (k : Fin 1024) :
    (iblk m c 0 t : Vec Ideal S512x1024 .bf16) (ix2 r k) = lhs m c (ix2 (rowt t r) k) := by
  unfold iblk
  rw [View.read_apply]
  show V m c main_arg0 _ = _
  rw [V_main_arg0]
  refine congrArg (lhs m c) ?_
  funext a
  apply Fin.ext
  match a with
  | ⟨0, _⟩ => show win0_0.index t 0 * 512 + 1 * r.val = 512 * t.val + r.val; rw [(idx0 t).1]; omega
  | ⟨1, _⟩ => show win0_0.index t 1 * 1024 + 1 * k.val = k.val; rw [(idx0 t).2]; omega

theorem blk1 (t : Fin cfg0.N) (n : Fin 1024) (k : Fin 1024) :
    (iblk m c 1 t : Vec Ideal S1024x1024 .bf16) (ix2 n k) = rhs m c (ix2 n k) := by
  unfold iblk
  rw [View.read_apply]
  show V m c main_arg1 _ = _
  rw [V_main_arg1]
  refine congrArg (rhs m c) ?_
  funext a
  apply Fin.ext
  match a with
  | ⟨0, _⟩ => show win0_1.index t 0 * 1024 + 1 * n.val = n.val; rw [(idx1 t).1]; omega
  | ⟨1, _⟩ => show win0_1.index t 1 * 1024 + 1 * k.val = k.val; rw [(idx1 t).2]; omega

theorem emb2 (t : Fin cfg0.N) (r : Fin 512) (n : Fin 1024) :
    ((cfg0.win 2).blk t).view.emb (ix2 r n : S512x1024.Idx) = (ix2 (rowt t r) n : S4096x1024.Idx) := by
  funext a
  apply Fin.ext
  match a with
  | ⟨0, _⟩ => show win0_2.index t 0 * 512 + 1 * r.val = 512 * t.val + r.val; rw [(idx2 t).1]; omega
  | ⟨1, _⟩ => show win0_2.index t 1 * 1024 + 1 * n.val = n.val; rw [(idx2 t).2]; omega

theorem sum_congr_blk (a : FVec Ideal S512x1024 .bf16) (b : FVec Ideal S1024x1024 .bf16) (A : FVec Ideal S4096x1024 .bf16)
    (B : FVec Ideal S1024x1024 .bf16) (r : Fin 512) (R : Fin 4096) (n : Fin 1024)
    (ha : ∀ k, a (ix2 r k) = A (ix2 R k)) (hb : ∀ k, b (ix2 n k) = B (ix2 n k)) :
    ∑ k : Fin 1024, a (ix2 r k) * b (ix2 n k) = ∑ k : Fin 1024, A (ix2 R k) * B (ix2 n k) :=
  Finset.sum_congr rfl fun k _ => by rw [ha, hb]

/-- The result array at an index: the sum of the products over the arguments' columns. -/
theorem final (R : Fin 4096) (n : Fin 1024) :
    ((dats m 0 c).arrAt 2 cfg0.N : FVec Ideal S4096x1024 .f32) (ix2 R n)
      = ∑ k : Fin 1024, lhs m c (ix2 R k) * rhs m c (ix2 n k) := by
  have hN : cfg0.N = 8 := N_0
  obtain ⟨t, r, rfl⟩ : ∃ (t : Fin cfg0.N) (r : Fin 512), R = rowt t r :=
    ⟨⟨R.val / 512, by omega⟩, ⟨R.val % 512, by omega⟩, Fin.ext (by simp only [rowt]; omega)⟩
  have h := congrFun (Value.blocks2 m c t (flush2 t)) (ix2 r n : S512x1024.Idx)
  rw [View.read_apply, Value.flushed2] at h
  refine (congrArg ((dats m 0 c).arrAt 2 cfg0.N) (emb2 t r n)).symm.trans (h.trans ?_)
  have o := out_apply (iblk m c 0 t) (iblk m c 1 t) r n
  exact Eq.trans o (sum_congr_blk _ _ _ _ _ _ _ (fun k => blk0 m c t r k) fun k => blk1 m c t n k)

end Cert.Kernel5Ideal.Dmix
-- ==== Proof.Dmix.Equal.lean ====
/-
The output projection's input gradient: the kernel's result array is the reference's.
-/
module

public import proofs.«01_k».proof.Proof.Dmix.Final
public import proofs.«01_k».proof.Proof.Gen.Reference5Ideal.Read

@[expose] public section

noncomputable section

namespace Cert.Dmix

open Idealize.ShloMosaic hiding ix0 ix1 ix2 ix3 ix4 ix5
open Idealize.ShloMosaic.ValueIdx Idealize.ShloMosaic.TcCoe Idealize.SL.Sem
open scoped BigOperators

/-- The reference's result at an index. -/
theorem ref_apply (a : FVec Ideal Cert.Reference5Ideal.S4096x1024 .bf16) (b : FVec Ideal Cert.Reference5Ideal.S1024x1024 .bf16) (R : Fin 4096) (n : Fin 1024) :
    Cert.Reference5Ideal.Read.val_main_v4 (F := Ideal) a b (ix2 R n) = ∑ k : Fin 1024, a (ix2 R k) * b (ix2 n k) := by
  refine (Cert.Reference5Ideal.Read.val_main_v4_apply a b _).trans ?_
  refine Finset.sum_congr rfl fun k _ => ?_
  have el : Cert.Reference5Ideal.Read.lidx_main_v4 (ix2 R n) k = ix2 R k :=
    funext fun x => Fin.ext (by match x with | ⟨0, _⟩ => rfl | ⟨1, _⟩ => rfl)
  have er : Cert.Reference5Ideal.Read.ridx_main_v4 (ix2 R n) k = ix2 n k :=
    funext fun x => Fin.ext (by match x with | ⟨0, _⟩ => rfl | ⟨1, _⟩ => rfl)
  rw [el, er]
  rfl

/-- The kernel's result array is the reference's. -/
theorem equal (m : (ℓ : Loc Cert.Kernel5Ideal.nD Cert.Kernel5Ideal.τ Cert.Kernel5Ideal.sig) → Buf (Elt Ideal) ℓ) (c : Dev Cert.Kernel5Ideal.nD) :
    Cert.Reference5Ideal.Read.val_main_v4 (F := Ideal) (Cert.Kernel5Ideal.Dmix.lhs m c) (Cert.Kernel5Ideal.Dmix.rhs m c)
      = ((Cert.Kernel5Ideal.Gen.dats m 0 c).arrAt 2 Cert.Kernel5Ideal.cfg0.N : FVec Ideal Cert.Kernel5Ideal.S4096x1024 .f32) := by
  funext i
  rw [ValueIdx.eq_ix2 i]
  exact (ref_apply _ _ _ _).trans (Cert.Kernel5Ideal.Dmix.final m c _ _).symm

end Cert.Dmix
-- ==== Proof.Dmix.Result.lean ====
/-
The output projection's input gradient: the reference's frame, and the kernel's result.
-/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Dmix.Equal
public import Idealize.ShloMosaic.Adequacy
public import Idealize.ShloMosaic.Init

@[expose] public section

noncomputable section

namespace Cert.Dmix

open Idealize.ShloMosaic Idealize.SL.Sem Idealize.ShloMosaic.TcCoe

/-- The reference runs, leaves its arguments and ends with every semaphore at zero. -/
theorem reference_frame : Cert.quiescent_Reference5Ideal (hReference5Ideal := Cert.Reference5Ideal.Gen.facts) := by
  intro m g _
  exact (θ_run Cert.Reference5Ideal.defs _ _).mono
    (fun r h => ⟨fun c => (h c).2, Idealize.ShloMosaic.sem_eq_zero_of_no_sems (by decide) r.2⟩)
    (Cert.Reference5Ideal.Value.run (F := Ideal) m g)

/-- The kernel's results are the reference's. -/
theorem algebraic : Cert.algebraic_Kernel5Ideal_Reference5Ideal (hKernel5Ideal := Cert.Kernel5Ideal.Gen.facts)
    (hReference5Ideal := Cert.Reference5Ideal.Gen.facts) := by
  intro m g m' g' _ ha
  refine ⟨fun c => (Cert.Kernel5Ideal.Gen.dats m 0 c).arrAt 2 Cert.Kernel5Ideal.cfg0.N,
    Cert.Kernel5Ideal.Value.run_blocks m g, ?_⟩
  refine (θ_run Cert.Reference5Ideal.defs _ _).mono (fun r h c => ?_) (Cert.Reference5Ideal.Value.run (F := Ideal) m' g')
  obtain ⟨e0, hargs⟩ := h c
  obtain ⟨a0, a1⟩ := ha c
  have b0 : m' ((c.tc : Thread Cert.Reference5Ideal.nD Cert.Reference5Ideal.τ).loc Cert.Reference5Ideal.main_arg0)
      = m ((c.tc : Thread Cert.Kernel5Ideal.nD Cert.Kernel5Ideal.τ).loc Cert.Kernel5Ideal.main_arg0) := a0
  have b1 : m' ((c.tc : Thread Cert.Reference5Ideal.nD Cert.Reference5Ideal.τ).loc Cert.Reference5Ideal.main_arg1)
      = m ((c.tc : Thread Cert.Kernel5Ideal.nD Cert.Kernel5Ideal.τ).loc Cert.Kernel5Ideal.main_arg1) := a1
  refine ⟨(e0.trans (Cert.Reference5Ideal.Read.val_main_v4_eq _ _)).trans ?_, hargs⟩
  · rw [b0, b1]
    exact Cert.Dmix.equal m c

end Cert.Dmix
-- ==== Proof.NormIn.Final.lean ====
/-
The first norm and its product: what each point of the grid leaves, and the two result arrays after the run.
-/
module

public import proofs.«01_k».proof.Proof.Mid.Vec
public import proofs.«01_k».proof.Proof.Dgu.Final
public import proofs.«01_k».proof.Proof.Gen.Kernel7Ideal.Value

@[expose] public section

noncomputable section

namespace Cert.Kernel7Ideal.NormIn

open Idealize.ShloMosaic hiding ix0 ix1 ix2 ix3 ix4 ix5
open Idealize.ShloMosaic.ValueIdx Idealize.ShloMosaic.TcCoe Idealize.SL.Sem Cert.Kernel7Ideal.Gen Cert.Mid
open Cert.Kernel2Ideal.Mid (row rsqrt_at divf_at lit_at)
open scoped BigOperators

/-- A sum along a row. -/
theorem rsum_apply (x : FVec Ideal S512x1024 .f32) (r : Fin 512) :
    shapeCast S512x1 (multiReduction .add [1] S512 x 0x00000000#32 reduces_S512x1024_S512 (.inl rfl) rfl) shapeCasts_S512_S512x1 (ix2 r 0)
      = ∑ l : Fin 1024, x (ix2 r l) := by
  rw [shapeCast_a_a1_apply]
  refine (Ideal.multiReduction_add_single _ _ reduces_S512x1024_S512 _ _ (ix1 r)).trans ?_
  refine Finset.sum_congr rfl fun l _ => congrArg x ?_
  funext b
  match b with
  | ⟨0, _⟩ => rfl
  | ⟨1, _⟩ => rfl

/-- A column spread over the lanes. -/
theorem spread_apply (x : FVec Ideal S512x1 .f32) (r : Fin 512) (l : Fin 1024) :
    broadcastTo S512x1024 x broadcasts_S512x1_S512x1024 (ix2 r l) = x (ix2 r 0) :=
  broadcastTo_apply _ _ (ix2 r l) (ix2 r 0) (fun b => by match b with | ⟨0, _⟩ => rfl | ⟨1, _⟩ => rfl)

/-- A row spread over the rows. -/
theorem spreadRow_apply (x : FVec Ideal S1x1024 .f32) (r : Fin 512) (l : Fin 1024) :
    broadcastTo S512x1024 x broadcasts_S1x1024_S512x1024 (ix2 r l) = x (ix2 0 l) :=
  broadcastTo_apply _ _ (ix2 r l) (ix2 0 l) (fun b => by match b with | ⟨0, _⟩ => rfl | ⟨1, _⟩ => rfl)

/-- The scale of each row of a block. -/
def scale (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

theorem scale_apply (x : FVec Ideal S512x1024 .f32) (r : Fin 512) : scale x (ix2 r 0) = rs (row x r) := by
  unfold scale
  rw [rsqrt_at, addf_apply, divf_at, rsum_apply, broadcast_apply, broadcast_apply, lit_at, lit_at, Cert.Gate.lit_1024, Cert.Gate.lit_eps]
  unfold rs ms
  refine congrArg (fun s => Ideal.rsqrt (Ideal.div s ((1024 : ℝ) : EReal) + ((Cert.Gate.eps : ℝ) : EReal))) ?_
  exact Finset.sum_congr rfl fun l _ => ValueIdx.mulf_apply _ _ _

/-- The normalised row, with its gains. -/
def norm (x g : Fin 1024 → EReal) (l : Fin 1024) : EReal := x l * rs x * g l

theorem pay1_eq (x : FVec Ideal S512x1024 .f32) (g : FVec Ideal S1x1024 .f32) :
    k0_pay1 (F := Ideal) x g = truncf .bf16 (mulf (mulf x (broadcastTo S512x1024 (scale x) broadcasts_S512x1_S512x1024))
      (broadcastTo S512x1024 g broadcasts_S1x1024_S512x1024)) bitsLt_bf16_f32 := rfl

theorem pay1_apply (x : FVec Ideal S512x1024 .f32) (g : FVec Ideal S1x1024 .f32) (r : Fin 512) (l : Fin 1024) :
    k0_pay1 (F := Ideal) x g (ix2 r l) = norm (row x r) (row g 0) l := by
  rw [pay1_eq, truncf_apply, mulf_apply, mulf_apply, spread_apply, spreadRow_apply, scale_apply]
  rfl

theorem pay2_apply (h : FVec Ideal S512x1024 .bf16) (w : FVec Ideal S2816x1024 .bf16) (r : Fin 512) (n : Fin 2816) :
    k0_pay2 (F := Ideal) h w (ix2 r n) = ∑ k : Fin 1024, h (ix2 r k) * w (ix2 n k) := by
  unfold k0_pay2
  rw [shapeCast_self]
  exact Cert.Kernel4Ideal.Dgu.dot_apply h w r n

theorem hz : (![0, 0] : Fin 2 → Nat) = fun _ => 0 := funext fun a => by fin_cases a <;> rfl

section
variable {F : FTy → Type} [FloatOps F] (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S2816x1024 .bf16) (harg4 : arg4.IsWhole)
    (arg5 : Memref sig .tc .vmem S512x1024 .bf16) (harg5 : arg5.IsWhole)
    (arg6 : Memref sig .tc .vmem S512x2816 .f32) (harg6 : arg6.IsWhole) (hc0 : cond0_0 i)
    (x0 : Vec F S512x1024 .f32) (x1 : Vec F S1x1024 .f32) (x2 : Vec F S2816x1024 .bf16)

/-- The piece a point stores in the first result's window. -/
def hpiece : List (View.Piece (Elt F) S512x1024 .bf16) :=
  [⟨Rect.unit (s := S512x1024) ![0, 0] S512x1024.size inb_S512x1024_S512x1024_0_0,
    k0_pay1 (View.readAt (Elt F) arg2.view (Rect.unit (s := S512x1024) ![0, 0] S512x1024.size inb_S512x1024_S512x1024_0_0).toLoadRect (harg2.unread x0))
      (View.readAt (Elt F) arg3.view (Rect.unit (s := S1x1024) ![0, 0] S1x1024.size inb_S1x1024_S1x1024_0_0).toLoadRect (harg3.unread x1))⟩]

theorem run_3 : (kernelRun0_A c i arg2 harg2 arg3 harg3 arg4 harg4 arg5 harg5 arg6 harg6 hc0 x0 x1 x2).1 = hpiece arg2 harg2 arg3 harg3 x0 x1 := rfl

theorem run_4 : (kernelRun0_A c i arg2 harg2 arg3 harg3 arg4 harg4 arg5 harg5 arg6 harg6 hc0 x0 x1 x2).2.1 =
      [⟨Rect.unit (s := S512x2816) ![0, 0] S512x2816.size inb_S512x2816_S512x2816_0_0,
        k0_pay2 (arg5.view.readAt (Elt F) (Rect.unit (s := S512x1024) ![0, 0] S512x1024.size inb_S512x1024_S512x1024_0_0).toLoadRect
            (arg5.view.writes (Elt F) arg5.view.junk (hpiece arg2 harg2 arg3 harg3 x0 x1)))
          (View.readAt (Elt F) arg4.view (Rect.unit (s := S2816x1024) ![0, 0] S2816x1024.size inb_S2816x1024_S2816x1024_0_0).toLoadRect (harg4.unread x2))⟩] := rfl

end

section
variable (c : Dev nD) (i : grid0.Coords)
    (arg2 : Memref sig .tc .vmem S512x1024 .f32) (harg2 : arg2.IsWhole)
    (arg3 : Memref sig .tc .vmem S1x1024 .f32) (harg3 : arg3.IsWhole)
    (arg4 : Memref sig .tc .vmem S2816x1024 .bf16) (harg4 : arg4.IsWhole)
    (arg5 : Memref sig .tc .vmem S512x1024 .bf16) (harg5 : arg5.IsWhole)
    (arg6 : Memref sig .tc .vmem S512x2816 .f32) (harg6 : arg6.IsWhole) (hc0 : cond0_0 i)
    (x0 : Vec Ideal S512x1024 .f32) (x1 : Vec Ideal S1x1024 .f32) (x2 : Vec Ideal S2816x1024 .bf16)

theorem canon_hpiece : View.canon (hpiece (F := Ideal) arg2 harg2 arg3 harg3 x0 x1) = k0_pay1 (F := Ideal) x0 x1 := by
  unfold hpiece
  rw [View.canon_cons_unit_zero (S := S512x1024) hz, View.readAt_eq_ld, View.readAt_eq_ld, harg2.read_unread, harg3.read_unread,
    View.ld_unit_zero (S := S512x1024) hz, View.ld_unit_zero (S := S1x1024) hz]

/-- What a point leaves in the first result's window: the normalised rows. -/
theorem out_3 (r : Fin 512) (l : Fin 1024) :
    out0_A_3 c i arg2 harg2 arg3 harg3 arg4 harg4 arg5 harg5 arg6 harg6 hc0 x0 x1 x2 (ix2 r l) = norm (row x0 r) (row x1 0) l := by
  unfold out0_A_3
  rw [View.read_writes_junk_eq_canon, run_3, canon_hpiece]
  exact pay1_apply x0 x1 r l

/-- What a point leaves in the second result's window: the normalised rows' products with the weights. -/
theorem out_4 (r : Fin 512) (n : Fin 2816) :
    out0_A_4 c i arg2 harg2 arg3 harg3 arg4 harg4 arg5 harg5 arg6 harg6 hc0 x0 x1 x2 (ix2 r n) = ∑ k : Fin 1024, norm (row x0 r) (row x1 0) k * x2 (ix2 n k) := by
  unfold out0_A_4
  rw [View.read_writes_junk_eq_canon, run_4, View.canon_cons_unit_zero (S := S512x2816) hz,
    View.readAt_eq_ld arg4.view, harg4.read_unread, View.ld_unit_zero (S := S2816x1024) hz]
  rw [View.readAt_eq_ld, View.read_writes_junk_eq_canon, View.ld_unit_zero (S := S512x1024) hz, canon_hpiece]
  refine (pay2_apply _ x2 r n).trans ?_
  exact Finset.sum_congr rfl fun k _ => by rw [pay1_apply]

end

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem flush3 : ∀ t : Fin cfg0.N, (cfg0.win 3).flush t = true :=
  (by decide +kernel : ∀ t : Fin grid0.N, (cfg0.win 3).flush t = true)
theorem flush4 : ∀ t : Fin cfg0.N, (cfg0.win 4).flush t = true :=
  (by decide +kernel : ∀ t : Fin grid0.N, (cfg0.win 4).flush t = true)

theorem lt8 (t : Fin cfg0.N) : t.val < 8 := lt_of_lt_of_eq t.isLt (show cfg0.N = 8 from N_0)

/-- Row r of point t's 512 rows. -/
def rowt (t : Fin cfg0.N) (r : Fin 512) : Fin 4096 :=
  ⟨512 * t.val + r.val, by have := lt8 t; omega⟩

theorem rowt_surj (R : Fin 4096) : ∃ (t : Fin cfg0.N) (r : Fin 512), R = rowt t r :=
  have hN : cfg0.N = 8 := N_0
  ⟨⟨R.val / 512, by omega⟩, ⟨R.val % 512, by omega⟩, Fin.ext (by simp only [rowt]; omega)⟩

variable (m : (ℓ : Loc nD τ sig) → Buf (Elt Ideal) ℓ) (c : Dev nD)

/-- The rows to normalise. -/
abbrev xx : FVec Ideal S4096x1024 .f32 := m ((c : Thread nD τ).loc main_arg0)
/-- The gains. -/
abbrev gain : FVec Ideal S1x1024 .f32 := m ((c : Thread nD τ).loc main_arg1)
/-- The weights, transposed. -/
abbrev wt : FVec Ideal S2816x1024 .bf16 := m ((c : Thread nD τ).loc main_arg2)

theorem blk0 (t : Fin cfg0.N) (r : Fin 512) (l : Fin 1024) :
    (iblk m c 0 t : Vec Ideal S512x1024 .f32) (ix2 r l) = xx m c (ix2 (rowt t r) l) := by
  unfold iblk
  rw [View.read_apply]
  show V m c main_arg0 _ = _
  rw [V_main_arg0]
  refine congrArg (xx m c) ?_
  funext a
  apply Fin.ext
  match a with
  | ⟨0, _⟩ => show win0_0.index t 0 * 512 + 1 * r.val = 512 * t.val + r.val; rw [(idx0 t).1]; omega
  | ⟨1, _⟩ => show win0_0.index t 1 * 1024 + 1 * l.val = l.val; rw [(idx0 t).2]; omega

theorem blk1 (t : Fin cfg0.N) (z : Fin 1) (l : Fin 1024) :
    (iblk m c 1 t : Vec Ideal S1x1024 .f32) (ix2 z l) = gain m c (ix2 z l) := by
  unfold iblk
  rw [View.read_apply]
  show V m c main_arg1 _ = _
  rw [V_main_arg1]
  refine congrArg (gain m c) ?_
  funext a
  apply Fin.ext
  match a with
  | ⟨0, _⟩ => show win0_1.index t 0 * 1 + 1 * z.val = z.val; rw [(idx1 t).1]; omega
  | ⟨1, _⟩ => show win0_1.index t 1 * 1024 + 1 * l.val = l.val; rw [(idx1 t).2]; omega

theorem blk2 (t : Fin cfg0.N) (n : Fin 2816) (k : Fin 1024) :
    (iblk m c 2 t : Vec Ideal S2816x1024 .bf16) (ix2 n k) = wt m c (ix2 n k) := by
  unfold iblk
  rw [View.read_apply]
  show V m c main_arg2 _ = _
  rw [V_main_arg2]
  refine congrArg (wt m c) ?_
  funext a
  apply Fin.ext
  match a with
  | ⟨0, _⟩ => show win0_2.index t 0 * 2816 + 1 * n.val = n.val; rw [(idx2 t).1]; omega
  | ⟨1, _⟩ => show win0_2.index t 1 * 1024 + 1 * k.val = k.val; rw [(idx2 t).2]; omega

theorem emb3 (t : Fin cfg0.N) (r : Fin 512) (n : Fin 1024) :
    ((cfg0.win 3).blk t).view.emb (ix2 r n : S512x1024.Idx) = (ix2 (rowt t r) n : S4096x1024.Idx) := by
  funext a
  apply Fin.ext
  match a with
  | ⟨0, _⟩ => show win0_3.index t 0 * 512 + 1 * r.val = 512 * t.val + r.val; rw [(idx3 t).1]; omega
  | ⟨1, _⟩ => show win0_3.index t 1 * 1024 + 1 * n.val = n.val; rw [(idx3 t).2]; omega

theorem emb4 (t : Fin cfg0.N) (r : Fin 512) (n : Fin 2816) :
    ((cfg0.win 4).blk t).view.emb (ix2 r n : S512x2816.Idx) = (ix2 (rowt t r) n : S4096x2816.Idx) := by
  funext a
  apply Fin.ext
  match a with
  | ⟨0, _⟩ => show win0_4.index t 0 * 512 + 1 * r.val = 512 * t.val + r.val; rw [(idx4 t).1]; omega
  | ⟨1, _⟩ => show win0_4.index t 1 * 2816 + 1 * n.val = n.val; rw [(idx4 t).2]; omega

theorem norm_congr (x : FVec Ideal S512x1024 .f32) (g : FVec Ideal S1x1024 .f32) (X : FVec Ideal S4096x1024 .f32) (G : FVec Ideal S1x1024 .f32)
    (r : Fin 512) (R : Fin 4096) (hx : ∀ l, x (ix2 r l) = X (ix2 R l)) (hg : ∀ l, g (ix2 0 l) = G (ix2 0 l)) (l : Fin 1024) :
    norm (row x r) (row g 0) l = norm (row X R) (row G 0) l := by
  have e : row x r = row X R := funext hx
  have e' : row g 0 = row G 0 := funext hg
  rw [e, e']

theorem sum_congr_blk (x : FVec Ideal S512x1024 .f32) (g : FVec Ideal S1x1024 .f32) (X : FVec Ideal S4096x1024 .f32) (G : FVec Ideal S1x1024 .f32)
    (w W : FVec Ideal S2816x1024 .bf16) (r : Fin 512) (R : Fin 4096) (n : Fin 2816) (hx : ∀ l, x (ix2 r l) = X (ix2 R l))
    (hg : ∀ l, g (ix2 0 l) = G (ix2 0 l)) (hw : ∀ k, w (ix2 n k) = W (ix2 n k)) :
    ∑ k : Fin 1024, norm (row x r) (row g 0) k * w (ix2 n k) = ∑ k : Fin 1024, norm (row X R) (row G 0) k * W (ix2 n k) :=
  Finset.sum_congr rfl fun k _ => by rw [norm_congr x g X G r R hx hg, hw]

/-- The first result array at an index: the normalised rows. -/
theorem final3 (R : Fin 4096) (l : Fin 1024) :
    ((dats m 0 c).arrAt 3 cfg0.N : FVec Ideal S4096x1024 .bf16) (ix2 R l) = norm (row (xx m c) R) (row (gain m c) 0) l := by
  obtain ⟨t, r, rfl⟩ := rowt_surj R
  have h := congrFun (Value.blocks3 m c t (flush3 t)) (ix2 r l : S512x1024.Idx)
  rw [View.read_apply, Value.flushed3_A] at h
  refine (congrArg ((dats m 0 c).arrAt 3 cfg0.N) (emb3 t r l)).symm.trans (h.trans ?_)
  have o := out_3 c (grid0.coords t) (ms0_0 t) (hs0_0 t) (ms0_1 t) (hs0_1 t) (ms0_2 t) (hs0_2 t) (ms0_3 t) (hs0_3 t) (ms0_4 t) (hs0_4 t) (hcond0_0 t) (iblk m c 0 t) (iblk m c 1 t) (iblk m c 2 t) r l
  exact Eq.trans o (norm_congr _ _ _ _ _ _ (fun l => blk0 m c t r l) (fun l => blk1 m c t 0 l) l)

/-- The second result array at an index: the normalised rows' products with the weights. -/
theorem final4 (R : Fin 4096) (n : Fin 2816) :
    ((dats m 0 c).arrAt 4 cfg0.N : FVec Ideal S4096x2816 .f32) (ix2 R n)
      = ∑ k : Fin 1024, norm (row (xx m c) R) (row (gain m c) 0) k * wt m c (ix2 n k) := by
  obtain ⟨t, r, rfl⟩ := rowt_surj R
  have h := congrFun (Value.blocks4 m c t (flush4 t)) (ix2 r n : S512x2816.Idx)
  rw [View.read_apply, Value.flushed4_A] at h
  refine (congrArg ((dats m 0 c).arrAt 4 cfg0.N) (emb4 t r n)).symm.trans (h.trans ?_)
  have o := out_4 c (grid0.coords t) (ms0_0 t) (hs0_0 t) (ms0_1 t) (hs0_1 t) (ms0_2 t) (hs0_2 t) (ms0_3 t) (hs0_3 t) (ms0_4 t) (hs0_4 t) (hcond0_0 t) (iblk m c 0 t) (iblk m c 1 t) (iblk m c 2 t) r n
  exact Eq.trans o (sum_congr_blk _ _ _ _ _ _ _ _ _ (fun l => blk0 m c t r l) (fun l => blk1 m c t 0 l) (fun k => blk2 m c t n k))

end Cert.Kernel7Ideal.NormIn
-- ==== Proof.Loss.Vec.lean ====
/-
The last product, its norm and the loss: the vectors of one point, at an index.
-/
module

public import proofs.«01_k».proof.Proof.NormIn.Final
public import proofs.«01_k».proof.Proof.Gen.Kernel6Ideal.Skeleton

@[expose] public section

noncomputable section

namespace Cert.Kernel6Ideal.Loss

open Idealize.ShloMosaic hiding ix0 ix1 ix2 ix3 ix4 ix5
open Idealize.ShloMosaic.ValueIdx Idealize.ShloMosaic.TcCoe Idealize.SL.Sem Cert.Kernel6Ideal.Gen Cert.Mid
open Cert.Kernel2Ideal.Mid (row rsqrt_at divf_at lit_at)
open Cert.Kernel7Ideal.NormIn (rsum_apply spread_apply spreadRow_apply scale scale_apply)
open scoped BigOperators

/-- The difference of the model's result and its target, a row: y is the product's row, g the gains, x the residual's
row, t the target's. -/
def er (y g x t : Fin 1024 → EReal) (l : Fin 1024) : EReal := x l + y l * rs y * g l - t l
/-- The gradient of the model's result, a row. -/
def dr (y g x t : Fin 1024 → EReal) (l : Fin 1024) : EReal := er y g x t l * ((1 / 1024 : ℝ) : EReal)
/-- A row's sum of squared differences. -/
def sq (y g x t : Fin 1024 → EReal) : EReal := ∑ l, er y g x t l * er y g x t l
/-- A row's part of the loss, in the first lane. -/
def lossr (y g x t : Fin 1024 → EReal) (l : Fin 128) : EReal := if l.val = 0 then ((1 / 2048 : ℝ) : EReal) * sq y g x t else 0

/-- A block's product, a row. -/
def prod (a : FVec Ideal S512x2816 .bf16) (w : FVec Ideal S2816x1024 .bf16) (r : Fin 512) (l : Fin 1024) : EReal :=
  ∑ k : Fin 2816, a (ix2 r k) * w (ix2 k l)

/-- A sum down a column. -/
theorem csum_apply (x : FVec Ideal S512x1024 .f32) (l : Fin 1024) :
    shapeCast S1x1024 (multiReduction .add [0] S1024 x 0x00000000#32 reduces_S512x1024_S1024 (.inl rfl) rfl) shapeCasts_S1024_S1x1024 (ix2 0 l)
      = ∑ r : Fin 512, x (ix2 r l) := by
  rw [shapeCast_a_1a_apply]
  refine (Ideal.multiReduction_add_single _ _ reduces_S512x1024_S1024 _ _ (ix1 l)).trans ?_
  refine Finset.sum_congr rfl fun r _ => congrArg x ?_
  funext b
  match b with
  | ⟨0, _⟩ => rfl
  | ⟨1, _⟩ => rfl

/-- The sum of a column of one lane. -/
theorem csum1_apply (x : FVec Ideal S512x1 .f32) :
    shapeCast S1x1 (multiReduction .add [0] S1 x 0x00000000#32 reduces_S512x1_S1 (.inl rfl) rfl) shapeCasts_S1_S1x1 (ix2 0 0)
      = ∑ r : Fin 512, x (ix2 r 0) := by
  rw [shapeCast_a_1a_apply]
  refine (Ideal.multiReduction_add_single _ _ reduces_S512x1_S1 _ _ (ix1 0)).trans ?_
  refine Finset.sum_congr rfl fun r _ => congrArg x ?_
  funext b
  match b with
  | ⟨0, _⟩ => rfl
  | ⟨1, _⟩ => rfl

section
variable (a : FVec Ideal S512x2816 .bf16) (w : FVec Ideal S2816x1024 .bf16) (g : FVec Ideal S1x1024 .f32) (x t : FVec Ideal S512x1024 .f32)

theorem pay6_apply (r : Fin 512) (l : Fin 1024) : k0_pay6 (F := Ideal) a w (ix2 r l) = prod a w r l := by
  unfold k0_pay6 prod
  have h := Ideal.matmul_plain_apply (M := 512) (K := 2816) (N := 1024) none a w (constant S512x1024 .f32 0x00000000#32) r l
  rw [constant_apply, Ideal.ofBits_zero_f32, zero_add] at h
  exact h

theorem row_pay6 (r : Fin 512) : row (k0_pay6 (F := Ideal) a w) r = prod a w r := funext fun l => pay6_apply a w r l

theorem pay7_apply (r : Fin 512) : k0_pay7 (F := Ideal) a w (ix2 r 0) = rs (prod a w r) := by
  refine (scale_apply (k0_pay6 (F := Ideal) a w) r).trans ?_
  rw [row_pay6]

theorem pay8_apply (r : Fin 512) (l : Fin 1024) : k0_pay8 (F := Ideal) a w (ix2 r l) = prod a w r l * rs (prod a w r) := by
  unfold k0_pay8
  rw [mulf_apply, pay6_apply]
  exact congrArg (prod a w r l * ·) ((spread_apply _ r l).trans (pay7_apply a w r))

theorem pay9_apply (r : Fin 512) (l : Fin 1024) :
    k0_pay9 (F := Ideal) a w g x t (ix2 r l) = er (prod a w r) (row g 0) (row x r) (row t r) l := by
  unfold k0_pay9
  rw [subf_apply, addf_apply, mulf_apply, pay8_apply]
  exact congrArg (fun q => x (ix2 r l) + prod a w r l * rs (prod a w r) * q - t (ix2 r l)) (spreadRow_apply g r l)

theorem pay11_apply (r : Fin 512) (l : Fin 1024) :
    k0_pay11 (F := Ideal) a w g x t (ix2 r l) = dr (prod a w r) (row g 0) (row x r) (row t r) l := by
  unfold k0_pay11
  rw [mulf_apply, pay9_apply, broadcast_apply, lit_at, Cert.Gate.lit_1024th]
  rfl

theorem pay12_apply (r : Fin 512) (l : Fin 1024) :
    k0_pay12 (F := Ideal) a w g x t (ix2 r l) = row g 0 l * dr (prod a w r) (row g 0) (row x r) (row t r) l := by
  unfold k0_pay12
  rw [mulf_apply, pay11_apply]
  exact congrArg (· * dr (prod a w r) (row g 0) (row x r) (row t r) l) (spreadRow_apply g r l)

theorem pay13_apply (r : Fin 512) : k0_pay13 (F := Ideal) a w g x t (ix2 r 0)
    = ∑ l : Fin 1024, row g 0 l * dr (prod a w r) (row g 0) (row x r) (row t r) l * (prod a w r l * rs (prod a w r)) := by
  unfold k0_pay13
  refine (rsum_apply _ r).trans ?_
  exact Finset.sum_congr rfl fun l _ => by rw [mulf_apply, pay12_apply, pay8_apply]

/-- The gradient of the product, as a point computes it. -/
def pdy {F : FTy → Type} [FloatOps F] (a : Vec F S512x2816 .bf16) (w : Vec F S2816x1024 .bf16) (g : Vec F S1x1024 .f32)
    (x t : Vec F S512x1024 .f32) : FVec F S512x1024 .bf16 :=
  k0_pay1 (k0_pay7 a w) (k0_pay8 a w) (k0_pay12 a w g x t) (k0_pay13 a w g x t) k0_pay14

theorem pdy_apply (r : Fin 512) (l : Fin 1024) :
    pdy (F := Ideal) a w g x t (ix2 r l) = back (prod a w r) (dr (prod a w r) (row g 0) (row x r) (row t r)) (row g 0) l := by
  unfold pdy k0_pay1 back
  rw [truncf_apply, mulf_apply, subf_apply, mulf_apply, pay12_apply, pay8_apply]
  refine congrArg₂ (fun p q => p * (row g 0 l * dr (prod a w r) (row g 0) (row x r) (row t r) l - prod a w r l * rs (prod a w r) * q))
    ((spread_apply _ r l).trans (pay7_apply a w r)) ((spread_apply _ r l).trans ?_)
  rw [divf_at, pay13_apply]
  unfold k0_pay14
  rw [broadcast_apply, lit_at, Cert.Gate.lit_1024]

theorem pay2_apply (l : Fin 1024) : k0_pay2 (F := Ideal) (k0_pay8 a w) (k0_pay11 a w g x t) (ix2 0 l)
    = ∑ r : Fin 512, dr (prod a w r) (row g 0) (row x r) (row t r) l * (prod a w r l * rs (prod a w r)) := by
  unfold k0_pay2
  rw [csum_apply]
  exact Finset.sum_congr rfl fun r _ => by rw [mulf_apply, pay11_apply, pay8_apply]

theorem pay4_apply (y e : FVec Ideal S512x1024 .f32) (acc : FVec Ideal S1x1024 .f32) (l : Fin 1024) :
    k0_pay4 (F := Ideal) y e acc (ix2 0 l) = acc (ix2 0 l) + k0_pay2 (F := Ideal) y e (ix2 0 l) := by
  unfold k0_pay4
  rw [addf_apply, shapeCast_self]

theorem pay10_apply : k0_pay10 (F := Ideal) a w g x t (ix2 0 0)
    = ((1 / 2048 : ℝ) : EReal) * ∑ r : Fin 512, sq (prod a w r) (row g 0) (row x r) (row t r) := by
  unfold k0_pay10
  rw [mulf_apply, broadcast_apply, lit_at, Cert.Gate.lit_2048th, csum1_apply]
  refine congrArg (((1 / 2048 : ℝ) : EReal) * ·) (Finset.sum_congr rfl fun r _ => (rsum_apply _ r).trans ?_)
  exact Finset.sum_congr rfl fun l _ => by rw [mulf_apply, pay9_apply]
end

/-- The first lane's mark. -/
theorem lane_mark : ∀ l : Fin 128, cmpi .eq (iota .tc S1x128 32 [1] iota_S1x128_d1_w32) (broadcast S1x128 0#32) (ix2 (0 : Fin 1) l)
    = if l.val = 0 then 1#1 else 0#1 := by decide +kernel

theorem pay3_apply (v : FVec Ideal S1x1 .f32) (l : Fin 128) :
    k0_pay3 (F := Ideal) v (ix2 0 l) = if l.val = 0 then v (ix2 0 0) else 0 := by
  unfold k0_pay3
  rw [select_apply, lane_mark, broadcast_apply, lit_at, Ideal.ofBits_zero_f32, shapeCast_self]
  have e : broadcastTo S1x128 v broadcasts_S1x1_S1x128 (ix2 0 l) = v (ix2 0 0) :=
    broadcastTo_apply _ _ (ix2 0 l) (ix2 0 0) (fun b => by match b with | ⟨0, _⟩ => rfl | ⟨1, _⟩ => rfl)
  rw [e]
  split <;> rfl

theorem pay5_apply (v : FVec Ideal S1x1 .f32) (acc : FVec Ideal S1x128 .f32) (l : Fin 128) :
    k0_pay5 (F := Ideal) v acc (ix2 0 l) = acc (ix2 0 l) + k0_pay3 (F := Ideal) v (ix2 0 l) := by
  unfold k0_pay5
  rw [addf_apply, shapeCast_self]

/-- What a point adds to the loss: its rows' parts. -/
theorem loss_part (a : FVec Ideal S512x2816 .bf16) (w : FVec Ideal S2816x1024 .bf16) (g : FVec Ideal S1x1024 .f32) (x t : FVec Ideal S512x1024 .f32)
    (l : Fin 128) : k0_pay3 (F := Ideal) (k0_pay10 a w g x t) (ix2 0 l) = ∑ r : Fin 512, lossr (prod a w r) (row g 0) (row x r) (row t r) l := by
  rw [pay3_apply, pay10_apply]
  unfold lossr
  split
  · exact (mul_sum_of_nonneg _ (1 / 2048) (by norm_num) _).symm
  · exact Finset.sum_const_zero.symm

end Cert.Kernel6Ideal.Loss
-- ==== Proof.Loss.Out.lean ====
/-
What a point of the last product, its norm and the loss leaves in its four result windows.
-/
module

public import proofs.«01_k».proof.Proof.Loss.Vec
public import proofs.«01_k».proof.Proof.Gen.Kernel6Ideal.Frame

@[expose] public section

noncomputable section

namespace Cert.Kernel6Ideal.Loss

open Idealize.ShloMosaic hiding ix0 ix1 ix2 ix3 ix4 ix5
open Idealize.ShloMosaic.ValueIdx Idealize.ShloMosaic.TcCoe Idealize.SL.Sem Cert.Kernel6Ideal.Gen Cert.Mid
open Cert.Kernel2Ideal.Mid (row rsqrt_at divf_at lit_at)
open Cert.Kernel7Ideal.NormIn (rsum_apply spread_apply spreadRow_apply scale scale_apply)
open scoped BigOperators

theorem hz : (![0, 0] : Fin 2 → Nat) = fun _ => 0 := funext fun a => by fin_cases a <;> rfl

section
variable {F : FTy → Type} [FloatOps F]

/-- A whole block loaded. -/
def ldA (r : Memref sig .tc .vmem S512x2816 .bf16) (h : r.IsWhole) (x : Vec F S512x2816 .bf16) : Vec F S512x2816 .bf16 :=
  View.readAt (Elt F) r.view (Rect.unit (s := S512x2816) ![0, 0] S512x2816.size inb_S512x2816_S512x2816_0_0).toLoadRect (h.unread x)
theorem ldA_eq (r : Memref sig .tc .vmem S512x2816 .bf16) (h : r.IsWhole) (x : Vec F S512x2816 .bf16) : ldA r h x = x := by
  unfold ldA
  rw [View.readAt_eq_ld, h.read_unread, View.ld_unit_zero (S := S512x2816) hz]

/-- A whole block loaded. -/
def ldW (r : Memref sig .tc .vmem S2816x1024 .bf16) (h : r.IsWhole) (x : Vec F S2816x1024 .bf16) : Vec F S2816x1024 .bf16 :=
  View.readAt (Elt F) r.view (Rect.unit (s := S2816x1024) ![0, 0] S2816x1024.size inb_S2816x1024_S2816x1024_0_0).toLoadRect (h.unread x)
theorem ldW_eq (r : Memref sig .tc .vmem S2816x1024 .bf16) (h : r.IsWhole) (x : Vec F S2816x1024 .bf16) : ldW r h x = x := by
  unfold ldW
  rw [View.readAt_eq_ld, h.read_unread, View.ld_unit_zero (S := S2816x1024) hz]

/-- A whole block loaded. -/
def ldX (r : Memref sig .tc .vmem S512x1024 .f32) (h : r.IsWhole) (x : Vec F S512x1024 .f32) : Vec F S512x1024 .f32 :=
  View.readAt (Elt F) r.view (Rect.unit (s := S512x1024) ![0, 0] S512x1024.size inb_S512x1024_S512x1024_0_0).toLoadRect (h.unread x)
theorem ldX_eq (r : Memref sig .tc .vmem S512x1024 .f32) (h : r.IsWhole) (x : Vec F S512x1024 .f32) : ldX r h x = x := by
  unfold ldX
  rw [View.readAt_eq_ld, h.read_unread, View.ld_unit_zero (S := S512x1024) hz]

/-- A whole block loaded. -/
def ldG (r : Memref sig .tc .vmem S1x1024 .f32) (h : r.IsWhole) (x : Vec F S1x1024 .f32) : Vec F S1x1024 .f32 :=
  View.readAt (Elt F) r.view (Rect.unit (s := S1x1024) ![0, 0] S1x1024.size inb_S1x1024_S1x1024_0_0).toLoadRect (h.unread x)
theorem ldG_eq (r : Memref sig .tc .vmem S1x1024 .f32) (h : r.IsWhole) (x : Vec F S1x1024 .f32) : ldG r h x = x := by
  unfold ldG
  rw [View.readAt_eq_ld, h.read_unread, View.ld_unit_zero (S := S1x1024) hz]

/-- A whole block loaded. -/
def ldL (r : Memref sig .tc .vmem S1x128 .f32) (h : r.IsWhole) (x : Vec F S1x128 .f32) : Vec F S1x128 .f32 :=
  View.readAt (Elt F) r.view (Rect.unit (s := S1x128) ![0, 0] S1x128.size inb_S1x128_S1x128_0_0).toLoadRect (h.unread x)
theorem ldL_eq (r : Memref sig .tc .vmem S1x128 .f32) (h : r.IsWhole) (x : Vec F S1x128 .f32) : ldL r h x = x := by
  unfold ldL
  rw [View.readAt_eq_ld, h.read_unread, View.ld_unit_zero (S := S1x128) hz]

variable (c : Dev nD) (i : grid0.Coords)
    (arg1 : Memref sig .tc .vmem S512x2816 .bf16) (harg1 : arg1.IsWhole)
    (arg2 : Memref sig .tc .vmem S2816x1024 .bf16) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S512x1024 .f32) (harg5 : arg5.IsWhole)
    (arg6 : Memref sig .tc .vmem S512x1024 .bf16) (harg6 : arg6.IsWhole)
    (arg7 : Memref sig .tc .vmem S512x1024 .f32) (harg7 : arg7.IsWhole)
    (arg8 : Memref sig .tc .vmem S1x1024 .f32) (harg8 : arg8.IsWhole)
    (arg9 : Memref sig .tc .vmem S1x128 .f32) (harg9 : arg9.IsWhole)
    (x0 : Vec F S512x2816 .bf16) (x1 : Vec F S2816x1024 .bf16) (x2 : Vec F S512x1024 .f32) (x3 : Vec F S1x1024 .f32) (x4 : Vec F S512x1024 .f32)
    (xo7 : Vec F S1x1024 .f32) (xo8 : Vec F S1x128 .f32)

theorem runA_5 (hc0 : cond0_0 i) (hc1 : ¬cond0_1 i) :
    (kernelRun0_A c i arg1 harg1 arg2 harg2 arg3 harg3 arg4 harg4 arg5 harg5 arg6 harg6 arg7 harg7 arg8 harg8 arg9 harg9 hc0 hc1 x0 x1 x2 x3 x4).1 =
      [⟨Rect.unit (s := S512x1024) ![0, 0] S512x1024.size inb_S512x1024_S512x1024_0_0,
        pdy (ldA arg1 harg1 x0) (ldW arg2 harg2 x1) (ldG arg4 harg4 x3) (ldX arg3 harg3 x2) (ldX arg5 harg5 x4)⟩] := rfl

theorem runA_6 (hc0 : cond0_0 i) (hc1 : ¬cond0_1 i) :
    (kernelRun0_A c i arg1 harg1 arg2 harg2 arg3 harg3 arg4 harg4 arg5 harg5 arg6 harg6 arg7 harg7 arg8 harg8 arg9 harg9 hc0 hc1 x0 x1 x2 x3 x4).2.1 =
      [⟨Rect.unit (s := S512x1024) ![0, 0] S512x1024.size inb_S512x1024_S512x1024_0_0,
        k0_pay11 (ldA arg1 harg1 x0) (ldW arg2 harg2 x1) (ldG arg4 harg4 x3) (ldX arg3 harg3 x2) (ldX arg5 harg5 x4)⟩] := rfl

theorem runA_7 (hc0 : cond0_0 i) (hc1 : ¬cond0_1 i) :
    (kernelRun0_A c i arg1 harg1 arg2 harg2 arg3 harg3 arg4 harg4 arg5 harg5 arg6 harg6 arg7 harg7 arg8 harg8 arg9 harg9 hc0 hc1 x0 x1 x2 x3 x4).2.2.1 =
      [⟨Rect.unit (s := S1x1024) ![0, 0] S1x1024.size inb_S1x1024_S1x1024_0_0,
        k0_pay2 (k0_pay8 (ldA arg1 harg1 x0) (ldW arg2 harg2 x1)) (k0_pay11 (ldA arg1 harg1 x0) (ldW arg2 harg2 x1) (ldG arg4 harg4 x3) (ldX arg3 harg3 x2) (ldX arg5 harg5 x4))⟩] := rfl

theorem runA_8 (hc0 : cond0_0 i) (hc1 : ¬cond0_1 i) :
    (kernelRun0_A c i arg1 harg1 arg2 harg2 arg3 harg3 arg4 harg4 arg5 harg5 arg6 harg6 arg7 harg7 arg8 harg8 arg9 harg9 hc0 hc1 x0 x1 x2 x3 x4).2.2.2.1 =
      [⟨Rect.unit (s := S1x128) ![0, 0] S1x128.size inb_S1x128_S1x128_0_0,
        k0_pay3 (k0_pay10 (ldA arg1 harg1 x0) (ldW arg2 harg2 x1) (ldG arg4 harg4 x3) (ldX arg3 harg3 x2) (ldX arg5 harg5 x4))⟩] := rfl

theorem runB_5 (hc0 : ¬cond0_0 i) (hc1 : cond0_1 i) :
    (kernelRun0_B c i arg1 harg1 arg2 harg2 arg3 harg3 arg4 harg4 arg5 harg5 arg6 harg6 arg7 harg7 arg8 harg8 arg9 harg9 hc0 hc1 x0 x1 x2 x3 x4 xo7 xo8).1 =
      [⟨Rect.unit (s := S512x1024) ![0, 0] S512x1024.size inb_S512x1024_S512x1024_0_0,
        pdy (ldA arg1 harg1 x0) (ldW arg2 harg2 x1) (ldG arg4 harg4 x3) (ldX arg3 harg3 x2) (ldX arg5 harg5 x4)⟩] := rfl

theorem runB_6 (hc0 : ¬cond0_0 i) (hc1 : cond0_1 i) :
    (kernelRun0_B c i arg1 harg1 arg2 harg2 arg3 harg3 arg4 harg4 arg5 harg5 arg6 harg6 arg7 harg7 arg8 harg8 arg9 harg9 hc0 hc1 x0 x1 x2 x3 x4 xo7 xo8).2.1 =
      [⟨Rect.unit (s := S512x1024) ![0, 0] S512x1024.size inb_S512x1024_S512x1024_0_0,
        k0_pay11 (ldA arg1 harg1 x0) (ldW arg2 harg2 x1) (ldG arg4 harg4 x3) (ldX arg3 harg3 x2) (ldX arg5 harg5 x4)⟩] := rfl

theorem runB_7 (hc0 : ¬cond0_0 i) (hc1 : cond0_1 i) :
    (kernelRun0_B c i arg1 harg1 arg2 harg2 arg3 harg3 arg4 harg4 arg5 harg5 arg6 harg6 arg7 harg7 arg8 harg8 arg9 harg9 hc0 hc1 x0 x1 x2 x3 x4 xo7 xo8).2.2.1 =
      [⟨Rect.unit (s := S1x1024) ![0, 0] S1x1024.size inb_S1x1024_S1x1024_0_0,
        k0_pay4 (k0_pay8 (ldA arg1 harg1 x0) (ldW arg2 harg2 x1)) (k0_pay11 (ldA arg1 harg1 x0) (ldW arg2 harg2 x1) (ldG arg4 harg4 x3) (ldX arg3 harg3 x2) (ldX arg5 harg5 x4)) (ldG arg8 harg8 xo7)⟩] := rfl

theorem runB_8 (hc0 : ¬cond0_0 i) (hc1 : cond0_1 i) :
    (kernelRun0_B c i arg1 harg1 arg2 harg2 arg3 harg3 arg4 harg4 arg5 harg5 arg6 harg6 arg7 harg7 arg8 harg8 arg9 harg9 hc0 hc1 x0 x1 x2 x3 x4 xo7 xo8).2.2.2.1 =
      [⟨Rect.unit (s := S1x128) ![0, 0] S1x128.size inb_S1x128_S1x128_0_0,
        k0_pay5 (k0_pay10 (ldA arg1 harg1 x0) (ldW arg2 harg2 x1) (ldG arg4 harg4 x3) (ldX arg3 harg3 x2) (ldX arg5 harg5 x4)) (ldL arg9 harg9 xo8)⟩] := rfl

end

section
variable (c : Dev nD) (i : grid0.Coords)
    (arg1 : Memref sig .tc .vmem S512x2816 .bf16) (harg1 : arg1.IsWhole)
    (arg2 : Memref sig .tc .vmem S2816x1024 .bf16) (harg2 : arg2.IsWhole)
    (arg3 : Memref sig .tc .vmem S512x1024 .f32) (harg3 : arg3.IsWhole)
    (arg4 : Memref sig .tc .vmem S1x1024 .f32) (harg4 : arg4.IsWhole)
    (arg5 : Memref sig .tc .vmem S512x1024 .f32) (harg5 : arg5.IsWhole)
    (arg6 : Memref sig .tc .vmem S512x1024 .bf16) (harg6 : arg6.IsWhole)
    (arg7 : Memref sig .tc .vmem S512x1024 .f32) (harg7 : arg7.IsWhole)
    (arg8 : Memref sig .tc .vmem S1x1024 .f32) (harg8 : arg8.IsWhole)
    (arg9 : Memref sig .tc .vmem S1x128 .f32) (harg9 : arg9.IsWhole)
    (x0 : Vec Ideal S512x2816 .bf16) (x1 : Vec Ideal S2816x1024 .bf16) (x2 : Vec Ideal S512x1024 .f32) (x3 : Vec Ideal S1x1024 .f32) (x4 : Vec Ideal S512x1024 .f32)
    (xo7 : Vec Ideal S1x1024 .f32) (xo8 : Vec Ideal S1x128 .f32)

theorem outA_5 (hc0 : cond0_0 i) (hc1 : ¬cond0_1 i) (r : Fin 512) (l : Fin 1024) :
    out0_A_5 c i arg1 harg1 arg2 harg2 arg3 harg3 arg4 harg4 arg5 harg5 arg6 harg6 arg7 harg7 arg8 harg8 arg9 harg9 hc0 hc1 x0 x1 x2 x3 x4 (ix2 r l) =
      back (prod x0 x1 r) (dr (prod x0 x1 r) (row x3 0) (row x2 r) (row x4 r)) (row x3 0) l := by
  unfold out0_A_5
  rw [View.read_writes_junk_eq_canon, runA_5, View.canon_cons_unit_zero (S := S512x1024) hz]
  simp only [ldA_eq, ldW_eq, ldX_eq, ldG_eq]
  exact pdy_apply x0 x1 x3 x2 x4 r l

theorem outA_6 (hc0 : cond0_0 i) (hc1 : ¬cond0_1 i) (r : Fin 512) (l : Fin 1024) :
    out0_A_6 c i arg1 harg1 arg2 harg2 arg3 harg3 arg4 harg4 arg5 harg5 arg6 harg6 arg7 harg7 arg8 harg8 arg9 harg9 hc0 hc1 x0 x1 x2 x3 x4 (ix2 r l) =
      dr (prod x0 x1 r) (row x3 0) (row x2 r) (row x4 r) l := by
  unfold out0_A_6
  rw [View.read_writes_junk_eq_canon, runA_6, View.canon_cons_unit_zero (S := S512x1024) hz]
  simp only [ldA_eq, ldW_eq, ldX_eq, ldG_eq]
  exact pay11_apply x0 x1 x3 x2 x4 r l

theorem outA_7 (hc0 : cond0_0 i) (hc1 : ¬cond0_1 i) (l : Fin 1024) :
    out0_A_7 c i arg1 harg1 arg2 harg2 arg3 harg3 arg4 harg4 arg5 harg5 arg6 harg6 arg7 harg7 arg8 harg8 arg9 harg9 hc0 hc1 x0 x1 x2 x3 x4 (ix2 0 l) =
      ∑ r : Fin 512, dr (prod x0 x1 r) (row x3 0) (row x2 r) (row x4 r) l * (prod x0 x1 r l * rs (prod x0 x1 r)) := by
  unfold out0_A_7
  rw [View.read_writes_junk_eq_canon, runA_7, View.canon_cons_unit_zero (S := S1x1024) hz]
  simp only [ldA_eq, ldW_eq, ldX_eq, ldG_eq]
  exact pay2_apply x0 x1 x3 x2 x4 l

theorem outA_8 (hc0 : cond0_0 i) (hc1 : ¬cond0_1 i) (l : Fin 128) :
    out0_A_8 c i arg1 harg1 arg2 harg2 arg3 harg3 arg4 harg4 arg5 harg5 arg6 harg6 arg7 harg7 arg8 harg8 arg9 harg9 hc0 hc1 x0 x1 x2 x3 x4 (ix2 0 l) =
      ∑ r : Fin 512, lossr (prod x0 x1 r) (row x3 0) (row x2 r) (row x4 r) l := by
  unfold out0_A_8
  rw [View.read_writes_junk_eq_canon, runA_8, View.canon_cons_unit_zero (S := S1x128) hz]
  simp only [ldA_eq, ldW_eq, ldX_eq, ldG_eq]
  exact loss_part x0 x1 x3 x2 x4 l

theorem outB_5 (hc0 : ¬cond0_0 i) (hc1 : cond0_1 i) (r : Fin 512) (l : Fin 1024) :
    out0_B_5 c i arg1 harg1 arg2 harg2 arg3 harg3 arg4 harg4 arg5 harg5 arg6 harg6 arg7 harg7 arg8 harg8 arg9 harg9 hc0 hc1 x0 x1 x2 x3 x4 xo7 xo8 (ix2 r l) =
      back (prod x0 x1 r) (dr (prod x0 x1 r) (row x3 0) (row x2 r) (row x4 r)) (row x3 0) l := by
  unfold out0_B_5
  rw [View.read_writes_junk_eq_canon, runB_5, View.canon_cons_unit_zero (S := S512x1024) hz]
  simp only [ldA_eq, ldW_eq, ldX_eq, ldG_eq]
  exact pdy_apply x0 x1 x3 x2 x4 r l

theorem outB_6 (hc0 : ¬cond0_0 i) (hc1 : cond0_1 i) (r : Fin 512) (l : Fin 1024) :
    out0_B_6 c i arg1 harg1 arg2 harg2 arg3 harg3 arg4 harg4 arg5 harg5 arg6 harg6 arg7 harg7 arg8 harg8 arg9 harg9 hc0 hc1 x0 x1 x2 x3 x4 xo7 xo8 (ix2 r l) =
      dr (prod x0 x1 r) (row x3 0) (row x2 r) (row x4 r) l := by
  unfold out0_B_6
  rw [View.read_writes_junk_eq_canon, runB_6, View.canon_cons_unit_zero (S := S512x1024) hz]
  simp only [ldA_eq, ldW_eq, ldX_eq, ldG_eq]
  exact pay11_apply x0 x1 x3 x2 x4 r l

theorem outB_7 (hc0 : ¬cond0_0 i) (hc1 : cond0_1 i) (l : Fin 1024) :
    out0_B_7 c i arg1 harg1 arg2 harg2 arg3 harg3 arg4 harg4 arg5 harg5 arg6 harg6 arg7 harg7 arg8 harg8 arg9 harg9 hc0 hc1 x0 x1 x2 x3 x4 xo7 xo8 (ix2 0 l) =
      xo7 (ix2 0 l) + ∑ r : Fin 512, dr (prod x0 x1 r) (row x3 0) (row x2 r) (row x4 r) l * (prod x0 x1 r l * rs (prod x0 x1 r)) := by
  unfold out0_B_7
  rw [View.read_writes_junk_eq_canon, runB_7, View.canon_cons_unit_zero (S := S1x1024) hz]
  simp only [ldA_eq, ldW_eq, ldX_eq, ldG_eq]
  refine (pay4_apply _ _ xo7 l).trans ?_
  rw [pay2_apply x0 x1 x3 x2 x4 l]

theorem outB_8 (hc0 : ¬cond0_0 i) (hc1 : cond0_1 i) (l : Fin 128) :
    out0_B_8 c i arg1 harg1 arg2 harg2 arg3 harg3 arg4 harg4 arg5 harg5 arg6 harg6 arg7 harg7 arg8 harg8 arg9 harg9 hc0 hc1 x0 x1 x2 x3 x4 xo7 xo8 (ix2 0 l) =
      xo8 (ix2 0 l) + ∑ r : Fin 512, lossr (prod x0 x1 r) (row x3 0) (row x2 r) (row x4 r) l := by
  unfold out0_B_8
  rw [View.read_writes_junk_eq_canon, runB_8, View.canon_cons_unit_zero (S := S1x128) hz]
  simp only [ldA_eq, ldW_eq, ldX_eq, ldG_eq, ldL_eq]
  refine (pay5_apply _ xo8 l).trans ?_
  rw [loss_part x0 x1 x3 x2 x4 l]

end

end Cert.Kernel6Ideal.Loss
-- ==== Proof.Loss.Final.lean ====
/-
The last product, its norm and the loss: the four result arrays after the run, at an index.
-/
module

public import proofs.«01_k».proof.Proof.Loss.Out
public import proofs.«01_k».proof.Proof.Mid.Final
public import proofs.«01_k».proof.Proof.Gen.Kernel6Ideal.Value

@[expose] public section

noncomputable section

namespace Cert.Kernel6Ideal.Loss

open Idealize.ShloMosaic hiding ix0 ix1 ix2 ix3 ix4 ix5
open Idealize.ShloMosaic.ValueIdx Idealize.ShloMosaic.TcCoe Idealize.SL.Sem Cert.Kernel6Ideal.Gen Cert.Mid
open Cert.Kernel2Ideal.Mid (row at_fst at_snd at_3rd at_4th)
open scoped BigOperators
open Idealize.ShloMosaic.Pipeline (Dat)

theorem lt8 (t : Fin cfg0.N) : t.val < 8 := lt_of_lt_of_eq t.isLt (show cfg0.N = 8 from N_0)

/-- Row r of point t's 512 rows. -/
def rowt (t : Fin cfg0.N) (r : Fin 512) : Fin 4096 :=
  ⟨512 * t.val + r.val, by have := lt8 t; omega⟩

theorem rowt_surj (R : Fin 4096) : ∃ (t : Fin cfg0.N) (r : Fin 512), R = rowt t r :=
  have hN : cfg0.N = 8 := N_0
  ⟨⟨R.val / 512, by omega⟩, ⟨R.val % 512, by omega⟩, Fin.ext (by simp only [rowt]; omega)⟩

variable (m : (ℓ : Loc nD τ sig) → Buf (Elt Ideal) ℓ) (c : Dev nD)

/-- The gated rows. -/
abbrev gu : FVec Ideal S4096x2816 .bf16 := m ((c : Thread nD τ).loc main_arg0)
/-- The weights. -/
abbrev wd : FVec Ideal S2816x1024 .bf16 := m ((c : Thread nD τ).loc main_arg1)
/-- The residual. -/
abbrev xx : FVec Ideal S4096x1024 .f32 := m ((c : Thread nD τ).loc main_arg2)
/-- The gains. -/
abbrev gain : FVec Ideal S1x1024 .f32 := m ((c : Thread nD τ).loc main_arg3)
/-- The target. -/
abbrev tgt : FVec Ideal S4096x1024 .f32 := m ((c : Thread nD τ).loc main_arg4)

/-- The product, a row. -/
def gy (R : Fin 4096) (l : Fin 1024) : EReal := ∑ k : Fin 2816, gu m c (ix2 R k) * wd m c (ix2 k l)
/-- The gradient of the model's result, a row. -/
def gdo (R : Fin 4096) : Fin 1024 → EReal := dr (gy m c R) (row (gain m c) 0) (row (xx m c) R) (row (tgt m c) R)
/-- A row's part of the loss. -/
def glo (R : Fin 4096) : Fin 128 → EReal := lossr (gy m c R) (row (gain m c) 0) (row (xx m c) R) (row (tgt m c) R)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)

theorem blk0 (t : Fin cfg0.N) (r : Fin 512) (l : Fin 2816) :
    (iblk m c 0 t : Vec Ideal S512x2816 .bf16) (ix2 r l) = gu m c (ix2 (rowt t r) l) := by
  unfold iblk
  rw [View.read_apply]
  show V m c main_arg0 _ = _
  rw [V_main_arg0]
  refine congrArg (gu m c) ?_
  funext a
  apply Fin.ext
  match a with
  | ⟨0, _⟩ => show win0_0.index t 0 * 512 + 1 * r.val = 512 * t.val + r.val; rw [(idx0 t).1]; omega
  | ⟨1, _⟩ => show win0_0.index t 1 * 2816 + 1 * l.val = l.val; rw [(idx0 t).2]; omega

theorem blk1 (t : Fin cfg0.N) (r : Fin 2816) (l : Fin 1024) :
    (iblk m c 1 t : Vec Ideal S2816x1024 .bf16) (ix2 r l) = wd m c (ix2 (r) l) := by
  unfold iblk
  rw [View.read_apply]
  show V m c main_arg1 _ = _
  rw [V_main_arg1]
  refine congrArg (wd m c) ?_
  funext a
  apply Fin.ext
  match a with
  | ⟨0, _⟩ => show win0_1.index t 0 * 2816 + 1 * r.val = r.val; rw [(idx1 t).1]; omega
  | ⟨1, _⟩ => show win0_1.index t 1 * 1024 + 1 * l.val = l.val; rw [(idx1 t).2]; omega

theorem blk2 (t : Fin cfg0.N) (r : Fin 512) (l : Fin 1024) :
    (iblk m c 2 t : Vec Ideal S512x1024 .f32) (ix2 r l) = xx m c (ix2 (rowt t r) l) := by
  unfold iblk
  rw [View.read_apply]
  show V m c main_arg2 _ = _
  rw [V_main_arg2]
  refine congrArg (xx m c) ?_
  funext a
  apply Fin.ext
  match a with
  | ⟨0, _⟩ => show win0_2.index t 0 * 512 + 1 * r.val = 512 * t.val + r.val; rw [(idx2 t).1]; omega
  | ⟨1, _⟩ => show win0_2.index t 1 * 1024 + 1 * l.val = l.val; rw [(idx2 t).2]; omega

theorem blk3 (t : Fin cfg0.N) (r : Fin 1) (l : Fin 1024) :
    (iblk m c 3 t : Vec Ideal S1x1024 .f32) (ix2 r l) = gain m c (ix2 (r) l) := by
  unfold iblk
  rw [View.read_apply]
  show V m c main_arg3 _ = _
  rw [V_main_arg3]
  refine congrArg (gain m c) ?_
  funext a
  apply Fin.ext
  match a with
  | ⟨0, _⟩ => show win0_3.index t 0 * 1 + 1 * r.val = r.val; rw [(idx3 t).1]; omega
  | ⟨1, _⟩ => show win0_3.index t 1 * 1024 + 1 * l.val = l.val; rw [(idx3 t).2]; omega

theorem blk4 (t : Fin cfg0.N) (r : Fin 512) (l : Fin 1024) :
    (iblk m c 4 t : Vec Ideal S512x1024 .f32) (ix2 r l) = tgt m c (ix2 (rowt t r) l) := by
  unfold iblk
  rw [View.read_apply]
  show V m c main_arg4 _ = _
  rw [V_main_arg4]
  refine congrArg (tgt m c) ?_
  funext a
  apply Fin.ext
  match a with
  | ⟨0, _⟩ => show win0_4.index t 0 * 512 + 1 * r.val = 512 * t.val + r.val; rw [(idx4 t).1]; omega
  | ⟨1, _⟩ => show win0_4.index t 1 * 1024 + 1 * l.val = l.val; rw [(idx4 t).2]; omega

theorem prod_congr (a : FVec Ideal S512x2816 .bf16) (w : FVec Ideal S2816x1024 .bf16) (A : FVec Ideal S4096x2816 .bf16)
    (W : FVec Ideal S2816x1024 .bf16) (r : Fin 512) (R : Fin 4096) (l : Fin 1024)
    (ha : ∀ k, a (ix2 r k) = A (ix2 R k)) (hw : ∀ k, w (ix2 k l) = W (ix2 k l)) :
    prod a w r l = ∑ k : Fin 2816, A (ix2 R k) * W (ix2 k l) := by
  unfold prod
  simp only [ha, hw]

theorem prod_blk (t : Fin cfg0.N) (r : Fin 512) : prod (iblk m c 0 t) (iblk m c 1 t) r = gy m c (rowt t r) :=
  funext fun l => prod_congr _ _ _ _ r (rowt t r) l (fun k => blk0 m c t r k) (fun k => blk1 m c t k l)

theorem row2 (t : Fin cfg0.N) (r : Fin 512) : row (iblk m c 2 t : Vec Ideal S512x1024 .f32) r = row (xx m c) (rowt t r) :=
  funext fun l => blk2 m c t r l
theorem row3 (t : Fin cfg0.N) : row (iblk m c 3 t : Vec Ideal S1x1024 .f32) 0 = row (gain m c) 0 :=
  funext fun l => blk3 m c t 0 l
theorem row4 (t : Fin cfg0.N) (r : Fin 512) : row (iblk m c 4 t : Vec Ideal S512x1024 .f32) r = row (tgt m c) (rowt t r) :=
  funext fun l => blk4 m c t r l

theorem dr_blk (t : Fin cfg0.N) (r : Fin 512) :
    dr (prod (iblk m c 0 t) (iblk m c 1 t) r) (row (iblk m c 3 t : Vec Ideal S1x1024 .f32) 0) (row (iblk m c 2 t : Vec Ideal S512x1024 .f32) r) (row (iblk m c 4 t : Vec Ideal S512x1024 .f32) r)
      = gdo m c (rowt t r) := by
  rw [prod_blk, row2, row3, row4]
  rfl

theorem lossr_blk (t : Fin cfg0.N) (r : Fin 512) :
    lossr (prod (iblk m c 0 t) (iblk m c 1 t) r) (row (iblk m c 3 t : Vec Ideal S1x1024 .f32) 0) (row (iblk m c 2 t : Vec Ideal S512x1024 .f32) r) (row (iblk m c 4 t : Vec Ideal S512x1024 .f32) r)
      = glo m c (rowt t r) := by
  rw [prod_blk, row2, row3, row4]
  rfl

/-- Point t's part of the gains' gradient. -/
def part7 (t : Fin cfg0.N) (l : Fin 1024) : EReal :=
  ∑ r : Fin 512, gdo m c (rowt t r) l * (gy m c (rowt t r) l * rs (gy m c (rowt t r)))
/-- Point t's part of the loss. -/
def part8 (t : Fin cfg0.N) (l : Fin 128) : EReal := ∑ r : Fin 512, glo m c (rowt t r) l

theorem dy_blk (t : Fin cfg0.N) (r : Fin 512) :
    back (prod (iblk m c 0 t) (iblk m c 1 t) r) (dr (prod (iblk m c 0 t) (iblk m c 1 t) r) (row (iblk m c 3 t : Vec Ideal S1x1024 .f32) 0) (row (iblk m c 2 t : Vec Ideal S512x1024 .f32) r) (row (iblk m c 4 t : Vec Ideal S512x1024 .f32) r)) (row (iblk m c 3 t : Vec Ideal S1x1024 .f32) 0)
      = back (gy m c (rowt t r)) (gdo m c (rowt t r)) (row (gain m c) 0) := by
  rw [dr_blk, prod_blk, row3]

/-- What a point leaves in window 5. -/
theorem out5 (t : Fin cfg0.N) (r : Fin 512) (l : Fin 1024) :
    (outsAt0 m c t.val t.isLt).1 (ix2 r l) = back (gy m c (rowt t r)) (gdo m c (rowt t r)) (row (gain m c) 0) l := by
  have hl := lt8 t
  by_cases h0 : t.val % 8 = 0
  · have h1 : ¬1 ≤ t.val := by omega
    have e := outA_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      ((hcond0_0 t).mpr h0) (fun q => h1 ((hcond0_1 t).mp q)) r l
    refine (congrFun (at_fst (outsAt0_A m c t h0 h1)) (ix2 r l)).trans (Eq.trans e ?_)
    clear e
    exact congrFun (dy_blk m c t r) l
  · have h1 : 1 ≤ t.val := by omega
    have e := outB_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) r l
    refine (congrFun (at_fst (outsAt0_B m c t h0 h1)) (ix2 r l)).trans (Eq.trans e ?_)
    clear e
    exact congrFun (dy_blk m c t r) l

theorem emb5 (t : Fin cfg0.N) (r : Fin 512) (l : Fin 1024) :
    ((cfg0.win 5).blk t).view.emb (ix2 r l : S512x1024.Idx) = (ix2 (rowt t r) l : S4096x1024.Idx) := by
  funext a
  apply Fin.ext
  match a with
  | ⟨0, _⟩ => show win0_5.index t 0 * 512 + 1 * r.val = 512 * t.val + r.val; rw [(idx5 t).1]; omega
  | ⟨1, _⟩ => show win0_5.index t 1 * 1024 + 1 * l.val = l.val; rw [(idx5 t).2]; omega

/-- Window 5's array after the run. -/
theorem final5 (R : Fin 4096) (l : Fin 1024) :
    ((dats m 0 c).arrAt 5 cfg0.N : FVec Ideal S4096x1024 .bf16) (ix2 R l) = back (gy m c R) (gdo m c R) (row (gain m c) 0) l := by
  obtain ⟨t, r, rfl⟩ := rowt_surj R
  have h := congrFun (Value.blocks5 m c t (flush0_5 t)) (ix2 r l : S512x1024.Idx)
  rw [View.read_apply, Value.flushed5] at h
  exact (congrArg ((dats m 0 c).arrAt 5 cfg0.N) (emb5 t r l)).symm.trans (h.trans (out5 m c t r l))

/-- What a point leaves in window 6. -/
theorem out6 (t : Fin cfg0.N) (r : Fin 512) (l : Fin 1024) :
    (outsAt0 m c t.val t.isLt).2.1 (ix2 r l) = gdo m c (rowt t r) l := by
  have hl := lt8 t
  by_cases h0 : t.val % 8 = 0
  · have h1 : ¬1 ≤ t.val := by omega
    have e := outA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      ((hcond0_0 t).mpr h0) (fun q => h1 ((hcond0_1 t).mp q)) r l
    refine (congrFun (at_snd (outsAt0_A m c t h0 h1)) (ix2 r l)).trans (Eq.trans e ?_)
    clear e
    exact congrFun (dr_blk m c t r) l
  · have h1 : 1 ≤ t.val := by omega
    have e := outB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) r l
    refine (congrFun (at_snd (outsAt0_B m c t h0 h1)) (ix2 r l)).trans (Eq.trans e ?_)
    clear e
    exact congrFun (dr_blk m c t r) l

theorem emb6 (t : Fin cfg0.N) (r : Fin 512) (l : Fin 1024) :
    ((cfg0.win 6).blk t).view.emb (ix2 r l : S512x1024.Idx) = (ix2 (rowt t r) l : S4096x1024.Idx) := by
  funext a
  apply Fin.ext
  match a with
  | ⟨0, _⟩ => show win0_6.index t 0 * 512 + 1 * r.val = 512 * t.val + r.val; rw [(idx6 t).1]; omega
  | ⟨1, _⟩ => show win0_6.index t 1 * 1024 + 1 * l.val = l.val; rw [(idx6 t).2]; omega

/-- Window 6's array after the run. -/
theorem final6 (R : Fin 4096) (l : Fin 1024) :
    ((dats m 0 c).arrAt 6 cfg0.N : FVec Ideal S4096x1024 .f32) (ix2 R l) = gdo m c R l := by
  obtain ⟨t, r, rfl⟩ := rowt_surj R
  have h := congrFun (Value.blocks6 m c t (flush0_6 t)) (ix2 r l : S512x1024.Idx)
  rw [View.read_apply, Value.flushed6] at h
  exact (congrArg ((dats m 0 c).arrAt 6 cfg0.N) (emb6 t r l)).symm.trans (h.trans (out6 m c t r l))

/-- Point i's part of a sum, zero past the last point. -/
def upto (f : Fin cfg0.N → EReal) (i : ℕ) : EReal := if h : i < cfg0.N then f ⟨i, h⟩ else 0

theorem upto_val (f : Fin cfg0.N → EReal) (t : Fin cfg0.N) : upto f t.val = f t := dif_pos t.isLt

/-- The parts of all points make the sum over all rows. -/
theorem all_parts (f : Fin 4096 → EReal) :
    ∑ i ∈ Finset.range (7 + 1), upto (fun t => ∑ r : Fin 512, f (rowt t r)) i = ∑ R, f R := by
  have hN : cfg0.N = 8 := N_0
  rw [show 7 + 1 = cfg0.N from hN.symm, Finset.sum_range]
  simp only [upto_val]
  rw [← Fintype.sum_prod_type' (f := fun t r => f (rowt t r))]
  refine Fintype.sum_bijective (fun p : Fin cfg0.N × Fin 512 => rowt p.1 p.2) ⟨?_, ?_⟩ _ _ fun p => rfl
  · rintro ⟨t, r⟩ ⟨t', r'⟩ h
    have h' : 512 * t.val + r.val = 512 * t'.val + r'.val := congrArg Fin.val h
    exact Prod.ext (Fin.ext (by dsimp only; omega)) (Fin.ext (by dsimp only; omega))
  · intro R
    obtain ⟨t, r, e⟩ := rowt_surj R
    exact ⟨(t, r), e.symm⟩

/-- The last point is the only one that writes the sums back. -/
theorem last_only (t t' : Fin cfg0.N) (h : t.val % 8 = 7) (h' : t'.val % 8 = 7) : t = t' :=
  Fin.ext (by have := lt8 t; have := lt8 t'; omega)

/-- What window 7 holds after the first point. -/
theorem first7 (t : Fin cfg0.N) (h0 : t.val % 8 = 0) (l : Fin 1024) :
    (outsAt0 m c t.val t.isLt).2.2.1 (ix2 0 l) = part7 m c t l := by
  have hl := lt8 t
  have h1 : ¬1 ≤ t.val := by omega
  have e := outA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      ((hcond0_0 t).mpr h0) (fun q => h1 ((hcond0_1 t).mp q)) l
  refine (congrFun (at_3rd (outsAt0_A m c t h0 h1)) (ix2 0 l)).trans (Eq.trans e ?_)
  clear e
  refine Finset.sum_congr rfl fun r _ => ?_
  exact congrArg₂ (fun p q => p * q) (congrFun (dr_blk m c t r) l)
    (congrArg₂ (fun p q => p * q) (congrFun (prod_blk m c t r) l) (congrArg rs (prod_blk m c t r)))

/-- What window 7 holds after a later point. -/
theorem step7 (t : Fin cfg0.N) (h0 : ¬t.val % 8 = 0) (l : Fin 1024) :
    (outsAt0 m c t.val t.isLt).2.2.1 (ix2 0 l) = (show EReal from (outsAt0 m c (t.val - 1) (Nat.lt_of_le_of_lt (Nat.sub_le _ _) t.isLt)).2.2.1 (ix2 0 l)) + part7 m c t l := by
  have h1 : 1 ≤ t.val := by omega
  have e := outB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) l
  refine (congrFun (at_3rd (outsAt0_B m c t h0 h1)) (ix2 0 l)).trans (Eq.trans e ?_)
  clear e
  refine congrArg (fun q : EReal => (show EReal from (outsAt0 m c (t.val - 1) (Nat.lt_of_le_of_lt (Nat.sub_le _ _) t.isLt)).2.2.1 (ix2 0 l)) + q) ?_
  refine Finset.sum_congr rfl fun r _ => ?_
  exact congrArg₂ (fun p q => p * q) (congrFun (dr_blk m c t r) l)
    (congrArg₂ (fun p q => p * q) (congrFun (prod_blk m c t r) l) (congrArg rs (prod_blk m c t r)))

/-- The running sum that window 7 holds after a point. -/
theorem acc7 (l : Fin 1024) (n : ℕ) (h : n < cfg0.N) :
    (outsAt0 m c n h).2.2.1 (ix2 0 l) = ∑ i ∈ Finset.range (n + 1), upto (fun t => part7 m c t l) i := by
  induction n with
  | zero =>
    refine (first7 m c ⟨0, h⟩ rfl l).trans ?_
    rw [Finset.sum_range_one]
    exact (upto_val (fun t => part7 m c t l) ⟨0, h⟩).symm
  | succ n ih =>
    have hN : cfg0.N = 8 := N_0
    refine (step7 m c ⟨n + 1, h⟩ (by dsimp only; omega) l).trans ?_
    rw [Finset.sum_range_succ]
    exact congrArg₂ (fun p q => p + q) (ih (Nat.lt_of_succ_lt h)) (upto_val (fun t => part7 m c t l) ⟨n + 1, h⟩).symm

theorem disjoint7 (t t' : Fin cfg0.N) (h : (cfg0.win 7).flush t = true) (h' : (cfg0.win 7).flush t' = true) (hne : t ≠ t') :
    Disjoint ((cfg0.win 7).blk t).view.set ((cfg0.win 7).blk t').view.set :=
  absurd (last_only t t' ((flush0_7 t).mp h) ((flush0_7 t').mp h')) hne

/-- Window 7's array ends holding the sum over all rows. -/
theorem final7 (l : Fin 1024) :
    ((dats m 0 c).arrAt 7 cfg0.N : FVec Ideal S1x1024 .f32) (ix2 0 l) = ∑ R : Fin 4096, gdo m c R l * (gy m c R l * rs (gy m c R)) := by
  have h := congrFun ((dats m 0 c).read_blk_arrAt_eq_flushed 7 disjoint7 cfg0.N t0_7 t0_7.isLt ((flush0_7 t0_7).mpr rfl)) (ix2 (0 : Fin 1) l : S1x1024.Idx)
  rw [View.read_apply, Value.flushed7] at h
  have e : ((cfg0.win 7).blk t0_7).view.emb (ix2 (0 : Fin 1) l : S1x1024.Idx) = (ix2 (0 : Fin 1) l : S1x1024.Idx) := by
    funext a
    apply Fin.ext
    match a with
    | ⟨0, _⟩ => show win0_7.index t0_7 0 * 1 + 1 * 0 = 0; rw [(idx7 t0_7).1]
    | ⟨1, _⟩ => show win0_7.index t0_7 1 * 1024 + 1 * l.val = l.val; rw [(idx7 t0_7).2]; omega
  rw [← all_parts fun R => gdo m c R l * (gy m c R l * rs (gy m c R))]
  exact (congrArg ((dats m 0 c).arrAt 7 cfg0.N) e).symm.trans (h.trans (acc7 m c l 7 t0_7.isLt))

/-- What window 8 holds after the first point. -/
theorem first8 (t : Fin cfg0.N) (h0 : t.val % 8 = 0) (l : Fin 128) :
    (outsAt0 m c t.val t.isLt).2.2.2 (ix2 0 l) = part8 m c t l := by
  have hl := lt8 t
  have h1 : ¬1 ≤ t.val := by omega
  have e := outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      ((hcond0_0 t).mpr h0) (fun q => h1 ((hcond0_1 t).mp q)) l
  refine (congrFun (at_4th (outsAt0_A m c t h0 h1)) (ix2 0 l)).trans (Eq.trans e ?_)
  clear e
  exact Finset.sum_congr rfl fun r _ => congrFun (lossr_blk m c t r) l

/-- What window 8 holds after a later point. -/
theorem step8 (t : Fin cfg0.N) (h0 : ¬t.val % 8 = 0) (l : Fin 128) :
    (outsAt0 m c t.val t.isLt).2.2.2 (ix2 0 l) = (show EReal from (outsAt0 m c (t.val - 1) (Nat.lt_of_le_of_lt (Nat.sub_le _ _) t.isLt)).2.2.2 (ix2 0 l)) + part8 m c t l := by
  have h1 : 1 ≤ t.val := by omega
  have e := outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t)
      (outsAt0 m c (t.val - 1) (Nat.lt_of_le_of_lt (Nat.sub_le _ _) t.isLt)).2.2.1 (outsAt0 m c (t.val - 1) (Nat.lt_of_le_of_lt (Nat.sub_le _ _) t.isLt)).2.2.2
      (fun q => h0 ((hcond0_0 t).mp q)) ((hcond0_1 t).mpr h1) l
  refine (congrFun (at_4th (outsAt0_B m c t h0 h1)) (ix2 0 l)).trans (Eq.trans e ?_)
  clear e
  refine congrArg (fun q : EReal => (show EReal from (outsAt0 m c (t.val - 1) (Nat.lt_of_le_of_lt (Nat.sub_le _ _) t.isLt)).2.2.2 (ix2 0 l)) + q) ?_
  exact Finset.sum_congr rfl fun r _ => congrFun (lossr_blk m c t r) l

/-- The running sum that window 8 holds after a point. -/
theorem acc8 (l : Fin 128) (n : ℕ) (h : n < cfg0.N) :
    (outsAt0 m c n h).2.2.2 (ix2 0 l) = ∑ i ∈ Finset.range (n + 1), upto (fun t => part8 m c t l) i := by
  induction n with
  | zero =>
    refine (first8 m c ⟨0, h⟩ rfl l).trans ?_
    rw [Finset.sum_range_one]
    exact (upto_val (fun t => part8 m c t l) ⟨0, h⟩).symm
  | succ n ih =>
    have hN : cfg0.N = 8 := N_0
    refine (step8 m c ⟨n + 1, h⟩ (by dsimp only; omega) l).trans ?_
    rw [Finset.sum_range_succ]
    exact congrArg₂ (fun p q => p + q) (ih (Nat.lt_of_succ_lt h)) (upto_val (fun t => part8 m c t l) ⟨n + 1, h⟩).symm

theorem disjoint8 (t t' : Fin cfg0.N) (h : (cfg0.win 8).flush t = true) (h' : (cfg0.win 8).flush t' = true) (hne : t ≠ t') :
    Disjoint ((cfg0.win 8).blk t).view.set ((cfg0.win 8).blk t').view.set :=
  absurd (last_only t t' ((flush0_8 t).mp h) ((flush0_8 t').mp h')) hne

/-- Window 8's array ends holding the sum over all rows. -/
theorem final8 (l : Fin 128) :
    ((dats m 0 c).arrAt 8 cfg0.N : FVec Ideal S1x128 .f32) (ix2 0 l) = ∑ R : Fin 4096, glo m c R l := by
  have h := congrFun ((dats m 0 c).read_blk_arrAt_eq_flushed 8 disjoint8 cfg0.N t0_7 t0_7.isLt ((flush0_8 t0_7).mpr rfl)) (ix2 (0 : Fin 1) l : S1x128.Idx)
  rw [View.read_apply, Value.flushed8] at h
  have e : ((cfg0.win 8).blk t0_7).view.emb (ix2 (0 : Fin 1) l : S1x128.Idx) = (ix2 (0 : Fin 1) l : S1x128.Idx) := by
    funext a
    apply Fin.ext
    match a with
    | ⟨0, _⟩ => show win0_8.index t0_7 0 * 1 + 1 * 0 = 0; rw [(idx8 t0_7).1]
    | ⟨1, _⟩ => show win0_8.index t0_7 1 * 128 + 1 * l.val = l.val; rw [(idx8 t0_7).2]; omega
  rw [← all_parts fun R => glo m c R l]
  exact (congrArg ((dats m 0 c).arrAt 8 cfg0.N) e).symm.trans (h.trans (acc8 m c l 7 t0_7.isLt))

end Cert.Kernel6Ideal.Loss
-- ==== Proof.Loss.Ref.lean ====
/-
The loss call's reference at an index: its four results in terms of a row's scale and gradient.
-/
module

public import proofs.«01_k».proof.Proof.Loss.Vec
public import proofs.«01_k».proof.Proof.Mid.Ref
public import proofs.«01_k».proof.Proof.Gen.Reference6Ideal.Read
public import Idealize.ShloMosaic.Lib.KernelVsHost

@[expose] public section

noncomputable section

namespace Cert.Loss

open Idealize.ShloMosaic hiding ix0 ix1 ix2 ix3 ix4 ix5
open Idealize.ShloMosaic.ValueIdx Idealize.ShloMosaic.TcCoe Idealize.SL.Sem
open Cert.Reference6Ideal Cert.Reference6Ideal.Gen Cert.Reference6Ideal.Read Cert.Mid
open Cert.Kernel2Ideal.Mid (row)
open Cert.Kernel6Ideal.Loss (er dr sq lossr)
open scoped BigOperators

variable (x0 : FVec Ideal S4096x2816 .bf16) (x1 : FVec Ideal S2816x1024 .bf16) (x2 : FVec Ideal S4096x1024 .f32)
    (x3 : FVec Ideal S1x1024 .f32) (x4 : FVec Ideal S4096x1024 .f32)

/-- The product, a row. -/
def ry (R : Fin 4096) (l : Fin 1024) : EReal := ∑ k : Fin 2816, x0 (ix2 R k) * x1 (ix2 k l)
/-- The gradient of the model's result, a row. -/
def rdo (R : Fin 4096) : Fin 1024 → EReal := dr (ry x0 x1 R) (row x3 0) (row x2 R) (row x4 R)
/-- The model's result less the target, a row. -/
def rer (R : Fin 4096) : Fin 1024 → EReal := er (ry x0 x1 R) (row x3 0) (row x2 R) (row x4 R)

theorem v2_at (R : Fin 4096) (l : Fin 1024) : val_main_v2 (F := Ideal) x0 x1 (ix2 R l) = ry x0 x1 R l := by
  refine (val_main_v2_apply x0 x1 _).trans ?_
  refine Finset.sum_congr rfl fun k _ => ?_
  have el : lidx_main_v2 (ix2 R l) k = ix2 R k := funext fun x => Fin.ext (by match x with | ⟨0, _⟩ => rfl | ⟨1, _⟩ => rfl)
  have er : ridx_main_v2 (ix2 R l) k = ix2 k l := funext fun x => Fin.ext (by match x with | ⟨0, _⟩ => rfl | ⟨1, _⟩ => rfl)
  rw [el, er]
  rfl

theorem v5_at (R : Fin 4096) : val_main_v5 (F := Ideal) x0 x1 (ix1 R) = ∑ k, ry x0 x1 R k * ry x0 x1 R k := by
  refine (val_main_v5_apply x0 x1 _).trans ?_
  rw [val_main_cst_apply, Ideal.ofBits_def, zero_start]
  refine Finset.sum_congr rfl fun k _ => ?_
  have e : idx_main_v5 (ix1 R) k = ix2 R k := funext fun x => Fin.ext (by match x with | ⟨0, _⟩ => rfl | ⟨1, _⟩ => rfl)
  rw [e, val_main_v4_apply, v2_at]
  rfl

theorem v10_at (R : Fin 4096) : val_main_v10 (F := Ideal) x0 x1 (ix2 R 0) = ms (ry x0 x1 R) := by
  rw [val_main_v10_apply, val_main_v8_apply, val_main_v6_apply, val_main_v7_apply, val_main_v9_apply,
    val_main_cst_0_apply, val_main_cst_1_apply]
  have e : idx_main_v6 (ix2 R 0) = ix1 R := funext fun x => Fin.ext (by match x with | ⟨0, _⟩ => rfl)
  rw [e, v5_at]
  simp only [Ideal.ofBits_def, Ideal.hostDivf_def, Ideal.addf_def]
  rw [Cert.Gate.lit_1024, Cert.Gate.lit_eps]
  rfl

theorem v11_at (R : Fin 4096) : val_main_v11 (F := Ideal) x0 x1 (ix2 R 0) = rs (ry x0 x1 R) := by
  rw [val_main_v11_apply, v10_at]
  rfl

theorem v14_at (R : Fin 4096) :
    val_main_v14 (F := Ideal) x0 x1 (ix2 R 0) = ((-(1 / 2) : ℝ) : EReal) * Ideal.div (rs (ry x0 x1 R)) (ms (ry x0 x1 R)) := by
  rw [val_main_v14_apply, val_main_v12_apply, v11_at, v10_at, val_main_v13_apply, val_main_cst_2_apply]
  simp only [Ideal.ofBits_def, Ideal.hostDivf_def, Ideal.mulf_def]
  rw [Cert.Gate.lit_mhalf]

theorem v16_at (R : Fin 4096) (l : Fin 1024) : val_main_v16 (F := Ideal) x0 x1 (ix2 R l) = ry x0 x1 R l * rs (ry x0 x1 R) := by
  rw [val_main_v16_apply, val_main_v15_apply]
  have e : idx_main_v15 (ix2 R l) = ix2 R 0 := funext fun x => Fin.ext (by match x with | ⟨0, _⟩ => rfl | ⟨1, _⟩ => rfl)
  rw [e, v11_at, v2_at]
  rfl

theorem v18_at (R : Fin 4096) (l : Fin 1024) : val_main_v18 (F := Ideal) x3 (ix2 R l) = row x3 0 l := by
  rw [val_main_v18_apply, val_main_v17_apply, val_main_v3_apply]
  have e : idx_main_v3 (idx_main_v17 (idx_main_v18 (ix2 R l))) = ix2 0 l :=
    funext fun x => Fin.ext (by match x with | ⟨0, _⟩ => rfl | ⟨1, _⟩ => exact Nat.mod_eq_of_lt l.isLt)
  rw [e]
  rfl

theorem v39_at (R : Fin 4096) (l : Fin 1024) : val_main_v39 (F := Ideal) x3 (ix2 R l) = row x3 0 l := by
  rw [val_main_v39_apply, val_main_v17_apply, val_main_v3_apply]
  have e : idx_main_v3 (idx_main_v17 (idx_main_v39 (ix2 R l))) = ix2 0 l :=
    funext fun x => Fin.ext (by match x with | ⟨0, _⟩ => rfl | ⟨1, _⟩ => exact Nat.mod_eq_of_lt l.isLt)
  rw [e]
  rfl

theorem v21_at (R : Fin 4096) (l : Fin 1024) : val_main_v21 (F := Ideal) x0 x1 x2 x3 x4 (ix2 R l) = rer x0 x1 x2 x3 x4 R l := by
  rw [val_main_v21_apply, val_main_v20_apply, val_main_v19_apply, v16_at, v18_at]
  rfl

theorem v25_at (R : Fin 4096) : val_main_v25 (F := Ideal) x0 x1 x2 x3 x4 (ix1 R) = ∑ k, rer x0 x1 x2 x3 x4 R k * rer x0 x1 x2 x3 x4 R k := by
  refine (val_main_v25_apply x0 x1 x2 x3 x4 _).trans ?_
  rw [val_main_cst_4_apply, Ideal.ofBits_def, zero_start]
  refine Finset.sum_congr rfl fun k _ => ?_
  have e : idx_main_v25 (ix1 R) k = ix2 R k := funext fun x => Fin.ext (by match x with | ⟨0, _⟩ => rfl | ⟨1, _⟩ => rfl)
  rw [e, val_main_v22_apply, v21_at]
  rfl

theorem v27_at (R : Fin 4096) :
    val_main_v27 (F := Ideal) x0 x1 x2 x3 x4 (ix1 R) = (∑ k, rer x0 x1 x2 x3 x4 R k * rer x0 x1 x2 x3 x4 R k) * ((1 / 1024 : ℝ) : EReal) := by
  rw [val_main_v27_apply, v25_at, val_main_v26_apply, val_main_cst_5_apply]
  simp only [Ideal.ofBits_def, Ideal.hostDivf_def]
  rw [Cert.Gate.lit_1024, Ideal.div_coe (by norm_num)]

/-- The loss. -/
theorem v29_at (i : S_.Idx) : val_main_v29 (F := Ideal) x0 x1 x2 x3 x4 i
      = ∑ R, ((1 / 2048 : ℝ) : EReal) * sq (ry x0 x1 R) (row x3 0) (row x2 R) (row x4 R) := by
  rw [val_main_v29_apply, val_main_v28_apply, val_main_cst_6_apply, val_main_cst_7_apply]
  simp only [Ideal.ofBits_def, Ideal.mulf_def]
  rw [zero_start, Cert.Gate.lit_half, ← mul_sum_of_nonneg _ _ (by norm_num)]
  refine (Fintype.sum_equiv ⟨fun R : Fin 4096 => (ix1 R : S4096.Idx), fun j => j 0, fun _ => rfl, fun j => (ValueIdx.eq_ix1 j).symm⟩
    _ _ fun R => ?_).symm
  refine Eq.trans ?_ (congrArg (fun q : EReal => ((1 / 2 : ℝ) : EReal) * q) (v27_at x0 x1 x2 x3 x4 R)).symm
  rw [mul_comm (∑ k, rer x0 x1 x2 x3 x4 R k * rer x0 x1 x2 x3 x4 R k), ← mul_assoc, ← EReal.coe_mul]
  norm_num
  rfl

theorem v34_at (i : S4096x1024.Idx) : val_main_v34 (F := Ideal) i = ((1 / 2048 : ℝ) : EReal) := by
  rw [val_main_v34_apply, val_main_v33_apply, val_main_v31_apply, val_main_v30_apply, val_main_v32_apply,
    val_main_cst_8_apply, val_main_cst_9_apply, val_main_cst_10_apply]
  simp only [Ideal.ofBits_def, Ideal.mulf_def, Ideal.hostDivf_def]
  rw [Cert.Gate.lit_half, Cert.Gate.lit_one, Cert.Gate.lit_1024, Ideal.div_coe (by norm_num), ← EReal.coe_mul, ← EReal.coe_mul]
  norm_num

/-- The reference's gradient of the model's result. -/
theorem v35_at (R : Fin 4096) (l : Fin 1024) : val_main_v35 (F := Ideal) x0 x1 x2 x3 x4 (ix2 R l) = rdo x0 x1 x2 x3 x4 R l := by
  rw [val_main_v35_apply, v34_at, val_main_v24_apply, v21_at, val_main_v23_apply, val_main_cst_3_apply]
  simp only [Ideal.ofBits_def, Ideal.mulf_def]
  rw [Cert.Gate.lit_two, ← mul_assoc, ← EReal.coe_mul, mul_comm]
  refine congrArg (fun q : ℝ => rer x0 x1 x2 x3 x4 R l * (q : EReal)) ?_
  norm_num

theorem v37_at (l : Fin 1024) :
    val_main_v37 (F := Ideal) x0 x1 x2 x3 x4 (ix1 l) = ∑ R, rdo x0 x1 x2 x3 x4 R l * (ry x0 x1 R l * rs (ry x0 x1 R)) := by
  refine (val_main_v37_apply x0 x1 x2 x3 x4 _).trans ?_
  rw [val_main_cst_11_apply, Ideal.ofBits_def, zero_start]
  refine Finset.sum_congr rfl fun R _ => ?_
  have e : idx_main_v37 (ix1 l) R = ix2 R l := funext fun x => Fin.ext (by match x with | ⟨0, _⟩ => rfl | ⟨1, _⟩ => rfl)
  rw [e, val_main_v36_apply, v16_at, v35_at]
  exact mul_comm _ _

/-- The reference's gradient of the norm's gains. -/
theorem v57_at (l : Fin 1024) :
    val_main_v57 (F := Ideal) x0 x1 x2 x3 x4 (ix2 0 l) = ∑ R, rdo x0 x1 x2 x3 x4 R l * (ry x0 x1 R l * rs (ry x0 x1 R)) := by
  rw [val_main_v57_apply]
  have e : idx_main_v57 (ix2 0 l) = ix1 l := funext fun x => Fin.ext (by match x with | ⟨0, _⟩ => rfl)
  rw [e]
  refine (val_main_v41_apply x0 x1 x2 x3 x4 _).trans ?_
  have e' : idx_main_v41 (ix1 l) 0 = ix2 0 l := funext fun x => Fin.ext (by match x with | ⟨0, _⟩ => rfl | ⟨1, _⟩ => rfl)
  rw [val_main_cst_12_apply, Ideal.ofBits_def, zero_start, Fin.sum_univ_one, e', val_main_v38_apply]
  have e2 : idx_main_v38 (ix2 0 l) = ix1 l := funext fun x => Fin.ext (by match x with | ⟨0, _⟩ => show 0 * 1024 + l.val = l.val; omega)
  rw [e2, v37_at]

theorem v40_at (R : Fin 4096) (l : Fin 1024) : val_main_v40 (F := Ideal) x0 x1 x2 x3 x4 (ix2 R l) = rdo x0 x1 x2 x3 x4 R l * row x3 0 l := by
  rw [val_main_v40_apply, v35_at, v39_at]
  rfl

theorem v43_at (R : Fin 4096) :
    val_main_v43 (F := Ideal) x0 x1 x2 x3 x4 (ix1 R) = ∑ k, ry x0 x1 R k * (rdo x0 x1 x2 x3 x4 R k * row x3 0 k) := by
  refine (val_main_v43_apply x0 x1 x2 x3 x4 _).trans ?_
  rw [val_main_cst_13_apply, Ideal.ofBits_def, zero_start]
  refine Finset.sum_congr rfl fun k _ => ?_
  have e : idx_main_v43 (ix1 R) k = ix2 R k := funext fun x => Fin.ext (by match x with | ⟨0, _⟩ => rfl | ⟨1, _⟩ => rfl)
  rw [e, val_main_v42_apply, v2_at, v40_at]
  rfl

theorem v49_at (R : Fin 4096) : val_main_v49 (F := Ideal) x0 x1 x2 x3 x4 (ix2 R 0) = drs (ry x0 x1 R) (rdo x0 x1 x2 x3 x4 R) (row x3 0) := by
  rw [val_main_v49_apply, val_main_v47_apply, v14_at, val_main_v44_apply, val_main_v48_apply, val_main_cst_14_apply]
  have e : idx_main_v44 (ix2 R 0) = ix1 R := funext fun x => Fin.ext (by match x with | ⟨0, _⟩ => show R.val * 1 + 0 = R.val; omega)
  rw [e, v43_at]
  simp only [Ideal.ofBits_def, Ideal.hostDivf_def, Ideal.mulf_def]
  rw [Cert.Gate.lit_1024]
  rfl

theorem v51_at (R : Fin 4096) (l : Fin 1024) :
    val_main_v51 (F := Ideal) x0 x1 x2 x3 x4 (ix2 R l) = drs (ry x0 x1 R) (rdo x0 x1 x2 x3 x4 R) (row x3 0) := by
  rw [val_main_v51_apply]
  have e : idx_main_v51 (ix2 R l) = ix1 R := funext fun x => Fin.ext (by match x with | ⟨0, _⟩ => rfl)
  rw [e]
  refine (val_main_v50_apply x0 x1 x2 x3 x4 _).trans ?_
  have e' : idx_main_v50 (ix1 R) 0 = ix2 R 0 := funext fun x => Fin.ext (by match x with | ⟨0, _⟩ => rfl | ⟨1, _⟩ => rfl)
  rw [val_main_cst_15_apply, Ideal.ofBits_def, zero_start, Fin.sum_univ_one, e', v49_at]

theorem v46_at (R : Fin 4096) (l : Fin 1024) :
    val_main_v46 (F := Ideal) x0 x1 x2 x3 x4 (ix2 R l) = rdo x0 x1 x2 x3 x4 R l * row x3 0 l * rs (ry x0 x1 R) := by
  rw [val_main_v46_apply, v40_at, val_main_v45_apply]
  have e : idx_main_v45 (ix2 R l) = ix2 R 0 := funext fun x => Fin.ext (by match x with | ⟨0, _⟩ => rfl | ⟨1, _⟩ => rfl)
  rw [e, v11_at]
  rfl

/-- The reference's gradient of the norm's input. -/
theorem v56_at (R : Fin 4096) (l : Fin 1024) :
    val_main_v56 (F := Ideal) x0 x1 x2 x3 x4 (ix2 R l) = back (ry x0 x1 R) (rdo x0 x1 x2 x3 x4 R) (row x3 0) l := by
  rw [val_main_v56_apply, val_main_v55_apply, val_main_v54_apply, val_main_v53_apply, val_main_v52_apply, v46_at, v51_at, v2_at, back_eq]
  rfl

/-- One value padded to a row of lanes. -/
theorem pad_at (x : FVec Ideal S1x1 .f32) (v : FVec Ideal S_ .f32) (l : Fin 128) :
    pad S1x128 ![0, 0] ![0, 127] ![0, 0] x v pads_S1x1_S1x128_000_01270 h_S_ (ix2 (0 : Fin 1) l)
      = if l.val = 0 then x (ix2 (0 : Fin 1) (0 : Fin 1)) else v (Shape.Idx.first h_S_) := by
  by_cases h : l.val = 0
  · rw [if_pos h]
    refine pad_apply_of_inside ![0, 0] ![0, 127] ![0, 0] x v pads_S1x1_S1x128_000_01270 h_S_ (ix2 (0 : Fin 1) l) (ix2 (0 : Fin 1) (0 : Fin 1)) fun a => ?_
    match a with
    | ⟨0, _⟩ => rfl
    | ⟨1, _⟩ => show l.val = 0 + 0 * (0 + 1); omega
  · rw [if_neg h]
    refine pad_apply_of_not_inside ![0, 0] ![0, 127] ![0, 0] x v pads_S1x1_S1x128_000_01270 h_S_ (ix2 (0 : Fin 1) l) 1 fun q => ?_
    have q2 : (l.val - 0) / (0 + 1) < 1 := q.2.2
    omega

theorem pad_zero : val_main_call0_v0 (F := Ideal) (Shape.Idx.first h_S_) = 0 := sitofp_zero (φ := .f32)

/-- The reference's loss, in the first lane. -/
theorem v59_at (l : Fin 128) :
    val_main_v59 (F := Ideal) x0 x1 x2 x3 x4 (ix2 0 l) = ∑ R, lossr (ry x0 x1 R) (row x3 0) (row x2 R) (row x4 R) l := by
  unfold val_main_v59
  refine (pad_at _ _ l).trans ?_
  rw [pad_zero, val_main_v58_apply, v29_at]
  unfold lossr
  by_cases h : l.val = 0
  · simp only [if_pos h]
  · simp only [if_neg h, Finset.sum_const_zero]

end Cert.Loss
-- ==== Proof.Loss.Equal.lean ====
/-
The loss call's kernel: its four result arrays are the reference's.
-/
module

public import proofs.«01_k».proof.Proof.Loss.Final
public import proofs.«01_k».proof.Proof.Loss.Ref
public import proofs.«01_k».proof.Proof.Mid.Equal

@[expose] public section

noncomputable section

namespace Cert.Loss

open Idealize.ShloMosaic hiding ix0 ix1 ix2 ix3 ix4 ix5
open Idealize.ShloMosaic.ValueIdx Idealize.ShloMosaic.TcCoe Idealize.SL.Sem
open scoped BigOperators

variable (m : (ℓ : Loc Cert.Kernel6Ideal.nD Cert.Kernel6Ideal.τ Cert.Kernel6Ideal.sig) → Buf (Elt Ideal) ℓ) (c : Dev Cert.Kernel6Ideal.nD)

theorem lane_idx (i : Cert.Kernel6Ideal.S1x128.Idx) : i = ix2 (0 : Fin 1) (i 1 : Fin 128) := by
  refine funext fun x => Fin.ext ?_
  match x with
  | ⟨0, _⟩ => exact Nat.lt_one_iff.mp (i 0).isLt
  | ⟨1, _⟩ => rfl

/-- Result 0. -/
theorem equal_0 : Cert.Reference6Ideal.Read.val_main_v56 (F := Ideal) (Cert.Kernel6Ideal.Loss.gu m c) (Cert.Kernel6Ideal.Loss.wd m c) (Cert.Kernel6Ideal.Loss.xx m c) (Cert.Kernel6Ideal.Loss.gain m c) (Cert.Kernel6Ideal.Loss.tgt m c)
      = ((Cert.Kernel6Ideal.Gen.dats m 0 c).arrAt 5 Cert.Kernel6Ideal.cfg0.N : FVec Ideal Cert.Kernel6Ideal.S4096x1024 .bf16) := by
  funext i
  rw [ValueIdx.eq_ix2 i]
  exact (v56_at _ _ _ _ _ _ _).trans (Cert.Kernel6Ideal.Loss.final5 m c _ _).symm

/-- Result 1. -/
theorem equal_1 : Cert.Reference6Ideal.Read.val_main_v35 (F := Ideal) (Cert.Kernel6Ideal.Loss.gu m c) (Cert.Kernel6Ideal.Loss.wd m c) (Cert.Kernel6Ideal.Loss.xx m c) (Cert.Kernel6Ideal.Loss.gain m c) (Cert.Kernel6Ideal.Loss.tgt m c)
      = ((Cert.Kernel6Ideal.Gen.dats m 0 c).arrAt 6 Cert.Kernel6Ideal.cfg0.N : FVec Ideal Cert.Kernel6Ideal.S4096x1024 .f32) := by
  funext i
  rw [ValueIdx.eq_ix2 i]
  exact (v35_at _ _ _ _ _ _ _).trans (Cert.Kernel6Ideal.Loss.final6 m c _ _).symm

/-- Result 2. -/
theorem equal_2 : Cert.Reference6Ideal.Read.val_main_v57 (F := Ideal) (Cert.Kernel6Ideal.Loss.gu m c) (Cert.Kernel6Ideal.Loss.wd m c) (Cert.Kernel6Ideal.Loss.xx m c) (Cert.Kernel6Ideal.Loss.gain m c) (Cert.Kernel6Ideal.Loss.tgt m c)
      = ((Cert.Kernel6Ideal.Gen.dats m 0 c).arrAt 7 Cert.Kernel6Ideal.cfg0.N : FVec Ideal Cert.Kernel6Ideal.S1x1024 .f32) := by
  funext i
  refine Eq.trans (congrArg _ (Cert.Mid.row_idx i)) (Eq.trans ?_ (congrArg _ (Cert.Mid.row_idx i)).symm)
  exact (v57_at _ _ _ _ _ _).trans (Cert.Kernel6Ideal.Loss.final7 m c _).symm

/-- Result 3. -/
theorem equal_3 : Cert.Reference6Ideal.Read.val_main_v59 (F := Ideal) (Cert.Kernel6Ideal.Loss.gu m c) (Cert.Kernel6Ideal.Loss.wd m c) (Cert.Kernel6Ideal.Loss.xx m c) (Cert.Kernel6Ideal.Loss.gain m c) (Cert.Kernel6Ideal.Loss.tgt m c)
      = ((Cert.Kernel6Ideal.Gen.dats m 0 c).arrAt 8 Cert.Kernel6Ideal.cfg0.N : FVec Ideal Cert.Kernel6Ideal.S1x128 .f32) := by
  funext i
  refine Eq.trans (congrArg _ (lane_idx i)) (Eq.trans ?_ (congrArg _ (lane_idx i)).symm)
  exact (v59_at _ _ _ _ _ _).trans (Cert.Kernel6Ideal.Loss.final8 m c _).symm

end Cert.Loss
-- ==== Proof.Loss.Result.lean ====
/-
The loss call's kernel: its reference runs, and its results are the reference's.
-/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Loss.Equal
public import Idealize.ShloMosaic.Adequacy
public import Idealize.ShloMosaic.Init

@[expose] public section

noncomputable section

namespace Cert.Loss

open Idealize.ShloMosaic Idealize.SL.Sem Idealize.ShloMosaic.TcCoe

/-- The reference runs, leaves its arguments and ends with every semaphore at zero. -/
theorem reference_frame : Cert.quiescent_Reference6Ideal (hReference6Ideal := Cert.Reference6Ideal.Gen.facts) := by
  intro m g _
  exact (θ_run Cert.Reference6Ideal.defs _ _).mono
    (fun r h => ⟨fun c => (h c).2.2.2.2, Idealize.ShloMosaic.sem_eq_zero_of_no_sems (by decide) r.2⟩)
    (Cert.Reference6Ideal.Value.run (F := Ideal) m g)

/-- The kernel's results are the reference's. -/
theorem algebraic : Cert.algebraic_Kernel6Ideal_Reference6Ideal (hKernel6Ideal := Cert.Kernel6Ideal.Gen.facts)
    (hReference6Ideal := Cert.Reference6Ideal.Gen.facts) := by
  intro m g m' g' _ ha
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    Cert.Kernel6Ideal.Value.run_blocks m g, ?_⟩
  refine (θ_run Cert.Reference6Ideal.defs _ _).mono (fun r h c => ?_) (Cert.Reference6Ideal.Value.run (F := Ideal) m' g')
  obtain ⟨e0, e1, e2, e3, hargs⟩ := h c
  obtain ⟨a0, a1, a2, a3, a4⟩ := ha c
  have b0 : m' ((c.tc : Thread Cert.Reference6Ideal.nD Cert.Reference6Ideal.τ).loc Cert.Reference6Ideal.main_arg0)
      = m ((c.tc : Thread Cert.Kernel6Ideal.nD Cert.Kernel6Ideal.τ).loc Cert.Kernel6Ideal.main_arg0) := a0
  have b1 : m' ((c.tc : Thread Cert.Reference6Ideal.nD Cert.Reference6Ideal.τ).loc Cert.Reference6Ideal.main_arg1)
      = m ((c.tc : Thread Cert.Kernel6Ideal.nD Cert.Kernel6Ideal.τ).loc Cert.Kernel6Ideal.main_arg1) := a1
  have b2 : m' ((c.tc : Thread Cert.Reference6Ideal.nD Cert.Reference6Ideal.τ).loc Cert.Reference6Ideal.main_arg2)
      = m ((c.tc : Thread Cert.Kernel6Ideal.nD Cert.Kernel6Ideal.τ).loc Cert.Kernel6Ideal.main_arg2) := a2
  have b3 : m' ((c.tc : Thread Cert.Reference6Ideal.nD Cert.Reference6Ideal.τ).loc Cert.Reference6Ideal.main_arg3)
      = m ((c.tc : Thread Cert.Kernel6Ideal.nD Cert.Kernel6Ideal.τ).loc Cert.Kernel6Ideal.main_arg3) := a3
  have b4 : m' ((c.tc : Thread Cert.Reference6Ideal.nD Cert.Reference6Ideal.τ).loc Cert.Reference6Ideal.main_arg4)
      = m ((c.tc : Thread Cert.Kernel6Ideal.nD Cert.Kernel6Ideal.τ).loc Cert.Kernel6Ideal.main_arg4) := a4
  refine ⟨(e0.trans (Cert.Reference6Ideal.Read.val_main_v56_eq m' c)).trans ?_, (e1.trans (Cert.Reference6Ideal.Read.val_main_v35_eq _ _ _ _ _)).trans ?_, (e2.trans (Cert.Reference6Ideal.Read.val_main_v57_eq _ _ _ _ _)).trans ?_, (e3.trans (Cert.Reference6Ideal.Read.val_main_v59_eq _ _ _ _ _)).trans ?_, hargs⟩
  · rw [b0, b1, b2, b3, b4]
    exact Cert.Loss.equal_0 m c
  · rw [b0, b1, b2, b3, b4]
    exact Cert.Loss.equal_1 m c
  · rw [b0, b1, b2, b3, b4]
    exact Cert.Loss.equal_2 m c
  · rw [b0, b1, b2, b3, b4]
    exact Cert.Loss.equal_3 m c

end Cert.Loss
-- ==== Proof.NormIn.Equal.lean ====
/-
The first norm and its product: the kernel's two result arrays are the reference's.
-/
module

public import proofs.«01_k».proof.Proof.NormIn.Final
public import proofs.«01_k».proof.Proof.Mid.Ref
public import proofs.«01_k».proof.Proof.Gen.Reference7Ideal.Read

@[expose] public section

noncomputable section

namespace Cert.NormIn

open Idealize.ShloMosaic hiding ix0 ix1 ix2 ix3 ix4 ix5
open Idealize.ShloMosaic.ValueIdx Idealize.ShloMosaic.TcCoe Idealize.SL.Sem
open Cert.Reference7Ideal Cert.Reference7Ideal.Read Cert.Mid
open Cert.Kernel2Ideal.Mid (row)
open Cert.Kernel7Ideal.NormIn (norm)
open scoped BigOperators

variable (x0 : FVec Ideal S4096x1024 .f32) (x1 : FVec Ideal S1x1024 .f32) (x2 : FVec Ideal S2816x1024 .bf16)

theorem v2_at (R : Fin 4096) : val_main_v2 (F := Ideal) x0 (ix1 R) = ∑ k, row x0 R k * row x0 R k := by
  refine (val_main_v2_apply x0 _).trans ?_
  rw [val_main_cst_apply, Ideal.ofBits_def, zero_start]
  refine Finset.sum_congr rfl fun k _ => ?_
  have e : idx_main_v2 (ix1 R) k = ix2 R k := funext fun x => Fin.ext (by match x with | ⟨0, _⟩ => rfl | ⟨1, _⟩ => rfl)
  rw [e]
  rfl

theorem v8_at (R : Fin 4096) : val_main_v8 (F := Ideal) x0 (ix2 R 0) = rs (row x0 R) := by
  rw [val_main_v8_apply, val_main_v7_apply, val_main_v5_apply, val_main_v3_apply, val_main_v4_apply, val_main_v6_apply,
    val_main_cst_0_apply, val_main_cst_1_apply]
  have e : idx_main_v3 (ix2 R 0) = ix1 R := funext fun x => Fin.ext (by match x with | ⟨0, _⟩ => rfl)
  rw [e, v2_at]
  simp only [Ideal.ofBits_def, Ideal.hostDivf_def, Ideal.addf_def]
  rw [Cert.Gate.lit_1024, Cert.Gate.lit_eps]
  rfl

theorem v13_at (R : Fin 4096) (l : Fin 1024) : val_main_v13 (F := Ideal) x0 x1 (ix2 R l) = norm (row x0 R) (row x1 0) l := by
  rw [val_main_v13_apply, val_main_v10_apply, val_main_v9_apply, val_main_v12_apply, val_main_v11_apply, val_main_v0_apply]
  have e : idx_main_v9 (ix2 R l) = ix2 R 0 := funext fun x => Fin.ext (by match x with | ⟨0, _⟩ => rfl | ⟨1, _⟩ => rfl)
  have e' : idx_main_v0 (idx_main_v11 (idx_main_v12 (ix2 R l))) = ix2 0 l :=
    funext fun x => Fin.ext (by match x with | ⟨0, _⟩ => rfl | ⟨1, _⟩ => exact Nat.mod_eq_of_lt l.isLt)
  rw [e, e', v8_at]
  rfl

/-- The reference's first result. -/
theorem v14_at (R : Fin 4096) (l : Fin 1024) : val_main_v14 (F := Ideal) x0 x1 (ix2 R l) = norm (row x0 R) (row x1 0) l :=
  v13_at x0 x1 R l

/-- The reference's second result. -/
theorem v17_at (R : Fin 4096) (n : Fin 2816) :
    val_main_v17 (F := Ideal) x0 x1 x2 (ix2 R n) = ∑ k : Fin 1024, norm (row x0 R) (row x1 0) k * x2 (ix2 n k) := by
  refine (val_main_v17_apply x0 x1 x2 _).trans ?_
  refine Finset.sum_congr rfl fun k _ => ?_
  have el : lidx_main_v17 (ix2 R n) k = ix2 R k := funext fun x => Fin.ext (by match x with | ⟨0, _⟩ => rfl | ⟨1, _⟩ => rfl)
  have er : ridx_main_v17 (ix2 R n) k = ix2 k n := funext fun x => Fin.ext (by match x with | ⟨0, _⟩ => rfl | ⟨1, _⟩ => rfl)
  have et : idx_main_v16 (ix2 k n) = ix2 n k := funext fun x => Fin.ext (by match x with | ⟨0, _⟩ => rfl | ⟨1, _⟩ => rfl)
  rw [el, er, val_main_v16_apply, et, v13_at]
  rfl

variable (m : (ℓ : Loc Cert.Kernel7Ideal.nD Cert.Kernel7Ideal.τ Cert.Kernel7Ideal.sig) → Buf (Elt Ideal) ℓ) (c : Dev Cert.Kernel7Ideal.nD)

/-- Result 0. -/
theorem equal_0 : val_main_v14 (F := Ideal) (Cert.Kernel7Ideal.NormIn.xx m c) (Cert.Kernel7Ideal.NormIn.gain m c)
      = ((Cert.Kernel7Ideal.Gen.dats m 0 c).arrAt 3 Cert.Kernel7Ideal.cfg0.N : FVec Ideal Cert.Kernel7Ideal.S4096x1024 .bf16) := by
  funext i
  rw [ValueIdx.eq_ix2 i]
  exact (v14_at _ _ _ _).trans (Cert.Kernel7Ideal.NormIn.final3 m c _ _).symm

/-- Result 1. -/
theorem equal_1 : val_main_v17 (F := Ideal) (Cert.Kernel7Ideal.NormIn.xx m c) (Cert.Kernel7Ideal.NormIn.gain m c) (Cert.Kernel7Ideal.NormIn.wt m c)
      = ((Cert.Kernel7Ideal.Gen.dats m 0 c).arrAt 4 Cert.Kernel7Ideal.cfg0.N : FVec Ideal Cert.Kernel7Ideal.S4096x2816 .f32) := by
  funext i
  rw [ValueIdx.eq_ix2 i]
  exact (v17_at _ _ _ _ _).trans (Cert.Kernel7Ideal.NormIn.final4 m c _ _).symm

end Cert.NormIn
-- ==== Proof.NormIn.Result.lean ====
/-
The first norm and its product: the reference's frame, and the kernel's two results.
-/
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.NormIn.Equal
public import Idealize.ShloMosaic.Adequacy
public import Idealize.ShloMosaic.Init

@[expose] public section

noncomputable section

namespace Cert.NormIn

open Idealize.ShloMosaic Idealize.SL.Sem Idealize.ShloMosaic.TcCoe

/-- The reference runs, leaves its arguments and ends with every semaphore at zero. -/
theorem reference_frame : Cert.quiescent_Reference7Ideal (hReference7Ideal := Cert.Reference7Ideal.Gen.facts) := by
  intro m g _
  exact (θ_run Cert.Reference7Ideal.defs _ _).mono
    (fun r h => ⟨fun c => (h c).2.2, Idealize.ShloMosaic.sem_eq_zero_of_no_sems (by decide) r.2⟩)
    (Cert.Reference7Ideal.Value.run (F := Ideal) m g)

/-- The kernel's results are the reference's. -/
theorem algebraic : Cert.algebraic_Kernel7Ideal_Reference7Ideal (hKernel7Ideal := Cert.Kernel7Ideal.Gen.facts)
    (hReference7Ideal := Cert.Reference7Ideal.Gen.facts) := by
  intro m g m' g' _ ha
  refine ⟨fun c => (Cert.Kernel7Ideal.Gen.dats m 0 c).arrAt 3 Cert.Kernel7Ideal.cfg0.N,
    fun c => (Cert.Kernel7Ideal.Gen.dats m 0 c).arrAt 4 Cert.Kernel7Ideal.cfg0.N,
    Cert.Kernel7Ideal.Value.run_blocks m g, ?_⟩
  refine (θ_run Cert.Reference7Ideal.defs _ _).mono (fun r h c => ?_) (Cert.Reference7Ideal.Value.run (F := Ideal) m' g')
  obtain ⟨e0, e1, hargs⟩ := h c
  obtain ⟨a0, a1, a2⟩ := ha c
  have b0 : m' ((c.tc : Thread Cert.Reference7Ideal.nD Cert.Reference7Ideal.τ).loc Cert.Reference7Ideal.main_arg0)
      = m ((c.tc : Thread Cert.Kernel7Ideal.nD Cert.Kernel7Ideal.τ).loc Cert.Kernel7Ideal.main_arg0) := a0
  have b1 : m' ((c.tc : Thread Cert.Reference7Ideal.nD Cert.Reference7Ideal.τ).loc Cert.Reference7Ideal.main_arg1)
      = m ((c.tc : Thread Cert.Kernel7Ideal.nD Cert.Kernel7Ideal.τ).loc Cert.Kernel7Ideal.main_arg1) := a1
  have b2 : m' ((c.tc : Thread Cert.Reference7Ideal.nD Cert.Reference7Ideal.τ).loc Cert.Reference7Ideal.main_arg2)
      = m ((c.tc : Thread Cert.Kernel7Ideal.nD Cert.Kernel7Ideal.τ).loc Cert.Kernel7Ideal.main_arg2) := a2
  refine ⟨(e0.trans (Cert.Reference7Ideal.Read.val_main_v14_eq _ _)).trans ?_, (e1.trans (Cert.Reference7Ideal.Read.val_main_v17_eq _ _ _)).trans ?_, hargs⟩
  · rw [b0, b1]
    exact Cert.NormIn.equal_0 m c
  · rw [b0, b1, b2]
    exact Cert.NormIn.equal_1 m c

end Cert.NormIn
-- ==== Proof.DwIn.Final.lean ====
/-
The input projection's weight gradient: what each point of its grid leaves, and the result array after the run.
-/
module

public import proofs.«01_k».proof.Proof.Gen.Kernel8Ideal.Value
public import Idealize.ShloMosaic.Lib.MatmulPlain
public import Idealize.ShloMosaic.Lib.ValueLayout
public import Idealize.ShloMosaic.Lib.Pipeline.ValueKit

@[expose] public section

noncomputable section

namespace Cert.Kernel8Ideal.DwIn

open Idealize.ShloMosaic hiding ix0 ix1 ix2 ix3 ix4 ix5
open Idealize.ShloMosaic.ValueIdx Idealize.ShloMosaic.TcCoe Idealize.SL.Sem Cert.Kernel8Ideal.Gen
open scoped BigOperators

/-- The product of the transposed left block with the right block, at an index. -/
theorem dot_apply (a : FVec Ideal S4096x256 .bf16) (b : FVec Ideal S4096x1024 .bf16) (r : Fin 256) (n : Fin 1024) :
    matmul dot_S4096x256_S4096x1024_S256x1024_0_0_1_1_n_n none a b (constant S256x1024 .f32 0x00000000#32) (ix2 r n)
      = ∑ k : Fin 4096, a (ix2 k r) * b (ix2 k n) := by
  refine (Ideal.matmul_constant_zero_apply dot_S4096x256_S4096x1024_S256x1024_0_0_1_1_n_n none a b (ix2 r n)).trans ?_
  rw [← Equiv.sum_comp (contrEquiv1 dot_S4096x256_S4096x1024_S256x1024_0_0_1_1_n_n 4096 rfl rfl).symm]
  refine Finset.sum_congr rfl fun k _ => ?_
  have hk := contrEquiv1_symm_val dot_S4096x256_S4096x1024_S256x1024_0_0_1_1_n_n 4096 rfl rfl k
  have el : dot_S4096x256_S4096x1024_S256x1024_0_0_1_1_n_n.lhsIdx (ix2 r n) ((contrEquiv1 dot_S4096x256_S4096x1024_S256x1024_0_0_1_1_n_n 4096 rfl rfl).symm k) = ix2 k r :=
    funext fun x => Fin.ext (by
      match x with
      | ⟨0, _⟩ => exact hk
      | ⟨1, _⟩ => rfl)
  have er : dot_S4096x256_S4096x1024_S256x1024_0_0_1_1_n_n.rhsIdx (ix2 r n) ((contrEquiv1 dot_S4096x256_S4096x1024_S256x1024_0_0_1_1_n_n 4096 rfl rfl).symm k) = ix2 k n :=
    funext fun x => Fin.ext (by
      match x with
      | ⟨0, _⟩ => exact hk
      | ⟨1, _⟩ => rfl)
  rw [el, er]

theorem hz : (![0, 0] : Fin 2 → Nat) = fun _ => 0 := funext fun a => by fin_cases a <;> rfl

section
variable (c : Dev nD) (i : grid0.Coords)
    (arg2 : Memref sig .tc .vmem S4096x256 .bf16) (harg2 : arg2.IsWhole)
    (arg3 : Memref sig .tc .vmem S4096x256 .bf16) (harg3 : arg3.IsWhole)
    (arg4 : Memref sig .tc .vmem S4096x256 .bf16) (harg4 : arg4.IsWhole)
    (arg5 : Memref sig .tc .vmem S4096x256 .bf16) (harg5 : arg5.IsWhole)
    (arg6 : Memref sig .tc .vmem S4096x1024 .bf16) (harg6 : arg6.IsWhole)
    (arg7 : Memref sig .tc .vmem S256x1024 .bf16) (harg7 : arg7.IsWhole)

theorem run_pieces_A {F : FTy → Type} [FloatOps F] (hc0 : cond0_0 i) (hc1 : ¬cond0_1 i) (hc2 : ¬cond0_2 i) (hc3 : ¬cond0_3 i) (x0 : Vec F S4096x256 .bf16) (x1 : Vec F S4096x256 .bf16) (x2 : Vec F S4096x256 .bf16) (x3 : Vec F S4096x256 .bf16) (x4 : Vec F S4096x1024 .bf16) :
    (kernelRun0_A c i arg2 harg2 arg3 harg3 arg4 harg4 arg5 harg5 arg6 harg6 arg7 harg7 hc0 hc1 hc2 hc3 x0 x1 x2 x3 x4).1 =
      [⟨Rect.unit (s := S256x1024) ![0, 0] S256x1024.size inb_S256x1024_S256x1024_0_0,
        k0_pay2 (View.readAt (Elt F) arg2.view (Rect.unit (s := S4096x256) ![0, 0] S4096x256.size inb_S4096x256_S4096x256_0_0).toLoadRect (harg2.unread x0))
          (View.readAt (Elt F) arg6.view (Rect.unit (s := S4096x1024) ![0, 0] S4096x1024.size inb_S4096x1024_S4096x1024_0_0).toLoadRect (harg6.unread x4))⟩] := rfl

/-- What a point of case A leaves: the product of its blocks. -/
theorem out_A_apply (hc0 : cond0_0 i) (hc1 : ¬cond0_1 i) (hc2 : ¬cond0_2 i) (hc3 : ¬cond0_3 i) (x0 : Vec Ideal S4096x256 .bf16) (x1 : Vec Ideal S4096x256 .bf16) (x2 : Vec Ideal S4096x256 .bf16) (x3 : Vec Ideal S4096x256 .bf16) (x4 : Vec Ideal S4096x1024 .bf16) (r : Fin 256) (n : Fin 1024) :
    out0_A_5 c i arg2 harg2 arg3 harg3 arg4 harg4 arg5 harg5 arg6 harg6 arg7 harg7 hc0 hc1 hc2 hc3 x0 x1 x2 x3 x4 (ix2 r n) = ∑ k : Fin 4096, x0 (ix2 k r) * x4 (ix2 k n) := by
  unfold out0_A_5
  rw [View.read_writes_junk_eq_canon, run_pieces_A, View.canon_cons_unit_zero (S := S256x1024) hz,
    View.readAt_eq_ld, View.readAt_eq_ld, harg2.read_unread, harg6.read_unread,
    View.ld_unit_zero (S := S4096x256) hz, View.ld_unit_zero (S := S4096x1024) hz]
  exact dot_apply x0 x4 r n

theorem run_pieces_B {F : FTy → Type} [FloatOps F] (hc0 : ¬cond0_0 i) (hc1 : cond0_1 i) (hc2 : ¬cond0_2 i) (hc3 : ¬cond0_3 i) (x0 : Vec F S4096x256 .bf16) (x1 : Vec F S4096x256 .bf16) (x2 : Vec F S4096x256 .bf16) (x3 : Vec F S4096x256 .bf16) (x4 : Vec F S4096x1024 .bf16) :
    (kernelRun0_B c i arg2 harg2 arg3 harg3 arg4 harg4 arg5 harg5 arg6 harg6 arg7 harg7 hc0 hc1 hc2 hc3 x0 x1 x2 x3 x4).1 =
      [⟨Rect.unit (s := S256x1024) ![0, 0] S256x1024.size inb_S256x1024_S256x1024_0_0,
        k0_pay3 (View.readAt (Elt F) arg3.view (Rect.unit (s := S4096x256) ![0, 0] S4096x256.size inb_S4096x256_S4096x256_0_0).toLoadRect (harg3.unread x1))
          (View.readAt (Elt F) arg6.view (Rect.unit (s := S4096x1024) ![0, 0] S4096x1024.size inb_S4096x1024_S4096x1024_0_0).toLoadRect (harg6.unread x4))⟩] := rfl

/-- What a point of case B leaves: the product of its blocks. -/
theorem out_B_apply (hc0 : ¬cond0_0 i) (hc1 : cond0_1 i) (hc2 : ¬cond0_2 i) (hc3 : ¬cond0_3 i) (x0 : Vec Ideal S4096x256 .bf16) (x1 : Vec Ideal S4096x256 .bf16) (x2 : Vec Ideal S4096x256 .bf16) (x3 : Vec Ideal S4096x256 .bf16) (x4 : Vec Ideal S4096x1024 .bf16) (r : Fin 256) (n : Fin 1024) :
    out0_B_5 c i arg2 harg2 arg3 harg3 arg4 harg4 arg5 harg5 arg6 harg6 arg7 harg7 hc0 hc1 hc2 hc3 x0 x1 x2 x3 x4 (ix2 r n) = ∑ k : Fin 4096, x1 (ix2 k r) * x4 (ix2 k n) := by
  unfold out0_B_5
  rw [View.read_writes_junk_eq_canon, run_pieces_B, View.canon_cons_unit_zero (S := S256x1024) hz,
    View.readAt_eq_ld, View.readAt_eq_ld, harg3.read_unread, harg6.read_unread,
    View.ld_unit_zero (S := S4096x256) hz, View.ld_unit_zero (S := S4096x1024) hz]
  exact dot_apply x1 x4 r n

theorem run_pieces_C {F : FTy → Type} [FloatOps F] (hc0 : ¬cond0_0 i) (hc1 : ¬cond0_1 i) (hc2 : cond0_2 i) (hc3 : ¬cond0_3 i) (x0 : Vec F S4096x256 .bf16) (x1 : Vec F S4096x256 .bf16) (x2 : Vec F S4096x256 .bf16) (x3 : Vec F S4096x256 .bf16) (x4 : Vec F S4096x1024 .bf16) :
    (kernelRun0_C c i arg2 harg2 arg3 harg3 arg4 harg4 arg5 harg5 arg6 harg6 arg7 harg7 hc0 hc1 hc2 hc3 x0 x1 x2 x3 x4).1 =
      [⟨Rect.unit (s := S256x1024) ![0, 0] S256x1024.size inb_S256x1024_S256x1024_0_0,
        k0_pay4 (View.readAt (Elt F) arg4.view (Rect.unit (s := S4096x256) ![0, 0] S4096x256.size inb_S4096x256_S4096x256_0_0).toLoadRect (harg4.unread x2))
          (View.readAt (Elt F) arg6.view (Rect.unit (s := S4096x1024) ![0, 0] S4096x1024.size inb_S4096x1024_S4096x1024_0_0).toLoadRect (harg6.unread x4))⟩] := rfl

/-- What a point of case C leaves: the product of its blocks. -/
theorem out_C_apply (hc0 : ¬cond0_0 i) (hc1 : ¬cond0_1 i) (hc2 : cond0_2 i) (hc3 : ¬cond0_3 i) (x0 : Vec Ideal S4096x256 .bf16) (x1 : Vec Ideal S4096x256 .bf16) (x2 : Vec Ideal S4096x256 .bf16) (x3 : Vec Ideal S4096x256 .bf16) (x4 : Vec Ideal S4096x1024 .bf16) (r : Fin 256) (n : Fin 1024) :
    out0_C_5 c i arg2 harg2 arg3 harg3 arg4 harg4 arg5 harg5 arg6 harg6 arg7 harg7 hc0 hc1 hc2 hc3 x0 x1 x2 x3 x4 (ix2 r n) = ∑ k : Fin 4096, x2 (ix2 k r) * x4 (ix2 k n) := by
  unfold out0_C_5
  rw [View.read_writes_junk_eq_canon, run_pieces_C, View.canon_cons_unit_zero (S := S256x1024) hz,
    View.readAt_eq_ld, View.readAt_eq_ld, harg4.read_unread, harg6.read_unread,
    View.ld_unit_zero (S := S4096x256) hz, View.ld_unit_zero (S := S4096x1024) hz]
  exact dot_apply x2 x4 r n

theorem run_pieces_D {F : FTy → Type} [FloatOps F] (hc0 : ¬cond0_0 i) (hc1 : ¬cond0_1 i) (hc2 : ¬cond0_2 i) (hc3 : cond0_3 i) (x0 : Vec F S4096x256 .bf16) (x1 : Vec F S4096x256 .bf16) (x2 : Vec F S4096x256 .bf16) (x3 : Vec F S4096x256 .bf16) (x4 : Vec F S4096x1024 .bf16) :
    (kernelRun0_D c i arg2 harg2 arg3 harg3 arg4 harg4 arg5 harg5 arg6 harg6 arg7 harg7 hc0 hc1 hc2 hc3 x0 x1 x2 x3 x4).1 =
      [⟨Rect.unit (s := S256x1024) ![0, 0] S256x1024.size inb_S256x1024_S256x1024_0_0,
        k0_pay1 (View.readAt (Elt F) arg5.view (Rect.unit (s := S4096x256) ![0, 0] S4096x256.size inb_S4096x256_S4096x256_0_0).toLoadRect (harg5.unread x3))
          (View.readAt (Elt F) arg6.view (Rect.unit (s := S4096x1024) ![0, 0] S4096x1024.size inb_S4096x1024_S4096x1024_0_0).toLoadRect (harg6.unread x4))⟩] := rfl

/-- What a point of case D leaves: the product of its blocks. -/
theorem out_D_apply (hc0 : ¬cond0_0 i) (hc1 : ¬cond0_1 i) (hc2 : ¬cond0_2 i) (hc3 : cond0_3 i) (x0 : Vec Ideal S4096x256 .bf16) (x1 : Vec Ideal S4096x256 .bf16) (x2 : Vec Ideal S4096x256 .bf16) (x3 : Vec Ideal S4096x256 .bf16) (x4 : Vec Ideal S4096x1024 .bf16) (r : Fin 256) (n : Fin 1024) :
    out0_D_5 c i arg2 harg2 arg3 harg3 arg4 harg4 arg5 harg5 arg6 harg6 arg7 harg7 hc0 hc1 hc2 hc3 x0 x1 x2 x3 x4 (ix2 r n) = ∑ k : Fin 4096, x3 (ix2 k r) * x4 (ix2 k n) := by
  unfold out0_D_5
  rw [View.read_writes_junk_eq_canon, run_pieces_D, View.canon_cons_unit_zero (S := S256x1024) hz,
    View.readAt_eq_ld, View.readAt_eq_ld, harg5.read_unread, harg6.read_unread,
    View.ld_unit_zero (S := S4096x256) hz, View.ld_unit_zero (S := S4096x1024) hz]
  exact dot_apply x3 x4 r n

end

theorem idx0 : ∀ t : Fin cfg0.N, 0 ≤ t.val → t.val < 2 → win0_0.index t 0 = 0 ∧ win0_0.index t 1 = t.val - 0 :=
  (by decide +kernel : ∀ t : Fin grid0.N, 0 ≤ t.val → t.val < 2 → win0_0.index t 0 = 0 ∧ win0_0.index t 1 = t.val - 0)
theorem idx1 : ∀ t : Fin cfg0.N, 2 ≤ t.val → t.val < 5 → win0_1.index t 0 = 0 ∧ win0_1.index t 1 = t.val - 2 :=
  (by decide +kernel : ∀ t : Fin grid0.N, 2 ≤ t.val → t.val < 5 → win0_1.index t 0 = 0 ∧ win0_1.index t 1 = t.val - 2)
theorem idx2 : ∀ t : Fin cfg0.N, 5 ≤ t.val → t.val < 8 → win0_2.index t 0 = 0 ∧ win0_2.index t 1 = t.val - 5 :=
  (by decide +kernel : ∀ t : Fin grid0.N, 5 ≤ t.val → t.val < 8 → win0_2.index t 0 = 0 ∧ win0_2.index t 1 = t.val - 5)
theorem idx3 : ∀ t : Fin cfg0.N, 8 ≤ t.val → t.val < 11 → win0_3.index t 0 = 0 ∧ win0_3.index t 1 = t.val - 8 :=
  (by decide +kernel : ∀ t : Fin grid0.N, 8 ≤ t.val → t.val < 11 → win0_3.index t 0 = 0 ∧ win0_3.index t 1 = t.val - 8)
theorem idxR : ∀ t : Fin cfg0.N, win0_4.index t 0 = 0 ∧ win0_4.index t 1 = 0 :=
  (by decide +kernel : ∀ t : Fin grid0.N, win0_4.index t 0 = 0 ∧ win0_4.index t 1 = 0)
theorem idxO : ∀ t : Fin cfg0.N, win0_5.index t 0 = t.val ∧ win0_5.index t 1 = 0 :=
  (by decide +kernel : ∀ t : Fin grid0.N, win0_5.index t 0 = t.val ∧ win0_5.index t 1 = 0)
theorem flushO : ∀ t : Fin cfg0.N, (cfg0.win 5).flush t = true :=
  (by decide +kernel : ∀ t : Fin grid0.N, (cfg0.win 5).flush t = true)

theorem lt_t (t : Fin cfg0.N) : t.val < 11 := lt_of_lt_of_eq t.isLt (show cfg0.N = 11 from N_0)

/-- Row r of point t's 256 rows of the result. -/
def rowt (t : Fin cfg0.N) (r : Fin 256) : Fin 2816 :=
  ⟨256 * t.val + r.val, by have := lt_t t; omega⟩

/-- Column R of the pieces laid side by side. -/
def col (p0 : FVec Ideal S4096x512 .bf16) (p1 : FVec Ideal S4096x768 .bf16) (p2 : FVec Ideal S4096x768 .bf16) (p3 : FVec Ideal S4096x768 .bf16) (k : Fin 4096) (R : Fin 2816) : EReal :=
  if h0 : R.val < 512 then p0 (ix2 k ⟨R.val, by omega⟩)
  else if h1 : R.val < 1280 then p1 (ix2 k ⟨R.val - 512, by omega⟩)
  else if h2 : R.val < 2048 then p2 (ix2 k ⟨R.val - 1280, by omega⟩)
  else p3 (ix2 k ⟨R.val - 2048, by omega⟩)

variable (m : (ℓ : Loc nD τ sig) → Buf (Elt Ideal) ℓ) (c : Dev nD)

/-- Left argument 0. -/
abbrev arg0 : FVec Ideal S4096x512 .bf16 := m ((c : Thread nD τ).loc main_arg0)
/-- Left argument 1. -/
abbrev arg1 : FVec Ideal S4096x768 .bf16 := m ((c : Thread nD τ).loc main_arg1)
/-- Left argument 2. -/
abbrev arg2 : FVec Ideal S4096x768 .bf16 := m ((c : Thread nD τ).loc main_arg2)
/-- Left argument 3. -/
abbrev arg3 : FVec Ideal S4096x768 .bf16 := m ((c : Thread nD τ).loc main_arg3)
/-- The right argument. -/
abbrev right : FVec Ideal S4096x1024 .bf16 := m ((c : Thread nD τ).loc main_arg4)
/-- The left arguments side by side. -/
def left (k : Fin 4096) (R : Fin 2816) : EReal := col (arg0 m c) (arg1 m c) (arg2 m c) (arg3 m c) k R

theorem blk0 (t : Fin cfg0.N) (h0 : 0 ≤ t.val) (h1 : t.val < 2) (k : Fin 4096) (r : Fin 256) :
    (iblk m c 0 t : Vec Ideal S4096x256 .bf16) (ix2 k r) = left m c k (rowt t r) := by
  have hv : (rowt t r).val = 256 * t.val + r.val := rfl
  unfold iblk
  rw [View.read_apply]
  show V m c main_arg0 _ = _
  rw [V_main_arg0]
  unfold left col
  rw [dif_pos (by omega)]
  refine congrArg (arg0 m c) ?_
  funext a
  apply Fin.ext
  match a with
  | ⟨0, _⟩ => show win0_0.index t 0 * 4096 + 1 * k.val = k.val; rw [(idx0 t h0 h1).1]; omega
  | ⟨1, _⟩ =>
    show win0_0.index t 1 * 256 + 1 * r.val = (rowt t r).val
    rw [(idx0 t h0 h1).2, hv]
    omega

theorem blk1 (t : Fin cfg0.N) (h0 : 2 ≤ t.val) (h1 : t.val < 5) (k : Fin 4096) (r : Fin 256) :
    (iblk m c 1 t : Vec Ideal S4096x256 .bf16) (ix2 k r) = left m c k (rowt t r) := by
  have hv : (rowt t r).val = 256 * t.val + r.val := rfl
  unfold iblk
  rw [View.read_apply]
  show V m c main_arg1 _ = _
  rw [V_main_arg1]
  unfold left col
  rw [dif_neg (by omega)]
  rw [dif_pos (by omega)]
  refine congrArg (arg1 m c) ?_
  funext a
  apply Fin.ext
  match a with
  | ⟨0, _⟩ => show win0_1.index t 0 * 4096 + 1 * k.val = k.val; rw [(idx1 t h0 h1).1]; omega
  | ⟨1, _⟩ =>
    show win0_1.index t 1 * 256 + 1 * r.val = (rowt t r).val - 512
    rw [(idx1 t h0 h1).2, hv]
    omega

theorem blk2 (t : Fin cfg0.N) (h0 : 5 ≤ t.val) (h1 : t.val < 8) (k : Fin 4096) (r : Fin 256) :
    (iblk m c 2 t : Vec Ideal S4096x256 .bf16) (ix2 k r) = left m c k (rowt t r) := by
  have hv : (rowt t r).val = 256 * t.val + r.val := rfl
  unfold iblk
  rw [View.read_apply]
  show V m c main_arg2 _ = _
  rw [V_main_arg2]
  unfold left col
  rw [dif_neg (by omega)]
  rw [dif_neg (by omega)]
  rw [dif_pos (by omega)]
  refine congrArg (arg2 m c) ?_
  funext a
  apply Fin.ext
  match a with
  | ⟨0, _⟩ => show win0_2.index t 0 * 4096 + 1 * k.val = k.val; rw [(idx2 t h0 h1).1]; omega
  | ⟨1, _⟩ =>
    show win0_2.index t 1 * 256 + 1 * r.val = (rowt t r).val - 1280
    rw [(idx2 t h0 h1).2, hv]
    omega

theorem blk3 (t : Fin cfg0.N) (h0 : 8 ≤ t.val) (h1 : t.val < 11) (k : Fin 4096) (r : Fin 256) :
    (iblk m c 3 t : Vec Ideal S4096x256 .bf16) (ix2 k r) = left m c k (rowt t r) := by
  have hv : (rowt t r).val = 256 * t.val + r.val := rfl
  unfold iblk
  rw [View.read_apply]
  show V m c main_arg3 _ = _
  rw [V_main_arg3]
  unfold left col
  rw [dif_neg (by omega)]
  rw [dif_neg (by omega)]
  rw [dif_neg (by omega)]
  refine congrArg (arg3 m c) ?_
  funext a
  apply Fin.ext
  match a with
  | ⟨0, _⟩ => show win0_3.index t 0 * 4096 + 1 * k.val = k.val; rw [(idx3 t h0 h1).1]; omega
  | ⟨1, _⟩ =>
    show win0_3.index t 1 * 256 + 1 * r.val = (rowt t r).val - 2048
    rw [(idx3 t h0 h1).2, hv]
    omega

theorem blkR (t : Fin cfg0.N) (k : Fin 4096) (n : Fin 1024) :
    (iblk m c 4 t : Vec Ideal S4096x1024 .bf16) (ix2 k n) = right m c (ix2 k n) := by
  unfold iblk
  rw [View.read_apply]
  show V m c main_arg4 _ = _
  rw [V_main_arg4]
  refine congrArg (right m c) ?_
  funext a
  apply Fin.ext
  match a with
  | ⟨0, _⟩ => show win0_4.index t 0 * 4096 + 1 * k.val = k.val; rw [(idxR t).1]; omega
  | ⟨1, _⟩ => show win0_4.index t 1 * 1024 + 1 * n.val = n.val; rw [(idxR t).2]; omega

theorem embO (t : Fin cfg0.N) (r : Fin 256) (n : Fin 1024) :
    ((cfg0.win 5).blk t).view.emb (ix2 r n : S256x1024.Idx) = (ix2 (rowt t r) n : S2816x1024.Idx) := by
  funext a
  apply Fin.ext
  match a with
  | ⟨0, _⟩ => show win0_5.index t 0 * 256 + 1 * r.val = 256 * t.val + r.val; rw [(idxO t).1]; omega
  | ⟨1, _⟩ => show win0_5.index t 1 * 1024 + 1 * n.val = n.val; rw [(idxO t).2]; omega

theorem sum_congr_blk {e : FTy} (a : FVec Ideal S4096x256 e) (b : FVec Ideal S4096x1024 .bf16) (A : Fin 4096 → EReal)
    (B : FVec Ideal S4096x1024 .bf16) (r : Fin 256) (n : Fin 1024)
    (ha : ∀ k, a (ix2 k r) = A k) (hb : ∀ k, b (ix2 k n) = B (ix2 k n)) :
    ∑ k : Fin 4096, a (ix2 k r) * b (ix2 k n) = ∑ k : Fin 4096, A k * B (ix2 k n) :=
  Finset.sum_congr rfl fun k _ => by rw [ha, hb]

theorem point_A (t : Fin cfg0.N) (h : 0 ≤ t.val ∧ t.val < 2) (r : Fin 256) (n : Fin 1024) :
    outsAt0 m c t.val t.isLt (ix2 r n) = ∑ k : Fin 4096, left m c k (rowt t r) * right m c (ix2 k n) := by
  have hN := lt_t t
  have h0 : t.val < 2 := by omega
  have h1 : ¬(2 ≤ t.val % 11 ∧ t.val % 11 ≤ 4) := by omega
  have h2 : ¬(5 ≤ t.val % 11 ∧ t.val % 11 ≤ 7) := by omega
  have h3 : ¬8 ≤ t.val := by omega
  rw [outsAt0_A m c t h0 h1 h2 h3]
  have o := out_A_apply c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) r n
  exact Eq.trans o (sum_congr_blk (e := .bf16) _ _ _ _ _ _ (fun k => blk0 m c t h.1 h.2 k r) fun k => blkR m c t k n)

theorem point_B (t : Fin cfg0.N) (h : 2 ≤ t.val ∧ t.val < 5) (r : Fin 256) (n : Fin 1024) :
    outsAt0 m c t.val t.isLt (ix2 r n) = ∑ k : Fin 4096, left m c k (rowt t r) * right m c (ix2 k n) := by
  have hN := lt_t t
  have h0 : ¬t.val < 2 := by omega
  have h1 : (2 ≤ t.val % 11 ∧ t.val % 11 ≤ 4) := by omega
  have h2 : ¬(5 ≤ t.val % 11 ∧ t.val % 11 ≤ 7) := by omega
  have h3 : ¬8 ≤ t.val := by omega
  rw [outsAt0_B m c t h0 h1 h2 h3]
  have o := out_B_apply c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) r n
  exact Eq.trans o (sum_congr_blk (e := .bf16) _ _ _ _ _ _ (fun k => blk1 m c t h.1 h.2 k r) fun k => blkR m c t k n)

theorem point_C (t : Fin cfg0.N) (h : 5 ≤ t.val ∧ t.val < 8) (r : Fin 256) (n : Fin 1024) :
    outsAt0 m c t.val t.isLt (ix2 r n) = ∑ k : Fin 4096, left m c k (rowt t r) * right m c (ix2 k n) := by
  have hN := lt_t t
  have h0 : ¬t.val < 2 := by omega
  have h1 : ¬(2 ≤ t.val % 11 ∧ t.val % 11 ≤ 4) := by omega
  have h2 : (5 ≤ t.val % 11 ∧ t.val % 11 ≤ 7) := by omega
  have h3 : ¬8 ≤ t.val := by omega
  rw [outsAt0_C m c t h0 h1 h2 h3]
  have o := out_C_apply c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) r n
  exact Eq.trans o (sum_congr_blk (e := .bf16) _ _ _ _ _ _ (fun k => blk2 m c t h.1 h.2 k r) fun k => blkR m c t k n)

theorem point_D (t : Fin cfg0.N) (h : 8 ≤ t.val ∧ t.val < 11) (r : Fin 256) (n : Fin 1024) :
    outsAt0 m c t.val t.isLt (ix2 r n) = ∑ k : Fin 4096, left m c k (rowt t r) * right m c (ix2 k n) := by
  have hN := lt_t t
  have h0 : ¬t.val < 2 := by omega
  have h1 : ¬(2 ≤ t.val % 11 ∧ t.val % 11 ≤ 4) := by omega
  have h2 : ¬(5 ≤ t.val % 11 ∧ t.val % 11 ≤ 7) := by omega
  have h3 : 8 ≤ t.val := by omega
  rw [outsAt0_D m c t h0 h1 h2 h3]
  have o := out_D_apply c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) r n
  exact Eq.trans o (sum_congr_blk (e := .bf16) _ _ _ _ _ _ (fun k => blk3 m c t h.1 h.2 k r) fun k => blkR m c t k n)

/-- The result array at an index: the sum of the products over all rows of the arguments. -/
theorem final (R : Fin 2816) (n : Fin 1024) :
    ((dats m 0 c).arrAt 5 cfg0.N : FVec Ideal S2816x1024 .bf16) (ix2 R n)
      = ∑ k : Fin 4096, left m c k R * right m c (ix2 k n) := by
  have hN : cfg0.N = 11 := N_0
  obtain ⟨t, r, rfl⟩ : ∃ (t : Fin cfg0.N) (r : Fin 256), R = rowt t r :=
    ⟨⟨R.val / 256, by omega⟩, ⟨R.val % 256, by omega⟩, Fin.ext (by simp only [rowt]; omega)⟩
  have ht := lt_t t
  have h := congrFun (Value.blocks5 m c t (flushO t)) (ix2 r n : S256x1024.Idx)
  rw [View.read_apply, Value.flushed5] at h
  refine (congrArg ((dats m 0 c).arrAt 5 cfg0.N) (embO t r n)).symm.trans (h.trans ?_)
  show outsAt0 m c t.val t.isLt (ix2 r n) = _
  by_cases g0 : t.val < 2
  · exact point_A m c t (by omega) r n
  by_cases g1 : t.val < 5
  · exact point_B m c t (by omega) r n
  by_cases g2 : t.val < 8
  · exact point_C m c t (by omega) r n
  exact point_D m c t (by omega) r n

end Cert.Kernel8Ideal.DwIn
-- ==== Proof.DwIn.Equal.lean ====
/-
The input projection's weight gradient: the kernel's result array is the reference's.
-/
module

public import proofs.«01_k».proof.Proof.DwIn.Final
public import proofs.«01_k».proof.Proof.Gen.Reference8Ideal.Read
public import Idealize.ShloMosaic.Lib.Pipeline.Value

@[expose] public section

noncomputable section

namespace Cert.DwIn

open Idealize.ShloMosaic hiding ix0 ix1 ix2 ix3 ix4 ix5
open Idealize.ShloMosaic.ValueIdx Idealize.ShloMosaic.TcCoe Idealize.SL.Sem
open scoped BigOperators

theorem cat0 (p0 : FVec Ideal Cert.Reference8Ideal.S4096x512 .bf16) (p1 : FVec Ideal Cert.Reference8Ideal.S4096x768 .bf16) (p2 : FVec Ideal Cert.Reference8Ideal.S4096x768 .bf16) (p3 : FVec Ideal Cert.Reference8Ideal.S4096x768 .bf16) (k : Fin 4096) (l : Fin 512) :
    Cert.Reference8Ideal.Read.val_main_v0 (F := Ideal) p0 p1 p2 p3 (ix2 k ⟨0 + l.val, by omega⟩) = p0 (ix2 k l) := by
  refine (concatenate_apply_piece (t := Cert.Reference8Ideal.S4096x2816) 1 [⟨Cert.Reference8Ideal.S4096x512, p0⟩, ⟨Cert.Reference8Ideal.S4096x768, p1⟩, ⟨Cert.Reference8Ideal.S4096x768, p2⟩, ⟨Cert.Reference8Ideal.S4096x768, p3⟩] Cert.Reference8Ideal.Gen.facts.concatenates_S4096x512_S4096x768_S4096x768_S4096x768_S4096x2816_d1 (ix2 k (⟨0 + l.val, by omega⟩ : Fin 2816)) 0 (by show 0 < 4; decide) Cert.Reference8Ideal.S4096x512 _ rfl rfl 0 rfl (ix2 k l) (fun b hb => ?_) rfl).trans rfl
  match b with
  | ⟨0, _⟩ => rfl
  | ⟨1, _⟩ => exact absurd rfl hb

theorem cat1 (p0 : FVec Ideal Cert.Reference8Ideal.S4096x512 .bf16) (p1 : FVec Ideal Cert.Reference8Ideal.S4096x768 .bf16) (p2 : FVec Ideal Cert.Reference8Ideal.S4096x768 .bf16) (p3 : FVec Ideal Cert.Reference8Ideal.S4096x768 .bf16) (k : Fin 4096) (l : Fin 768) :
    Cert.Reference8Ideal.Read.val_main_v0 (F := Ideal) p0 p1 p2 p3 (ix2 k ⟨512 + l.val, by omega⟩) = p1 (ix2 k l) := by
  refine (concatenate_apply_piece (t := Cert.Reference8Ideal.S4096x2816) 1 [⟨Cert.Reference8Ideal.S4096x512, p0⟩, ⟨Cert.Reference8Ideal.S4096x768, p1⟩, ⟨Cert.Reference8Ideal.S4096x768, p2⟩, ⟨Cert.Reference8Ideal.S4096x768, p3⟩] Cert.Reference8Ideal.Gen.facts.concatenates_S4096x512_S4096x768_S4096x768_S4096x768_S4096x2816_d1 (ix2 k (⟨512 + l.val, by omega⟩ : Fin 2816)) 1 (by show 1 < 4; decide) Cert.Reference8Ideal.S4096x768 _ rfl rfl 512 rfl (ix2 k l) (fun b hb => ?_) rfl).trans rfl
  match b with
  | ⟨0, _⟩ => rfl
  | ⟨1, _⟩ => exact absurd rfl hb

theorem cat2 (p0 : FVec Ideal Cert.Reference8Ideal.S4096x512 .bf16) (p1 : FVec Ideal Cert.Reference8Ideal.S4096x768 .bf16) (p2 : FVec Ideal Cert.Reference8Ideal.S4096x768 .bf16) (p3 : FVec Ideal Cert.Reference8Ideal.S4096x768 .bf16) (k : Fin 4096) (l : Fin 768) :
    Cert.Reference8Ideal.Read.val_main_v0 (F := Ideal) p0 p1 p2 p3 (ix2 k ⟨1280 + l.val, by omega⟩) = p2 (ix2 k l) := by
  refine (concatenate_apply_piece (t := Cert.Reference8Ideal.S4096x2816) 1 [⟨Cert.Reference8Ideal.S4096x512, p0⟩, ⟨Cert.Reference8Ideal.S4096x768, p1⟩, ⟨Cert.Reference8Ideal.S4096x768, p2⟩, ⟨Cert.Reference8Ideal.S4096x768, p3⟩] Cert.Reference8Ideal.Gen.facts.concatenates_S4096x512_S4096x768_S4096x768_S4096x768_S4096x2816_d1 (ix2 k (⟨1280 + l.val, by omega⟩ : Fin 2816)) 2 (by show 2 < 4; decide) Cert.Reference8Ideal.S4096x768 _ rfl rfl 1280 rfl (ix2 k l) (fun b hb => ?_) rfl).trans rfl
  match b with
  | ⟨0, _⟩ => rfl
  | ⟨1, _⟩ => exact absurd rfl hb

theorem cat3 (p0 : FVec Ideal Cert.Reference8Ideal.S4096x512 .bf16) (p1 : FVec Ideal Cert.Reference8Ideal.S4096x768 .bf16) (p2 : FVec Ideal Cert.Reference8Ideal.S4096x768 .bf16) (p3 : FVec Ideal Cert.Reference8Ideal.S4096x768 .bf16) (k : Fin 4096) (l : Fin 768) :
    Cert.Reference8Ideal.Read.val_main_v0 (F := Ideal) p0 p1 p2 p3 (ix2 k ⟨2048 + l.val, by omega⟩) = p3 (ix2 k l) := by
  refine (concatenate_apply_piece (t := Cert.Reference8Ideal.S4096x2816) 1 [⟨Cert.Reference8Ideal.S4096x512, p0⟩, ⟨Cert.Reference8Ideal.S4096x768, p1⟩, ⟨Cert.Reference8Ideal.S4096x768, p2⟩, ⟨Cert.Reference8Ideal.S4096x768, p3⟩] Cert.Reference8Ideal.Gen.facts.concatenates_S4096x512_S4096x768_S4096x768_S4096x768_S4096x2816_d1 (ix2 k (⟨2048 + l.val, by omega⟩ : Fin 2816)) 3 (by show 3 < 4; decide) Cert.Reference8Ideal.S4096x768 _ rfl rfl 2048 rfl (ix2 k l) (fun b hb => ?_) rfl).trans rfl
  match b with
  | ⟨0, _⟩ => rfl
  | ⟨1, _⟩ => exact absurd rfl hb

/-- The reference's pieces side by side, at an index. -/
theorem cat_apply (p0 : FVec Ideal Cert.Reference8Ideal.S4096x512 .bf16) (p1 : FVec Ideal Cert.Reference8Ideal.S4096x768 .bf16) (p2 : FVec Ideal Cert.Reference8Ideal.S4096x768 .bf16) (p3 : FVec Ideal Cert.Reference8Ideal.S4096x768 .bf16) (k : Fin 4096) (R : Fin 2816) :
    Cert.Reference8Ideal.Read.val_main_v0 (F := Ideal) p0 p1 p2 p3 (ix2 k R) = Cert.Kernel8Ideal.DwIn.col p0 p1 p2 p3 k R := by
  unfold Cert.Kernel8Ideal.DwIn.col
  by_cases g0 : R.val < 512
  · rw [dif_pos g0]
    have e : R = ⟨0 + (⟨R.val - 0, by omega⟩ : Fin 512).val, by dsimp only; omega⟩ := Fin.ext (by dsimp only; omega)
    exact (congrArg (fun R => Cert.Reference8Ideal.Read.val_main_v0 (F := Ideal) p0 p1 p2 p3 (ix2 k R)) e).trans (cat0 p0 p1 p2 p3 k ⟨R.val - 0, by omega⟩)
  rw [dif_neg g0]
  by_cases g1 : R.val < 1280
  · rw [dif_pos g1]
    have e : R = ⟨512 + (⟨R.val - 512, by omega⟩ : Fin 768).val, by dsimp only; omega⟩ := Fin.ext (by dsimp only; omega)
    exact (congrArg (fun R => Cert.Reference8Ideal.Read.val_main_v0 (F := Ideal) p0 p1 p2 p3 (ix2 k R)) e).trans (cat1 p0 p1 p2 p3 k ⟨R.val - 512, by omega⟩)
  rw [dif_neg g1]
  by_cases g2 : R.val < 2048
  · rw [dif_pos g2]
    have e : R = ⟨1280 + (⟨R.val - 1280, by omega⟩ : Fin 768).val, by dsimp only; omega⟩ := Fin.ext (by dsimp only; omega)
    exact (congrArg (fun R => Cert.Reference8Ideal.Read.val_main_v0 (F := Ideal) p0 p1 p2 p3 (ix2 k R)) e).trans (cat2 p0 p1 p2 p3 k ⟨R.val - 1280, by omega⟩)
  rw [dif_neg g2]
  have e : R = ⟨2048 + (⟨R.val - 2048, by omega⟩ : Fin 768).val, by dsimp only; omega⟩ := Fin.ext (by dsimp only; omega)
  exact (congrArg (fun R => Cert.Reference8Ideal.Read.val_main_v0 (F := Ideal) p0 p1 p2 p3 (ix2 k R)) e).trans (cat3 p0 p1 p2 p3 k ⟨R.val - 2048, by omega⟩)

/-- The reference's result at an index. -/
theorem ref_apply (p0 : FVec Ideal Cert.Reference8Ideal.S4096x512 .bf16) (p1 : FVec Ideal Cert.Reference8Ideal.S4096x768 .bf16) (p2 : FVec Ideal Cert.Reference8Ideal.S4096x768 .bf16) (p3 : FVec Ideal Cert.Reference8Ideal.S4096x768 .bf16) (b : FVec Ideal Cert.Reference8Ideal.S4096x1024 .bf16) (R : Fin 2816) (n : Fin 1024) :
    Cert.Reference8Ideal.Read.val_main_v8 (F := Ideal) p0 p1 p2 p3 b (ix2 R n) = ∑ k : Fin 4096, Cert.Kernel8Ideal.DwIn.col p0 p1 p2 p3 k R * b (ix2 k n) := by
  rw [Cert.Reference8Ideal.Read.val_main_v8_apply, Cert.Reference8Ideal.Read.val_main_v7_apply, Cert.Reference8Ideal.Read.val_main_v6_apply]
  refine (Cert.Reference8Ideal.Read.val_main_v5_apply p0 p1 p2 p3 b _).trans ?_
  refine Finset.sum_congr rfl fun k _ => ?_
  have el : Cert.Reference8Ideal.Read.lidx_main_v5 (Cert.Reference8Ideal.Read.idx_main_v6 (Cert.Reference8Ideal.Read.idx_main_v7 (ix2 R n))) k = ix2 k R :=
    funext fun x => Fin.ext (by match x with | ⟨0, _⟩ => rfl | ⟨1, _⟩ => rfl)
  have er : Cert.Reference8Ideal.Read.ridx_main_v5 (Cert.Reference8Ideal.Read.idx_main_v6 (Cert.Reference8Ideal.Read.idx_main_v7 (ix2 R n))) k = ix2 k n :=
    funext fun x => Fin.ext (by match x with | ⟨0, _⟩ => rfl | ⟨1, _⟩ => rfl)
  rw [el, er]
  exact congrArg (· * b (ix2 k n)) (cat_apply p0 p1 p2 p3 k R)

/-- The kernel's result array is the reference's. -/
theorem equal (m : (ℓ : Loc Cert.Kernel8Ideal.nD Cert.Kernel8Ideal.τ Cert.Kernel8Ideal.sig) → Buf (Elt Ideal) ℓ) (c : Dev Cert.Kernel8Ideal.nD) :
    Cert.Reference8Ideal.Read.val_main_v8 (F := Ideal) (Cert.Kernel8Ideal.DwIn.arg0 m c) (Cert.Kernel8Ideal.DwIn.arg1 m c) (Cert.Kernel8Ideal.DwIn.arg2 m c) (Cert.Kernel8Ideal.DwIn.arg3 m c) (Cert.Kernel8Ideal.DwIn.right m c)
      = ((Cert.Kernel8Ideal.Gen.dats m 0 c).arrAt 5 Cert.Kernel8Ideal.cfg0.N : FVec Ideal Cert.Kernel8Ideal.S2816x1024 .bf16) := by
  funext i
  rw [ValueIdx.eq_ix2 i]
  exact (ref_apply _ _ _ _ _ _ _).trans (Cert.Kernel8Ideal.DwIn.final m c _ _).symm

end Cert.DwIn
-- ==== Proof.DwIn.Result.lean ====
/-
The input projection's weight gradient: the reference's frame, and the kernel's result.
-/
module

public import proofs.«01_k».proof.Defs
public import proofs.«01_k».proof.Proof.Gen.Kernel8Ideal
public import proofs.«01_k».proof.Proof.Gen.Reference8Ideal
public import proofs.«01_k».proof.Proof.Gen.Reference8Ideal.Run
public import proofs.«01_k».proof.Proof.DwIn.Equal
public import Idealize.ShloMosaic.Adequacy
public import Idealize.ShloMosaic.Init

@[expose] public section

noncomputable section

namespace Cert.DwIn

open Idealize.ShloMosaic Idealize.SL.Sem Idealize.ShloMosaic.TcCoe

/-- The reference runs, leaves its arguments and ends with every semaphore at zero. -/
theorem reference_frame : Cert.quiescent_Reference8Ideal (hReference8Ideal := Cert.Reference8Ideal.Gen.facts) := by
  intro m g _
  exact (θ_run Cert.Reference8Ideal.defs _ _).mono
    (fun r h => ⟨fun c => (h c).2, Idealize.ShloMosaic.sem_eq_zero_of_no_sems (by decide) r.2⟩)
    (Cert.Reference8Ideal.Value.run (F := Ideal) m g)

/-- The kernel's results are the reference's. -/
theorem algebraic : Cert.algebraic_Kernel8Ideal_Reference8Ideal (hKernel8Ideal := Cert.Kernel8Ideal.Gen.facts)
    (hReference8Ideal := Cert.Reference8Ideal.Gen.facts) := by
  intro m g m' g' _ ha
  refine ⟨fun c => (Cert.Kernel8Ideal.Gen.dats m 0 c).arrAt 5 Cert.Kernel8Ideal.cfg0.N,
    Cert.Kernel8Ideal.Value.run_blocks m g, ?_⟩
  refine (θ_run Cert.Reference8Ideal.defs _ _).mono (fun r h c => ?_) (Cert.Reference8Ideal.Value.run (F := Ideal) m' g')
  obtain ⟨e0, hargs⟩ := h c
  obtain ⟨a0, a1, a2, a3, a4⟩ := ha c
  have b0 : m' ((c.tc : Thread Cert.Reference8Ideal.nD Cert.Reference8Ideal.τ).loc Cert.Reference8Ideal.main_arg0)
      = m ((c.tc : Thread Cert.Kernel8Ideal.nD Cert.Kernel8Ideal.τ).loc Cert.Kernel8Ideal.main_arg0) := a0
  have b1 : m' ((c.tc : Thread Cert.Reference8Ideal.nD Cert.Reference8Ideal.τ).loc Cert.Reference8Ideal.main_arg1)
      = m ((c.tc : Thread Cert.Kernel8Ideal.nD Cert.Kernel8Ideal.τ).loc Cert.Kernel8Ideal.main_arg1) := a1
  have b2 : m' ((c.tc : Thread Cert.Reference8Ideal.nD Cert.Reference8Ideal.τ).loc Cert.Reference8Ideal.main_arg2)
      = m ((c.tc : Thread Cert.Kernel8Ideal.nD Cert.Kernel8Ideal.τ).loc Cert.Kernel8Ideal.main_arg2) := a2
  have b3 : m' ((c.tc : Thread Cert.Reference8Ideal.nD Cert.Reference8Ideal.τ).loc Cert.Reference8Ideal.main_arg3)
      = m ((c.tc : Thread Cert.Kernel8Ideal.nD Cert.Kernel8Ideal.τ).loc Cert.Kernel8Ideal.main_arg3) := a3
  have b4 : m' ((c.tc : Thread Cert.Reference8Ideal.nD Cert.Reference8Ideal.τ).loc Cert.Reference8Ideal.main_arg4)
      = m ((c.tc : Thread Cert.Kernel8Ideal.nD Cert.Kernel8Ideal.τ).loc Cert.Kernel8Ideal.main_arg4) := a4
  refine ⟨(e0.trans (Cert.Reference8Ideal.Read.val_main_v8_eq _ _ _ _ _)).trans ?_, hargs⟩
  · rw [b0, b1, b2, b3, b4]
    exact Cert.DwIn.equal m c

end Cert.DwIn
-- ==== Proof.DwOut.Final.lean ====
/-
The output projection's weight gradient: what each point of its grid leaves, and the result array after the run.
-/
module

public import proofs.«01_k».proof.Proof.Gen.Kernel9Ideal.Value
public import Idealize.ShloMosaic.Lib.MatmulPlain
public import Idealize.ShloMosaic.Lib.ValueLayout
public import Idealize.ShloMosaic.Lib.Pipeline.ValueKit

@[expose] public section

noncomputable section

namespace Cert.Kernel9Ideal.DwOut

open Idealize.ShloMosaic hiding ix0 ix1 ix2 ix3 ix4 ix5
open Idealize.ShloMosaic.ValueIdx Idealize.ShloMosaic.TcCoe Idealize.SL.Sem Cert.Kernel9Ideal.Gen
open scoped BigOperators

/-- The product of the transposed left block with the right block, at an index. -/
theorem dot_apply (a : FVec Ideal S4096x256 .bf16) (b : FVec Ideal S4096x1024 .bf16) (r : Fin 256) (n : Fin 1024) :
    matmul dot_S4096x256_S4096x1024_S256x1024_0_0_1_1_n_n none a b (constant S256x1024 .f32 0x00000000#32) (ix2 r n)
      = ∑ k : Fin 4096, a (ix2 k r) * b (ix2 k n) := by
  refine (Ideal.matmul_constant_zero_apply dot_S4096x256_S4096x1024_S256x1024_0_0_1_1_n_n none a b (ix2 r n)).trans ?_
  rw [← Equiv.sum_comp (contrEquiv1 dot_S4096x256_S4096x1024_S256x1024_0_0_1_1_n_n 4096 rfl rfl).symm]
  refine Finset.sum_congr rfl fun k _ => ?_
  have hk := contrEquiv1_symm_val dot_S4096x256_S4096x1024_S256x1024_0_0_1_1_n_n 4096 rfl rfl k
  have el : dot_S4096x256_S4096x1024_S256x1024_0_0_1_1_n_n.lhsIdx (ix2 r n) ((contrEquiv1 dot_S4096x256_S4096x1024_S256x1024_0_0_1_1_n_n 4096 rfl rfl).symm k) = ix2 k r :=
    funext fun x => Fin.ext (by
      match x with
      | ⟨0, _⟩ => exact hk
      | ⟨1, _⟩ => rfl)
  have er : dot_S4096x256_S4096x1024_S256x1024_0_0_1_1_n_n.rhsIdx (ix2 r n) ((contrEquiv1 dot_S4096x256_S4096x1024_S256x1024_0_0_1_1_n_n 4096 rfl rfl).symm k) = ix2 k n :=
    funext fun x => Fin.ext (by
      match x with
      | ⟨0, _⟩ => exact hk
      | ⟨1, _⟩ => rfl)
  rw [el, er]

theorem hz : (![0, 0] : Fin 2 → Nat) = fun _ => 0 := funext fun a => by fin_cases a <;> rfl

section
variable (c : Dev nD) (i : grid0.Coords)
    (arg2 : Memref sig .tc .vmem S4096x256 .bf16) (harg2 : arg2.IsWhole)
    (arg3 : Memref sig .tc .vmem S4096x256 .f32) (harg3 : arg3.IsWhole)
    (arg4 : Memref sig .tc .vmem S4096x1024 .bf16) (harg4 : arg4.IsWhole)
    (arg5 : Memref sig .tc .vmem S256x1024 .bf16) (harg5 : arg5.IsWhole)

theorem run_pieces_A {F : FTy → Type} [FloatOps F] (hc0 : cond0_0 i) (hc1 : ¬cond0_1 i) (x0 : Vec F S4096x256 .bf16) (x1 : Vec F S4096x256 .f32) (x2 : Vec F S4096x1024 .bf16) :
    (kernelRun0_A c i arg2 harg2 arg3 harg3 arg4 harg4 arg5 harg5 hc0 hc1 x0 x1 x2).1 =
      [⟨Rect.unit (s := S256x1024) ![0, 0] S256x1024.size inb_S256x1024_S256x1024_0_0,
        k0_pay1 (View.readAt (Elt F) arg2.view (Rect.unit (s := S4096x256) ![0, 0] S4096x256.size inb_S4096x256_S4096x256_0_0).toLoadRect (harg2.unread x0))
          (View.readAt (Elt F) arg4.view (Rect.unit (s := S4096x1024) ![0, 0] S4096x1024.size inb_S4096x1024_S4096x1024_0_0).toLoadRect (harg4.unread x2))⟩] := rfl

/-- What a point of case A leaves: the product of its blocks. -/
theorem out_A_apply (hc0 : cond0_0 i) (hc1 : ¬cond0_1 i) (x0 : Vec Ideal S4096x256 .bf16) (x1 : Vec Ideal S4096x256 .f32) (x2 : Vec Ideal S4096x1024 .bf16) (r : Fin 256) (n : Fin 1024) :
    out0_A_3 c i arg2 harg2 arg3 harg3 arg4 harg4 arg5 harg5 hc0 hc1 x0 x1 x2 (ix2 r n) = ∑ k : Fin 4096, x0 (ix2 k r) * x2 (ix2 k n) := by
  unfold out0_A_3
  rw [View.read_writes_junk_eq_canon, run_pieces_A, View.canon_cons_unit_zero (S := S256x1024) hz,
    View.readAt_eq_ld, View.readAt_eq_ld, harg2.read_unread, harg4.read_unread,
    View.ld_unit_zero (S := S4096x256) hz, View.ld_unit_zero (S := S4096x1024) hz]
  exact dot_apply x0 x2 r n

theorem run_pieces_B {F : FTy → Type} [FloatOps F] (hc0 : ¬cond0_0 i) (hc1 : cond0_1 i) (x0 : Vec F S4096x256 .bf16) (x1 : Vec F S4096x256 .f32) (x2 : Vec F S4096x1024 .bf16) :
    (kernelRun0_B c i arg2 harg2 arg3 harg3 arg4 harg4 arg5 harg5 hc0 hc1 x0 x1 x2).1 =
      [⟨Rect.unit (s := S256x1024) ![0, 0] S256x1024.size inb_S256x1024_S256x1024_0_0,
        k0_pay2 (View.readAt (Elt F) arg3.view (Rect.unit (s := S4096x256) ![0, 0] S4096x256.size inb_S4096x256_S4096x256_0_0).toLoadRect (harg3.unread x1))
          (View.readAt (Elt F) arg4.view (Rect.unit (s := S4096x1024) ![0, 0] S4096x1024.size inb_S4096x1024_S4096x1024_0_0).toLoadRect (harg4.unread x2))⟩] := rfl

/-- What a point of case B leaves: the product of its blocks. -/
theorem out_B_apply (hc0 : ¬cond0_0 i) (hc1 : cond0_1 i) (x0 : Vec Ideal S4096x256 .bf16) (x1 : Vec Ideal S4096x256 .f32) (x2 : Vec Ideal S4096x1024 .bf16) (r : Fin 256) (n : Fin 1024) :
    out0_B_3 c i arg2 harg2 arg3 harg3 arg4 harg4 arg5 harg5 hc0 hc1 x0 x1 x2 (ix2 r n) = ∑ k : Fin 4096, x1 (ix2 k r) * x2 (ix2 k n) := by
  unfold out0_B_3
  rw [View.read_writes_junk_eq_canon, run_pieces_B, View.canon_cons_unit_zero (S := S256x1024) hz,
    View.readAt_eq_ld, View.readAt_eq_ld, harg3.read_unread, harg4.read_unread,
    View.ld_unit_zero (S := S4096x256) hz, View.ld_unit_zero (S := S4096x1024) hz]
  exact dot_apply x1 x2 r n

end

theorem idx0 : ∀ t : Fin cfg0.N, 0 ≤ t.val → t.val < 1 → win0_0.index t 0 = 0 ∧ win0_0.index t 1 = t.val - 0 :=
  (by decide +kernel : ∀ t : Fin grid0.N, 0 ≤ t.val → t.val < 1 → win0_0.index t 0 = 0 ∧ win0_0.index t 1 = t.val - 0)
theorem idx1 : ∀ t : Fin cfg0.N, 1 ≤ t.val → t.val < 4 → win0_1.index t 0 = 0 ∧ win0_1.index t 1 = t.val - 1 :=
  (by decide +kernel : ∀ t : Fin grid0.N, 1 ≤ t.val → t.val < 4 → win0_1.index t 0 = 0 ∧ win0_1.index t 1 = t.val - 1)
theorem idxR : ∀ t : Fin cfg0.N, win0_2.index t 0 = 0 ∧ win0_2.index t 1 = 0 :=
  (by decide +kernel : ∀ t : Fin grid0.N, win0_2.index t 0 = 0 ∧ win0_2.index t 1 = 0)
theorem idxO : ∀ t : Fin cfg0.N, win0_3.index t 0 = t.val ∧ win0_3.index t 1 = 0 :=
  (by decide +kernel : ∀ t : Fin grid0.N, win0_3.index t 0 = t.val ∧ win0_3.index t 1 = 0)
theorem flushO : ∀ t : Fin cfg0.N, (cfg0.win 3).flush t = true :=
  (by decide +kernel : ∀ t : Fin grid0.N, (cfg0.win 3).flush t = true)

theorem lt_t (t : Fin cfg0.N) : t.val < 4 := lt_of_lt_of_eq t.isLt (show cfg0.N = 4 from N_0)

/-- Row r of point t's 256 rows of the result. -/
def rowt (t : Fin cfg0.N) (r : Fin 256) : Fin 1024 :=
  ⟨256 * t.val + r.val, by have := lt_t t; omega⟩

/-- Column R of the pieces laid side by side. -/
def col (p0 : FVec Ideal S4096x256 .bf16) (p1 : FVec Ideal S4096x768 .f32) (k : Fin 4096) (R : Fin 1024) : EReal :=
  if h0 : R.val < 256 then p0 (ix2 k ⟨R.val, by omega⟩)
  else p1 (ix2 k ⟨R.val - 256, by omega⟩)

variable (m : (ℓ : Loc nD τ sig) → Buf (Elt Ideal) ℓ) (c : Dev nD)

/-- Left argument 0. -/
abbrev arg0 : FVec Ideal S4096x256 .bf16 := m ((c : Thread nD τ).loc main_arg0)
/-- Left argument 1. -/
abbrev arg1 : FVec Ideal S4096x768 .f32 := m ((c : Thread nD τ).loc main_arg1)
/-- The right argument. -/
abbrev right : FVec Ideal S4096x1024 .bf16 := m ((c : Thread nD τ).loc main_arg2)
/-- The left arguments side by side. -/
def left (k : Fin 4096) (R : Fin 1024) : EReal := col (arg0 m c) (arg1 m c) k R

theorem blk0 (t : Fin cfg0.N) (h0 : 0 ≤ t.val) (h1 : t.val < 1) (k : Fin 4096) (r : Fin 256) :
    (iblk m c 0 t : Vec Ideal S4096x256 .bf16) (ix2 k r) = left m c k (rowt t r) := by
  have hv : (rowt t r).val = 256 * t.val + r.val := rfl
  unfold iblk
  rw [View.read_apply]
  show V m c main_arg0 _ = _
  rw [V_main_arg0]
  unfold left col
  rw [dif_pos (by omega)]
  refine congrArg (arg0 m c) ?_
  funext a
  apply Fin.ext
  match a with
  | ⟨0, _⟩ => show win0_0.index t 0 * 4096 + 1 * k.val = k.val; rw [(idx0 t h0 h1).1]; omega
  | ⟨1, _⟩ =>
    show win0_0.index t 1 * 256 + 1 * r.val = (rowt t r).val
    rw [(idx0 t h0 h1).2, hv]
    omega

theorem blk1 (t : Fin cfg0.N) (h0 : 1 ≤ t.val) (h1 : t.val < 4) (k : Fin 4096) (r : Fin 256) :
    (iblk m c 1 t : Vec Ideal S4096x256 .f32) (ix2 k r) = left m c k (rowt t r) := by
  have hv : (rowt t r).val = 256 * t.val + r.val := rfl
  unfold iblk
  rw [View.read_apply]
  show V m c main_arg1 _ = _
  rw [V_main_arg1]
  unfold left col
  rw [dif_neg (by omega)]
  refine congrArg (arg1 m c) ?_
  funext a
  apply Fin.ext
  match a with
  | ⟨0, _⟩ => show win0_1.index t 0 * 4096 + 1 * k.val = k.val; rw [(idx1 t h0 h1).1]; omega
  | ⟨1, _⟩ =>
    show win0_1.index t 1 * 256 + 1 * r.val = (rowt t r).val - 256
    rw [(idx1 t h0 h1).2, hv]
    omega

theorem blkR (t : Fin cfg0.N) (k : Fin 4096) (n : Fin 1024) :
    (iblk m c 2 t : Vec Ideal S4096x1024 .bf16) (ix2 k n) = right m c (ix2 k n) := by
  unfold iblk
  rw [View.read_apply]
  show V m c main_arg2 _ = _
  rw [V_main_arg2]
  refine congrArg (right m c) ?_
  funext a
  apply Fin.ext
  match a with
  | ⟨0, _⟩ => show win0_2.index t 0 * 4096 + 1 * k.val = k.val; rw [(idxR t).1]; omega
  | ⟨1, _⟩ => show win0_2.index t 1 * 1024 + 1 * n.val = n.val; rw [(idxR t).2]; omega

theorem embO (t : Fin cfg0.N) (r : Fin 256) (n : Fin 1024) :
    ((cfg0.win 3).blk t).view.emb (ix2 r n : S256x1024.Idx) = (ix2 (rowt t r) n : S1024x1024.Idx) := by
  funext a
  apply Fin.ext
  match a with
  | ⟨0, _⟩ => show win0_3.index t 0 * 256 + 1 * r.val = 256 * t.val + r.val; rw [(idxO t).1]; omega
  | ⟨1, _⟩ => show win0_3.index t 1 * 1024 + 1 * n.val = n.val; rw [(idxO t).2]; omega

theorem sum_congr_blk {e : FTy} (a : FVec Ideal S4096x256 e) (b : FVec Ideal S4096x1024 .bf16) (A : Fin 4096 → EReal)
    (B : FVec Ideal S4096x1024 .bf16) (r : Fin 256) (n : Fin 1024)
    (ha : ∀ k, a (ix2 k r) = A k) (hb : ∀ k, b (ix2 k n) = B (ix2 k n)) :
    ∑ k : Fin 4096, a (ix2 k r) * b (ix2 k n) = ∑ k : Fin 4096, A k * B (ix2 k n) :=
  Finset.sum_congr rfl fun k _ => by rw [ha, hb]

theorem point_A (t : Fin cfg0.N) (h : 0 ≤ t.val ∧ t.val < 1) (r : Fin 256) (n : Fin 1024) :
    outsAt0 m c t.val t.isLt (ix2 r n) = ∑ k : Fin 4096, left m c k (rowt t r) * right m c (ix2 k n) := by
  have hN := lt_t t
  have h0 : t.val % 4 = 0 := by omega
  have h1 : ¬1 ≤ t.val := by omega
  rw [outsAt0_A m c t h0 h1]
  have o := out_A_apply c (grid0.coords t) (ms0_0 t) (hs0_0 t) (ms0_1 t) (hs0_1 t) (ms0_2 t) (hs0_2 t) (ms0_3 t) (hs0_3 t) ((hcond0_0 t).mpr h0) (fun h => h1 ((hcond0_1 t).mp h)) (iblk m c 0 t) (iblk m c 1 t) (iblk m c 2 t) r n
  exact Eq.trans o (sum_congr_blk (e := .bf16) _ _ _ _ _ _ (fun k => blk0 m c t h.1 h.2 k r) fun k => blkR m c t k n)

theorem point_B (t : Fin cfg0.N) (h : 1 ≤ t.val ∧ t.val < 4) (r : Fin 256) (n : Fin 1024) :
    outsAt0 m c t.val t.isLt (ix2 r n) = ∑ k : Fin 4096, left m c k (rowt t r) * right m c (ix2 k n) := by
  have hN := lt_t t
  have h0 : ¬t.val % 4 = 0 := by omega
  have h1 : 1 ≤ t.val := by omega
  rw [outsAt0_B m c t h0 h1]
  have o := out_B_apply c (grid0.coords t) (ms0_0 t) (hs0_0 t) (ms0_1 t) (hs0_1 t) (ms0_2 t) (hs0_2 t) (ms0_3 t) (hs0_3 t) (fun h => h0 ((hcond0_0 t).mp h)) ((hcond0_1 t).mpr h1) (iblk m c 0 t) (iblk m c 1 t) (iblk m c 2 t) r n
  exact Eq.trans o (sum_congr_blk (e := .f32) _ _ _ _ _ _ (fun k => blk1 m c t h.1 h.2 k r) fun k => blkR m c t k n)

/-- The result array at an index: the sum of the products over all rows of the arguments. -/
theorem final (R : Fin 1024) (n : Fin 1024) :
    ((dats m 0 c).arrAt 3 cfg0.N : FVec Ideal S1024x1024 .bf16) (ix2 R n)
      = ∑ k : Fin 4096, left m c k R * right m c (ix2 k n) := by
  have hN : cfg0.N = 4 := N_0
  obtain ⟨t, r, rfl⟩ : ∃ (t : Fin cfg0.N) (r : Fin 256), R = rowt t r :=
    ⟨⟨R.val / 256, by omega⟩, ⟨R.val % 256, by omega⟩, Fin.ext (by simp only [rowt]; omega)⟩
  have ht := lt_t t
  have h := congrFun (Value.blocks3 m c t (flushO t)) (ix2 r n : S256x1024.Idx)
  rw [View.read_apply, Value.flushed3] at h
  refine (congrArg ((dats m 0 c).arrAt 3 cfg0.N) (embO t r n)).symm.trans (h.trans ?_)
  show outsAt0 m c t.val t.isLt (ix2 r n) = _
  by_cases g0 : t.val < 1
  · exact point_A m c t (by omega) r n
  exact point_B m c t (by omega) r n

end Cert.Kernel9Ideal.DwOut
-- ==== Proof.DwOut.Equal.lean ====
/-
The output projection's weight gradient: the kernel's result array is the reference's.
-/
module

public import proofs.«01_k».proof.Proof.DwOut.Final
public import proofs.«01_k».proof.Proof.Gen.Reference9Ideal.Read
public import Idealize.ShloMosaic.Lib.Pipeline.Value

@[expose] public section

noncomputable section

namespace Cert.DwOut

open Idealize.ShloMosaic hiding ix0 ix1 ix2 ix3 ix4 ix5
open Idealize.ShloMosaic.ValueIdx Idealize.ShloMosaic.TcCoe Idealize.SL.Sem
open scoped BigOperators

theorem cat0 (p0 : FVec Ideal Cert.Reference9Ideal.S4096x256 .bf16) (p1 : FVec Ideal Cert.Reference9Ideal.S4096x768 .f32) (k : Fin 4096) (l : Fin 256) :
    Cert.Reference9Ideal.Read.val_main_v1 (F := Ideal) p0 p1 (ix2 k ⟨0 + l.val, by omega⟩) = p0 (ix2 k l) := by
  refine (concatenate_apply_piece (t := Cert.Reference9Ideal.S4096x1024) 1 [⟨Cert.Reference9Ideal.S4096x256, p0⟩, ⟨Cert.Reference9Ideal.S4096x768, p1⟩] Cert.Reference9Ideal.Gen.facts.concatenates_S4096x256_S4096x768_S4096x1024_d1 (ix2 k (⟨0 + l.val, by omega⟩ : Fin 1024)) 0 (by show 0 < 2; decide) Cert.Reference9Ideal.S4096x256 _ rfl rfl 0 rfl (ix2 k l) (fun b hb => ?_) rfl).trans rfl
  match b with
  | ⟨0, _⟩ => rfl
  | ⟨1, _⟩ => exact absurd rfl hb

theorem cat1 (p0 : FVec Ideal Cert.Reference9Ideal.S4096x256 .bf16) (p1 : FVec Ideal Cert.Reference9Ideal.S4096x768 .f32) (k : Fin 4096) (l : Fin 768) :
    Cert.Reference9Ideal.Read.val_main_v1 (F := Ideal) p0 p1 (ix2 k ⟨256 + l.val, by omega⟩) = p1 (ix2 k l) := by
  refine (concatenate_apply_piece (t := Cert.Reference9Ideal.S4096x1024) 1 [⟨Cert.Reference9Ideal.S4096x256, p0⟩, ⟨Cert.Reference9Ideal.S4096x768, p1⟩] Cert.Reference9Ideal.Gen.facts.concatenates_S4096x256_S4096x768_S4096x1024_d1 (ix2 k (⟨256 + l.val, by omega⟩ : Fin 1024)) 1 (by show 1 < 2; decide) Cert.Reference9Ideal.S4096x768 _ rfl rfl 256 rfl (ix2 k l) (fun b hb => ?_) rfl).trans rfl
  match b with
  | ⟨0, _⟩ => rfl
  | ⟨1, _⟩ => exact absurd rfl hb

/-- The reference's pieces side by side, at an index. -/
theorem cat_apply (p0 : FVec Ideal Cert.Reference9Ideal.S4096x256 .bf16) (p1 : FVec Ideal Cert.Reference9Ideal.S4096x768 .f32) (k : Fin 4096) (R : Fin 1024) :
    Cert.Reference9Ideal.Read.val_main_v1 (F := Ideal) p0 p1 (ix2 k R) = Cert.Kernel9Ideal.DwOut.col p0 p1 k R := by
  unfold Cert.Kernel9Ideal.DwOut.col
  by_cases g0 : R.val < 256
  · rw [dif_pos g0]
    have e : R = ⟨0 + (⟨R.val - 0, by omega⟩ : Fin 256).val, by dsimp only; omega⟩ := Fin.ext (by dsimp only; omega)
    exact (congrArg (fun R => Cert.Reference9Ideal.Read.val_main_v1 (F := Ideal) p0 p1 (ix2 k R)) e).trans (cat0 p0 p1 k ⟨R.val - 0, by omega⟩)
  rw [dif_neg g0]
  have e : R = ⟨256 + (⟨R.val - 256, by omega⟩ : Fin 768).val, by dsimp only; omega⟩ := Fin.ext (by dsimp only; omega)
  exact (congrArg (fun R => Cert.Reference9Ideal.Read.val_main_v1 (F := Ideal) p0 p1 (ix2 k R)) e).trans (cat1 p0 p1 k ⟨R.val - 256, by omega⟩)

/-- The reference's result at an index. -/
theorem ref_apply (p0 : FVec Ideal Cert.Reference9Ideal.S4096x256 .bf16) (p1 : FVec Ideal Cert.Reference9Ideal.S4096x768 .f32) (b : FVec Ideal Cert.Reference9Ideal.S4096x1024 .bf16) (R : Fin 1024) (n : Fin 1024) :
    Cert.Reference9Ideal.Read.val_main_v7 (F := Ideal) p0 p1 b (ix2 R n) = ∑ k : Fin 4096, Cert.Kernel9Ideal.DwOut.col p0 p1 k R * b (ix2 k n) := by
  rw [Cert.Reference9Ideal.Read.val_main_v7_apply, Cert.Reference9Ideal.Read.val_main_v6_apply]
  refine (Cert.Reference9Ideal.Read.val_main_v5_apply p0 p1 b _).trans ?_
  refine Finset.sum_congr rfl fun k _ => ?_
  have el : Cert.Reference9Ideal.Read.lidx_main_v5 (Cert.Reference9Ideal.Read.idx_main_v6 (ix2 R n)) k = ix2 k n :=
    funext fun x => Fin.ext (by match x with | ⟨0, _⟩ => rfl | ⟨1, _⟩ => rfl)
  have er : Cert.Reference9Ideal.Read.ridx_main_v5 (Cert.Reference9Ideal.Read.idx_main_v6 (ix2 R n)) k = ix2 k R :=
    funext fun x => Fin.ext (by match x with | ⟨0, _⟩ => rfl | ⟨1, _⟩ => rfl)
  rw [el, er, mul_comm]
  exact congrArg (· * b (ix2 k n)) (cat_apply p0 p1 k R)

/-- The kernel's result array is the reference's. -/
theorem equal (m : (ℓ : Loc Cert.Kernel9Ideal.nD Cert.Kernel9Ideal.τ Cert.Kernel9Ideal.sig) → Buf (Elt Ideal) ℓ) (c : Dev Cert.Kernel9Ideal.nD) :
    Cert.Reference9Ideal.Read.val_main_v7 (F := Ideal) (Cert.Kernel9Ideal.DwOut.arg0 m c) (Cert.Kernel9Ideal.DwOut.arg1 m c) (Cert.Kernel9Ideal.DwOut.right m c)
      = ((Cert.Kernel9Ideal.Gen.dats m 0 c).arrAt 3 Cert.Kernel9Ideal.cfg0.N : FVec Ideal Cert.Kernel9Ideal.S1024x1024 .bf16) := by
  funext i
  rw [ValueIdx.eq_ix2 i]
  exact (ref_apply _ _ _ _ _).trans (Cert.Kernel9Ideal.DwOut.final m c _ _).symm

end Cert.DwOut
-- ==== Proof.DwOut.Result.lean ====
/-
The output projection's weight gradient: the reference's frame, and the kernel's result.
-/
module

public import proofs.«01_k».proof.Defs
public import proofs.«01_k».proof.Proof.Gen.Kernel9Ideal
public import proofs.«01_k».proof.Proof.Gen.Reference9Ideal
public import proofs.«01_k».proof.Proof.Gen.Reference9Ideal.Run
public import proofs.«01_k».proof.Proof.DwOut.Equal
public import Idealize.ShloMosaic.Adequacy
public import Idealize.ShloMosaic.Init

@[expose] public section

noncomputable section

namespace Cert.DwOut

open Idealize.ShloMosaic Idealize.SL.Sem Idealize.ShloMosaic.TcCoe

/-- The reference runs, leaves its arguments and ends with every semaphore at zero. -/
theorem reference_frame : Cert.quiescent_Reference9Ideal (hReference9Ideal := Cert.Reference9Ideal.Gen.facts) := by
  intro m g _
  exact (θ_run Cert.Reference9Ideal.defs _ _).mono
    (fun r h => ⟨fun c => (h c).2, Idealize.ShloMosaic.sem_eq_zero_of_no_sems (by decide) r.2⟩)
    (Cert.Reference9Ideal.Value.run (F := Ideal) m g)

/-- The kernel's results are the reference's. -/
theorem algebraic : Cert.algebraic_Kernel9Ideal_Reference9Ideal (hKernel9Ideal := Cert.Kernel9Ideal.Gen.facts)
    (hReference9Ideal := Cert.Reference9Ideal.Gen.facts) := by
  intro m g m' g' _ ha
  refine ⟨fun c => (Cert.Kernel9Ideal.Gen.dats m 0 c).arrAt 3 Cert.Kernel9Ideal.cfg0.N,
    Cert.Kernel9Ideal.Value.run_blocks m g, ?_⟩
  refine (θ_run Cert.Reference9Ideal.defs _ _).mono (fun r h c => ?_) (Cert.Reference9Ideal.Value.run (F := Ideal) m' g')
  obtain ⟨e0, hargs⟩ := h c
  obtain ⟨a0, a1, a2⟩ := ha c
  have b0 : m' ((c.tc : Thread Cert.Reference9Ideal.nD Cert.Reference9Ideal.τ).loc Cert.Reference9Ideal.main_arg0)
      = m ((c.tc : Thread Cert.Kernel9Ideal.nD Cert.Kernel9Ideal.τ).loc Cert.Kernel9Ideal.main_arg0) := a0
  have b1 : m' ((c.tc : Thread Cert.Reference9Ideal.nD Cert.Reference9Ideal.τ).loc Cert.Reference9Ideal.main_arg1)
      = m ((c.tc : Thread Cert.Kernel9Ideal.nD Cert.Kernel9Ideal.τ).loc Cert.Kernel9Ideal.main_arg1) := a1
  have b2 : m' ((c.tc : Thread Cert.Reference9Ideal.nD Cert.Reference9Ideal.τ).loc Cert.Reference9Ideal.main_arg2)
      = m ((c.tc : Thread Cert.Kernel9Ideal.nD Cert.Kernel9Ideal.τ).loc Cert.Kernel9Ideal.main_arg2) := a2
  refine ⟨(e0.trans (Cert.Reference9Ideal.Read.val_main_v7_eq _ _ _)).trans ?_, hargs⟩
  · rw [b0, b1, b2]
    exact Cert.DwOut.equal m c

end Cert.DwOut
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gate.Equal
public import proofs.«01_k».proof.Proof.Mid.Result
public import proofs.«01_k».proof.Proof.Dw.Result
public import proofs.«01_k».proof.Proof.Dgu.Result
public import proofs.«01_k».proof.Proof.Dmix.Result
public import proofs.«01_k».proof.Proof.Loss.Result
public import proofs.«01_k».proof.Proof.NormIn.Result
public import proofs.«01_k».proof.Proof.DwIn.Result
public import proofs.«01_k».proof.Proof.DwOut.Result
public import Idealize.ShloMosaic.Adequacy
public import Idealize.ShloMosaic.Init

@[expose] public section

noncomputable section

namespace Cert.Proof

open Idealize.ShloMosaic Idealize.SL.Sem Idealize.ShloMosaic.TcCoe

/-- The reference runs, leaves its arguments and ends with every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "c0c1" .f32 0x3D122279#32 _ rfl,
    IdealRules.named_const.statement Cert.KernelIdeal.κ "c0c1x3" .f32 0x3DDB33B6#32 _ rfl⟩

/-- The kernel's five arrays are the reference's five results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨e0, e1, e2, e3, e4, hargs⟩ := h c
  obtain ⟨a0, a1, a2, a3, a4, a5⟩ := ha c
  have H := Cert.KernelIdeal.Gate.args_of_pre m c hp
  have b0 : StableHlo.launchContents m' c (Proc.devRef .tc Cert.ReferenceIdeal.main_arg0)
      = m ((c.tc : Thread Cert.KernelIdeal.nD Cert.KernelIdeal.τ).loc Cert.KernelIdeal.main_arg0) := a0
  have b1 : StableHlo.launchContents m' c (Proc.devRef .tc Cert.ReferenceIdeal.main_arg1)
      = m ((c.tc : Thread Cert.KernelIdeal.nD Cert.KernelIdeal.τ).loc Cert.KernelIdeal.main_arg1) := a1
  have b2 : StableHlo.launchContents m' c (Proc.devRef .tc Cert.ReferenceIdeal.main_arg2)
      = m ((c.tc : Thread Cert.KernelIdeal.nD Cert.KernelIdeal.τ).loc Cert.KernelIdeal.main_arg2) := a2
  have b3 : StableHlo.launchContents m' c (Proc.devRef .tc Cert.ReferenceIdeal.main_arg3)
      = m ((c.tc : Thread Cert.KernelIdeal.nD Cert.KernelIdeal.τ).loc Cert.KernelIdeal.main_arg3) := a3
  have b4 : StableHlo.launchContents m' c (Proc.devRef .tc Cert.ReferenceIdeal.main_arg4)
      = m ((c.tc : Thread Cert.KernelIdeal.nD Cert.KernelIdeal.τ).loc Cert.KernelIdeal.main_arg4) := a4
  have b5 : StableHlo.launchContents m' c (Proc.devRef .tc Cert.ReferenceIdeal.main_arg5)
      = m ((c.tc : Thread Cert.KernelIdeal.nD Cert.KernelIdeal.τ).loc Cert.KernelIdeal.main_arg5) := a5
  refine ⟨(e0.trans (Cert.ReferenceIdeal.Read.val_main_v171_eq (StableHlo.launchContents m' c))).trans ?_,
    (e1.trans (Cert.ReferenceIdeal.Read.val_main_v109_eq (StableHlo.launchContents m' c))).trans ?_,
    (e2.trans (Cert.ReferenceIdeal.Read.val_main_v172_eq (StableHlo.launchContents m' c))).trans ?_,
    (e3.trans (Cert.ReferenceIdeal.Read.val_main_v173_eq (StableHlo.launchContents m' c))).trans ?_,
    (e4.trans (Cert.ReferenceIdeal.Read.val_main_v174_eq (StableHlo.launchContents m' c))).trans ?_, hargs⟩
  · rw [b0, b1, b2, b3, b4, b5]
    exact Cert.Gate.equal_uv H
  · rw [b0, b1, b2, b3]
    exact Cert.Gate.equal_w H
  · rw [b0, b1]
    exact Cert.Gate.equal_sb H
  · rw [b0, b1, b4]
    exact Cert.Gate.equal_lg H
  · rw [b0, b1, b4]
    exact Cert.Gate.equal_lb H

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts,
  fun m g _ => Cert.Kernel.Gen.frame m g, fun m g _ => Cert.KernelIdeal.Gen.frame m g, fun m g _ => Cert.KernelIdeal.Gen.frame m g,
  fun m g _ => reference_frame m g, fun m g _ => reference_frame m g,
  fun m g _ => Cert.Kernel2.Gen.frame m g, fun m g _ => Cert.Kernel2Ideal.Gen.frame m g, Cert.Mid.reference_frame,
  fun m g _ => Cert.Kernel3.Gen.frame m g, fun m g _ => Cert.Kernel3Ideal.Gen.frame m g, Cert.Dw.reference_frame,
  fun m g _ => Cert.Kernel4.Gen.frame m g, fun m g _ => Cert.Kernel4Ideal.Gen.frame m g, Cert.Dgu.reference_frame,
  fun m g _ => Cert.Kernel5.Gen.frame m g, fun m g _ => Cert.Kernel5Ideal.Gen.frame m g, Cert.Dmix.reference_frame,
  fun m g _ => Cert.Kernel6.Gen.frame m g, fun m g _ => Cert.Kernel6Ideal.Gen.frame m g, Cert.Loss.reference_frame,
  fun m g _ => Cert.Kernel7.Gen.frame m g, fun m g _ => Cert.Kernel7Ideal.Gen.frame m g, Cert.NormIn.reference_frame,
  fun m g _ => Cert.Kernel8.Gen.frame m g, fun m g _ => Cert.Kernel8Ideal.Gen.frame m g, Cert.DwIn.reference_frame,
  fun m g _ => Cert.Kernel9.Gen.frame m g, fun m g _ => Cert.Kernel9Ideal.Gen.frame m g, Cert.DwOut.reference_frame,
  preserves, algebraic, trivial, Cert.Mid.algebraic, trivial, Cert.Dw.algebraic, trivial, Cert.Dgu.algebraic, trivial, Cert.Dmix.algebraic, trivial, Cert.Loss.algebraic, trivial, Cert.NormIn.algebraic, trivial, Cert.DwIn.algebraic, trivial, Cert.DwOut.algebraic⟩

end Cert.Proof

end
